-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_prepared [hPre_prepared : Cert.Pre_prepared.Facts] (m : (ℓ : Loc Cert.KernelIdeal.nD Cert.KernelIdeal.τ Cert.KernelIdeal.sig) → Buf (Elt Ideal) ℓ) : Prop :=
  ∀ c : Dev Cert.KernelIdeal.nD,
    (Cert.Pre_prepared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_prepared [hPre_prepared : Cert.Pre_prepared.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_prepared.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_prepared [hKernelIdeal : Cert.KernelIdeal.Facts] [hPre_prepared : Cert.Pre_prepared.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_prepared m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_prepared [hReferenceIdeal : Cert.ReferenceIdeal.Facts] [hPre_prepared : Cert.Pre_prepared.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_prepared m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def preserves_Kernel_KernelIdeal : Prop :=
  IdealRules.named_const.Statement Cert.KernelIdeal.κ "scale_log2e" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "lam_init" .f32 0x3E4CCCCD#32 ((13421773 / 67108864 : ℝ) : EReal)

def algebraic_KernelIdeal_ReferenceIdeal_pre_prepared [hKernelIdeal : Cert.KernelIdeal.Facts] [hReferenceIdeal : Cert.ReferenceIdeal.Facts] [hPre_prepared : Cert.Pre_prepared.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_prepared m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v12_0)) (v1 : (c : Dev Cert.Kernel3Ideal.nD) → Buf (Elt Ideal) ((c.tc : Thread Cert.Kernel3Ideal.nD Cert.Kernel3Ideal.τ).loc Cert.Kernel3Ideal.main_v12_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_0) = v0 c
          ∧ r.2.mem ((c.tc : Thread Cert.Kernel3Ideal.nD Cert.Kernel3Ideal.τ).loc Cert.Kernel3Ideal.main_v12_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v55) = v0 c
          ∧ r.2.mem ((c.tc : Thread Cert.Reference3Ideal.nD Cert.Reference3Ideal.τ).loc Cert.Reference3Ideal.main_v56) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v10_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v10_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v37) = v0 c
          ∧ r.2.mem ((c.tc : Thread Cert.Reference5Ideal.nD Cert.Reference5Ideal.τ).loc Cert.Reference5Ideal.main_v38) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v22)) (v1 : (c : Dev Cert.Kernel6Ideal.nD) → Buf (Elt Ideal) ((c.tc : Thread Cert.Kernel6Ideal.nD Cert.Kernel6Ideal.τ).loc Cert.Kernel6Ideal.main_v24)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v22) = v0 c
          ∧ r.2.mem ((c.tc : Thread Cert.Kernel6Ideal.nD Cert.Kernel6Ideal.τ).loc Cert.Kernel6Ideal.main_v24) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v54) = v0 c
          ∧ r.2.mem ((c.tc : Thread Cert.Reference6Ideal.nD Cert.Reference6Ideal.τ).loc Cert.Reference6Ideal.main_v56) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v21)) (v1 : (c : Dev Cert.Kernel7Ideal.nD) → Buf (Elt Ideal) ((c.tc : Thread Cert.Kernel7Ideal.nD Cert.Kernel7Ideal.τ).loc Cert.Kernel7Ideal.main_v10)) (v2 : (c : Dev Cert.Kernel7Ideal.nD) → Buf (Elt Ideal) ((c.tc : Thread Cert.Kernel7Ideal.nD Cert.Kernel7Ideal.τ).loc Cert.Kernel7Ideal.main_v12)) (v3 : (c : Dev Cert.Kernel7Ideal.nD) → Buf (Elt Ideal) ((c.tc : Thread Cert.Kernel7Ideal.nD Cert.Kernel7Ideal.τ).loc Cert.Kernel7Ideal.main_v14)) (v4 : (c : Dev Cert.Kernel7Ideal.nD) → Buf (Elt Ideal) ((c.tc : Thread Cert.Kernel7Ideal.nD Cert.Kernel7Ideal.τ).loc Cert.Kernel7Ideal.main_v16)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v21) = v0 c
          ∧ r.2.mem ((c.tc : Thread Cert.Kernel7Ideal.nD Cert.Kernel7Ideal.τ).loc Cert.Kernel7Ideal.main_v10) = v1 c
          ∧ r.2.mem ((c.tc : Thread Cert.Kernel7Ideal.nD Cert.Kernel7Ideal.τ).loc Cert.Kernel7Ideal.main_v12) = v2 c
          ∧ r.2.mem ((c.tc : Thread Cert.Kernel7Ideal.nD Cert.Kernel7Ideal.τ).loc Cert.Kernel7Ideal.main_v14) = v3 c
          ∧ r.2.mem ((c.tc : Thread Cert.Kernel7Ideal.nD Cert.Kernel7Ideal.τ).loc Cert.Kernel7Ideal.main_v16) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v24) = v0 c
          ∧ r.2.mem ((c.tc : Thread Cert.Reference7Ideal.nD Cert.Reference7Ideal.τ).loc Cert.Reference7Ideal.main_v25) = v1 c
          ∧ r.2.mem ((c.tc : Thread Cert.Reference7Ideal.nD Cert.Reference7Ideal.τ).loc Cert.Reference7Ideal.main_v26) = v2 c
          ∧ r.2.mem ((c.tc : Thread Cert.Reference7Ideal.nD Cert.Reference7Ideal.τ).loc Cert.Reference7Ideal.main_v27) = v3 c
          ∧ r.2.mem ((c.tc : Thread Cert.Reference7Ideal.nD Cert.Reference7Ideal.τ).loc Cert.Reference7Ideal.main_v28) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v17)) (v1 : (c : Dev Cert.Kernel8Ideal.nD) → Buf (Elt Ideal) ((c.tc : Thread Cert.Kernel8Ideal.nD Cert.Kernel8Ideal.τ).loc Cert.Kernel8Ideal.main_v6)) (v2 : (c : Dev Cert.Kernel8Ideal.nD) → Buf (Elt Ideal) ((c.tc : Thread Cert.Kernel8Ideal.nD Cert.Kernel8Ideal.τ).loc Cert.Kernel8Ideal.main_v8)) (v3 : (c : Dev Cert.Kernel8Ideal.nD) → Buf (Elt Ideal) ((c.tc : Thread Cert.Kernel8Ideal.nD Cert.Kernel8Ideal.τ).loc Cert.Kernel8Ideal.main_v10)) (v4 : (c : Dev Cert.Kernel8Ideal.nD) → Buf (Elt Ideal) ((c.tc : Thread Cert.Kernel8Ideal.nD Cert.Kernel8Ideal.τ).loc Cert.Kernel8Ideal.main_v12)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v17) = v0 c
          ∧ r.2.mem ((c.tc : Thread Cert.Kernel8Ideal.nD Cert.Kernel8Ideal.τ).loc Cert.Kernel8Ideal.main_v6) = v1 c
          ∧ r.2.mem ((c.tc : Thread Cert.Kernel8Ideal.nD Cert.Kernel8Ideal.τ).loc Cert.Kernel8Ideal.main_v8) = v2 c
          ∧ r.2.mem ((c.tc : Thread Cert.Kernel8Ideal.nD Cert.Kernel8Ideal.τ).loc Cert.Kernel8Ideal.main_v10) = v3 c
          ∧ r.2.mem ((c.tc : Thread Cert.Kernel8Ideal.nD Cert.Kernel8Ideal.τ).loc Cert.Kernel8Ideal.main_v12) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v29) = v0 c
          ∧ r.2.mem ((c.tc : Thread Cert.Reference8Ideal.nD Cert.Reference8Ideal.τ).loc Cert.Reference8Ideal.main_v30) = v1 c
          ∧ r.2.mem ((c.tc : Thread Cert.Reference8Ideal.nD Cert.Reference8Ideal.τ).loc Cert.Reference8Ideal.main_v31) = v2 c
          ∧ r.2.mem ((c.tc : Thread Cert.Reference8Ideal.nD Cert.Reference8Ideal.τ).loc Cert.Reference8Ideal.main_v32) = v3 c
          ∧ r.2.mem ((c.tc : Thread Cert.Reference8Ideal.nD Cert.Reference8Ideal.τ).loc Cert.Reference8Ideal.main_v33) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v11)) (v1 : (c : Dev Cert.Kernel9Ideal.nD) → Buf (Elt Ideal) ((c.tc : Thread Cert.Kernel9Ideal.nD Cert.Kernel9Ideal.τ).loc Cert.Kernel9Ideal.main_v13)) (v2 : (c : Dev Cert.Kernel9Ideal.nD) → Buf (Elt Ideal) ((c.tc : Thread Cert.Kernel9Ideal.nD Cert.Kernel9Ideal.τ).loc Cert.Kernel9Ideal.main_v15)) (v3 : (c : Dev Cert.Kernel9Ideal.nD) → Buf (Elt Ideal) ((c.tc : Thread Cert.Kernel9Ideal.nD Cert.Kernel9Ideal.τ).loc Cert.Kernel9Ideal.main_v17)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v11) = v0 c
          ∧ r.2.mem ((c.tc : Thread Cert.Kernel9Ideal.nD Cert.Kernel9Ideal.τ).loc Cert.Kernel9Ideal.main_v13) = v1 c
          ∧ r.2.mem ((c.tc : Thread Cert.Kernel9Ideal.nD Cert.Kernel9Ideal.τ).loc Cert.Kernel9Ideal.main_v15) = v2 c
          ∧ r.2.mem ((c.tc : Thread Cert.Kernel9Ideal.nD Cert.Kernel9Ideal.τ).loc Cert.Kernel9Ideal.main_v17) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v12) = v0 c
          ∧ r.2.mem ((c.tc : Thread Cert.Reference9Ideal.nD Cert.Reference9Ideal.τ).loc Cert.Reference9Ideal.main_v13) = v1 c
          ∧ r.2.mem ((c.tc : Thread Cert.Reference9Ideal.nD Cert.Reference9Ideal.τ).loc Cert.Reference9Ideal.main_v14) = v2 c
          ∧ r.2.mem ((c.tc : Thread Cert.Reference9Ideal.nD Cert.Reference9Ideal.τ).loc Cert.Reference9Ideal.main_v15) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v7)) (v1 : (c : Dev Cert.Kernel10Ideal.nD) → Buf (Elt Ideal) ((c.tc : Thread Cert.Kernel10Ideal.nD Cert.Kernel10Ideal.τ).loc Cert.Kernel10Ideal.main_v9)) (v2 : (c : Dev Cert.Kernel10Ideal.nD) → Buf (Elt Ideal) ((c.tc : Thread Cert.Kernel10Ideal.nD Cert.Kernel10Ideal.τ).loc Cert.Kernel10Ideal.main_v11)) (v3 : (c : Dev Cert.Kernel10Ideal.nD) → Buf (Elt Ideal) ((c.tc : Thread Cert.Kernel10Ideal.nD Cert.Kernel10Ideal.τ).loc Cert.Kernel10Ideal.main_v13)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v7) = v0 c
          ∧ r.2.mem ((c.tc : Thread Cert.Kernel10Ideal.nD Cert.Kernel10Ideal.τ).loc Cert.Kernel10Ideal.main_v9) = v1 c
          ∧ r.2.mem ((c.tc : Thread Cert.Kernel10Ideal.nD Cert.Kernel10Ideal.τ).loc Cert.Kernel10Ideal.main_v11) = v2 c
          ∧ r.2.mem ((c.tc : Thread Cert.Kernel10Ideal.nD Cert.Kernel10Ideal.τ).loc Cert.Kernel10Ideal.main_v13) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v15) = v0 c
          ∧ r.2.mem ((c.tc : Thread Cert.Reference10Ideal.nD Cert.Reference10Ideal.τ).loc Cert.Reference10Ideal.main_v16) = v1 c
          ∧ r.2.mem ((c.tc : Thread Cert.Reference10Ideal.nD Cert.Reference10Ideal.τ).loc Cert.Reference10Ideal.main_v17) = v2 c
          ∧ r.2.mem ((c.tc : Thread Cert.Reference10Ideal.nD Cert.Reference10Ideal.τ).loc Cert.Reference10Ideal.main_v18) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_prepared : Cert.Pre_prepared.Facts),
    quiescent_Kernel (hKernel := hKernel)
    ∧ quiescent_KernelIdeal (hKernelIdeal := hKernelIdeal)
    ∧ quiescent_KernelIdeal_pre_prepared (hKernelIdeal := hKernelIdeal) (hPre_prepared := hPre_prepared)
    ∧ quiescent_ReferenceIdeal (hReferenceIdeal := hReferenceIdeal)
    ∧ quiescent_ReferenceIdeal_pre_prepared (hReferenceIdeal := hReferenceIdeal) (hPre_prepared := hPre_prepared)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_prepared (hKernelIdeal := hKernelIdeal) (hReferenceIdeal := hReferenceIdeal) (hPre_prepared := hPre_prepared)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_prepared.lean ====
abbrev S8192x5760 : Shape := ⟨2, ![8192, 5760]⟩
abbrev S2x8x4096x256 : Shape := ⟨4, ![2, 8, 4096, 256]⟩
abbrev S2x8x16x144x256 : Shape := ⟨5, ![2, 8, 16, 144, 256]⟩
abbrev S8 : Shape := ⟨1, ![8]⟩
abbrev S4x64 : Shape := ⟨2, ![4, 64]⟩
abbrev S1x128 : Shape := ⟨2, ![1, 128]⟩
abbrev S4096 : Shape := ⟨1, ![4096]⟩
abbrev S_ : Shape := ⟨0, ![]⟩
abbrev S2x4x4096x256 : Shape := ⟨4, ![2, 4, 4096, 256]⟩
abbrev S2x4x16x144x256 : Shape := ⟨5, ![2, 4, 16, 144, 256]⟩
abbrev S8192x512 : Shape := ⟨2, ![8192, 512]⟩
abbrev S2x4x4096x128 : Shape := ⟨4, ![2, 4, 4096, 128]⟩
abbrev S2x4x16x128x256 : Shape := ⟨5, ![2, 4, 16, 128, 256]⟩
abbrev S4 : Shape := ⟨1, ![4]⟩
abbrev S2x4x4096x1 : Shape := ⟨4, ![2, 4, 4096, 1]⟩
abbrev S2x4x4096 : Shape := ⟨3, ![2, 4, 4096]⟩
abbrev S1x1x4096 : Shape := ⟨3, ![1, 1, 4096]⟩
abbrev S2x4x16x1x256 : Shape := ⟨5, ![2, 4, 16, 1, 256]⟩
abbrev S2x4x16x256 : Shape := ⟨4, ![2, 4, 16, 256]⟩

class Facts : Prop where
  bcast_S_S4096 : S_.BroadcastsInDim S4096 (![] : Fin 0 → Fin S4096.rank)
  slices_S2x8x4096x256_S2x4x4096x256_0_0_0_0 : S2x8x4096x256.Slices ![0, 0, 0, 0] S2x4x4096x256
  bitsLt_bf16_f32 : FTy.bits .bf16 < FTy.bits .f32
  slices_S2x8x16x144x256_S2x4x16x144x256_0_0_0_0_0 : S2x8x16x144x256.Slices ![0, 0, 0, 0, 0] S2x4x16x144x256
  slices_S8192x5760_S8192x512_0_0 : S8192x5760.Slices ![0, 0] S8192x512
  bcast_S_S8192x512 : S_.BroadcastsInDim S8192x512 (![] : Fin 0 → Fin S8192x512.rank)
  reducesTo_S8192x512_S_d0_1 : S8192x512.ReducesTo [0, 1] S_
  h_S_ : 0 < S_.numel
  slices_S2x4x4096x256_S2x4x4096x128_0_0_0_0 : S2x4x4096x256.Slices ![0, 0, 0, 0] S2x4x4096x128
  bcast_S_S2x4x4096x128 : S_.BroadcastsInDim S2x4x4096x128 (![] : Fin 0 → Fin S2x4x4096x128.rank)
  reducesTo_S2x4x4096x128_S_d0_1_2_3 : S2x4x4096x128.ReducesTo [0, 1, 2, 3] S_
  slices_S2x4x16x144x256_S2x4x16x128x256_0_0_0_0_0 : S2x4x16x144x256.Slices ![0, 0, 0, 0, 0] S2x4x16x128x256
  bcast_S_S2x4x16x128x256 : S_.BroadcastsInDim S2x4x16x128x256 (![] : Fin 0 → Fin S2x4x16x128x256.rank)
  reducesTo_S2x4x16x128x256_S_d0_1_2_3_4 : S2x4x16x128x256.ReducesTo [0, 1, 2, 3, 4] S_
  slices_S8_S4_0 : S8.Slices ![0] S4
  bcast_S_S4 : S_.BroadcastsInDim S4 (![] : Fin 0 → Fin S4.rank)
  reducesTo_S4_S_d0 : S4.ReducesTo [0] S_
  bcast_S_S4x64 : S_.BroadcastsInDim S4x64 (![] : Fin 0 → Fin S4x64.rank)
  reducesTo_S4x64_S_d0_1 : S4x64.ReducesTo [0, 1] S_
  slices_S2x4x4096x256_S2x4x4096x1_0_0_0_128 : S2x4x4096x256.Slices ![0, 0, 0, 128] S2x4x4096x1
  shapeCasts_S2x4x4096x1_S2x4x4096 : S2x4x4096x1.ShapeCasts S2x4x4096
  bcast_S4096_S1x1x4096_2 : S4096.BroadcastsInDim S1x1x4096 (![2] : Fin 1 → Fin S1x1x4096.rank)
  bcast_S1x1x4096_S2x4x4096_0_1_2 : S1x1x4096.BroadcastsInDim S2x4x4096 (![0, 1, 2] : Fin 3 → Fin S2x4x4096.rank)
  reducesTo_S2x4x4096_S_d0_1_2 : S2x4x4096.ReducesTo [0, 1, 2] S_
  slices_S2x4x4096x256_S2x4x4096x1_0_0_0_129 : S2x4x4096x256.Slices ![0, 0, 0, 129] S2x4x4096x1
  slices_S2x4x4096x256_S2x4x4096x1_0_0_0_130 : S2x4x4096x256.Slices ![0, 0, 0, 130] S2x4x4096x1
  bcast_S_S2x4x4096 : S_.BroadcastsInDim S2x4x4096 (![] : Fin 0 → Fin S2x4x4096.rank)
  slices_S2x4x16x144x256_S2x4x16x1x256_0_0_0_128_0 : S2x4x16x144x256.Slices ![0, 0, 0, 128, 0] S2x4x16x1x256
  shapeCasts_S2x4x16x1x256_S2x4x16x256 : S2x4x16x1x256.ShapeCasts S2x4x16x256
  bcast_S_S2x4x16x256 : S_.BroadcastsInDim S2x4x16x256 (![] : Fin 0 → Fin S2x4x16x256.rank)
  reducesTo_S2x4x16x256_S_d0_1_2_3 : S2x4x16x256.ReducesTo [0, 1, 2, 3] S_

variable [Facts]

def fn_part3 {F : FTy → Type} [FloatOps F] (main_v10 : FVec F S2x4x16x144x256 .f32) (main_v52 : IVec S_ 1) (main_v56 : IVec S2x4x4096 1) : IVec S_ 1 :=
  let main_c_13 : IVec S_ 1 := constantI S_ 1 1#1
  let main_v57 : IVec S_ 1 := (fun x v => Host.reduce IntOp.andi x v reducesTo_S2x4x4096_S_d0_1_2 h_S_) main_v56 main_c_13
  let main_v58 : IVec S_ 1 := andi main_v52 main_v57
  let main_v59 : FVec F S2x4x16x1x256 .f32 := (extractStridedSlice S2x4x16x1x256 ![0, 0, 0, 128, 0] · slices_S2x4x16x144x256_S2x4x16x1x256_0_0_0_128_0) main_v10
  let main_v60 : FVec F S2x4x16x256 .f32 := shapeCast S2x4x16x256 main_v59 shapeCasts_S2x4x16x1x256_S2x4x16x256
  let main_cst_14 : FVec F S_ .f32 := constant S_ .f32 0x3F800000#32
  let main_v61 : FVec F S2x4x16x256 .f32 := broadcastInDim S2x4x16x256 ![] bcast_S_S2x4x16x256 main_cst_14
  let main_v62 : IVec S2x4x16x256 1 := cmpf .oeq main_v60 main_v61
  let main_c_15 : IVec S_ 1 := constantI S_ 1 1#1
  let main_v63 : IVec S_ 1 := (fun x v => Host.reduce IntOp.andi x v reducesTo_S2x4x16x256_S_d0_1_2_3 h_S_) main_v62 main_c_15
  let main_v64 : IVec S_ 1 := andi main_v58 main_v63
  main_v64

def fn_part2 {F : FTy → Type} [FloatOps F] (main_v3 : FVec F S4096 .f32) (main_v6 : FVec F S4096 .f32) (main_v8 : FVec F S2x4x4096x256 .f32) (main_v10 : FVec F S2x4x16x144x256 .f32) (main_v33 : IVec S_ 1) (main_v36 : IVec S4x64 1) : IVec S_ 1 :=
  let main_c_9 : IVec S_ 1 := constantI S_ 1 1#1
  let main_v37 : IVec S_ 1 := (fun x v => Host.reduce IntOp.andi x v reducesTo_S4x64_S_d0_1 h_S_) main_v36 main_c_9
  let main_v38 : IVec S_ 1 := andi main_v33 main_v37
  let main_v39 : FVec F S2x4x4096x1 .f32 := (extractStridedSlice S2x4x4096x1 ![0, 0, 0, 128] · slices_S2x4x4096x256_S2x4x4096x1_0_0_0_128) main_v8
  let main_v40 : FVec F S2x4x4096 .f32 := shapeCast S2x4x4096 main_v39 shapeCasts_S2x4x4096x1_S2x4x4096
  let main_v41 : FVec F S1x1x4096 .f32 := broadcastInDim S1x1x4096 ![2] bcast_S4096_S1x1x4096_2 main_v3
  let main_v42 : FVec F S2x4x4096 .f32 := broadcastInDim S2x4x4096 ![0, 1, 2] bcast_S1x1x4096_S2x4x4096_0_1_2 main_v41
  let main_v43 : IVec S2x4x4096 1 := cmpf .oeq main_v40 main_v42
  let main_c_10 : IVec S_ 1 := constantI S_ 1 1#1
  let main_v44 : IVec S_ 1 := (fun x v => Host.reduce IntOp.andi x v reducesTo_S2x4x4096_S_d0_1_2 h_S_) main_v43 main_c_10
  let main_v45 : IVec S_ 1 := andi main_v38 main_v44
  let main_v46 : FVec F S2x4x4096x1 .f32 := (extractStridedSlice S2x4x4096x1 ![0, 0, 0, 129] · slices_S2x4x4096x256_S2x4x4096x1_0_0_0_129) main_v8
  let main_v47 : FVec F S2x4x4096 .f32 := shapeCast S2x4x4096 main_v46 shapeCasts_S2x4x4096x1_S2x4x4096
  let main_v48 : FVec F S1x1x4096 .f32 := broadcastInDim S1x1x4096 ![2] bcast_S4096_S1x1x4096_2 main_v6
  let main_v49 : FVec F S2x4x4096 .f32 := broadcastInDim S2x4x4096 ![0, 1, 2] bcast_S1x1x4096_S2x4x4096_0_1_2 main_v48
  let main_v50 : IVec S2x4x4096 1 := cmpf .oeq main_v47 main_v49
  let main_c_11 : IVec S_ 1 := constantI S_ 1 1#1
  let main_v51 : IVec S_ 1 := (fun x v => Host.reduce IntOp.andi x v reducesTo_S2x4x4096_S_d0_1_2 h_S_) main_v50 main_c_11
  let main_v52 : IVec S_ 1 := andi main_v45 main_v51
  let main_v53 : FVec F S2x4x4096x1 .f32 := (extractStridedSlice S2x4x4096x1 ![0, 0, 0, 130] · slices_S2x4x4096x256_S2x4x4096x1_0_0_0_130) main_v8
  let main_v54 : FVec F S2x4x4096 .f32 := shapeCast S2x4x4096 main_v53 shapeCasts_S2x4x4096x1_S2x4x4096
  let main_cst_12 : FVec F S_ .f32 := constant S_ .f32 0x3F800000#32
  let main_v55 : FVec F S2x4x4096 .f32 := broadcastInDim S2x4x4096 ![] bcast_S_S2x4x4096 main_cst_12
  let main_v56 : IVec S2x4x4096 1 := cmpf .oeq main_v54 main_v55
  fn_part3 (F := F) main_v10 main_v52 main_v56

def fn_part1 {F : FTy → Type} [FloatOps F] (main_arg3 : FVec F S8 .f32) (main_arg4 : FVec F S4x64 .f32) (main_v3 : FVec F S4096 .f32) (main_v6 : FVec F S4096 .f32) (main_v8 : FVec F S2x4x4096x256 .f32) (main_v10 : FVec F S2x4x16x144x256 .f32) (main_v15 : IVec S_ 1) (main_v17 : FVec F S2x4x4096x128 .f32) (main_v18 : FVec F S2x4x4096x128 .f32) : IVec S_ 1 :=
  let main_v19 : IVec S2x4x4096x128 1 := cmpf .olt main_v17 main_v18
  let main_c_3 : IVec S_ 1 := constantI S_ 1 1#1
  let main_v20 : IVec S_ 1 := (fun x v => Host.reduce IntOp.andi x v reducesTo_S2x4x4096x128_S_d0_1_2_3 h_S_) main_v19 main_c_3
  let main_v21 : IVec S_ 1 := andi main_v15 main_v20
  let main_v22 : FVec F S2x4x16x128x256 .f32 := (extractStridedSlice S2x4x16x128x256 ![0, 0, 0, 0, 0] · slices_S2x4x16x144x256_S2x4x16x128x256_0_0_0_0_0) main_v10
  let main_v23 : FVec F S2x4x16x128x256 .f32 := Host.absf main_v22
  let main_cst_4 : FVec F S_ .f32 := constant S_ .f32 0x7F800000#32
  let main_v24 : FVec F S2x4x16x128x256 .f32 := broadcastInDim S2x4x16x128x256 ![] bcast_S_S2x4x16x128x256 main_cst_4
  let main_v25 : IVec S2x4x16x128x256 1 := cmpf .olt main_v23 main_v24
  let main_c_5 : IVec S_ 1 := constantI S_ 1 1#1
  let main_v26 : IVec S_ 1 := (fun x v => Host.reduce IntOp.andi x v reducesTo_S2x4x16x128x256_S_d0_1_2_3_4 h_S_) main_v25 main_c_5
  let main_v27 : IVec S_ 1 := andi main_v21 main_v26
  let main_v28 : FVec F S4 .f32 := (extractStridedSlice S4 ![0] · slices_S8_S4_0) main_arg3
  let main_v29 : FVec F S4 .f32 := Host.absf main_v28
  let main_cst_6 : FVec F S_ .f32 := constant S_ .f32 0x7F800000#32
  let main_v30 : FVec F S4 .f32 := broadcastInDim S4 ![] bcast_S_S4 main_cst_6
  let main_v31 : IVec S4 1 := cmpf .olt main_v29 main_v30
  let main_c_7 : IVec S_ 1 := constantI S_ 1 1#1
  let main_v32 : IVec S_ 1 := (fun x v => Host.reduce IntOp.andi x v reducesTo_S4_S_d0 h_S_) main_v31 main_c_7
  let main_v33 : IVec S_ 1 := andi main_v27 main_v32
  let main_v34 : FVec F S4x64 .f32 := Host.absf main_arg4
  let main_cst_8 : FVec F S_ .f32 := constant S_ .f32 0x7F800000#32
  let main_v35 : FVec F S4x64 .f32 := broadcastInDim S4x64 ![] bcast_S_S4x64 main_cst_8
  let main_v36 : IVec S4x64 1 := cmpf .olt main_v34 main_v35
  fn_part2 (F := F) main_v3 main_v6 main_v8 main_v10 main_v33 main_v36

def fn {F : FTy → Type} [FloatOps F] (main_arg0 : FVec F S8192x5760 .f32) (main_arg1 : FVec F S2x8x4096x256 .bf16) (main_arg2 : FVec F S2x8x16x144x256 .bf16) (main_arg3 : FVec F S8 .f32) (main_arg4 : FVec F S4x64 .f32) (main_arg5 : FVec F S1x128 .f32) : IVec S_ 1 :=
  let main_v0 : IVec S4096 32 := iotaInDim S4096 32 0
  let main_c : IVec S_ 32 := constantI S_ 32 6#32
  let main_v1 : IVec S4096 32 := broadcastInDim S4096 ![] bcast_S_S4096 main_c
  let main_v2 : IVec S4096 32 := Host.shrui main_v0 main_v1
  let main_v3 : FVec F S4096 .f32 := sitofp .f32 main_v2
  let main_c_0 : IVec S_ 32 := constantI S_ 32 63#32
  let main_v4 : IVec S4096 32 := broadcastInDim S4096 ![] bcast_S_S4096 main_c_0
  let main_v5 : IVec S4096 32 := andi main_v0 main_v4
  let main_v6 : FVec F S4096 .f32 := sitofp .f32 main_v5
  let main_v7 : FVec F S2x4x4096x256 .bf16 := (extractStridedSlice S2x4x4096x256 ![0, 0, 0, 0] · slices_S2x8x4096x256_S2x4x4096x256_0_0_0_0) main_arg1
  let main_v8 : FVec F S2x4x4096x256 .f32 := (extf .f32 · bitsLt_bf16_f32) main_v7
  let main_v9 : FVec F S2x4x16x144x256 .bf16 := (extractStridedSlice S2x4x16x144x256 ![0, 0, 0, 0, 0] · slices_S2x8x16x144x256_S2x4x16x144x256_0_0_0_0_0) main_arg2
  let main_v10 : FVec F S2x4x16x144x256 .f32 := (extf .f32 · bitsLt_bf16_f32) main_v9
  let main_v11 : FVec F S8192x512 .f32 := (extractStridedSlice S8192x512 ![0, 0] · slices_S8192x5760_S8192x512_0_0) main_arg0
  let main_v12 : FVec F S8192x512 .f32 := Host.absf main_v11
  let main_cst : FVec F S_ .f32 := constant S_ .f32 0x7F800000#32
  let main_v13 : FVec F S8192x512 .f32 := broadcastInDim S8192x512 ![] bcast_S_S8192x512 main_cst
  let main_v14 : IVec S8192x512 1 := cmpf .olt main_v12 main_v13
  let main_c_1 : IVec S_ 1 := constantI S_ 1 1#1
  let main_v15 : IVec S_ 1 := (fun x v => Host.reduce IntOp.andi x v reducesTo_S8192x512_S_d0_1 h_S_) main_v14 main_c_1
  let main_v16 : FVec F S2x4x4096x128 .f32 := (extractStridedSlice S2x4x4096x128 ![0, 0, 0, 0] · slices_S2x4x4096x256_S2x4x4096x128_0_0_0_0) main_v8
  let main_v17 : FVec F S2x4x4096x128 .f32 := Host.absf main_v16
  let main_cst_2 : FVec F S_ .f32 := constant S_ .f32 0x7F800000#32
  let main_v18 : FVec F S2x4x4096x128 .f32 := broadcastInDim S2x4x4096x128 ![] bcast_S_S2x4x4096x128 main_cst_2
  fn_part1 (F := F) main_arg3 main_arg4 main_v3 main_v6 main_v8 main_v10 main_v15 main_v17 main_v18
-- ==== Kernel.lean ====
abbrev S8192x5760 : Shape := ⟨2, ![8192, 5760]⟩
abbrev S2x8x4096x256 : Shape := ⟨4, ![2, 8, 4096, 256]⟩
abbrev S2x8x16x144x256 : Shape := ⟨5, ![2, 8, 16, 144, 256]⟩
abbrev S8 : Shape := ⟨1, ![8]⟩
abbrev S4x64 : Shape := ⟨2, ![4, 64]⟩
abbrev S1x128 : Shape := ⟨2, ![1, 128]⟩
abbrev S256x512 : Shape := ⟨2, ![256, 512]⟩
abbrev S_ : Shape := ⟨0, ![]⟩
abbrev S8192x512 : Shape := ⟨2, ![8192, 512]⟩
abbrev S1x4x4096x256 : Shape := ⟨4, ![1, 4, 4096, 256]⟩
abbrev S1x4x16x144x256 : Shape := ⟨5, ![1, 4, 16, 144, 256]⟩
abbrev S4x256x512 : Shape := ⟨3, ![4, 256, 512]⟩
abbrev S4x1x512 : Shape := ⟨3, ![4, 1, 512]⟩
abbrev S4x144x512 : Shape := ⟨3, ![4, 144, 512]⟩
abbrev S256x128 : Shape := ⟨2, ![256, 128]⟩
abbrev S128x256 : Shape := ⟨2, ![128, 256]⟩
abbrev S128x512 : Shape := ⟨2, ![128, 512]⟩
abbrev S1 : Shape := ⟨1, ![1]⟩
abbrev S8x512 : Shape := ⟨2, ![8, 512]⟩
abbrev S120x512 : Shape := ⟨2, ![120, 512]⟩
abbrev S1x256x512 : Shape := ⟨3, ![1, 256, 512]⟩
abbrev S1x1x256x256 : Shape := ⟨4, ![1, 1, 256, 256]⟩
abbrev S256x256 : Shape := ⟨2, ![256, 256]⟩
abbrev S1x1x512 : Shape := ⟨3, ![1, 1, 512]⟩
abbrev S1x512 : Shape := ⟨2, ![1, 512]⟩
abbrev S512 : Shape := ⟨1, ![512]⟩
abbrev S1x144x512 : Shape := ⟨3, ![1, 144, 512]⟩
abbrev S144x512 : Shape := ⟨2, ![144, 512]⟩
abbrev S1x1x1x144x256 : Shape := ⟨5, ![1, 1, 1, 144, 256]⟩
abbrev S144x256 : Shape := ⟨2, ![144, 256]⟩
abbrev S1x64 : Shape := ⟨2, ![1, 64]⟩
abbrev S1x1 : Shape := ⟨2, ![1, 1]⟩
abbrev S1x128x512 : Shape := ⟨3, ![1, 128, 512]⟩
abbrev S256 : Shape := ⟨1, ![256]⟩
abbrev S1x256 : Shape := ⟨2, ![1, 256]⟩

abbrev nBuf : Space → Nat
  | .hbm => 38
  | .vmem => 14
  | .smem => 1
  | _ => 0

abbrev bufTy : (tb : Table) → Fin (tcTables nBuf tb) → BufTy
  | .hbm, ⟨0, _⟩ => ⟨S8192x5760, .f32⟩
  | .hbm, ⟨1, _⟩ => ⟨S2x8x4096x256, .bf16⟩
  | .hbm, ⟨2, _⟩ => ⟨S2x8x16x144x256, .bf16⟩
  | .hbm, ⟨3, _⟩ => ⟨S8, .f32⟩
  | .hbm, ⟨4, _⟩ => ⟨S4x64, .f32⟩
  | .hbm, ⟨5, _⟩ => ⟨S1x128, .f32⟩
  | .hbm, ⟨6, _⟩ => ⟨S256x512, .i32⟩
  | .hbm, ⟨7, _⟩ => ⟨S256x512, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S256x512, .i32⟩
  | .hbm, ⟨15, _⟩ => ⟨S256x512, .i32⟩
  | .hbm, ⟨16, _⟩ => ⟨S_, .i32⟩
  | .hbm, ⟨17, _⟩ => ⟨S256x512, .i32⟩
  | .hbm, ⟨18, _⟩ => ⟨S256x512, .i1⟩
  | .hbm, ⟨19, _⟩ => ⟨S_, .i32⟩
  | .hbm, ⟨20, _⟩ => ⟨S256x512, .i32⟩
  | .hbm, ⟨21, _⟩ => ⟨S256x512, .i1⟩
  | .hbm, ⟨22, _⟩ => ⟨S_, .i32⟩
  | .hbm, ⟨23, _⟩ => ⟨S_, .i1⟩
  | .hbm, ⟨24, _⟩ => ⟨S256x512, .i1⟩
  | .hbm, ⟨25, _⟩ => ⟨S256x512, .i1⟩
  | .hbm, ⟨26, _⟩ => ⟨S256x512, .i1⟩
  | .hbm, ⟨27, _⟩ => ⟨S256x512, .i32⟩
  | .hbm, ⟨28, _⟩ => ⟨S256x512, .i32⟩
  | .hbm, ⟨29, _⟩ => ⟨S256x512, .i32⟩
  | .hbm, ⟨30, _⟩ => ⟨S256x512, .i1⟩
  | .hbm, ⟨31, _⟩ => ⟨S_, .f32⟩
  | .hbm, ⟨32, _⟩ => ⟨S_, .f32⟩
  | .hbm, ⟨33, _⟩ => ⟨S256x512, .f32⟩
  | .hbm, ⟨34, _⟩ => ⟨S256x512, .f32⟩
  | .hbm, ⟨35, _⟩ => ⟨S256x512, .f32⟩
  | .hbm, ⟨36, _⟩ => ⟨S256x512, .f32⟩
  | .hbm, ⟨37, _⟩ => ⟨S8192x512, .bf16⟩
  | .local _ .vmem, ⟨0, _⟩ => ⟨S4x64, .f32⟩
  | .local _ .vmem, ⟨1, _⟩ => ⟨S256x512, .f32⟩
  | .local _ .vmem, ⟨2, _⟩ => ⟨S256x512, .f32⟩
  | .local _ .vmem, ⟨3, _⟩ => ⟨S1x4x4096x256, .bf16⟩
  | .local _ .vmem, ⟨4, _⟩ => ⟨S1x4x4096x256, .bf16⟩
  | .local _ .vmem, ⟨5, _⟩ => ⟨S1x4x16x144x256, .bf16⟩
  | .local _ .vmem, ⟨6, _⟩ => ⟨S1x4x16x144x256, .bf16⟩
  | .local _ .vmem, ⟨7, _⟩ => ⟨S256x512, .f32⟩
  | .local _ .vmem, ⟨8, _⟩ => ⟨S1x128, .f32⟩
  | .local _ .vmem, ⟨9, _⟩ => ⟨S256x512, .bf16⟩
  | .local _ .vmem, ⟨10, _⟩ => ⟨S256x512, .bf16⟩
  | .local _ .vmem, ⟨11, _⟩ => ⟨S4x256x512, .bf16⟩
  | .local _ .vmem, ⟨12, _⟩ => ⟨S4x1x512, .f32⟩
  | .local _ .vmem, ⟨13, _⟩ => ⟨S4x144x512, .f32⟩
  | .local _ .smem, ⟨0, _⟩ => ⟨S8, .f32⟩
  | _, _ => ⟨S8192x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v2 : Ref sig .tc := ⟨.hbm, 29, rfl⟩
abbrev main_v3 : Ref sig .tc := ⟨.hbm, 30, rfl⟩
abbrev main_cst : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c256_i32_101 : BitVec 32 := 256#32
  let v263 : BitVec 32 := Scalar.muli arg1 c256_i32_101
  v263
def k0_off1 (i : grid0.Coords) : Fin 4 → Nat :=
  let c0_102 : Index := 0#32
  let c0_103 : Index := 0#32
  let arg1 : BitVec 32 := BitVec.ofNat 32 (i 1).val
  let c256_i32_101 : BitVec 32 := 256#32
  let v263 : BitVec 32 := Scalar.muli arg1 c256_i32_101
  let v264 : BitVec 32 := v263
  let v265 : Index := Scalar.indexCast v264
  let c0_104 : Index := 0#32
  ![0, 0, v265.toNat, 0]
def k0_off2 (i : grid0.Coords) : Fin 4 → Nat :=
  let c0_109 : Index := 0#32
  let c1_110 : Index := 1#32
  let arg1 : BitVec 32 := BitVec.ofNat 32 (i 1).val
  let c256_i32_101 : BitVec 32 := 256#32
  let v263 : BitVec 32 := Scalar.muli arg1 c256_i32_101
  let v264 : BitVec 32 := v263
  let v271 : Index := Scalar.indexCast v264
  let c0_111 : Index := 0#32
  ![0, 1, v271.toNat, 0]
def k0_off3 (i : grid0.Coords) : Fin 4 → Nat :=
  let c0_116 : Index := 0#32
  let c2_117 : Index := 2#32
  let arg1 : BitVec 32 := BitVec.ofNat 32 (i 1).val
  let c256_i32_101 : BitVec 32 := 256#32
  let v263 : BitVec 32 := Scalar.muli arg1 c256_i32_101
  let v264 : BitVec 32 := v263
  let v277 : Index := Scalar.indexCast v264
  let c0_118 : Index := 0#32
  ![0, 2, v277.toNat, 0]
def k0_off4 (i : grid0.Coords) : Fin 4 → Nat :=
  let c0_123 : Index := 0#32
  let c3_124 : Index := 3#32
  let arg1 : BitVec 32 := BitVec.ofNat 32 (i 1).val
  let c256_i32_101 : BitVec 32 := 256#32
  let v263 : BitVec 32 := Scalar.muli arg1 c256_i32_101
  let v264 : BitVec 32 := v263
  let v283 : Index := Scalar.indexCast v264
  let c0_125 : Index := 0#32
  ![0, 3, v283.toNat, 0]
def k0_off5 (i : grid0.Coords) : Fin 5 → Nat :=
  let c0_161 : Index := 0#32
  let c0_162 : Index := 0#32
  let arg1 : BitVec 32 := BitVec.ofNat 32 (i 1).val
  let v353 : Index := Scalar.indexCast arg1
  let c0_163 : Index := 0#32
  let c0_164 : Index := 0#32
  ![0, 0, v353.toNat, 0, 0]
def k0_off6 (i : grid0.Coords) : Fin 5 → Nat :=
  let c0_172 : Index := 0#32
  let c1_173 : Index := 1#32
  let arg1 : BitVec 32 := BitVec.ofNat 32 (i 1).val
  let v365 : Index := Scalar.indexCast arg1
  let c0_174 : Index := 0#32
  let c0_175 : Index := 0#32
  ![0, 1, v365.toNat, 0, 0]
def k0_off7 (i : grid0.Coords) : Fin 5 → Nat :=
  let c0_183 : Index := 0#32
  let c2_184 : Index := 2#32
  let arg1 : BitVec 32 := BitVec.ofNat 32 (i 1).val
  let v377 : Index := Scalar.indexCast arg1
  let c0_185 : Index := 0#32
  let c0_186 : Index := 0#32
  ![0, 2, v377.toNat, 0, 0]
def k0_off8 (i : grid0.Coords) : Fin 5 → Nat :=
  let c0_194 : Index := 0#32
  let c3_195 : Index := 3#32
  let arg1 : BitVec 32 := BitVec.ofNat 32 (i 1).val
  let v389 : Index := Scalar.indexCast arg1
  let c0_196 : Index := 0#32
  let c0_197 : Index := 0#32
  ![0, 3, v389.toNat, 0, 0]
@[reducible] def k0_t1_loop (i : grid0.Coords) : Scf.Loop 32 :=
  let c0_i32_203 : BitVec 32 := 0#32
  let arg1 : BitVec 32 := BitVec.ofNat 32 (i 1).val
  let v397 : BitVec 32 := Scalar.subi arg1 c0_i32_203
  let c1_i32_204 : BitVec 32 := 1#32
  let v399 : BitVec 32 := Scalar.divsi v397 c1_i32_204
  let v400 : BitVec 32 := Scalar.muli v399 c1_i32_204
  let v401 : BitVec 32 := Scalar.addi c0_i32_203 v400
  let c1_i32_205 : BitVec 32 := 1#32
  ⟨c0_i32_203, v401, c1_i32_205⟩
def k0_mult2 (i : grid0.Coords) (k0_t1 : Fin (k0_t1_loop i).trips) : BitVec 32 :=
  let c0_i32_203 : BitVec 32 := 0#32
  let c1_i32_205 : BitVec 32 := 1#32
  let arg13 : BitVec 32 := Scf.iv c0_i32_203 c1_i32_205 k0_t1
  let c256_i32_268 : BitVec 32 := 256#32
  let v534 : BitVec 32 := Scalar.muli arg13 c256_i32_268
  v534
def k0_off9 (i : grid0.Coords) (k0_t1 : Fin (k0_t1_loop i).trips) : Fin 4 → Nat :=
  let c0_269 : Index := 0#32
  let c0_270 : Index := 0#32
  let c0_i32_203 : BitVec 32 := 0#32
  let c1_i32_205 : BitVec 32 := 1#32
  let arg13 : BitVec 32 := Scf.iv c0_i32_203 c1_i32_205 k0_t1
  let c256_i32_268 : BitVec 32 := 256#32
  let v534 : BitVec 32 := Scalar.muli arg13 c256_i32_268
  let v535 : BitVec 32 := v534
  let v536 : Index := Scalar.indexCast v535
  let c0_271 : Index := 0#32
  ![0, 0, v536.toNat, 0]
def k0_off10 (i : grid0.Coords) (k0_t1 : Fin (k0_t1_loop i).trips) : Fin 4 → Nat :=
  let c0_276 : Index := 0#32
  let c1_277 : Index := 1#32
  let c0_i32_203 : BitVec 32 := 0#32
  let c1_i32_205 : BitVec 32 := 1#32
  let arg13 : BitVec 32 := Scf.iv c0_i32_203 c1_i32_205 k0_t1
  let c256_i32_268 : BitVec 32 := 256#32
  let v534 : BitVec 32 := Scalar.muli arg13 c256_i32_268
  let v535 : BitVec 32 := v534
  let v542 : Index := Scalar.indexCast v535
  let c0_278 : Index := 0#32
  ![0, 1, v542.toNat, 0]
def k0_off11 (i : grid0.Coords) (k0_t1 : Fin (k0_t1_loop i).trips) : Fin 4 → Nat :=
  let c0_283 : Index := 0#32
  let c2_284 : Index := 2#32
  let c0_i32_203 : BitVec 32 := 0#32
  let c1_i32_205 : BitVec 32 := 1#32
  let arg13 : BitVec 32 := Scf.iv c0_i32_203 c1_i32_205 k0_t1
  let c256_i32_268 : BitVec 32 := 256#32
  let v534 : BitVec 32 := Scalar.muli arg13 c256_i32_268
  let v535 : BitVec 32 := v534
  let v548 : Index := Scalar.indexCast v535
  let c0_285 : Index := 0#32
  ![0, 2, v548.toNat, 0]
def k0_off12 (i : grid0.Coords) (k0_t1 : Fin (k0_t1_loop i).trips) : Fin 4 → Nat :=
  let c0_290 : Index := 0#32
  let c3_291 : Index := 3#32
  let c0_i32_203 : BitVec 32 := 0#32
  let c1_i32_205 : BitVec 32 := 1#32
  let arg13 : BitVec 32 := Scf.iv c0_i32_203 c1_i32_205 k0_t1
  let c256_i32_268 : BitVec 32 := 256#32
  let v534 : BitVec 32 := Scalar.muli arg13 c256_i32_268
  let v535 : BitVec 32 := v534
  let v554 : Index := Scalar.indexCast v535
  let c0_292 : Index := 0#32
  ![0, 3, v554.toNat, 0]
def k0_off13 (i : grid0.Coords) (k0_t1 : Fin (k0_t1_loop i).trips) : Fin 5 → Nat :=
  let c0_328 : Index := 0#32
  let c0_329 : Index := 0#32
  let c0_i32_203 : BitVec 32 := 0#32
  let c1_i32_205 : BitVec 32 := 1#32
  let arg13 : BitVec 32 := Scf.iv c0_i32_203 c1_i32_205 k0_t1
  let v620 : Index := Scalar.indexCast arg13
  let c0_330 : Index := 0#32
  let c0_331 : Index := 0#32
  ![0, 0, v620.toNat, 0, 0]
def k0_off14 (i : grid0.Coords) (k0_t1 : Fin (k0_t1_loop i).trips) : Fin 5 → Nat :=
  let c0_339 : Index := 0#32
  let c1_340 : Index := 1#32
  let c0_i32_203 : BitVec 32 := 0#32
  let c1_i32_205 : BitVec 32 := 1#32
  let arg13 : BitVec 32 := Scf.iv c0_i32_203 c1_i32_205 k0_t1
  let v632 : Index := Scalar.indexCast arg13
  let c0_341 : Index := 0#32
  let c0_342 : Index := 0#32
  ![0, 1, v632.toNat, 0, 0]
def k0_off15 (i : grid0.Coords) (k0_t1 : Fin (k0_t1_loop i).trips) : Fin 5 → Nat :=
  let c0_350 : Index := 0#32
  let c2_351 : Index := 2#32
  let c0_i32_203 : BitVec 32 := 0#32
  let c1_i32_205 : BitVec 32 := 1#32
  let arg13 : BitVec 32 := Scf.iv c0_i32_203 c1_i32_205 k0_t1
  let v644 : Index := Scalar.indexCast arg13
  let c0_352 : Index := 0#32
  let c0_353 : Index := 0#32
  ![0, 2, v644.toNat, 0, 0]
def k0_off16 (i : grid0.Coords) (k0_t1 : Fin (k0_t1_loop i).trips) : Fin 5 → Nat :=
  let c0_361 : Index := 0#32
  let c3_362 : Index := 3#32
  let c0_i32_203 : BitVec 32 := 0#32
  let c1_i32_205 : BitVec 32 := 1#32
  let arg13 : BitVec 32 := Scf.iv c0_i32_203 c1_i32_205 k0_t1
  let v656 : Index := Scalar.indexCast arg13
  let c0_363 : Index := 0#32
  let c0_364 : Index := 0#32
  ![0, 3, v656.toNat, 0, 0]
@[reducible] def k0_t2_loop (i : grid0.Coords) : Scf.Loop 32 :=
  let c0_i32_203 : BitVec 32 := 0#32
  let arg1 : BitVec 32 := BitVec.ofNat 32 (i 1).val
  let v397 : BitVec 32 := Scalar.subi arg1 c0_i32_203
  let c1_i32_204 : BitVec 32 := 1#32
  let v399 : BitVec 32 := Scalar.divsi v397 c1_i32_204
  let v400 : BitVec 32 := Scalar.muli v399 c1_i32_204
  let v401 : BitVec 32 := Scalar.addi c0_i32_203 v400
  let v398 : BitVec 32 := Scalar.addi c0_i32_203 v397
  let c1_i32_206 : BitVec 32 := 1#32
  ⟨v401, v398, c1_i32_206⟩
def k0_mult3 (i : grid0.Coords) (k0_t2 : Fin (k0_t2_loop i).trips) : BitVec 32 :=
  let c0_i32_203 : BitVec 32 := 0#32
  let arg1 : BitVec 32 := BitVec.ofNat 32 (i 1).val
  let v397 : BitVec 32 := Scalar.subi arg1 c0_i32_203
  let c1_i32_204 : BitVec 32 := 1#32
  let v399 : BitVec 32 := Scalar.divsi v397 c1_i32_204
  let v400 : BitVec 32 := Scalar.muli v399 c1_i32_204
  let v401 : BitVec 32 := Scalar.addi c0_i32_203 v400
  let c1_i32_206 : BitVec 32 := 1#32
  let arg13 : BitVec 32 := Scf.iv v401 c1_i32_206 k0_t2
  let c256_i32_268 : BitVec 32 := 256#32
  let v534 : BitVec 32 := Scalar.muli arg13 c256_i32_268
  v534
def k0_off17 (i : grid0.Coords) (k0_t2 : Fin (k0_t2_loop i).trips) : Fin 4 → Nat :=
  let c0_269 : Index := 0#32
  let c0_270 : Index := 0#32
  let c0_i32_203 : BitVec 32 := 0#32
  let arg1 : BitVec 32 := BitVec.ofNat 32 (i 1).val
  let v397 : BitVec 32 := Scalar.subi arg1 c0_i32_203
  let c1_i32_204 : BitVec 32 := 1#32
  let v399 : BitVec 32 := Scalar.divsi v397 c1_i32_204
  let v400 : BitVec 32 := Scalar.muli v399 c1_i32_204
  let v401 : BitVec 32 := Scalar.addi c0_i32_203 v400
  let c1_i32_206 : BitVec 32 := 1#32
  let arg13 : BitVec 32 := Scf.iv v401 c1_i32_206 k0_t2
  let c256_i32_268 : BitVec 32 := 256#32
  let v534 : BitVec 32 := Scalar.muli arg13 c256_i32_268
  let v535 : BitVec 32 := v534
  let v536 : Index := Scalar.indexCast v535
  let c0_271 : Index := 0#32
  ![0, 0, v536.toNat, 0]
def k0_off18 (i : grid0.Coords) (k0_t2 : Fin (k0_t2_loop i).trips) : Fin 4 → Nat :=
  let c0_276 : Index := 0#32
  let c1_277 : Index := 1#32
  let c0_i32_203 : BitVec 32 := 0#32
  let arg1 : BitVec 32 := BitVec.ofNat 32 (i 1).val
  let v397 : BitVec 32 := Scalar.subi arg1 c0_i32_203
  let c1_i32_204 : BitVec 32 := 1#32
  let v399 : BitVec 32 := Scalar.divsi v397 c1_i32_204
  let v400 : BitVec 32 := Scalar.muli v399 c1_i32_204
  let v401 : BitVec 32 := Scalar.addi c0_i32_203 v400
  let c1_i32_206 : BitVec 32 := 1#32
  let arg13 : BitVec 32 := Scf.iv v401 c1_i32_206 k0_t2
  let c256_i32_268 : BitVec 32 := 256#32
  let v534 : BitVec 32 := Scalar.muli arg13 c256_i32_268
  let v535 : BitVec 32 := v534
  let v542 : Index := Scalar.indexCast v535
  let c0_278 : Index := 0#32
  ![0, 1, v542.toNat, 0]
def k0_off19 (i : grid0.Coords) (k0_t2 : Fin (k0_t2_loop i).trips) : Fin 4 → Nat :=
  let c0_283 : Index := 0#32
  let c2_284 : Index := 2#32
  let c0_i32_203 : BitVec 32 := 0#32
  let arg1 : BitVec 32 := BitVec.ofNat 32 (i 1).val
  let v397 : BitVec 32 := Scalar.subi arg1 c0_i32_203
  let c1_i32_204 : BitVec 32 := 1#32
  let v399 : BitVec 32 := Scalar.divsi v397 c1_i32_204
  let v400 : BitVec 32 := Scalar.muli v399 c1_i32_204
  let v401 : BitVec 32 := Scalar.addi c0_i32_203 v400
  let c1_i32_206 : BitVec 32 := 1#32
  let arg13 : BitVec 32 := Scf.iv v401 c1_i32_206 k0_t2
  let c256_i32_268 : BitVec 32 := 256#32
  let v534 : BitVec 32 := Scalar.muli arg13 c256_i32_268
  let v535 : BitVec 32 := v534
  let v548 : Index := Scalar.indexCast v535
  let c0_285 : Index := 0#32
  ![0, 2, v548.toNat, 0]
def k0_off20 (i : grid0.Coords) (k0_t2 : Fin (k0_t2_loop i).trips) : Fin 4 → Nat :=
  let c0_290 : Index := 0#32
  let c3_291 : Index := 3#32
  let c0_i32_203 : BitVec 32 := 0#32
  let arg1 : BitVec 32 := BitVec.ofNat 32 (i 1).val
  let v397 : BitVec 32 := Scalar.subi arg1 c0_i32_203
  let c1_i32_204 : BitVec 32 := 1#32
  let v399 : BitVec 32 := Scalar.divsi v397 c1_i32_204
  let v400 : BitVec 32 := Scalar.muli v399 c1_i32_204
  let v401 : BitVec 32 := Scalar.addi c0_i32_203 v400
  let c1_i32_206 : BitVec 32 := 1#32
  let arg13 : BitVec 32 := Scf.iv v401 c1_i32_206 k0_t2
  let c256_i32_268 : BitVec 32 := 256#32
  let v534 : BitVec 32 := Scalar.muli arg13 c256_i32_268
  let v535 : BitVec 32 := v534
  let v554 : Index := Scalar.indexCast v535
  let c0_292 : Index := 0#32
  ![0, 3, v554.toNat, 0]
def k0_off21 (i : grid0.Coords) (k0_t2 : Fin (k0_t2_loop i).trips) : Fin 5 → Nat :=
  let c0_328 : Index := 0#32
  let c0_329 : Index := 0#32
  let c0_i32_203 : BitVec 32 := 0#32
  let arg1 : BitVec 32 := BitVec.ofNat 32 (i 1).val
  let v397 : BitVec 32 := Scalar.subi arg1 c0_i32_203
  let c1_i32_204 : BitVec 32 := 1#32
  let v399 : BitVec 32 := Scalar.divsi v397 c1_i32_204
  let v400 : BitVec 32 := Scalar.muli v399 c1_i32_204
  let v401 : BitVec 32 := Scalar.addi c0_i32_203 v400
  let c1_i32_206 : BitVec 32 := 1#32
  let arg13 : BitVec 32 := Scf.iv v401 c1_i32_206 k0_t2
  let v620 : Index := Scalar.indexCast arg13
  let c0_330 : Index := 0#32
  let c0_331 : Index := 0#32
  ![0, 0, v620.toNat, 0, 0]
def k0_off22 (i : grid0.Coords) (k0_t2 : Fin (k0_t2_loop i).trips) : Fin 5 → Nat :=
  let c0_339 : Index := 0#32
  let c1_340 : Index := 1#32
  let c0_i32_203 : BitVec 32 := 0#32
  let arg1 : BitVec 32 := BitVec.ofNat 32 (i 1).val
  let v397 : BitVec 32 := Scalar.subi arg1 c0_i32_203
  let c1_i32_204 : BitVec 32 := 1#32
  let v399 : BitVec 32 := Scalar.divsi v397 c1_i32_204
  let v400 : BitVec 32 := Scalar.muli v399 c1_i32_204
  let v401 : BitVec 32 := Scalar.addi c0_i32_203 v400
  let c1_i32_206 : BitVec 32 := 1#32
  let arg13 : BitVec 32 := Scf.iv v401 c1_i32_206 k0_t2
  let v632 : Index := Scalar.indexCast arg13
  let c0_341 : Index := 0#32
  let c0_342 : Index := 0#32
  ![0, 1, v632.toNat, 0, 0]
def k0_off23 (i : grid0.Coords) (k0_t2 : Fin (k0_t2_loop i).trips) : Fin 5 → Nat :=
  let c0_350 : Index := 0#32
  let c2_351 : Index := 2#32
  let c0_i32_203 : BitVec 32 := 0#32
  let arg1 : BitVec 32 := BitVec.ofNat 32 (i 1).val
  let v397 : BitVec 32 := Scalar.subi arg1 c0_i32_203
  let c1_i32_204 : BitVec 32 := 1#32
  let v399 : BitVec 32 := Scalar.divsi v397 c1_i32_204
  let v400 : BitVec 32 := Scalar.muli v399 c1_i32_204
  let v401 : BitVec 32 := Scalar.addi c0_i32_203 v400
  let c1_i32_206 : BitVec 32 := 1#32
  let arg13 : BitVec 32 := Scf.iv v401 c1_i32_206 k0_t2
  let v644 : Index := Scalar.indexCast arg13
  let c0_352 : Index := 0#32
  let c0_353 : Index := 0#32
  ![0, 2, v644.toNat, 0, 0]
def k0_off24 (i : grid0.Coords) (k0_t2 : Fin (k0_t2_loop i).trips) : Fin 5 → Nat :=
  let c0_361 : Index := 0#32
  let c3_362 : Index := 3#32
  let c0_i32_203 : BitVec 32 := 0#32
  let arg1 : BitVec 32 := BitVec.ofNat 32 (i 1).val
  let v397 : BitVec 32 := Scalar.subi arg1 c0_i32_203
  let c1_i32_204 : BitVec 32 := 1#32
  let v399 : BitVec 32 := Scalar.divsi v397 c1_i32_204
  let v400 : BitVec 32 := Scalar.muli v399 c1_i32_204
  let v401 : BitVec 32 := Scalar.addi c0_i32_203 v400
  let c1_i32_206 : BitVec 32 := 1#32
  let arg13 : BitVec 32 := Scf.iv v401 c1_i32_206 k0_t2
  let v656 : Index := Scalar.indexCast arg13
  let c0_363 : Index := 0#32
  let c0_364 : Index := 0#32
  ![0, 3, v656.toNat, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x16x144x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "lam_init" => some ((13421773 / 67108864 : ℝ) : EReal)
  | "log2e" => some (((Real.log 2)⁻¹ : ℝ) : EReal)
  | "scale_log2e" => some (((1 / 8) * (Real.log 2)⁻¹ : ℝ) : EReal)
  | _ => none
-- ==== ReferenceIdeal.lean ====
abbrev S8192x5760 : Shape := ⟨2, ![8192, 5760]⟩
abbrev S2x8x4096x256 : Shape := ⟨4, ![2, 8, 4096, 256]⟩
abbrev S2x8x16x144x256 : Shape := ⟨5, ![2, 8, 16, 144, 256]⟩
abbrev S8 : Shape := ⟨1, ![8]⟩
abbrev S4x64 : Shape := ⟨2, ![4, 64]⟩
abbrev S1x128 : Shape := ⟨2, ![1, 128]⟩
abbrev S8192x512 : Shape := ⟨2, ![8192, 512]⟩
abbrev S2x4096x4x2x64 : Shape := ⟨5, ![2, 4096, 4, 2, 64]⟩
abbrev S2x4x4096x128 : Shape := ⟨4, ![2, 4, 4096, 128]⟩
abbrev S2x4x4096x2x64 : Shape := ⟨5, ![2, 4, 4096, 2, 64]⟩
abbrev S2x4x16x128x256 : Shape := ⟨5, ![2, 4, 16, 128, 256]⟩
abbrev S2x4x16x256x128 : Shape := ⟨5, ![2, 4, 16, 256, 128]⟩
abbrev S4096 : Shape := ⟨1, ![4096]⟩
abbrev S2x4x2x4096x4096 : Shape := ⟨5, ![2, 4, 2, 4096, 4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S4 : Shape := ⟨1, ![4]⟩
abbrev S1x4x1x1x1 : Shape := ⟨5, ![1, 4, 1, 1, 1]⟩
abbrev S1x1x1x4096x4096 : Shape := ⟨5, ![1, 1, 1, 4096, 4096]⟩
abbrev S1x4x1x4096x4096 : Shape := ⟨5, ![1, 4, 1, 4096, 4096]⟩
abbrev S2x4x2x4096 : Shape := ⟨4, ![2, 4, 2, 4096]⟩
abbrev S2x4x2x4096x1 : Shape := ⟨5, ![2, 4, 2, 4096, 1]⟩
abbrev S1x64 : Shape := ⟨2, ![1, 64]⟩
abbrev S64 : Shape := ⟨1, ![64]⟩
abbrev S2x4x1x4096x4096 : Shape := ⟨5, ![2, 4, 1, 4096, 4096]⟩
abbrev S2x4x4096x4096 : Shape := ⟨4, ![2, 4, 4096, 4096]⟩
abbrev S2x4x128x4096 : Shape := ⟨4, ![2, 4, 128, 4096]⟩
abbrev S2x4096x4x128 : Shape := ⟨4, ![2, 4096, 4, 128]⟩
abbrev S2x4096x4 : Shape := ⟨3, ![2, 4096, 4]⟩
abbrev S2x4096x4x1 : Shape := ⟨4, ![2, 4096, 4, 1]⟩
abbrev S128 : Shape := ⟨1, ![128]⟩
abbrev S1x1x1x128 : Shape := ⟨4, ![1, 1, 1, 128]⟩

abbrev nBuf : Space → Nat
  | .hbm => 106
  | .vmem => 0
  | .smem => 0
  | _ => 0

abbrev bufTy : (tb : Table) → Fin (tcTables nBuf tb) → BufTy
  | .hbm, ⟨0, _⟩ => ⟨S8192x5760, .f32⟩
  | .hbm, ⟨1, _⟩ => ⟨S2x8x4096x256, .bf16⟩
  | .hbm, ⟨2, _⟩ => ⟨S2x8x16x144x256, .bf16⟩
  | .hbm, ⟨3, _⟩ => ⟨S8, .f32⟩
  | .hbm, ⟨4, _⟩ => ⟨S4x64, .f32⟩
  | .hbm, ⟨5, _⟩ => ⟨S1x128, .f32⟩
  | .hbm, ⟨6, _⟩ => ⟨S8192x512, .f32⟩
  | .hbm, ⟨7, _⟩ => ⟨S2x4096x4x2x64, .f32⟩
  | .hbm, ⟨8, _⟩ => ⟨S2x4x4096x128, .bf16⟩
  | .hbm, ⟨9, _⟩ => ⟨S2x4x4096x128, .f32⟩
  | .hbm, ⟨10, _⟩ => ⟨S2x4x4096x2x64, .f32⟩
  | .hbm, ⟨11, _⟩ => ⟨S2x4x16x128x256, .bf16⟩
  | .hbm, ⟨12, _⟩ => ⟨S2x4x16x128x256, .f32⟩
  | .hbm, ⟨13, _⟩ => ⟨S2x4x16x256x128, .f32⟩
  | .hbm, ⟨14, _⟩ => ⟨S2x4x4096x128, .f32⟩
  | .hbm, ⟨15, _⟩ => ⟨S4096, .i32⟩
  | .hbm, ⟨16, _⟩ => ⟨S2x4x2x4096x4096, .f32⟩
  | .hbm, ⟨17, _⟩ => ⟨S_, .f32⟩
  | .hbm, ⟨18, _⟩ => ⟨S2x4x2x4096x4096, .f32⟩
  | .hbm, ⟨19, _⟩ => ⟨S2x4x2x4096x4096, .f32⟩
  | .hbm, ⟨20, _⟩ => ⟨S4096x1, .i32⟩
  | .hbm, ⟨21, _⟩ => ⟨S1x4096, .i32⟩
  | .hbm, ⟨22, _⟩ => ⟨S4096x4096, .i32⟩
  | .hbm, ⟨23, _⟩ => ⟨S4096x4096, .i32⟩
  | .hbm, ⟨24, _⟩ => ⟨S4096x4096, .i32⟩
  | .hbm, ⟨25, _⟩ => ⟨S4096x4096, .f32⟩
  | .hbm, ⟨26, _⟩ => ⟨S4, .f32⟩
  | .hbm, ⟨27, _⟩ => ⟨S1x4x1x1x1, .f32⟩
  | .hbm, ⟨28, _⟩ => ⟨S1x1x1x4096x4096, .f32⟩
  | .hbm, ⟨29, _⟩ => ⟨S1x4x1x4096x4096, .f32⟩
  | .hbm, ⟨30, _⟩ => ⟨S1x4x1x4096x4096, .f32⟩
  | .hbm, ⟨31, _⟩ => ⟨S1x4x1x4096x4096, .f32⟩
  | .hbm, ⟨32, _⟩ => ⟨S2x4x2x4096x4096, .f32⟩
  | .hbm, ⟨33, _⟩ => ⟨S2x4x2x4096x4096, .f32⟩
  | .hbm, ⟨34, _⟩ => ⟨S_, .f32⟩
  | .hbm, ⟨35, _⟩ => ⟨S4096x4096, .f32⟩
  | .hbm, ⟨36, _⟩ => ⟨S4096x4096, .i1⟩
  | .hbm, ⟨37, _⟩ => ⟨S_, .f32⟩
  | .hbm, ⟨38, _⟩ => ⟨S_, .f32⟩
  | .hbm, ⟨39, _⟩ => ⟨S2x4x2x4096x4096, .i1⟩
  | .hbm, ⟨40, _⟩ => ⟨S2x4x2x4096x4096, .f32⟩
  | .hbm, ⟨41, _⟩ => ⟨S2x4x2x4096x4096, .f32⟩
  | .hbm, ⟨42, _⟩ => ⟨S_, .f32⟩
  | .hbm, ⟨43, _⟩ => ⟨S2x4x2x4096, .f32⟩
  | .hbm, ⟨44, _⟩ => ⟨S_, .f32⟩
  | .hbm, ⟨45, _⟩ => ⟨S2x4x2x4096, .f32⟩
  | .hbm, ⟨46, _⟩ => ⟨S2x4x2x4096, .f32⟩
  | .hbm, ⟨47, _⟩ => ⟨S2x4x2x4096x1, .f32⟩
  | .hbm, ⟨48, _⟩ => ⟨S2x4x2x4096x4096, .f32⟩
  | .hbm, ⟨49, _⟩ => ⟨S2x4x2x4096x4096, .f32⟩
  | .hbm, ⟨50, _⟩ => ⟨S2x4x2x4096x4096, .f32⟩
  | .hbm, ⟨51, _⟩ => ⟨S_, .f32⟩
  | .hbm, ⟨52, _⟩ => ⟨S2x4x2x4096, .f32⟩
  | .hbm, ⟨53, _⟩ => ⟨S2x4x2x4096x1, .f32⟩
  | .hbm, ⟨54, _⟩ => ⟨S2x4x2x4096x4096, .f32⟩
  | .hbm, ⟨55, _⟩ => ⟨S2x4x2x4096x4096, .f32⟩
  | .hbm, ⟨56, _⟩ => ⟨S1x64, .f32⟩
  | .hbm, ⟨57, _⟩ => ⟨S64, .f32⟩
  | .hbm, ⟨58, _⟩ => ⟨S1x64, .f32⟩
  | .hbm, ⟨59, _⟩ => ⟨S64, .f32⟩
  | .hbm, ⟨60, _⟩ => ⟨S64, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S1x64, .f32⟩
  | .hbm, ⟨65, _⟩ => ⟨S64, .f32⟩
  | .hbm, ⟨66, _⟩ => ⟨S1x64, .f32⟩
  | .hbm, ⟨67, _⟩ => ⟨S64, .f32⟩
  | .hbm, ⟨68, _⟩ => ⟨S64, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S2x4x1x4096x4096, .f32⟩
  | .hbm, ⟨76, _⟩ => ⟨S2x4x4096x4096, .f32⟩
  | .hbm, ⟨77, _⟩ => ⟨S2x4x1x4096x4096, .f32⟩
  | .hbm, ⟨78, _⟩ => ⟨S2x4x4096x4096, .f32⟩
  | .hbm, ⟨79, _⟩ => ⟨S2x4x4096x4096, .f32⟩
  | .hbm, ⟨80, _⟩ => ⟨S2x4x4096x4096, .f32⟩
  | .hbm, ⟨81, _⟩ => ⟨S2x4x4096x4096, .f32⟩
  | .hbm, ⟨82, _⟩ => ⟨S2x4x128x4096, .f32⟩
  | .hbm, ⟨83, _⟩ => ⟨S2x4096x4x128, .f32⟩
  | .hbm, ⟨84, _⟩ => ⟨S2x4096x4x128, .f32⟩
  | .hbm, ⟨85, _⟩ => ⟨S_, .f32⟩
  | .hbm, ⟨86, _⟩ => ⟨S2x4096x4, .f32⟩
  | .hbm, ⟨87, _⟩ => ⟨S2x4096x4x1, .f32⟩
  | .hbm, ⟨88, _⟩ => ⟨S_, .f32⟩
  | .hbm, ⟨89, _⟩ => ⟨S2x4096x4x1, .f32⟩
  | .hbm, ⟨90, _⟩ => ⟨S2x4096x4x1, .f32⟩
  | .hbm, ⟨91, _⟩ => ⟨S_, .f32⟩
  | .hbm, ⟨92, _⟩ => ⟨S2x4096x4x1, .f32⟩
  | .hbm, ⟨93, _⟩ => ⟨S2x4096x4x1, .f32⟩
  | .hbm, ⟨94, _⟩ => ⟨S2x4096x4x1, .f32⟩
  | .hbm, ⟨95, _⟩ => ⟨S2x4096x4x128, .f32⟩
  | .hbm, ⟨96, _⟩ => ⟨S2x4096x4x128, .f32⟩
  | .hbm, ⟨97, _⟩ => ⟨S128, .f32⟩
  | .hbm, ⟨98, _⟩ => ⟨S1x1x1x128, .f32⟩
  | .hbm, ⟨99, _⟩ => ⟨S2x4096x4x128, .f32⟩
  | .hbm, ⟨100, _⟩ => ⟨S2x4096x4x128, .f32⟩
  | .hbm, ⟨101, _⟩ => ⟨S_, .f32⟩
  | .hbm, ⟨102, _⟩ => ⟨S2x4096x4x128, .f32⟩
  | .hbm, ⟨103, _⟩ => ⟨S2x4096x4x128, .f32⟩
  | .hbm, ⟨104, _⟩ => ⟨S8192x512, .f32⟩
  | .hbm, ⟨105, _⟩ => ⟨S8192x512, .bf16⟩
  | _, _ => ⟨S8192x5760, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_0 : Ref sig .tc := ⟨.hbm, 34, rfl⟩
abbrev main_v27 : Ref sig .tc := ⟨.hbm, 35, rfl⟩
abbrev main_v28 : Ref sig .tc := ⟨.hbm, 36, rfl⟩
abbrev main_cst_1 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_6 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_8 : Ref sig .tc := ⟨.hbm, 85, rfl⟩
abbrev main_v67 : Ref sig .tc := ⟨.hbm, 86, rfl⟩
abbrev main_v68 : Ref sig .tc := ⟨.hbm, 87, rfl⟩
abbrev main_cst_9 : Ref sig .tc := ⟨.hbm, 88, rfl⟩
abbrev main_v69 : Ref sig .tc := ⟨.hbm, 89, rfl⟩
abbrev main_v70 : Ref sig .tc := ⟨.hbm, 90, rfl⟩
abbrev main_cst_10 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_11 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩

abbrev nD : Nat := 1
abbrev τ : Topo := Topo.v7x

variable {F : FTy → Type} [FloatOps F]
-- ==== Kernel2.lean ====
abbrev S2x4096x2048 : Shape := ⟨3, ![2, 4096, 2048]⟩
abbrev S128x4x2048 : Shape := ⟨3, ![128, 4, 2048]⟩
abbrev S2x2048x5648 : Shape := ⟨3, ![2, 2048, 5648]⟩
abbrev S_ : Shape := ⟨0, ![]⟩
abbrev S2x2048x5760 : Shape := ⟨3, ![2, 2048, 5760]⟩
abbrev S8192x2048 : Shape := ⟨2, ![8192, 2048]⟩
abbrev S512x2048 : Shape := ⟨2, ![512, 2048]⟩
abbrev S8704x2048 : Shape := ⟨2, ![8704, 2048]⟩
abbrev S8704x5760 : Shape := ⟨2, ![8704, 5760]⟩
abbrev S1x2048x1920 : Shape := ⟨3, ![1, 2048, 1920]⟩
abbrev S512x1920 : Shape := ⟨2, ![512, 1920]⟩
abbrev S2048x1920 : Shape := ⟨2, ![2048, 1920]⟩

abbrev nBuf : Space → Nat
  | .hbm => 12
  | .vmem => 6
  | .smem => 0
  | _ => 0

abbrev bufTy : (tb : Table) → Fin (tcTables nBuf tb) → BufTy
  | .hbm, ⟨0, _⟩ => ⟨S2x4096x2048, .f32⟩
  | .hbm, ⟨1, _⟩ => ⟨S128x4x2048, .f32⟩
  | .hbm, ⟨2, _⟩ => ⟨S2x2048x5648, .f32⟩
  | .hbm, ⟨3, _⟩ => ⟨S2x2048x5648, .bf16⟩
  | .hbm, ⟨4, _⟩ => ⟨S_, .i32⟩
  | .hbm, ⟨5, _⟩ => ⟨S_, .bf16⟩
  | .hbm, ⟨6, _⟩ => ⟨S2x2048x5760, .bf16⟩
  | .hbm, ⟨7, _⟩ => ⟨S8192x2048, .f32⟩
  | .hbm, ⟨8, _⟩ => ⟨S512x2048, .f32⟩
  | .hbm, ⟨9, _⟩ => ⟨S8704x2048, .f32⟩
  | .hbm, ⟨10, _⟩ => ⟨S8704x2048, .bf16⟩
  | .hbm, ⟨11, _⟩ => ⟨S8704x5760, .f32⟩
  | .local _ .vmem, ⟨0, _⟩ => ⟨S512x2048, .bf16⟩
  | .local _ .vmem, ⟨1, _⟩ => ⟨S512x2048, .bf16⟩
  | .local _ .vmem, ⟨2, _⟩ => ⟨S1x2048x1920, .bf16⟩
  | .local _ .vmem, ⟨3, _⟩ => ⟨S1x2048x1920, .bf16⟩
  | .local _ .vmem, ⟨4, _⟩ => ⟨S512x1920, .f32⟩
  | .local _ .vmem, ⟨5, _⟩ => ⟨S512x1920, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S2x4096x2048 : Shape := ⟨3, ![2, 4096, 2048]⟩
abbrev S128x4x2048 : Shape := ⟨3, ![128, 4, 2048]⟩
abbrev S2x2048x5648 : Shape := ⟨3, ![2, 2048, 5648]⟩
abbrev S1x2048x5648 : Shape := ⟨3, ![1, 2048, 5648]⟩
abbrev S2048x5648 : Shape := ⟨2, ![2048, 5648]⟩
abbrev S2x4096x5648 : Shape := ⟨3, ![2, 4096, 5648]⟩
abbrev S128x4x5648 : Shape := ⟨3, ![128, 4, 5648]⟩
abbrev S8192x5648 : Shape := ⟨2, ![8192, 5648]⟩
abbrev S512x5648 : Shape := ⟨2, ![512, 5648]⟩
abbrev S8704x5648 : Shape := ⟨2, ![8704, 5648]⟩
abbrev S_ : Shape := ⟨0, ![]⟩
abbrev S8704x5760 : Shape := ⟨2, ![8704, 5760]⟩

abbrev nBuf : Space → Nat
  | .hbm => 15
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S128x4x2048, .f32⟩
  | .hbm, ⟨2, _⟩ => ⟨S2x2048x5648, .f32⟩
  | .hbm, ⟨3, _⟩ => ⟨S1x2048x5648, .f32⟩
  | .hbm, ⟨4, _⟩ => ⟨S2048x5648, .f32⟩
  | .hbm, ⟨5, _⟩ => ⟨S2x4096x5648, .f32⟩
  | .hbm, ⟨6, _⟩ => ⟨S1x2048x5648, .f32⟩
  | .hbm, ⟨7, _⟩ => ⟨S2048x5648, .f32⟩
  | .hbm, ⟨8, _⟩ => ⟨S128x4x5648, .f32⟩
  | .hbm, ⟨9, _⟩ => ⟨S8192x5648, .f32⟩
  | .hbm, ⟨10, _⟩ => ⟨S512x5648, .f32⟩
  | .hbm, ⟨11, _⟩ => ⟨S8704x5648, .f32⟩
  | .hbm, ⟨12, _⟩ => ⟨S_, .i32⟩
  | .hbm, ⟨13, _⟩ => ⟨S_, .f32⟩
  | .hbm, ⟨14, _⟩ => ⟨S8704x5760, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel3.lean ====
abbrev S139264x128 : Shape := ⟨2, ![139264, 128]⟩
abbrev S8704x2048 : Shape := ⟨2, ![8704, 2048]⟩
abbrev S147456x128 : Shape := ⟨2, ![147456, 128]⟩
abbrev S2x2x4096x256 : Shape := ⟨4, ![2, 2, 4096, 256]⟩
abbrev S2x128x4x256 : Shape := ⟨4, ![2, 128, 4, 256]⟩
abbrev S2x2048x2048 : Shape := ⟨3, ![2, 2048, 2048]⟩
abbrev S2x256x2048 : Shape := ⟨3, ![2, 256, 2048]⟩
abbrev S2x2048 : Shape := ⟨2, ![2, 2048]⟩
abbrev S1x2x4096x256 : Shape := ⟨4, ![1, 2, 4096, 256]⟩
abbrev S2x4096x256 : Shape := ⟨3, ![2, 4096, 256]⟩
abbrev S8192x256 : Shape := ⟨2, ![8192, 256]⟩
abbrev S1x128x4x256 : Shape := ⟨4, ![1, 128, 4, 256]⟩
abbrev S128x4x256 : Shape := ⟨3, ![128, 4, 256]⟩
abbrev S512x256 : Shape := ⟨2, ![512, 256]⟩
abbrev S8704x256 : Shape := ⟨2, ![8704, 256]⟩
abbrev S2x1x2048 : Shape := ⟨3, ![2, 1, 2048]⟩
abbrev S8192x128 : Shape := ⟨2, ![8192, 128]⟩
abbrev S512x2048 : Shape := ⟨2, ![512, 2048]⟩
abbrev S1x2048x2048 : Shape := ⟨3, ![1, 2048, 2048]⟩
abbrev S1x256x2048 : Shape := ⟨3, ![1, 256, 2048]⟩
abbrev S1x1x2048 : Shape := ⟨3, ![1, 1, 2048]⟩
abbrev S128x2048 : Shape := ⟨2, ![128, 2048]⟩
abbrev S2048x2048 : Shape := ⟨2, ![2048, 2048]⟩
abbrev S128x256 : Shape := ⟨2, ![128, 256]⟩
abbrev S256x2048 : Shape := ⟨2, ![256, 2048]⟩
abbrev S2048x128 : Shape := ⟨2, ![2048, 128]⟩
abbrev S128x128 : Shape := ⟨2, ![128, 128]⟩
abbrev S1x2048 : Shape := ⟨2, ![1, 2048]⟩
abbrev S128 : Shape := ⟨1, ![128]⟩
abbrev S128x1 : Shape := ⟨2, ![128, 1]⟩

abbrev nBuf : Space → Nat
  | .hbm => 23
  | .vmem => 16
  | .smem => 0
  | _ => 0

abbrev bufTy : (tb : Table) → Fin (tcTables nBuf tb) → BufTy
  | .hbm, ⟨0, _⟩ => ⟨S139264x128, .f32⟩
  | .hbm, ⟨1, _⟩ => ⟨S8704x2048, .bf16⟩
  | .hbm, ⟨2, _⟩ => ⟨S147456x128, .f32⟩
  | .hbm, ⟨3, _⟩ => ⟨S2x2x4096x256, .f32⟩
  | .hbm, ⟨4, _⟩ => ⟨S2x128x4x256, .f32⟩
  | .hbm, ⟨5, _⟩ => ⟨S2x2048x2048, .f32⟩
  | .hbm, ⟨6, _⟩ => ⟨S2x256x2048, .f32⟩
  | .hbm, ⟨7, _⟩ => ⟨S2x2048, .f32⟩
  | .hbm, ⟨8, _⟩ => ⟨S2x2048, .f32⟩
  | .hbm, ⟨9, _⟩ => ⟨S2x2048x2048, .bf16⟩
  | .hbm, ⟨10, _⟩ => ⟨S2x256x2048, .bf16⟩
  | .hbm, ⟨11, _⟩ => ⟨S1x2x4096x256, .f32⟩
  | .hbm, ⟨12, _⟩ => ⟨S2x4096x256, .f32⟩
  | .hbm, ⟨13, _⟩ => ⟨S8192x256, .f32⟩
  | .hbm, ⟨14, _⟩ => ⟨S1x128x4x256, .f32⟩
  | .hbm, ⟨15, _⟩ => ⟨S128x4x256, .f32⟩
  | .hbm, ⟨16, _⟩ => ⟨S512x256, .f32⟩
  | .hbm, ⟨17, _⟩ => ⟨S8704x256, .f32⟩
  | .hbm, ⟨18, _⟩ => ⟨S8704x256, .bf16⟩
  | .hbm, ⟨19, _⟩ => ⟨S2x1x2048, .f32⟩
  | .hbm, ⟨20, _⟩ => ⟨S2x1x2048, .f32⟩
  | .hbm, ⟨21, _⟩ => ⟨S8704x2048, .f32⟩
  | .hbm, ⟨22, _⟩ => ⟨S8704x2048, .bf16⟩
  | .local _ .vmem, ⟨0, _⟩ => ⟨S8192x128, .f32⟩
  | .local _ .vmem, ⟨1, _⟩ => ⟨S8192x128, .f32⟩
  | .local _ .vmem, ⟨2, _⟩ => ⟨S512x2048, .bf16⟩
  | .local _ .vmem, ⟨3, _⟩ => ⟨S512x2048, .bf16⟩
  | .local _ .vmem, ⟨4, _⟩ => ⟨S8192x128, .f32⟩
  | .local _ .vmem, ⟨5, _⟩ => ⟨S8192x128, .f32⟩
  | .local _ .vmem, ⟨6, _⟩ => ⟨S512x256, .bf16⟩
  | .local _ .vmem, ⟨7, _⟩ => ⟨S512x256, .bf16⟩
  | .local _ .vmem, ⟨8, _⟩ => ⟨S1x2048x2048, .bf16⟩
  | .local _ .vmem, ⟨9, _⟩ => ⟨S1x256x2048, .bf16⟩
  | .local _ .vmem, ⟨10, _⟩ => ⟨S1x1x2048, .f32⟩
  | .local _ .vmem, ⟨11, _⟩ => ⟨S1x1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | _, _ => ⟨S139264x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S139264x128 : Shape := ⟨2, ![139264, 128]⟩
abbrev S8704x2048 : Shape := ⟨2, ![8704, 2048]⟩
abbrev S147456x128 : Shape := ⟨2, ![147456, 128]⟩
abbrev S2x2x4096x256 : Shape := ⟨4, ![2, 2, 4096, 256]⟩
abbrev S2x128x4x256 : Shape := ⟨4, ![2, 128, 4, 256]⟩
abbrev S2x2048x2048 : Shape := ⟨3, ![2, 2048, 2048]⟩
abbrev S2x256x2048 : Shape := ⟨3, ![2, 256, 2048]⟩
abbrev S2x2048 : Shape := ⟨2, ![2, 2048]⟩
abbrev S9216x2048 : Shape := ⟨2, ![9216, 2048]⟩
abbrev S1x2x4096x256 : Shape := ⟨4, ![1, 2, 4096, 256]⟩
abbrev S2x4096x256 : Shape := ⟨3, ![2, 4096, 256]⟩
abbrev S8192x256 : Shape := ⟨2, ![8192, 256]⟩
abbrev S1x128x4x256 : Shape := ⟨4, ![1, 128, 4, 256]⟩
abbrev S128x4x256 : Shape := ⟨3, ![128, 4, 256]⟩
abbrev S512x256 : Shape := ⟨2, ![512, 256]⟩
abbrev S8704x256 : Shape := ⟨2, ![8704, 256]⟩
abbrev S1x2048x2048 : Shape := ⟨3, ![1, 2048, 2048]⟩
abbrev S2048x2048 : Shape := ⟨2, ![2048, 2048]⟩
abbrev S_ : Shape := ⟨0, ![]⟩
abbrev S1x256x2048 : Shape := ⟨3, ![1, 256, 2048]⟩
abbrev S256x2048 : Shape := ⟨2, ![256, 2048]⟩
abbrev S8704 : Shape := ⟨1, ![8704]⟩
abbrev S8704x1 : Shape := ⟨2, ![8704, 1]⟩
abbrev S1x2048 : Shape := ⟨2, ![1, 2048]⟩
abbrev S2048 : Shape := ⟨1, ![2048]⟩

abbrev nBuf : Space → Nat
  | .hbm => 74
  | .vmem => 0
  | .smem => 0
  | _ => 0

abbrev bufTy : (tb : Table) → Fin (tcTables nBuf tb) → BufTy
  | .hbm, ⟨0, _⟩ => ⟨S139264x128, .f32⟩
  | .hbm, ⟨1, _⟩ => ⟨S8704x2048, .bf16⟩
  | .hbm, ⟨2, _⟩ => ⟨S147456x128, .f32⟩
  | .hbm, ⟨3, _⟩ => ⟨S2x2x4096x256, .f32⟩
  | .hbm, ⟨4, _⟩ => ⟨S2x128x4x256, .f32⟩
  | .hbm, ⟨5, _⟩ => ⟨S2x2048x2048, .f32⟩
  | .hbm, ⟨6, _⟩ => ⟨S2x256x2048, .f32⟩
  | .hbm, ⟨7, _⟩ => ⟨S2x2048, .f32⟩
  | .hbm, ⟨8, _⟩ => ⟨S2x2048, .f32⟩
  | .hbm, ⟨9, _⟩ => ⟨S8704x2048, .f32⟩
  | .hbm, ⟨10, _⟩ => ⟨S9216x2048, .f32⟩
  | .hbm, ⟨11, _⟩ => ⟨S8704x2048, .f32⟩
  | .hbm, ⟨12, _⟩ => ⟨S1x2x4096x256, .f32⟩
  | .hbm, ⟨13, _⟩ => ⟨S2x4096x256, .f32⟩
  | .hbm, ⟨14, _⟩ => ⟨S8192x256, .f32⟩
  | .hbm, ⟨15, _⟩ => ⟨S1x128x4x256, .f32⟩
  | .hbm, ⟨16, _⟩ => ⟨S128x4x256, .f32⟩
  | .hbm, ⟨17, _⟩ => ⟨S512x256, .f32⟩
  | .hbm, ⟨18, _⟩ => ⟨S8704x256, .f32⟩
  | .hbm, ⟨19, _⟩ => ⟨S8704x2048, .f32⟩
  | .hbm, ⟨20, _⟩ => ⟨S1x2048x2048, .f32⟩
  | .hbm, ⟨21, _⟩ => ⟨S2048x2048, .f32⟩
  | .hbm, ⟨22, _⟩ => ⟨S8704x2048, .f32⟩
  | .hbm, ⟨23, _⟩ => ⟨S8704x2048, .f32⟩
  | .hbm, ⟨24, _⟩ => ⟨S8704x2048, .f32⟩
  | .hbm, ⟨25, _⟩ => ⟨S_, .f32⟩
  | .hbm, ⟨26, _⟩ => ⟨S8704x2048, .f32⟩
  | .hbm, ⟨27, _⟩ => ⟨S8704x2048, .f32⟩
  | .hbm, ⟨28, _⟩ => ⟨S_, .f32⟩
  | .hbm, ⟨29, _⟩ => ⟨S8704x2048, .f32⟩
  | .hbm, ⟨30, _⟩ => ⟨S8704x2048, .f32⟩
  | .hbm, ⟨31, _⟩ => ⟨S1x256x2048, .f32⟩
  | .hbm, ⟨32, _⟩ => ⟨S256x2048, .f32⟩
  | .hbm, ⟨33, _⟩ => ⟨S8704x2048, .f32⟩
  | .hbm, ⟨34, _⟩ => ⟨S8704x2048, .f32⟩
  | .hbm, ⟨35, _⟩ => ⟨S_, .f32⟩
  | .hbm, ⟨36, _⟩ => ⟨S8704x2048, .f32⟩
  | .hbm, ⟨37, _⟩ => ⟨S8704x2048, .f32⟩
  | .hbm, ⟨38, _⟩ => ⟨S8704x2048, .f32⟩
  | .hbm, ⟨39, _⟩ => ⟨S8704x2048, .f32⟩
  | .hbm, ⟨40, _⟩ => ⟨S_, .f32⟩
  | .hbm, ⟨41, _⟩ => ⟨S8704, .f32⟩
  | .hbm, ⟨42, _⟩ => ⟨S8704x1, .f32⟩
  | .hbm, ⟨43, _⟩ => ⟨S_, .f32⟩
  | .hbm, ⟨44, _⟩ => ⟨S8704x1, .f32⟩
  | .hbm, ⟨45, _⟩ => ⟨S8704x1, .f32⟩
  | .hbm, ⟨46, _⟩ => ⟨S8704x2048, .f32⟩
  | .hbm, ⟨47, _⟩ => ⟨S8704x2048, .f32⟩
  | .hbm, ⟨48, _⟩ => ⟨S8704x2048, .f32⟩
  | .hbm, ⟨49, _⟩ => ⟨S_, .f32⟩
  | .hbm, ⟨50, _⟩ => ⟨S8704, .f32⟩
  | .hbm, ⟨51, _⟩ => ⟨S8704x1, .f32⟩
  | .hbm, ⟨52, _⟩ => ⟨S_, .f32⟩
  | .hbm, ⟨53, _⟩ => ⟨S8704x1, .f32⟩
  | .hbm, ⟨54, _⟩ => ⟨S8704x1, .f32⟩
  | .hbm, ⟨55, _⟩ => ⟨S8704x2048, .f32⟩
  | .hbm, ⟨56, _⟩ => ⟨S8704x2048, .f32⟩
  | .hbm, ⟨57, _⟩ => ⟨S_, .f32⟩
  | .hbm, ⟨58, _⟩ => ⟨S8704x1, .f32⟩
  | .hbm, ⟨59, _⟩ => ⟨S8704x1, .f32⟩
  | .hbm, ⟨60, _⟩ => ⟨S8704x1, .f32⟩
  | .hbm, ⟨61, _⟩ => ⟨S8704x2048, .f32⟩
  | .hbm, ⟨62, _⟩ => ⟨S8704x2048, .f32⟩
  | .hbm, ⟨63, _⟩ => ⟨S1x2048, .f32⟩
  | .hbm, ⟨64, _⟩ => ⟨S2048, .f32⟩
  | .hbm, ⟨65, _⟩ => ⟨S1x2048, .f32⟩
  | .hbm, ⟨66, _⟩ => ⟨S8704x2048, .f32⟩
  | .hbm, ⟨67, _⟩ => ⟨S8704x2048, .f32⟩
  | .hbm, ⟨68, _⟩ => ⟨S1x2048, .f32⟩
  | .hbm, ⟨69, _⟩ => ⟨S2048, .f32⟩
  | .hbm, ⟨70, _⟩ => ⟨S1x2048, .f32⟩
  | .hbm, ⟨71, _⟩ => ⟨S8704x2048, .f32⟩
  | .hbm, ⟨72, _⟩ => ⟨S8704x2048, .f32⟩
  | .hbm, ⟨73, _⟩ => ⟨S8704x2048, .bf16⟩
  | _, _ => ⟨S139264x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩

abbrev nD : Nat := 1
abbrev τ : Topo := Topo.v7x

variable {F : FTy → Type} [FloatOps F]
-- ==== Kernel4.lean ====
abbrev S8704x2048 : Shape := ⟨2, ![8704, 2048]⟩
abbrev S8704x16 : Shape := ⟨2, ![8704, 16]⟩
abbrev S2x16x2048x512 : Shape := ⟨4, ![2, 16, 2048, 512]⟩
abbrev S2x16x512x2048 : Shape := ⟨4, ![2, 16, 512, 2048]⟩
abbrev S1x16x2048x512 : Shape := ⟨4, ![1, 16, 2048, 512]⟩
abbrev S16x2048x512 : Shape := ⟨3, ![16, 2048, 512]⟩
abbrev S1x16x512x2048 : Shape := ⟨4, ![1, 16, 512, 2048]⟩
abbrev S16x512x2048 : Shape := ⟨3, ![16, 512, 2048]⟩
abbrev S1088x2048 : Shape := ⟨2, ![1088, 2048]⟩
abbrev S1088x16 : Shape := ⟨2, ![1088, 16]⟩
abbrev S1x2048x512 : Shape := ⟨3, ![1, 2048, 512]⟩
abbrev S1x512x2048 : Shape := ⟨3, ![1, 512, 2048]⟩
abbrev S2048x512 : Shape := ⟨2, ![2048, 512]⟩
abbrev S1088x512 : Shape := ⟨2, ![1088, 512]⟩
abbrev S1088 : Shape := ⟨1, ![1088]⟩
abbrev S1088x1 : Shape := ⟨2, ![1088, 1]⟩
abbrev S512x2048 : Shape := ⟨2, ![512, 2048]⟩

abbrev nBuf : Space → Nat
  | .hbm => 15
  | .vmem => 12
  | .smem => 0
  | _ => 0

abbrev bufTy : (tb : Table) → Fin (tcTables nBuf tb) → BufTy
  | .hbm, ⟨0, _⟩ => ⟨S8704x2048, .bf16⟩
  | .hbm, ⟨1, _⟩ => ⟨S8704x16, .f32⟩
  | .hbm, ⟨2, _⟩ => ⟨S2x16x2048x512, .f32⟩
  | .hbm, ⟨3, _⟩ => ⟨S2x16x2048x512, .f32⟩
  | .hbm, ⟨4, _⟩ => ⟨S2x16x512x2048, .f32⟩
  | .hbm, ⟨5, _⟩ => ⟨S1x16x2048x512, .f32⟩
  | .hbm, ⟨6, _⟩ => ⟨S16x2048x512, .f32⟩
  | .hbm, ⟨7, _⟩ => ⟨S16x2048x512, .bf16⟩
  | .hbm, ⟨8, _⟩ => ⟨S1x16x2048x512, .f32⟩
  | .hbm, ⟨9, _⟩ => ⟨S16x2048x512, .f32⟩
  | .hbm, ⟨10, _⟩ => ⟨S16x2048x512, .bf16⟩
  | .hbm, ⟨11, _⟩ => ⟨S1x16x512x2048, .f32⟩
  | .hbm, ⟨12, _⟩ => ⟨S16x512x2048, .f32⟩
  | .hbm, ⟨13, _⟩ => ⟨S16x512x2048, .bf16⟩
  | .hbm, ⟨14, _⟩ => ⟨S8704x2048, .f32⟩
  | .local _ .vmem, ⟨0, _⟩ => ⟨S1088x2048, .bf16⟩
  | .local _ .vmem, ⟨1, _⟩ => ⟨S1088x2048, .bf16⟩
  | .local _ .vmem, ⟨2, _⟩ => ⟨S1088x16, .f32⟩
  | .local _ .vmem, ⟨3, _⟩ => ⟨S1088x16, .f32⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x512x2048, .bf16⟩
  | .local _ .vmem, ⟨9, _⟩ => ⟨S1x512x2048, .bf16⟩
  | .local _ .vmem, ⟨10, _⟩ => ⟨S1088x2048, .f32⟩
  | .local _ .vmem, ⟨11, _⟩ => ⟨S1088x2048, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v24 : BitVec 1 := Scalar.cmpi .eq arg1 c0_i32
  let v25 : BitVec 32 := Scalar.extui v24
  let c0_i32_16 : BitVec 32 := 0#32
  let v26 : BitVec 1 := Scalar.cmpi .ne v25 c0_i32_16
  v26

def k0_cond2 (i : grid0.Coords) : BitVec 1 :=
  let arg1 : BitVec 32 := BitVec.ofNat 32 (i 1).val
  let c0_i32_17 : BitVec 32 := 0#32
  let v27 : BitVec 1 := Scalar.cmpi .sgt arg1 c0_i32_17
  let v28 : BitVec 32 := Scalar.extui v27
  let c0_i32_18 : BitVec 32 := 0#32
  let v29 : BitVec 1 := Scalar.cmpi .ne v28 c0_i32_18
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1088x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1088x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference4Ideal.lean ====
abbrev S8704x2048 : Shape := ⟨2, ![8704, 2048]⟩
abbrev S8704x16 : Shape := ⟨2, ![8704, 16]⟩
abbrev S2x16x2048x512 : Shape := ⟨4, ![2, 16, 2048, 512]⟩
abbrev S2x16x512x2048 : Shape := ⟨4, ![2, 16, 512, 2048]⟩
abbrev S1x16x2048x512 : Shape := ⟨4, ![1, 16, 2048, 512]⟩
abbrev S16x2048x512 : Shape := ⟨3, ![16, 2048, 512]⟩
abbrev S1x16x512x2048 : Shape := ⟨4, ![1, 16, 512, 2048]⟩
abbrev S16x512x2048 : Shape := ⟨3, ![16, 512, 2048]⟩
abbrev S8704x16x512 : Shape := ⟨3, ![8704, 16, 512]⟩
abbrev S_ : Shape := ⟨0, ![]⟩
abbrev S8704x16x1 : Shape := ⟨3, ![8704, 16, 1]⟩

abbrev nBuf : Space → Nat
  | .hbm => 28
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S8704x16, .f32⟩
  | .hbm, ⟨2, _⟩ => ⟨S2x16x2048x512, .f32⟩
  | .hbm, ⟨3, _⟩ => ⟨S2x16x2048x512, .f32⟩
  | .hbm, ⟨4, _⟩ => ⟨S2x16x512x2048, .f32⟩
  | .hbm, ⟨5, _⟩ => ⟨S8704x2048, .f32⟩
  | .hbm, ⟨6, _⟩ => ⟨S1x16x2048x512, .f32⟩
  | .hbm, ⟨7, _⟩ => ⟨S16x2048x512, .f32⟩
  | .hbm, ⟨8, _⟩ => ⟨S1x16x2048x512, .f32⟩
  | .hbm, ⟨9, _⟩ => ⟨S16x2048x512, .f32⟩
  | .hbm, ⟨10, _⟩ => ⟨S1x16x512x2048, .f32⟩
  | .hbm, ⟨11, _⟩ => ⟨S16x512x2048, .f32⟩
  | .hbm, ⟨12, _⟩ => ⟨S8704x16x512, .f32⟩
  | .hbm, ⟨13, _⟩ => ⟨S8704x16x512, .f32⟩
  | .hbm, ⟨14, _⟩ => ⟨S8704x16x512, .f32⟩
  | .hbm, ⟨15, _⟩ => ⟨S_, .f32⟩
  | .hbm, ⟨16, _⟩ => ⟨S8704x16x512, .f32⟩
  | .hbm, ⟨17, _⟩ => ⟨S8704x16x512, .f32⟩
  | .hbm, ⟨18, _⟩ => ⟨S_, .f32⟩
  | .hbm, ⟨19, _⟩ => ⟨S8704x16x512, .f32⟩
  | .hbm, ⟨20, _⟩ => ⟨S8704x16x512, .f32⟩
  | .hbm, ⟨21, _⟩ => ⟨S8704x16x512, .f32⟩
  | .hbm, ⟨22, _⟩ => ⟨S8704x16x512, .f32⟩
  | .hbm, ⟨23, _⟩ => ⟨S8704x16x512, .f32⟩
  | .hbm, ⟨24, _⟩ => ⟨S8704x16x1, .f32⟩
  | .hbm, ⟨25, _⟩ => ⟨S8704x16x512, .f32⟩
  | .hbm, ⟨26, _⟩ => ⟨S8704x16x512, .f32⟩
  | .hbm, ⟨27, _⟩ => ⟨S8704x2048, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩

abbrev nD : Nat := 1
abbrev τ : Topo := Topo.v7x

variable {F : FTy → Type} [FloatOps F]
-- ==== Kernel5.lean ====
abbrev S8704x2048 : Shape := ⟨2, ![8704, 2048]⟩
abbrev S8704x512 : Shape := ⟨2, ![8704, 512]⟩
abbrev S8704x1024 : Shape := ⟨2, ![8704, 1024]⟩
abbrev S2x2048x2048 : Shape := ⟨3, ![2, 2048, 2048]⟩
abbrev S2x2048 : Shape := ⟨2, ![2, 2048]⟩
abbrev S2048x16 : Shape := ⟨2, ![2048, 16]⟩
abbrev S16 : Shape := ⟨1, ![16]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S1x16 : Shape := ⟨2, ![1, 16]⟩
abbrev S8704x16 : Shape := ⟨2, ![8704, 16]⟩
abbrev S256x2048 : Shape := ⟨2, ![256, 2048]⟩
abbrev S256x512 : Shape := ⟨2, ![256, 512]⟩
abbrev S256x1024 : Shape := ⟨2, ![256, 1024]⟩
abbrev S512x2048 : Shape := ⟨2, ![512, 2048]⟩
abbrev S1024x2048 : Shape := ⟨2, ![1024, 2048]⟩
abbrev S256x16 : Shape := ⟨2, ![256, 16]⟩
abbrev S256 : Shape := ⟨1, ![256]⟩
abbrev S256x1 : Shape := ⟨2, ![256, 1]⟩

abbrev nBuf : Space → Nat
  | .hbm => 22
  | .vmem => 21
  | .smem => 0
  | _ => 0

abbrev bufTy : (tb : Table) → Fin (tcTables nBuf tb) → BufTy
  | .hbm, ⟨0, _⟩ => ⟨S8704x2048, .f32⟩
  | .hbm, ⟨1, _⟩ => ⟨S8704x512, .bf16⟩
  | .hbm, ⟨2, _⟩ => ⟨S8704x512, .bf16⟩
  | .hbm, ⟨3, _⟩ => ⟨S8704x1024, .bf16⟩
  | .hbm, ⟨4, _⟩ => ⟨S2x2048x2048, .f32⟩
  | .hbm, ⟨5, _⟩ => ⟨S2x2048, .f32⟩
  | .hbm, ⟨6, _⟩ => ⟨S2x2048, .f32⟩
  | .hbm, ⟨7, _⟩ => ⟨S2048x16, .f32⟩
  | .hbm, ⟨8, _⟩ => ⟨S16, .f32⟩
  | .hbm, ⟨9, _⟩ => ⟨S1x2048x2048, .f32⟩
  | .hbm, ⟨10, _⟩ => ⟨S2048x2048, .f32⟩
  | .hbm, ⟨11, _⟩ => ⟨S2048x2048, .bf16⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S1x16, .f32⟩
  | .hbm, ⟨19, _⟩ => ⟨S8704x2048, .f32⟩
  | .hbm, ⟨20, _⟩ => ⟨S8704x2048, .bf16⟩
  | .hbm, ⟨21, _⟩ => ⟨S8704x16, .f32⟩
  | .local _ .vmem, ⟨0, _⟩ => ⟨S256x2048, .f32⟩
  | .local _ .vmem, ⟨1, _⟩ => ⟨S256x2048, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x1024, .bf16⟩
  | .local _ .vmem, ⟨7, _⟩ => ⟨S256x1024, .bf16⟩
  | .local _ .vmem, ⟨8, _⟩ => ⟨S512x2048, .bf16⟩
  | .local _ .vmem, ⟨9, _⟩ => ⟨S512x2048, .bf16⟩
  | .local _ .vmem, ⟨10, _⟩ => ⟨S1024x2048, .bf16⟩
  | .local _ .vmem, ⟨11, _⟩ => ⟨S1x2048, .f32⟩
  | .local _ .vmem, ⟨12, _⟩ => ⟨S1x2048, .f32⟩
  | .local _ .vmem, ⟨13, _⟩ => ⟨S2048x16, .f32⟩
  | .local _ .vmem, ⟨14, _⟩ => ⟨S1x16, .f32⟩
  | .local _ .vmem, ⟨15, _⟩ => ⟨S256x2048, .f32⟩
  | .local _ .vmem, ⟨16, _⟩ => ⟨S256x2048, .f32⟩
  | .local _ .vmem, ⟨17, _⟩ => ⟨S256x2048, .bf16⟩
  | .local _ .vmem, ⟨18, _⟩ => ⟨S256x2048, .bf16⟩
  | .local _ .vmem, ⟨19, _⟩ => ⟨S256x16, .f32⟩
  | .local _ .vmem, ⟨20, _⟩ => ⟨S256x16, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x16 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S8704x2048 : Shape := ⟨2, ![8704, 2048]⟩
abbrev S8704x512 : Shape := ⟨2, ![8704, 512]⟩
abbrev S8704x1024 : Shape := ⟨2, ![8704, 1024]⟩
abbrev S2x2048x2048 : Shape := ⟨3, ![2, 2048, 2048]⟩
abbrev S2x2048 : Shape := ⟨2, ![2, 2048]⟩
abbrev S2048x16 : Shape := ⟨2, ![2048, 16]⟩
abbrev S16 : Shape := ⟨1, ![16]⟩
abbrev S1x2048x2048 : Shape := ⟨3, ![1, 2048, 2048]⟩
abbrev S2048x2048 : Shape := ⟨2, ![2048, 2048]⟩
abbrev S_ : Shape := ⟨0, ![]⟩
abbrev S8704 : Shape := ⟨1, ![8704]⟩
abbrev S8704x1 : Shape := ⟨2, ![8704, 1]⟩
abbrev S1x2048 : Shape := ⟨2, ![1, 2048]⟩
abbrev S2048 : Shape := ⟨1, ![2048]⟩

abbrev nBuf : Space → Nat
  | .hbm => 54
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S8704x512, .bf16⟩
  | .hbm, ⟨2, _⟩ => ⟨S8704x512, .bf16⟩
  | .hbm, ⟨3, _⟩ => ⟨S8704x1024, .bf16⟩
  | .hbm, ⟨4, _⟩ => ⟨S2x2048x2048, .f32⟩
  | .hbm, ⟨5, _⟩ => ⟨S2x2048, .f32⟩
  | .hbm, ⟨6, _⟩ => ⟨S2x2048, .f32⟩
  | .hbm, ⟨7, _⟩ => ⟨S2048x16, .f32⟩
  | .hbm, ⟨8, _⟩ => ⟨S16, .f32⟩
  | .hbm, ⟨9, _⟩ => ⟨S8704x512, .f32⟩
  | .hbm, ⟨10, _⟩ => ⟨S8704x512, .f32⟩
  | .hbm, ⟨11, _⟩ => ⟨S8704x1024, .f32⟩
  | .hbm, ⟨12, _⟩ => ⟨S8704x2048, .f32⟩
  | .hbm, ⟨13, _⟩ => ⟨S1x2048x2048, .f32⟩
  | .hbm, ⟨14, _⟩ => ⟨S2048x2048, .f32⟩
  | .hbm, ⟨15, _⟩ => ⟨S8704x2048, .f32⟩
  | .hbm, ⟨16, _⟩ => ⟨S_, .f32⟩
  | .hbm, ⟨17, _⟩ => ⟨S8704x2048, .f32⟩
  | .hbm, ⟨18, _⟩ => ⟨S8704x2048, .f32⟩
  | .hbm, ⟨19, _⟩ => ⟨S8704x2048, .f32⟩
  | .hbm, ⟨20, _⟩ => ⟨S_, .f32⟩
  | .hbm, ⟨21, _⟩ => ⟨S8704, .f32⟩
  | .hbm, ⟨22, _⟩ => ⟨S8704x1, .f32⟩
  | .hbm, ⟨23, _⟩ => ⟨S_, .f32⟩
  | .hbm, ⟨24, _⟩ => ⟨S8704x1, .f32⟩
  | .hbm, ⟨25, _⟩ => ⟨S8704x1, .f32⟩
  | .hbm, ⟨26, _⟩ => ⟨S8704x2048, .f32⟩
  | .hbm, ⟨27, _⟩ => ⟨S8704x2048, .f32⟩
  | .hbm, ⟨28, _⟩ => ⟨S8704x2048, .f32⟩
  | .hbm, ⟨29, _⟩ => ⟨S_, .f32⟩
  | .hbm, ⟨30, _⟩ => ⟨S8704, .f32⟩
  | .hbm, ⟨31, _⟩ => ⟨S8704x1, .f32⟩
  | .hbm, ⟨32, _⟩ => ⟨S_, .f32⟩
  | .hbm, ⟨33, _⟩ => ⟨S8704x1, .f32⟩
  | .hbm, ⟨34, _⟩ => ⟨S8704x1, .f32⟩
  | .hbm, ⟨35, _⟩ => ⟨S8704x2048, .f32⟩
  | .hbm, ⟨36, _⟩ => ⟨S8704x2048, .f32⟩
  | .hbm, ⟨37, _⟩ => ⟨S_, .f32⟩
  | .hbm, ⟨38, _⟩ => ⟨S8704x1, .f32⟩
  | .hbm, ⟨39, _⟩ => ⟨S8704x1, .f32⟩
  | .hbm, ⟨40, _⟩ => ⟨S8704x1, .f32⟩
  | .hbm, ⟨41, _⟩ => ⟨S8704x2048, .f32⟩
  | .hbm, ⟨42, _⟩ => ⟨S8704x2048, .f32⟩
  | .hbm, ⟨43, _⟩ => ⟨S1x2048, .f32⟩
  | .hbm, ⟨44, _⟩ => ⟨S2048, .f32⟩
  | .hbm, ⟨45, _⟩ => ⟨S1x2048, .f32⟩
  | .hbm, ⟨46, _⟩ => ⟨S8704x2048, .f32⟩
  | .hbm, ⟨47, _⟩ => ⟨S8704x2048, .f32⟩
  | .hbm, ⟨48, _⟩ => ⟨S1x2048, .f32⟩
  | .hbm, ⟨49, _⟩ => ⟨S2048, .f32⟩
  | .hbm, ⟨50, _⟩ => ⟨S1x2048, .f32⟩
  | .hbm, ⟨51, _⟩ => ⟨S8704x2048, .f32⟩
  | .hbm, ⟨52, _⟩ => ⟨S8704x2048, .f32⟩
  | .hbm, ⟨53, _⟩ => ⟨S8704x2048, .bf16⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Kernel6.lean ====
abbrev S8704x2048 : Shape := ⟨2, ![8704, 2048]⟩
abbrev S2x2x4096x256 : Shape := ⟨4, ![2, 2, 4096, 256]⟩
abbrev S2x128x4x256 : Shape := ⟨4, ![2, 128, 4, 256]⟩
abbrev S2x2048x2048 : Shape := ⟨3, ![2, 2048, 2048]⟩
abbrev S2x256x2048 : Shape := ⟨3, ![2, 256, 2048]⟩
abbrev S2x2048 : Shape := ⟨2, ![2, 2048]⟩
abbrev S1x2x4096x256 : Shape := ⟨4, ![1, 2, 4096, 256]⟩
abbrev S2x4096x256 : Shape := ⟨3, ![2, 4096, 256]⟩
abbrev S8192x256 : Shape := ⟨2, ![8192, 256]⟩
abbrev S1x128x4x256 : Shape := ⟨4, ![1, 128, 4, 256]⟩
abbrev S128x4x256 : Shape := ⟨3, ![128, 4, 256]⟩
abbrev S512x256 : Shape := ⟨2, ![512, 256]⟩
abbrev S8704x256 : Shape := ⟨2, ![8704, 256]⟩
abbrev S1x2048x2048 : Shape := ⟨3, ![1, 2048, 2048]⟩
abbrev S2048x2048 : Shape := ⟨2, ![2048, 2048]⟩
abbrev S1x256x2048 : Shape := ⟨3, ![1, 256, 2048]⟩
abbrev S256x2048 : Shape := ⟨2, ![256, 2048]⟩
abbrev S1x2048 : Shape := ⟨2, ![1, 2048]⟩
abbrev S2048 : Shape := ⟨1, ![2048]⟩
abbrev S256x256 : Shape := ⟨2, ![256, 256]⟩
abbrev S256 : Shape := ⟨1, ![256]⟩
abbrev S256x1 : Shape := ⟨2, ![256, 1]⟩
abbrev S8192x2048 : Shape := ⟨2, ![8192, 2048]⟩
abbrev S2x4096x2048 : Shape := ⟨3, ![2, 4096, 2048]⟩
abbrev S512x2048 : Shape := ⟨2, ![512, 2048]⟩
abbrev S128x4x2048 : Shape := ⟨3, ![128, 4, 2048]⟩

abbrev nBuf : Space → Nat
  | .hbm => 35
  | .vmem => 16
  | .smem => 0
  | _ => 0

abbrev bufTy : (tb : Table) → Fin (tcTables nBuf tb) → BufTy
  | .hbm, ⟨0, _⟩ => ⟨S8704x2048, .f32⟩
  | .hbm, ⟨1, _⟩ => ⟨S8704x2048, .bf16⟩
  | .hbm, ⟨2, _⟩ => ⟨S8704x2048, .f32⟩
  | .hbm, ⟨3, _⟩ => ⟨S2x2x4096x256, .f32⟩
  | .hbm, ⟨4, _⟩ => ⟨S2x128x4x256, .f32⟩
  | .hbm, ⟨5, _⟩ => ⟨S2x2048x2048, .f32⟩
  | .hbm, ⟨6, _⟩ => ⟨S2x256x2048, .f32⟩
  | .hbm, ⟨7, _⟩ => ⟨S2x2048, .f32⟩
  | .hbm, ⟨8, _⟩ => ⟨S2x2048, .f32⟩
  | .hbm, ⟨9, _⟩ => ⟨S1x2x4096x256, .f32⟩
  | .hbm, ⟨10, _⟩ => ⟨S2x4096x256, .f32⟩
  | .hbm, ⟨11, _⟩ => ⟨S8192x256, .f32⟩
  | .hbm, ⟨12, _⟩ => ⟨S1x128x4x256, .f32⟩
  | .hbm, ⟨13, _⟩ => ⟨S128x4x256, .f32⟩
  | .hbm, ⟨14, _⟩ => ⟨S512x256, .f32⟩
  | .hbm, ⟨15, _⟩ => ⟨S8704x256, .f32⟩
  | .hbm, ⟨16, _⟩ => ⟨S8704x256, .bf16⟩
  | .hbm, ⟨17, _⟩ => ⟨S1x2048x2048, .f32⟩
  | .hbm, ⟨18, _⟩ => ⟨S2048x2048, .f32⟩
  | .hbm, ⟨19, _⟩ => ⟨S2048x2048, .bf16⟩
  | .hbm, ⟨20, _⟩ => ⟨S1x256x2048, .f32⟩
  | .hbm, ⟨21, _⟩ => ⟨S256x2048, .f32⟩
  | .hbm, ⟨22, _⟩ => ⟨S256x2048, .bf16⟩
  | .hbm, ⟨23, _⟩ => ⟨S1x2048, .f32⟩
  | .hbm, ⟨24, _⟩ => ⟨S2048, .f32⟩
  | .hbm, ⟨25, _⟩ => ⟨S1x2048, .f32⟩
  | .hbm, ⟨26, _⟩ => ⟨S1x2048, .f32⟩
  | .hbm, ⟨27, _⟩ => ⟨S2048, .f32⟩
  | .hbm, ⟨28, _⟩ => ⟨S1x2048, .f32⟩
  | .hbm, ⟨29, _⟩ => ⟨S8704x2048, .f32⟩
  | .hbm, ⟨30, _⟩ => ⟨S8704x2048, .bf16⟩
  | .hbm, ⟨31, _⟩ => ⟨S8192x2048, .f32⟩
  | .hbm, ⟨32, _⟩ => ⟨S2x4096x2048, .f32⟩
  | .hbm, ⟨33, _⟩ => ⟨S512x2048, .f32⟩
  | .hbm, ⟨34, _⟩ => ⟨S128x4x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S256x256, .bf16⟩
  | .local _ .vmem, ⟨7, _⟩ => ⟨S256x256, .bf16⟩
  | .local _ .vmem, ⟨8, _⟩ => ⟨S2048x2048, .bf16⟩
  | .local _ .vmem, ⟨9, _⟩ => ⟨S256x2048, .bf16⟩
  | .local _ .vmem, ⟨10, _⟩ => ⟨S1x2048, .f32⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S8704x2048 : Shape := ⟨2, ![8704, 2048]⟩
abbrev S2x2x4096x256 : Shape := ⟨4, ![2, 2, 4096, 256]⟩
abbrev S2x128x4x256 : Shape := ⟨4, ![2, 128, 4, 256]⟩
abbrev S2x2048x2048 : Shape := ⟨3, ![2, 2048, 2048]⟩
abbrev S2x256x2048 : Shape := ⟨3, ![2, 256, 2048]⟩
abbrev S2x2048 : Shape := ⟨2, ![2, 2048]⟩
abbrev S1x2x4096x256 : Shape := ⟨4, ![1, 2, 4096, 256]⟩
abbrev S2x4096x256 : Shape := ⟨3, ![2, 4096, 256]⟩
abbrev S8192x256 : Shape := ⟨2, ![8192, 256]⟩
abbrev S1x128x4x256 : Shape := ⟨4, ![1, 128, 4, 256]⟩
abbrev S128x4x256 : Shape := ⟨3, ![128, 4, 256]⟩
abbrev S512x256 : Shape := ⟨2, ![512, 256]⟩
abbrev S8704x256 : Shape := ⟨2, ![8704, 256]⟩
abbrev S1x2048x2048 : Shape := ⟨3, ![1, 2048, 2048]⟩
abbrev S2048x2048 : Shape := ⟨2, ![2048, 2048]⟩
abbrev S_ : Shape := ⟨0, ![]⟩
abbrev S1x256x2048 : Shape := ⟨3, ![1, 256, 2048]⟩
abbrev S256x2048 : Shape := ⟨2, ![256, 2048]⟩
abbrev S8704 : Shape := ⟨1, ![8704]⟩
abbrev S8704x1 : Shape := ⟨2, ![8704, 1]⟩
abbrev S1x2048 : Shape := ⟨2, ![1, 2048]⟩
abbrev S2048 : Shape := ⟨1, ![2048]⟩
abbrev S8192x2048 : Shape := ⟨2, ![8192, 2048]⟩
abbrev S2x4096x2048 : Shape := ⟨3, ![2, 4096, 2048]⟩
abbrev S512x2048 : Shape := ⟨2, ![512, 2048]⟩
abbrev S128x4x2048 : Shape := ⟨3, ![128, 4, 2048]⟩

abbrev nBuf : Space → Nat
  | .hbm => 74
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S8704x2048, .bf16⟩
  | .hbm, ⟨2, _⟩ => ⟨S8704x2048, .f32⟩
  | .hbm, ⟨3, _⟩ => ⟨S2x2x4096x256, .f32⟩
  | .hbm, ⟨4, _⟩ => ⟨S2x128x4x256, .f32⟩
  | .hbm, ⟨5, _⟩ => ⟨S2x2048x2048, .f32⟩
  | .hbm, ⟨6, _⟩ => ⟨S2x256x2048, .f32⟩
  | .hbm, ⟨7, _⟩ => ⟨S2x2048, .f32⟩
  | .hbm, ⟨8, _⟩ => ⟨S2x2048, .f32⟩
  | .hbm, ⟨9, _⟩ => ⟨S1x2x4096x256, .f32⟩
  | .hbm, ⟨10, _⟩ => ⟨S2x4096x256, .f32⟩
  | .hbm, ⟨11, _⟩ => ⟨S8192x256, .f32⟩
  | .hbm, ⟨12, _⟩ => ⟨S1x128x4x256, .f32⟩
  | .hbm, ⟨13, _⟩ => ⟨S128x4x256, .f32⟩
  | .hbm, ⟨14, _⟩ => ⟨S512x256, .f32⟩
  | .hbm, ⟨15, _⟩ => ⟨S8704x256, .f32⟩
  | .hbm, ⟨16, _⟩ => ⟨S8704x2048, .f32⟩
  | .hbm, ⟨17, _⟩ => ⟨S1x2048x2048, .f32⟩
  | .hbm, ⟨18, _⟩ => ⟨S2048x2048, .f32⟩
  | .hbm, ⟨19, _⟩ => ⟨S8704x2048, .f32⟩
  | .hbm, ⟨20, _⟩ => ⟨S8704x2048, .f32⟩
  | .hbm, ⟨21, _⟩ => ⟨S8704x2048, .f32⟩
  | .hbm, ⟨22, _⟩ => ⟨S_, .f32⟩
  | .hbm, ⟨23, _⟩ => ⟨S8704x2048, .f32⟩
  | .hbm, ⟨24, _⟩ => ⟨S8704x2048, .f32⟩
  | .hbm, ⟨25, _⟩ => ⟨S_, .f32⟩
  | .hbm, ⟨26, _⟩ => ⟨S8704x2048, .f32⟩
  | .hbm, ⟨27, _⟩ => ⟨S8704x2048, .f32⟩
  | .hbm, ⟨28, _⟩ => ⟨S1x256x2048, .f32⟩
  | .hbm, ⟨29, _⟩ => ⟨S256x2048, .f32⟩
  | .hbm, ⟨30, _⟩ => ⟨S8704x2048, .f32⟩
  | .hbm, ⟨31, _⟩ => ⟨S8704x2048, .f32⟩
  | .hbm, ⟨32, _⟩ => ⟨S_, .f32⟩
  | .hbm, ⟨33, _⟩ => ⟨S8704x2048, .f32⟩
  | .hbm, ⟨34, _⟩ => ⟨S8704x2048, .f32⟩
  | .hbm, ⟨35, _⟩ => ⟨S8704x2048, .f32⟩
  | .hbm, ⟨36, _⟩ => ⟨S8704x2048, .f32⟩
  | .hbm, ⟨37, _⟩ => ⟨S_, .f32⟩
  | .hbm, ⟨38, _⟩ => ⟨S8704, .f32⟩
  | .hbm, ⟨39, _⟩ => ⟨S8704x1, .f32⟩
  | .hbm, ⟨40, _⟩ => ⟨S_, .f32⟩
  | .hbm, ⟨41, _⟩ => ⟨S8704x1, .f32⟩
  | .hbm, ⟨42, _⟩ => ⟨S8704x1, .f32⟩
  | .hbm, ⟨43, _⟩ => ⟨S8704x2048, .f32⟩
  | .hbm, ⟨44, _⟩ => ⟨S8704x2048, .f32⟩
  | .hbm, ⟨45, _⟩ => ⟨S8704x2048, .f32⟩
  | .hbm, ⟨46, _⟩ => ⟨S_, .f32⟩
  | .hbm, ⟨47, _⟩ => ⟨S8704, .f32⟩
  | .hbm, ⟨48, _⟩ => ⟨S8704x1, .f32⟩
  | .hbm, ⟨49, _⟩ => ⟨S_, .f32⟩
  | .hbm, ⟨50, _⟩ => ⟨S8704x1, .f32⟩
  | .hbm, ⟨51, _⟩ => ⟨S8704x1, .f32⟩
  | .hbm, ⟨52, _⟩ => ⟨S8704x2048, .f32⟩
  | .hbm, ⟨53, _⟩ => ⟨S8704x2048, .f32⟩
  | .hbm, ⟨54, _⟩ => ⟨S_, .f32⟩
  | .hbm, ⟨55, _⟩ => ⟨S8704x1, .f32⟩
  | .hbm, ⟨56, _⟩ => ⟨S8704x1, .f32⟩
  | .hbm, ⟨57, _⟩ => ⟨S8704x1, .f32⟩
  | .hbm, ⟨58, _⟩ => ⟨S8704x2048, .f32⟩
  | .hbm, ⟨59, _⟩ => ⟨S8704x2048, .f32⟩
  | .hbm, ⟨60, _⟩ => ⟨S1x2048, .f32⟩
  | .hbm, ⟨61, _⟩ => ⟨S2048, .f32⟩
  | .hbm, ⟨62, _⟩ => ⟨S1x2048, .f32⟩
  | .hbm, ⟨63, _⟩ => ⟨S8704x2048, .f32⟩
  | .hbm, ⟨64, _⟩ => ⟨S8704x2048, .f32⟩
  | .hbm, ⟨65, _⟩ => ⟨S1x2048, .f32⟩
  | .hbm, ⟨66, _⟩ => ⟨S2048, .f32⟩
  | .hbm, ⟨67, _⟩ => ⟨S1x2048, .f32⟩
  | .hbm, ⟨68, _⟩ => ⟨S8704x2048, .f32⟩
  | .hbm, ⟨69, _⟩ => ⟨S8704x2048, .f32⟩
  | .hbm, ⟨70, _⟩ => ⟨S8192x2048, .f32⟩
  | .hbm, ⟨71, _⟩ => ⟨S2x4096x2048, .f32⟩
  | .hbm, ⟨72, _⟩ => ⟨S512x2048, .f32⟩
  | .hbm, ⟨73, _⟩ => ⟨S128x4x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩

abbrev nD : Nat := 1
abbrev τ : Topo := Topo.v7x

variable {F : FTy → Type} [FloatOps F]
-- ==== Kernel7.lean ====
abbrev S2x4096x2048 : Shape := ⟨3, ![2, 4096, 2048]⟩
abbrev S128x4x2048 : Shape := ⟨3, ![128, 4, 2048]⟩
abbrev S2x2048x5648 : Shape := ⟨3, ![2, 2048, 5648]⟩
abbrev S_ : Shape := ⟨0, ![]⟩
abbrev S2x2048x5760 : Shape := ⟨3, ![2, 2048, 5760]⟩
abbrev S8192x2048 : Shape := ⟨2, ![8192, 2048]⟩
abbrev S512x2048 : Shape := ⟨2, ![512, 2048]⟩
abbrev S8704x2048 : Shape := ⟨2, ![8704, 2048]⟩
abbrev S8704x5760 : Shape := ⟨2, ![8704, 5760]⟩
abbrev S1x2048x1920 : Shape := ⟨3, ![1, 2048, 1920]⟩
abbrev S512x1920 : Shape := ⟨2, ![512, 1920]⟩
abbrev S2048x1920 : Shape := ⟨2, ![2048, 1920]⟩
abbrev S512x5760 : Shape := ⟨2, ![512, 5760]⟩
abbrev S128x4x5760 : Shape := ⟨3, ![128, 4, 5760]⟩
abbrev S128x4x512 : Shape := ⟨3, ![128, 4, 512]⟩
abbrev S128x4x4x128 : Shape := ⟨4, ![128, 4, 4, 128]⟩
abbrev S3x1536 : Shape := ⟨2, ![3, 1536]⟩
abbrev S1x3x1536 : Shape := ⟨3, ![1, 3, 1536]⟩
abbrev S2x3x1536 : Shape := ⟨3, ![2, 3, 1536]⟩

abbrev nBuf : Space → Nat
  | .hbm => 27
  | .vmem => 6
  | .smem => 0
  | _ => 0

abbrev bufTy : (tb : Table) → Fin (tcTables nBuf tb) → BufTy
  | .hbm, ⟨0, _⟩ => ⟨S2x4096x2048, .f32⟩
  | .hbm, ⟨1, _⟩ => ⟨S128x4x2048, .f32⟩
  | .hbm, ⟨2, _⟩ => ⟨S2x2048x5648, .f32⟩
  | .hbm, ⟨3, _⟩ => ⟨S2x2048x5648, .bf16⟩
  | .hbm, ⟨4, _⟩ => ⟨S_, .i32⟩
  | .hbm, ⟨5, _⟩ => ⟨S_, .bf16⟩
  | .hbm, ⟨6, _⟩ => ⟨S2x2048x5760, .bf16⟩
  | .hbm, ⟨7, _⟩ => ⟨S8192x2048, .f32⟩
  | .hbm, ⟨8, _⟩ => ⟨S512x2048, .f32⟩
  | .hbm, ⟨9, _⟩ => ⟨S8704x2048, .f32⟩
  | .hbm, ⟨10, _⟩ => ⟨S8704x2048, .bf16⟩
  | .hbm, ⟨11, _⟩ => ⟨S8704x5760, .f32⟩
  | .hbm, ⟨12, _⟩ => ⟨S512x5760, .f32⟩
  | .hbm, ⟨13, _⟩ => ⟨S128x4x5760, .f32⟩
  | .hbm, ⟨14, _⟩ => ⟨S128x4x512, .f32⟩
  | .hbm, ⟨15, _⟩ => ⟨S128x4x4x128, .f32⟩
  | .hbm, ⟨16, _⟩ => ⟨S128x4x512, .f32⟩
  | .hbm, ⟨17, _⟩ => ⟨S128x4x4x128, .f32⟩
  | .hbm, ⟨18, _⟩ => ⟨S128x4x512, .f32⟩
  | .hbm, ⟨19, _⟩ => ⟨S128x4x4x128, .f32⟩
  | .hbm, ⟨20, _⟩ => ⟨S128x4x512, .f32⟩
  | .hbm, ⟨21, _⟩ => ⟨S128x4x4x128, .f32⟩
  | .hbm, ⟨22, _⟩ => ⟨S3x1536, .f32⟩
  | .hbm, ⟨23, _⟩ => ⟨S3x1536, .f32⟩
  | .hbm, ⟨24, _⟩ => ⟨S1x3x1536, .f32⟩
  | .hbm, ⟨25, _⟩ => ⟨S1x3x1536, .f32⟩
  | .hbm, ⟨26, _⟩ => ⟨S2x3x1536, .f32⟩
  | .local _ .vmem, ⟨0, _⟩ => ⟨S512x2048, .bf16⟩
  | .local _ .vmem, ⟨1, _⟩ => ⟨S512x2048, .bf16⟩
  | .local _ .vmem, ⟨2, _⟩ => ⟨S1x2048x1920, .bf16⟩
  | .local _ .vmem, ⟨3, _⟩ => ⟨S1x2048x1920, .bf16⟩
  | .local _ .vmem, ⟨4, _⟩ => ⟨S512x1920, .f32⟩
  | .local _ .vmem, ⟨5, _⟩ => ⟨S512x1920, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2x4096x2048 : Shape := ⟨3, ![2, 4096, 2048]⟩
abbrev S128x4x2048 : Shape := ⟨3, ![128, 4, 2048]⟩
abbrev S2x2048x5648 : Shape := ⟨3, ![2, 2048, 5648]⟩
abbrev S1x2048x5648 : Shape := ⟨3, ![1, 2048, 5648]⟩
abbrev S2048x5648 : Shape := ⟨2, ![2048, 5648]⟩
abbrev S2x4096x5648 : Shape := ⟨3, ![2, 4096, 5648]⟩
abbrev S2x4096x512 : Shape := ⟨3, ![2, 4096, 512]⟩
abbrev S2x4096x1024 : Shape := ⟨3, ![2, 4096, 1024]⟩
abbrev S2x4096x1536 : Shape := ⟨3, ![2, 4096, 1536]⟩
abbrev S2x4096x16 : Shape := ⟨3, ![2, 4096, 16]⟩
abbrev S128x4x5648 : Shape := ⟨3, ![128, 4, 5648]⟩
abbrev S128x4x512 : Shape := ⟨3, ![128, 4, 512]⟩
abbrev S128x4x1024 : Shape := ⟨3, ![128, 4, 1024]⟩
abbrev S128x4x1536 : Shape := ⟨3, ![128, 4, 1536]⟩
abbrev S128x4x16 : Shape := ⟨3, ![128, 4, 16]⟩
abbrev S2x3x1536 : Shape := ⟨3, ![2, 3, 1536]⟩
abbrev S128x4x4x128 : Shape := ⟨4, ![128, 4, 4, 128]⟩

abbrev nBuf : Space → Nat
  | .hbm => 32
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S128x4x2048, .f32⟩
  | .hbm, ⟨2, _⟩ => ⟨S2x2048x5648, .f32⟩
  | .hbm, ⟨3, _⟩ => ⟨S1x2048x5648, .f32⟩
  | .hbm, ⟨4, _⟩ => ⟨S2048x5648, .f32⟩
  | .hbm, ⟨5, _⟩ => ⟨S2x4096x5648, .f32⟩
  | .hbm, ⟨6, _⟩ => ⟨S2x4096x512, .f32⟩
  | .hbm, ⟨7, _⟩ => ⟨S2x4096x512, .f32⟩
  | .hbm, ⟨8, _⟩ => ⟨S2x4096x512, .f32⟩
  | .hbm, ⟨9, _⟩ => ⟨S2x4096x512, .f32⟩
  | .hbm, ⟨10, _⟩ => ⟨S2x4096x512, .f32⟩
  | .hbm, ⟨11, _⟩ => ⟨S2x4096x512, .f32⟩
  | .hbm, ⟨12, _⟩ => ⟨S2x4096x1024, .f32⟩
  | .hbm, ⟨13, _⟩ => ⟨S2x4096x1536, .f32⟩
  | .hbm, ⟨14, _⟩ => ⟨S2x4096x16, .f32⟩
  | .hbm, ⟨15, _⟩ => ⟨S1x2048x5648, .f32⟩
  | .hbm, ⟨16, _⟩ => ⟨S2048x5648, .f32⟩
  | .hbm, ⟨17, _⟩ => ⟨S128x4x5648, .f32⟩
  | .hbm, ⟨18, _⟩ => ⟨S128x4x512, .f32⟩
  | .hbm, ⟨19, _⟩ => ⟨S128x4x512, .f32⟩
  | .hbm, ⟨20, _⟩ => ⟨S128x4x512, .f32⟩
  | .hbm, ⟨21, _⟩ => ⟨S128x4x512, .f32⟩
  | .hbm, ⟨22, _⟩ => ⟨S128x4x512, .f32⟩
  | .hbm, ⟨23, _⟩ => ⟨S128x4x512, .f32⟩
  | .hbm, ⟨24, _⟩ => ⟨S128x4x1024, .f32⟩
  | .hbm, ⟨25, _⟩ => ⟨S128x4x1536, .f32⟩
  | .hbm, ⟨26, _⟩ => ⟨S128x4x16, .f32⟩
  | .hbm, ⟨27, _⟩ => ⟨S2x3x1536, .f32⟩
  | .hbm, ⟨28, _⟩ => ⟨S128x4x4x128, .f32⟩
  | .hbm, ⟨29, _⟩ => ⟨S128x4x4x128, .f32⟩
  | .hbm, ⟨30, _⟩ => ⟨S128x4x4x128, .f32⟩
  | .hbm, ⟨31, _⟩ => ⟨S128x4x4x128, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩

abbrev nD : Nat := 1
abbrev τ : Topo := Topo.v7x

variable {F : FTy → Type} [FloatOps F]
-- ==== Kernel8.lean ====
abbrev S8704x2048 : Shape := ⟨2, ![8704, 2048]⟩
abbrev S2x2048x5648 : Shape := ⟨3, ![2, 2048, 5648]⟩
abbrev S_ : Shape := ⟨0, ![]⟩
abbrev S2x2048x5760 : Shape := ⟨3, ![2, 2048, 5760]⟩
abbrev S8704x5760 : Shape := ⟨2, ![8704, 5760]⟩
abbrev S512x2048 : Shape := ⟨2, ![512, 2048]⟩
abbrev S1x2048x1920 : Shape := ⟨3, ![1, 2048, 1920]⟩
abbrev S512x1920 : Shape := ⟨2, ![512, 1920]⟩
abbrev S2048x1920 : Shape := ⟨2, ![2048, 1920]⟩
abbrev S512x5760 : Shape := ⟨2, ![512, 5760]⟩
abbrev S128x4x5760 : Shape := ⟨3, ![128, 4, 5760]⟩
abbrev S128x4x512 : Shape := ⟨3, ![128, 4, 512]⟩
abbrev S128x4x4x128 : Shape := ⟨4, ![128, 4, 4, 128]⟩
abbrev S3x1536 : Shape := ⟨2, ![3, 1536]⟩
abbrev S1x3x1536 : Shape := ⟨3, ![1, 3, 1536]⟩
abbrev S2x3x1536 : Shape := ⟨3, ![2, 3, 1536]⟩

abbrev nBuf : Space → Nat
  | .hbm => 22
  | .vmem => 6
  | .smem => 0
  | _ => 0

abbrev bufTy : (tb : Table) → Fin (tcTables nBuf tb) → BufTy
  | .hbm, ⟨0, _⟩ => ⟨S8704x2048, .bf16⟩
  | .hbm, ⟨1, _⟩ => ⟨S2x2048x5648, .f32⟩
  | .hbm, ⟨2, _⟩ => ⟨S2x2048x5648, .bf16⟩
  | .hbm, ⟨3, _⟩ => ⟨S_, .i32⟩
  | .hbm, ⟨4, _⟩ => ⟨S_, .bf16⟩
  | .hbm, ⟨5, _⟩ => ⟨S2x2048x5760, .bf16⟩
  | .hbm, ⟨6, _⟩ => ⟨S8704x5760, .f32⟩
  | .hbm, ⟨7, _⟩ => ⟨S512x5760, .f32⟩
  | .hbm, ⟨8, _⟩ => ⟨S128x4x5760, .f32⟩
  | .hbm, ⟨9, _⟩ => ⟨S128x4x512, .f32⟩
  | .hbm, ⟨10, _⟩ => ⟨S128x4x4x128, .f32⟩
  | .hbm, ⟨11, _⟩ => ⟨S128x4x512, .f32⟩
  | .hbm, ⟨12, _⟩ => ⟨S128x4x4x128, .f32⟩
  | .hbm, ⟨13, _⟩ => ⟨S128x4x512, .f32⟩
  | .hbm, ⟨14, _⟩ => ⟨S128x4x4x128, .f32⟩
  | .hbm, ⟨15, _⟩ => ⟨S128x4x512, .f32⟩
  | .hbm, ⟨16, _⟩ => ⟨S128x4x4x128, .f32⟩
  | .hbm, ⟨17, _⟩ => ⟨S3x1536, .f32⟩
  | .hbm, ⟨18, _⟩ => ⟨S3x1536, .f32⟩
  | .hbm, ⟨19, _⟩ => ⟨S1x3x1536, .f32⟩
  | .hbm, ⟨20, _⟩ => ⟨S1x3x1536, .f32⟩
  | .hbm, ⟨21, _⟩ => ⟨S2x3x1536, .f32⟩
  | .local _ .vmem, ⟨0, _⟩ => ⟨S512x2048, .bf16⟩
  | .local _ .vmem, ⟨1, _⟩ => ⟨S512x2048, .bf16⟩
  | .local _ .vmem, ⟨2, _⟩ => ⟨S1x2048x1920, .bf16⟩
  | .local _ .vmem, ⟨3, _⟩ => ⟨S1x2048x1920, .bf16⟩
  | .local _ .vmem, ⟨4, _⟩ => ⟨S512x1920, .f32⟩
  | .local _ .vmem, ⟨5, _⟩ => ⟨S512x1920, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8704x2048 : Shape := ⟨2, ![8704, 2048]⟩
abbrev S2x2048x5648 : Shape := ⟨3, ![2, 2048, 5648]⟩
abbrev S8192x2048 : Shape := ⟨2, ![8192, 2048]⟩
abbrev S2x4096x2048 : Shape := ⟨3, ![2, 4096, 2048]⟩
abbrev S512x2048 : Shape := ⟨2, ![512, 2048]⟩
abbrev S128x4x2048 : Shape := ⟨3, ![128, 4, 2048]⟩
abbrev S1x2048x5648 : Shape := ⟨3, ![1, 2048, 5648]⟩
abbrev S2048x5648 : Shape := ⟨2, ![2048, 5648]⟩
abbrev S2x4096x5648 : Shape := ⟨3, ![2, 4096, 5648]⟩
abbrev S2x4096x512 : Shape := ⟨3, ![2, 4096, 512]⟩
abbrev S2x4096x1024 : Shape := ⟨3, ![2, 4096, 1024]⟩
abbrev S2x4096x1536 : Shape := ⟨3, ![2, 4096, 1536]⟩
abbrev S2x4096x16 : Shape := ⟨3, ![2, 4096, 16]⟩
abbrev S128x4x5648 : Shape := ⟨3, ![128, 4, 5648]⟩
abbrev S128x4x512 : Shape := ⟨3, ![128, 4, 512]⟩
abbrev S128x4x1024 : Shape := ⟨3, ![128, 4, 1024]⟩
abbrev S128x4x1536 : Shape := ⟨3, ![128, 4, 1536]⟩
abbrev S128x4x16 : Shape := ⟨3, ![128, 4, 16]⟩
abbrev S2x3x1536 : Shape := ⟨3, ![2, 3, 1536]⟩
abbrev S128x4x4x128 : Shape := ⟨4, ![128, 4, 4, 128]⟩

abbrev nBuf : Space → Nat
  | .hbm => 36
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2x2048x5648, .f32⟩
  | .hbm, ⟨2, _⟩ => ⟨S8704x2048, .f32⟩
  | .hbm, ⟨3, _⟩ => ⟨S8192x2048, .f32⟩
  | .hbm, ⟨4, _⟩ => ⟨S2x4096x2048, .f32⟩
  | .hbm, ⟨5, _⟩ => ⟨S512x2048, .f32⟩
  | .hbm, ⟨6, _⟩ => ⟨S128x4x2048, .f32⟩
  | .hbm, ⟨7, _⟩ => ⟨S1x2048x5648, .f32⟩
  | .hbm, ⟨8, _⟩ => ⟨S2048x5648, .f32⟩
  | .hbm, ⟨9, _⟩ => ⟨S2x4096x5648, .f32⟩
  | .hbm, ⟨10, _⟩ => ⟨S2x4096x512, .f32⟩
  | .hbm, ⟨11, _⟩ => ⟨S2x4096x512, .f32⟩
  | .hbm, ⟨12, _⟩ => ⟨S2x4096x512, .f32⟩
  | .hbm, ⟨13, _⟩ => ⟨S2x4096x512, .f32⟩
  | .hbm, ⟨14, _⟩ => ⟨S2x4096x512, .f32⟩
  | .hbm, ⟨15, _⟩ => ⟨S2x4096x512, .f32⟩
  | .hbm, ⟨16, _⟩ => ⟨S2x4096x1024, .f32⟩
  | .hbm, ⟨17, _⟩ => ⟨S2x4096x1536, .f32⟩
  | .hbm, ⟨18, _⟩ => ⟨S2x4096x16, .f32⟩
  | .hbm, ⟨19, _⟩ => ⟨S1x2048x5648, .f32⟩
  | .hbm, ⟨20, _⟩ => ⟨S2048x5648, .f32⟩
  | .hbm, ⟨21, _⟩ => ⟨S128x4x5648, .f32⟩
  | .hbm, ⟨22, _⟩ => ⟨S128x4x512, .f32⟩
  | .hbm, ⟨23, _⟩ => ⟨S128x4x512, .f32⟩
  | .hbm, ⟨24, _⟩ => ⟨S128x4x512, .f32⟩
  | .hbm, ⟨25, _⟩ => ⟨S128x4x512, .f32⟩
  | .hbm, ⟨26, _⟩ => ⟨S128x4x512, .f32⟩
  | .hbm, ⟨27, _⟩ => ⟨S128x4x512, .f32⟩
  | .hbm, ⟨28, _⟩ => ⟨S128x4x1024, .f32⟩
  | .hbm, ⟨29, _⟩ => ⟨S128x4x1536, .f32⟩
  | .hbm, ⟨30, _⟩ => ⟨S128x4x16, .f32⟩
  | .hbm, ⟨31, _⟩ => ⟨S2x3x1536, .f32⟩
  | .hbm, ⟨32, _⟩ => ⟨S128x4x4x128, .f32⟩
  | .hbm, ⟨33, _⟩ => ⟨S128x4x4x128, .f32⟩
  | .hbm, ⟨34, _⟩ => ⟨S128x4x4x128, .f32⟩
  | .hbm, ⟨35, _⟩ => ⟨S128x4x4x128, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩

abbrev nD : Nat := 1
abbrev τ : Topo := Topo.v7x

variable {F : FTy → Type} [FloatOps F]
-- ==== Kernel9.lean ====
abbrev S2x4096x2048 : Shape := ⟨3, ![2, 4096, 2048]⟩
abbrev S128x4x2048 : Shape := ⟨3, ![128, 4, 2048]⟩
abbrev S2x2048x5648 : Shape := ⟨3, ![2, 2048, 5648]⟩
abbrev S8192x2048 : Shape := ⟨2, ![8192, 2048]⟩
abbrev S512x2048 : Shape := ⟨2, ![512, 2048]⟩
abbrev S8704x2048 : Shape := ⟨2, ![8704, 2048]⟩
abbrev S1x2048x5648 : Shape := ⟨3, ![1, 2048, 5648]⟩
abbrev S2048x5648 : Shape := ⟨2, ![2048, 5648]⟩
abbrev S_ : Shape := ⟨0, ![]⟩
abbrev S2048x5760 : Shape := ⟨2, ![2048, 5760]⟩
abbrev S8704x5760 : Shape := ⟨2, ![8704, 5760]⟩
abbrev S2048x1920 : Shape := ⟨2, ![2048, 1920]⟩
abbrev S512x1920 : Shape := ⟨2, ![512, 1920]⟩
abbrev S8192x5760 : Shape := ⟨2, ![8192, 5760]⟩
abbrev S8192x512 : Shape := ⟨2, ![8192, 512]⟩
abbrev S2x4096x4x128 : Shape := ⟨4, ![2, 4096, 4, 128]⟩

abbrev nBuf : Space → Nat
  | .hbm => 23
  | .vmem => 6
  | .smem => 0
  | _ => 0

abbrev bufTy : (tb : Table) → Fin (tcTables nBuf tb) → BufTy
  | .hbm, ⟨0, _⟩ => ⟨S2x4096x2048, .f32⟩
  | .hbm, ⟨1, _⟩ => ⟨S128x4x2048, .f32⟩
  | .hbm, ⟨2, _⟩ => ⟨S2x2048x5648, .f32⟩
  | .hbm, ⟨3, _⟩ => ⟨S8192x2048, .f32⟩
  | .hbm, ⟨4, _⟩ => ⟨S512x2048, .f32⟩
  | .hbm, ⟨5, _⟩ => ⟨S8704x2048, .f32⟩
  | .hbm, ⟨6, _⟩ => ⟨S8704x2048, .bf16⟩
  | .hbm, ⟨7, _⟩ => ⟨S1x2048x5648, .f32⟩
  | .hbm, ⟨8, _⟩ => ⟨S2048x5648, .f32⟩
  | .hbm, ⟨9, _⟩ => ⟨S2048x5648, .bf16⟩
  | .hbm, ⟨10, _⟩ => ⟨S_, .i32⟩
  | .hbm, ⟨11, _⟩ => ⟨S_, .bf16⟩
  | .hbm, ⟨12, _⟩ => ⟨S2048x5760, .bf16⟩
  | .hbm, ⟨13, _⟩ => ⟨S8704x5760, .f32⟩
  | .hbm, ⟨14, _⟩ => ⟨S8192x5760, .f32⟩
  | .hbm, ⟨15, _⟩ => ⟨S8192x512, .f32⟩
  | .hbm, ⟨16, _⟩ => ⟨S2x4096x4x128, .f32⟩
  | .hbm, ⟨17, _⟩ => ⟨S8192x512, .f32⟩
  | .hbm, ⟨18, _⟩ => ⟨S2x4096x4x128, .f32⟩
  | .hbm, ⟨19, _⟩ => ⟨S8192x512, .f32⟩
  | .hbm, ⟨20, _⟩ => ⟨S2x4096x4x128, .f32⟩
  | .hbm, ⟨21, _⟩ => ⟨S8192x512, .f32⟩
  | .hbm, ⟨22, _⟩ => ⟨S2x4096x4x128, .f32⟩
  | .local _ .vmem, ⟨0, _⟩ => ⟨S512x2048, .bf16⟩
  | .local _ .vmem, ⟨1, _⟩ => ⟨S512x2048, .bf16⟩
  | .local _ .vmem, ⟨2, _⟩ => ⟨S2048x1920, .bf16⟩
  | .local _ .vmem, ⟨3, _⟩ => ⟨S2048x1920, .bf16⟩
  | .local _ .vmem, ⟨4, _⟩ => ⟨S512x1920, .f32⟩
  | .local _ .vmem, ⟨5, _⟩ => ⟨S512x1920, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S2x4096x2048 : Shape := ⟨3, ![2, 4096, 2048]⟩
abbrev S128x4x2048 : Shape := ⟨3, ![128, 4, 2048]⟩
abbrev S2x2048x5648 : Shape := ⟨3, ![2, 2048, 5648]⟩
abbrev S1x2048x5648 : Shape := ⟨3, ![1, 2048, 5648]⟩
abbrev S2048x5648 : Shape := ⟨2, ![2048, 5648]⟩
abbrev S2x4096x5648 : Shape := ⟨3, ![2, 4096, 5648]⟩
abbrev S2x4096x512 : Shape := ⟨3, ![2, 4096, 512]⟩
abbrev S2x4096x1024 : Shape := ⟨3, ![2, 4096, 1024]⟩
abbrev S2x4096x1536 : Shape := ⟨3, ![2, 4096, 1536]⟩
abbrev S2x4096x16 : Shape := ⟨3, ![2, 4096, 16]⟩
abbrev S2x4096x4x128 : Shape := ⟨4, ![2, 4096, 4, 128]⟩

abbrev nBuf : Space → Nat
  | .hbm => 19
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S128x4x2048, .f32⟩
  | .hbm, ⟨2, _⟩ => ⟨S2x2048x5648, .f32⟩
  | .hbm, ⟨3, _⟩ => ⟨S1x2048x5648, .f32⟩
  | .hbm, ⟨4, _⟩ => ⟨S2048x5648, .f32⟩
  | .hbm, ⟨5, _⟩ => ⟨S2x4096x5648, .f32⟩
  | .hbm, ⟨6, _⟩ => ⟨S2x4096x512, .f32⟩
  | .hbm, ⟨7, _⟩ => ⟨S2x4096x512, .f32⟩
  | .hbm, ⟨8, _⟩ => ⟨S2x4096x512, .f32⟩
  | .hbm, ⟨9, _⟩ => ⟨S2x4096x512, .f32⟩
  | .hbm, ⟨10, _⟩ => ⟨S2x4096x512, .f32⟩
  | .hbm, ⟨11, _⟩ => ⟨S2x4096x512, .f32⟩
  | .hbm, ⟨12, _⟩ => ⟨S2x4096x1024, .f32⟩
  | .hbm, ⟨13, _⟩ => ⟨S2x4096x1536, .f32⟩
  | .hbm, ⟨14, _⟩ => ⟨S2x4096x16, .f32⟩
  | .hbm, ⟨15, _⟩ => ⟨S2x4096x4x128, .f32⟩
  | .hbm, ⟨16, _⟩ => ⟨S2x4096x4x128, .f32⟩
  | .hbm, ⟨17, _⟩ => ⟨S2x4096x4x128, .f32⟩
  | .hbm, ⟨18, _⟩ => ⟨S2x4096x4x128, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel10.lean ====
abbrev S8704x2048 : Shape := ⟨2, ![8704, 2048]⟩
abbrev S2x2048x5648 : Shape := ⟨3, ![2, 2048, 5648]⟩
abbrev S1x2048x5648 : Shape := ⟨3, ![1, 2048, 5648]⟩
abbrev S2048x5648 : Shape := ⟨2, ![2048, 5648]⟩
abbrev S_ : Shape := ⟨0, ![]⟩
abbrev S2048x5760 : Shape := ⟨2, ![2048, 5760]⟩
abbrev S8704x5760 : Shape := ⟨2, ![8704, 5760]⟩
abbrev S512x2048 : Shape := ⟨2, ![512, 2048]⟩
abbrev S2048x1920 : Shape := ⟨2, ![2048, 1920]⟩
abbrev S512x1920 : Shape := ⟨2, ![512, 1920]⟩
abbrev S8192x5760 : Shape := ⟨2, ![8192, 5760]⟩
abbrev S8192x512 : Shape := ⟨2, ![8192, 512]⟩
abbrev S2x4096x4x128 : Shape := ⟨4, ![2, 4096, 4, 128]⟩

abbrev nBuf : Space → Nat
  | .hbm => 18
  | .vmem => 6
  | .smem => 0
  | _ => 0

abbrev bufTy : (tb : Table) → Fin (tcTables nBuf tb) → BufTy
  | .hbm, ⟨0, _⟩ => ⟨S8704x2048, .bf16⟩
  | .hbm, ⟨1, _⟩ => ⟨S2x2048x5648, .f32⟩
  | .hbm, ⟨2, _⟩ => ⟨S1x2048x5648, .f32⟩
  | .hbm, ⟨3, _⟩ => ⟨S2048x5648, .f32⟩
  | .hbm, ⟨4, _⟩ => ⟨S2048x5648, .bf16⟩
  | .hbm, ⟨5, _⟩ => ⟨S_, .i32⟩
  | .hbm, ⟨6, _⟩ => ⟨S_, .bf16⟩
  | .hbm, ⟨7, _⟩ => ⟨S2048x5760, .bf16⟩
  | .hbm, ⟨8, _⟩ => ⟨S8704x5760, .f32⟩
  | .hbm, ⟨9, _⟩ => ⟨S8192x5760, .f32⟩
  | .hbm, ⟨10, _⟩ => ⟨S8192x512, .f32⟩
  | .hbm, ⟨11, _⟩ => ⟨S2x4096x4x128, .f32⟩
  | .hbm, ⟨12, _⟩ => ⟨S8192x512, .f32⟩
  | .hbm, ⟨13, _⟩ => ⟨S2x4096x4x128, .f32⟩
  | .hbm, ⟨14, _⟩ => ⟨S8192x512, .f32⟩
  | .hbm, ⟨15, _⟩ => ⟨S2x4096x4x128, .f32⟩
  | .hbm, ⟨16, _⟩ => ⟨S8192x512, .f32⟩
  | .hbm, ⟨17, _⟩ => ⟨S2x4096x4x128, .f32⟩
  | .local _ .vmem, ⟨0, _⟩ => ⟨S512x2048, .bf16⟩
  | .local _ .vmem, ⟨1, _⟩ => ⟨S512x2048, .bf16⟩
  | .local _ .vmem, ⟨2, _⟩ => ⟨S2048x1920, .bf16⟩
  | .local _ .vmem, ⟨3, _⟩ => ⟨S2048x1920, .bf16⟩
  | .local _ .vmem, ⟨4, _⟩ => ⟨S512x1920, .f32⟩
  | .local _ .vmem, ⟨5, _⟩ => ⟨S512x1920, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S8704x2048 : Shape := ⟨2, ![8704, 2048]⟩
abbrev S2x2048x5648 : Shape := ⟨3, ![2, 2048, 5648]⟩
abbrev S8192x2048 : Shape := ⟨2, ![8192, 2048]⟩
abbrev S2x4096x2048 : Shape := ⟨3, ![2, 4096, 2048]⟩
abbrev S1x2048x5648 : Shape := ⟨3, ![1, 2048, 5648]⟩
abbrev S2048x5648 : Shape := ⟨2, ![2048, 5648]⟩
abbrev S2x4096x5648 : Shape := ⟨3, ![2, 4096, 5648]⟩
abbrev S2x4096x512 : Shape := ⟨3, ![2, 4096, 512]⟩
abbrev S2x4096x1024 : Shape := ⟨3, ![2, 4096, 1024]⟩
abbrev S2x4096x1536 : Shape := ⟨3, ![2, 4096, 1536]⟩
abbrev S2x4096x16 : Shape := ⟨3, ![2, 4096, 16]⟩
abbrev S2x4096x4x128 : Shape := ⟨4, ![2, 4096, 4, 128]⟩

abbrev nBuf : Space → Nat
  | .hbm => 21
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2x2048x5648, .f32⟩
  | .hbm, ⟨2, _⟩ => ⟨S8192x2048, .bf16⟩
  | .hbm, ⟨3, _⟩ => ⟨S8192x2048, .f32⟩
  | .hbm, ⟨4, _⟩ => ⟨S2x4096x2048, .f32⟩
  | .hbm, ⟨5, _⟩ => ⟨S1x2048x5648, .f32⟩
  | .hbm, ⟨6, _⟩ => ⟨S2048x5648, .f32⟩
  | .hbm, ⟨7, _⟩ => ⟨S2x4096x5648, .f32⟩
  | .hbm, ⟨8, _⟩ => ⟨S2x4096x512, .f32⟩
  | .hbm, ⟨9, _⟩ => ⟨S2x4096x512, .f32⟩
  | .hbm, ⟨10, _⟩ => ⟨S2x4096x512, .f32⟩
  | .hbm, ⟨11, _⟩ => ⟨S2x4096x512, .f32⟩
  | .hbm, ⟨12, _⟩ => ⟨S2x4096x512, .f32⟩
  | .hbm, ⟨13, _⟩ => ⟨S2x4096x512, .f32⟩
  | .hbm, ⟨14, _⟩ => ⟨S2x4096x1024, .f32⟩
  | .hbm, ⟨15, _⟩ => ⟨S2x4096x1536, .f32⟩
  | .hbm, ⟨16, _⟩ => ⟨S2x4096x16, .f32⟩
  | .hbm, ⟨17, _⟩ => ⟨S2x4096x4x128, .f32⟩
  | .hbm, ⟨18, _⟩ => ⟨S2x4096x4x128, .f32⟩
  | .hbm, ⟨19, _⟩ => ⟨S2x4096x4x128, .f32⟩
  | .hbm, ⟨20, _⟩ => ⟨S2x4096x4x128, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩

abbrev nD : Nat := 1
abbrev τ : Topo := Topo.v7x

variable {F : FTy → Type} [FloatOps F]
-- ==== Proof.Diff.Real.lean ====
/-
  The mathematics of an attention row, with nothing of any program in it: a softmax-weighted sum computed tile by tile
  with a running maximum (`Row`), the same computed at once, and the real number both are.
-/
module

public import Idealize.ShloMosaic.PureOps.Ideal.Laws

@[expose] public section

noncomputable section

namespace DiffPrompt

open Idealize.ShloMosaic

/-- A sum of extended reals that are all real is the real sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The greatest of some extended reals, none of them `⊤` and one of them not `⊥`, is a real number. -/
theorem max_fold_real {n : ℕ} (b : EReal) (hb : b ≠ ⊤) (s : Fin n → EReal) (hs : ∀ r, s r ≠ ⊤) (r₀ : Fin n) (h₀ : s r₀ ≠ ⊥) :
    ∃ μ : ℝ, max b ((Finset.univ : Finset (Fin n)).fold max ⊥ s) = (μ : EReal) := by
  have hlt : max b ((Finset.univ : Finset (Fin n)).fold max ⊥ s) < ⊤ := by
    refine max_lt (lt_top_iff_ne_top.2 hb) ?_
    rw [Finset.fold_max_lt]
    exact ⟨bot_lt_top, fun r _ => lt_top_iff_ne_top.2 (hs r)⟩
  have hgt : ⊥ < max b ((Finset.univ : Finset (Fin n)).fold max ⊥ s) := by
    refine lt_of_lt_of_le (bot_lt_iff_ne_bot.2 h₀) (le_trans ?_ (le_max_right _ _))
    rw [Finset.le_fold_max]
    exact Or.inr ⟨r₀, Finset.mem_univ _, le_rfl⟩
  exact ⟨_, (EReal.coe_toReal hlt.ne hgt.ne').symm⟩

/-- Two to a real power. -/
theorem exp2_coe' (x : ℝ) : Ideal.exp2 (x : EReal) = (((2 : ℝ) ^ x : ℝ) : EReal) := rfl

/-- Scores that are real on `R` and `⊥` off it. -/
def Masked {n : ℕ} (R : Finset (Fin n)) (y : Fin n → ℝ) (s : Fin n → EReal) : Prop :=
  ∀ r, s r = if r ∈ R then ((y r : ℝ) : EReal) else ⊥

theorem Masked.ne_top {n : ℕ} {R : Finset (Fin n)} {y : Fin n → ℝ} {s : Fin n → EReal} (h : Masked R y s) (r : Fin n) : s r ≠ ⊤ := by
  rw [h r]; split <;> simp

theorem Masked.ne_bot {n : ℕ} {R : Finset (Fin n)} {y : Fin n → ℝ} {s : Fin n → EReal} (h : Masked R y s) {r : Fin n} (hr : r ∈ R) :
    s r ≠ ⊥ := by
  rw [h r, if_pos hr]; simp

/-- The tile's weighted sum against a real bound: the masked rows weigh nothing. -/
theorem tile_sum {n : ℕ} {R : Finset (Fin n)} {y : Fin n → ℝ} {s : Fin n → EReal} (h : Masked R y s) (v : Fin n → ℝ) (V : Fin n → EReal)
    (hV : ∀ r, V r = ((v r : ℝ) : EReal)) (μ : ℝ) :
    (∑ r, V r * Ideal.exp2 (s r - (μ : EReal))) = ((∑ r ∈ R, (2 : ℝ) ^ (y r - μ) * v r : ℝ) : EReal) := by
  have e : ∀ r, V r * Ideal.exp2 (s r - (μ : EReal)) = ((if r ∈ R then (2 : ℝ) ^ (y r - μ) * v r else 0 : ℝ) : EReal) := by
    intro r
    rw [h r, hV r]
    split
    · rw [← EReal.coe_sub, exp2_coe', ← EReal.coe_mul, mul_comm]
    · rw [EReal.bot_sub, Ideal.exp2_bot, mul_zero, EReal.coe_zero]
  rw [Finset.sum_congr rfl fun r _ => e r, coe_sum, Finset.sum_ite_mem, Finset.univ_inter]

/-- What a running softmax holds once the keys `T` are seen: some real bound `m`, and for each of the first 129 rows `d` the
    sum of `w n d` weighed by two to the power of the score `y n` less the bound. -/
def Row (T : Finset ℕ) (y : ℕ → ℝ) (w : ℕ → ℕ → ℝ) (m : EReal) (a : ℕ → EReal) : Prop :=
  ∃ μ : ℝ, m = (μ : EReal) ∧ ∀ d, d ≤ 128 → a d = ((∑ n ∈ T, (2 : ℝ) ^ (y n - μ) * w n d : ℝ) : EReal)

/-- The new bound of a step. -/
abbrev newMax {n : ℕ} (m : EReal) (s : Fin n → EReal) : EReal := max m ((Finset.univ : Finset (Fin n)).fold max ⊥ s)

/-- The new sums of a step. -/
abbrev newAcc {n : ℕ} (m : EReal) (s : Fin n → EReal) (a : ℕ → EReal) (V : ℕ → Fin n → EReal) (d : ℕ) : EReal :=
  Ideal.exp2 (m - newMax m s) * a d + ∑ r, V d r * Ideal.exp2 (s r - newMax m s)

/-- The first step: from the bound `⊥` and sums of zero. -/
theorem Row.first {n : ℕ} {R : Finset (Fin n)} {k0 : ℕ} {T : Finset ℕ} {y : ℕ → ℝ} {w : ℕ → ℕ → ℝ} {s : Fin n → EReal} {V : ℕ → Fin n → EReal}
    (hs : Masked R (fun r => y (k0 + r)) s) {r₀ : Fin n} (hr : r₀ ∈ R)
    (hV : ∀ d, d ≤ 128 → ∀ r, V d r = ((w (k0 + r) d : ℝ) : EReal)) (hT : ∀ f : ℕ → ℝ, ∑ k ∈ T, f k = ∑ r ∈ R, f (k0 + r)) :
    Row T y w (newMax ⊥ s) (newAcc ⊥ s (fun _ => 0) V) := by
  obtain ⟨μ, hμ⟩ := max_fold_real ⊥ bot_ne_top s hs.ne_top r₀ (hs.ne_bot hr)
  refine ⟨μ, hμ, fun d hd => ?_⟩
  show Ideal.exp2 (⊥ - newMax ⊥ s) * 0 + ∑ r, V d r * Ideal.exp2 (s r - newMax ⊥ s) = _
  rw [show newMax ⊥ s = (μ : EReal) from hμ, mul_zero, zero_add, tile_sum hs (fun r => w (k0 + r) d) (V d) (hV d hd) μ, hT]

/-- A later step: the sums so far are scaled to the new bound, the tile's are added. -/
theorem Row.step {n : ℕ} {k0 : ℕ} {T T' : Finset ℕ} {y : ℕ → ℝ} {w : ℕ → ℕ → ℝ} {m : EReal} {a : ℕ → EReal} (h : Row T y w m a)
    {s : Fin n → EReal} {V : ℕ → Fin n → EReal} (hn : 0 < n)
    (hs : ∀ r, s r = ((y (k0 + r) : ℝ) : EReal))
    (hV : ∀ d, d ≤ 128 → ∀ r, V d r = ((w (k0 + r) d : ℝ) : EReal))
    (hT : ∀ f : ℕ → ℝ, ∑ k ∈ T', f k = ∑ k ∈ T, f k + ∑ r : Fin n, f (k0 + r)) :
    Row T' y w (newMax m s) (newAcc m s a V) := by
  have hs' : Masked Finset.univ (fun r => y (k0 + r)) s := fun r => by rw [if_pos (Finset.mem_univ r), hs r]
  obtain ⟨μ, rfl, ha⟩ := h
  obtain ⟨ν, hν⟩ := max_fold_real (μ : EReal) (EReal.coe_ne_top μ) s hs'.ne_top ⟨0, hn⟩ (hs'.ne_bot (Finset.mem_univ _))
  refine ⟨ν, hν, fun d hd => ?_⟩
  show Ideal.exp2 ((μ : EReal) - newMax (μ : EReal) s) * a d + ∑ r, V d r * Ideal.exp2 (s r - newMax (μ : EReal) s) = _
  rw [show newMax (μ : EReal) s = (ν : EReal) from hν, tile_sum hs' (fun r => w (k0 + r) d) (V d) (hV d hd) ν, ha d hd, ← EReal.coe_sub, exp2_coe',
    ← EReal.coe_mul, ← EReal.coe_add, hT, Finset.mul_sum]
  congr 2
  refine Finset.sum_congr rfl fun k _ => ?_
  rw [← mul_assoc, ← Real.rpow_add (by norm_num : (0 : ℝ) < 2)]
  congr 2
  ring

/-- The softmax-weighted mean of `v` over the keys `T`, for scores `x`. -/
def wmean (T : Finset ℕ) (x : ℕ → ℝ) (v : ℕ → ℝ) : ℝ := (∑ n ∈ T, Real.exp (x n) * v n) / ∑ n ∈ T, Real.exp (x n)

/-- The quotient of a running softmax's sums, its row 128 being the sum of the weights, is the weighted mean for any scores
    that differ from `y · ln 2` by one number. -/
theorem Row.quotient {T : Finset ℕ} {y x : ℕ → ℝ} {w : ℕ → ℕ → ℝ} {m : EReal} {a : ℕ → EReal} (h : Row T y w m a) (hT : T.Nonempty) (c : ℝ)
    (hx : ∀ n ∈ T, y n * Real.log 2 = x n + c) (h1 : ∀ n ∈ T, w n 128 = 1) (d : ℕ) (hd : d ≤ 128) :
    Ideal.div (a d) (a 128) = ((wmean T x (fun n => w n d) : ℝ) : EReal) := by
  obtain ⟨μ, -, ha⟩ := h
  have e : ∀ n ∈ T, (2 : ℝ) ^ (y n - μ) = Real.exp (x n) * Real.exp (c - μ * Real.log 2) := by
    intro n hn
    rw [Real.rpow_def_of_pos (by norm_num : (0 : ℝ) < 2), ← Real.exp_add]
    congr 1
    have := hx n hn
    linarith
  have hd' : (∑ n ∈ T, (2 : ℝ) ^ (y n - μ) * w n d) = (∑ n ∈ T, Real.exp (x n) * w n d) * Real.exp (c - μ * Real.log 2) := by
    rw [Finset.sum_mul]
    exact Finset.sum_congr rfl fun n hn => by rw [e n hn]; ring
  have hz : (∑ n ∈ T, (2 : ℝ) ^ (y n - μ) * w n 128) = (∑ n ∈ T, Real.exp (x n)) * Real.exp (c - μ * Real.log 2) := by
    rw [Finset.sum_mul]
    exact Finset.sum_congr rfl fun n hn => by rw [e n hn, h1 n hn]; ring
  have hpos : 0 < ∑ n ∈ T, Real.exp (x n) := Finset.sum_pos (fun n _ => Real.exp_pos _) hT
  rw [ha d hd, ha 128 le_rfl, hd', hz, Ideal.div_coe (mul_pos hpos (Real.exp_pos _)).ne', ← EReal.coe_mul]
  congr 1
  unfold wmean
  have h2 := (Real.exp_pos (c - μ * Real.log 2)).ne'
  field_simp

/-- A softmax taken at once: each weight is the exponential's share of the sum over the unmasked keys, a masked key's is zero. -/
theorem softmax_at {n : ℕ} {R : Finset (Fin n)} {x : Fin n → ℝ} {s : Fin n → EReal} (h : Masked R x s) {r₀ : Fin n} (hr : r₀ ∈ R) (k : Fin n) :
    Ideal.div (Ideal.exp (s k - newMax ⊥ s)) (∑ j, Ideal.exp (s j - newMax ⊥ s))
      = ((if k ∈ R then Real.exp (x k) / ∑ j ∈ R, Real.exp (x j) else 0 : ℝ) : EReal) := by
  obtain ⟨μ, hμ⟩ := max_fold_real ⊥ bot_ne_top s h.ne_top r₀ (h.ne_bot hr)
  rw [show newMax ⊥ s = (μ : EReal) from hμ]
  have e : ∀ j, Ideal.exp (s j - (μ : EReal)) = ((if j ∈ R then Real.exp (x j) * Real.exp (-μ) else 0 : ℝ) : EReal) := by
    intro j
    rw [h j]
    split
    · rw [← EReal.coe_sub, Ideal.exp_coe, sub_eq_add_neg, Real.exp_add]
    · rw [EReal.bot_sub, Ideal.exp_bot, EReal.coe_zero]
  have hpos : 0 < ∑ j ∈ R, Real.exp (x j) := Finset.sum_pos (fun n _ => Real.exp_pos _) ⟨r₀, hr⟩
  rw [Finset.sum_congr rfl fun j _ => e j, coe_sum, Finset.sum_ite_mem, Finset.univ_inter, ← Finset.sum_mul, e k,
    Ideal.div_coe (mul_pos hpos (Real.exp_pos _)).ne', ← EReal.coe_mul]
  congr 1
  have h2 := (Real.exp_pos (-μ)).ne'
  split
  · field_simp
  · simp

/-- A sum over the keys up to `q`, written over all `n` keys. -/
theorem sum_upto {n : ℕ} (q : ℕ) (hq : q < n) (f : ℕ → ℝ) :
    (∑ k ∈ (Finset.univ : Finset (Fin n)).filter (fun k => k.val ≤ q), f k.val) = ∑ k ∈ Finset.range (q + 1), f k := by
  refine Finset.sum_bij' (fun k _ => k.val) (fun k hk => ⟨k, by rw [Finset.mem_range] at hk; omega⟩) ?_ ?_ ?_ ?_ ?_
  · intro k hk; rw [Finset.mem_filter] at hk; rw [Finset.mem_range]; omega
  · intro k hk; rw [Finset.mem_range] at hk; rw [Finset.mem_filter]; exact ⟨Finset.mem_univ _, by show k ≤ q; omega⟩
  · intro k _; rfl
  · intro k _; rfl
  · intro k _; rfl

end DiffPrompt

end
-- ==== Proof.Diff.Pieces.lean ====
/-
  What the kernel's values are at an index over the extended reals: a tile's scores, the step of the running softmax, the
  scaled and masked query rows with the bias's feature rows, and a head's last stretch (quotient, subtraction, norm).
-/
module

public import proofs.«01_k».proof.Proof.Gen.KernelIdeal.Skeleton
public import proofs.«01_k».proof.Proof.Diff.Real
public import Idealize.ShloMosaic.Lib.Pointwise

@[expose] public section

noncomputable section

namespace DiffPrompt

open Idealize.ShloMosaic Idealize.ShloMosaic.TcCoe
open Cert.KernelIdeal Cert.KernelIdeal.Gen

/-! ## Literals -/

/-- The literal minus infinity is `⊥`. -/
theorem lit_bot : Ideal.ofBits .f32 0xFF800000#32 = ⊥ := by
  simp [Ideal.ofBits, Ideal.ieee, -EReal.coe_mul]
/-- The literal 64. -/
theorem lit_64 : Ideal.ofBits .f32 0x42800000#32 = ((64 : ℝ) : EReal) := by
  simp [Ideal.ofBits, Ideal.ieee, -EReal.coe_mul]; norm_num
/-- The literal zero. -/
theorem lit_0 : Ideal.ofBits .f32 0x00000000#32 = 0 := Ideal.ofBits_zero_f32

/-- The kernel's name for `log₂ e` stands for `1 / ln 2`. -/
theorem named_log2e : Named.named (F := Ideal) κ "log2e" (φ := .f32) 0x3FB8AA3B#32 = (((Real.log 2)⁻¹ : ℝ) : EReal) :=
  IdealRules.named_const.ideal_named_scalar _ _ _ _ rfl
/-- The kernel's name for the scaled `log₂ e` stands for `1 / (8 ln 2)`. -/
theorem named_scale : Named.named (F := Ideal) κ "scale_log2e" (φ := .f32) 0x3E38AA3B#32 = (((1 / 8) * (Real.log 2)⁻¹ : ℝ) : EReal) :=
  IdealRules.named_const.ideal_named_scalar _ _ _ _ rfl
/-- The name of the initial `λ` stands for the float literal's own value. -/
theorem named_lam : Named.named (F := Ideal) κ "lam_init" (φ := .f32) 0x3E4CCCCD#32 = ((13421773 / 67108864 : ℝ) : EReal) :=
  IdealRules.named_const.ideal_named_scalar _ _ _ _ rfl

/-! ## The running softmax -/

/-- A score: the key row's product with the query column over the 256 lanes. -/
theorem score_apply (K : Vec Ideal S1x1x256x256 .bf16) (Q : Vec Ideal S1x256x512 .bf16) (r : Fin 256) (j : Fin 512) :
    k0_pay2 K Q (ix2 r j) = ∑ l : Fin 256, K (ix4 0 0 r l) * Q (ix3 0 l j) := by
  pointwise [k0_pay2]

/-- The bound after a tile. -/
theorem bound_apply (s : FVec Ideal S256x512 .f32) (m : Vec Ideal S1x1x512 .f32) (j : Fin 512) :
    k0_pay9 s m (ix3 0 0 j) = newMax (m (ix3 0 0 j)) (fun r : Fin 256 => s (ix2 r j)) := by
  pointwise [k0_pay9, k0_pay7, k0_pay6]
  rw [lit_bot]

/-- The sums after a tile. -/
theorem acc_apply (s : FVec Ideal S256x512 .f32) (m : Vec Ideal S1x1x512 .f32) (a : Vec Ideal S1x144x512 .f32) (V : Vec Ideal S1x1x1x144x256 .bf16)
    (d : Fin 144) (j : Fin 512) :
    k0_pay27 (k0_pay8 s m) (k0_pay10 s m) a V (ix3 0 d j)
      = Ideal.exp2 (m (ix3 0 0 j) - newMax (m (ix3 0 0 j)) (fun r : Fin 256 => s (ix2 r j))) * a (ix3 0 d j)
        + ∑ r : Fin 256, V (ix5 0 0 0 d r) * Ideal.exp2 (s (ix2 r j) - newMax (m (ix3 0 0 j)) (fun r : Fin 256 => s (ix2 r j))) := by
  pointwise [k0_pay27, k0_pay8, k0_pay10, k0_pay7, k0_pay6]
  rw [lit_bot]
  rfl

/-! ## The query's lanes -/

/-- The 256 lanes the kernel multiplies a key row by, for the queries `x` of a head of slope `sl` in the block starting at `q0`. -/
abbrev lanes (q0 : BitVec 32) (sl : Elt Ideal .f32) (x : Vec Ideal S256x128 .f32) : FVec Ideal S256x512 .bf16 :=
  k0_pay71 q0 (k0_pay69 x) (iota .tc S8x512 32 [0] iota_S8x512_d0_w32) (k0_pay70 sl)

/-- The first 128 lanes: the left half of the columns keeps the head's first 64 values, the right half its last 64, scaled. -/
theorem lanes_top (q0 : BitVec 32) (sl : Elt Ideal .f32) (x : Vec Ideal S256x128 .f32) (l : Fin 256) (hl : l.val < 128) (j : Fin 512) :
    lanes q0 sl x (ix2 l j)
      = if l.val < 64 ↔ j.val < 256 then x (ix2 ⟨j.val % 256, Nat.mod_lt _ (by norm_num)⟩ ⟨l.val, hl⟩) * Named.named (F := Ideal) κ "scale_log2e" (φ := .f32) 0x3E38AA3B#32
        else 0 := by
  unfold lanes
  pointwise [k0_pay71, k0_pay69, k0_pay70]
  rw [dif_pos hl]
  have hlt : IntOp.cmpi CmpIPredicate.slt (BitVec.ofNat 32 l.val) 64#32 = if l.val < 64 then 1#1 else 0#1 :=
    (by decide +kernel : ∀ l : Fin 128, IntOp.cmpi CmpIPredicate.slt (BitVec.ofNat 32 l.val) 64#32 = if l.val < 64 then 1#1 else 0#1) ⟨l.val, hl⟩
  have hge : IntOp.cmpi CmpIPredicate.sge (BitVec.ofNat 32 l.val) 64#32 = if l.val < 64 then 0#1 else 1#1 :=
    (by decide +kernel : ∀ l : Fin 128, IntOp.cmpi CmpIPredicate.sge (BitVec.ofNat 32 l.val) 64#32 = if l.val < 64 then 0#1 else 1#1) ⟨l.val, hl⟩
  rw [hlt, hge]
  by_cases hj : j.val < 256
  · have e : (⟨j.val % 256, Nat.mod_lt _ (by norm_num)⟩ : Fin 256) = ⟨j.val, hj⟩ := Fin.ext (Nat.mod_eq_of_lt hj)
    rw [dif_pos hj]
    by_cases h : l.val < 64
    · simp only [h, hj, e, if_true]; rfl
    · simp only [h, hj, if_false, iff_true]; rfl
  · have e : (⟨j.val % 256, Nat.mod_lt _ (by norm_num)⟩ : Fin 256) = ⟨j.val - 256, by omega⟩ := Fin.ext (by show j.val % 256 = j.val - 256; omega)
    rw [dif_neg hj]
    by_cases h : l.val < 64
    · simp only [h, hj, if_true, iff_false, not_true_eq_false, if_false]; rfl
    · simp only [h, hj, e, if_false, if_true]; rfl

/-! The eight feature rows: three values of the bias, what their rounding left, two rows of nothing. -/

theorem lanes_128 (q0 : BitVec 32) (sl : Elt Ideal .f32) (x : Vec Ideal S256x128 .f32) (j : Fin 512) :
    lanes q0 sl x (ix2 128 j) = sl * Named.named (F := Ideal) κ "log2e" (φ := .f32) 0x3FB8AA3B#32 * Ideal.ofBits .f32 0x42800000#32 := by
  unfold lanes
  pointwise [k0_pay71, k0_pay69, k0_pay70]
  rfl

theorem lanes_129 (q0 : BitVec 32) (sl : Elt Ideal .f32) (x : Vec Ideal S256x128 .f32) (j : Fin 512) :
    lanes q0 sl x (ix2 129 j) = sl * Named.named (F := Ideal) κ "log2e" (φ := .f32) 0x3FB8AA3B#32 := by
  unfold lanes
  pointwise [k0_pay71, k0_pay69, k0_pay70]
  rfl

theorem lanes_130 (q0 : BitVec 32) (sl : Elt Ideal .f32) (x : Vec Ideal S256x128 .f32) (j : Fin 512) :
    lanes q0 sl x (ix2 130 j) = 0 - sl * Named.named (F := Ideal) κ "log2e" (φ := .f32) 0x3FB8AA3B#32 * ((q0.toInt : ℝ) : EReal) := by
  unfold lanes
  pointwise [k0_pay71, k0_pay69, k0_pay70]
  rfl

theorem lanes_131 (q0 : BitVec 32) (sl : Elt Ideal .f32) (x : Vec Ideal S256x128 .f32) (j : Fin 512) :
    lanes q0 sl x (ix2 131 j) = sl * Named.named (F := Ideal) κ "log2e" (φ := .f32) 0x3FB8AA3B#32 * Ideal.ofBits .f32 0x42800000#32 - sl * Named.named (F := Ideal) κ "log2e" (φ := .f32) 0x3FB8AA3B#32 * Ideal.ofBits .f32 0x42800000#32 := by
  unfold lanes
  pointwise [k0_pay71, k0_pay69, k0_pay70]
  rfl

theorem lanes_132 (q0 : BitVec 32) (sl : Elt Ideal .f32) (x : Vec Ideal S256x128 .f32) (j : Fin 512) :
    lanes q0 sl x (ix2 132 j) = sl * Named.named (F := Ideal) κ "log2e" (φ := .f32) 0x3FB8AA3B#32 - sl * Named.named (F := Ideal) κ "log2e" (φ := .f32) 0x3FB8AA3B#32 := by
  unfold lanes
  pointwise [k0_pay71, k0_pay69, k0_pay70]
  rfl

theorem lanes_133 (q0 : BitVec 32) (sl : Elt Ideal .f32) (x : Vec Ideal S256x128 .f32) (j : Fin 512) :
    lanes q0 sl x (ix2 133 j) = (0 - sl * Named.named (F := Ideal) κ "log2e" (φ := .f32) 0x3FB8AA3B#32 * ((q0.toInt : ℝ) : EReal)) - (0 - sl * Named.named (F := Ideal) κ "log2e" (φ := .f32) 0x3FB8AA3B#32 * ((q0.toInt : ℝ) : EReal)) := by
  unfold lanes
  pointwise [k0_pay71, k0_pay69, k0_pay70]
  rfl

theorem lanes_134 (q0 : BitVec 32) (sl : Elt Ideal .f32) (x : Vec Ideal S256x128 .f32) (j : Fin 512) :
    lanes q0 sl x (ix2 134 j) = 0 := by
  unfold lanes
  pointwise [k0_pay71, k0_pay69, k0_pay70]
  rfl

theorem lanes_135 (q0 : BitVec 32) (sl : Elt Ideal .f32) (x : Vec Ideal S256x128 .f32) (j : Fin 512) :
    lanes q0 sl x (ix2 135 j) = 0 := by
  unfold lanes
  pointwise [k0_pay71, k0_pay69, k0_pay70]
  rfl

/-- Past the feature rows the lanes are zero. -/
theorem lanes_rest (q0 : BitVec 32) (sl : Elt Ideal .f32) (x : Vec Ideal S256x128 .f32) (l : Fin 256) (hl : 136 ≤ l.val) (j : Fin 512) :
    lanes q0 sl x (ix2 l j) = 0 := by
  unfold lanes
  pointwise [k0_pay71, k0_pay69, k0_pay70]
  rw [dif_neg (by omega), dif_neg (by omega)]

/-! ## A head's last stretch -/

/-- The number `λ` of the call. -/
abbrev lamOf (dl : Vec Ideal S4x64 .f32) : FVec Ideal S1x1 .f32 := k0_pay123 (k0_pay122 dl) (Named.named κ "lam_init" 0x3E4CCCCD#32)

/-- … is the difference of the two exponentials and the initial value. -/
theorem lamOf_apply (dl : Vec Ideal S4x64 .f32) : lamOf dl (ix2 0 0)
    = Ideal.exp (∑ x : Fin 64, dl (ix2 0 x) * dl (ix2 1 x)) - Ideal.exp (∑ x : Fin 64, dl (ix2 2 x) * dl (ix2 3 x))
      + Named.named (F := Ideal) κ "lam_init" (φ := .f32) 0x3E4CCCCD#32 := by
  unfold lamOf
  pointwise [k0_pay123, k0_pay122]

/-- A head's output block from its sums. -/
abbrev headOut (lam : FVec Ideal S1x1 .f32) (a : Vec Ideal S1x128x512 .f32) (z : Vec Ideal S1x1x512 .f32) (nw : Vec Ideal S1x128 .f32) : FVec Ideal S256x128 .bf16 :=
  k0_pay128 lam (k0_pay126 a z) (k0_pay127 a z) nw

/-- The two maps' difference at a row of the block. -/
abbrev mixed (lam : EReal) (a : Fin 128 → Fin 512 → EReal) (z : Fin 512 → EReal) (r : Fin 256) (d : Fin 128) : EReal :=
  Ideal.div (a d ⟨r.val, by omega⟩) (z ⟨r.val, by omega⟩) - lam * Ideal.div (a d ⟨256 + r.val, by omega⟩) (z ⟨256 + r.val, by omega⟩)

/-- The root mean square norm of a row, with the layer's weight and factor. -/
abbrev normed (o : Fin 128 → EReal) (w : EReal) (d : Fin 128) : EReal :=
  o d * Ideal.rsqrt (Ideal.div (∑ x, o x * o x) (Ideal.ofBits .f32 0x43000000#32) + Ideal.ofBits .f32 0x358637BD#32) * w * Ideal.ofBits .f32 0x3F4CCCCD#32

/-- A head's output is the norm of the two maps' difference. -/
theorem headOut_apply (lam : FVec Ideal S1x1 .f32) (a : Vec Ideal S1x128x512 .f32) (z : Vec Ideal S1x1x512 .f32) (nw : Vec Ideal S1x128 .f32)
    (r : Fin 256) (d : Fin 128) : headOut lam a z nw (ix2 r d)
      = normed (mixed (lam (ix2 0 0)) (fun d j => a (ix3 0 d j)) (fun j => z (ix3 0 0 j)) r) (nw (ix2 0 d)) d := by
  unfold headOut
  pointwise [k0_pay128, k0_pay127, k0_pay126, k0_pay125]

/-! ## A score in the reals -/

/-- The real score of a key row (128 values and its two position features) for a query of the half `c`. -/
def yval (s q0 : ℝ) (x k : ℕ → ℝ) (a b : ℝ) (c : ℕ) : ℝ :=
  (∑ d ∈ Finset.range 64, k (64 * c + d) * (x (64 * c + d) * ((1 / 8) * (Real.log 2)⁻¹))) + s * (Real.log 2)⁻¹ * (64 * a + b - q0)

/-- The lanes' product with a key row, the query and the key being numbers. -/
theorem score_real (q0 : ℕ) (hq : q0 < 4096) (s : ℝ) (x : Vec Ideal S256x128 .f32) (xr : ℕ → ℕ → ℝ)
    (hx : ∀ r l, x (ix2 r l) = ((xr r.val l.val : ℝ) : EReal)) (K : Fin 256 → EReal) (kr : ℕ → ℝ) (a b : ℝ)
    (hk : ∀ l : Fin 256, l.val < 128 → K l = ((kr l.val : ℝ) : EReal)) (ha : K 128 = (a : EReal)) (hb : K 129 = (b : EReal)) (h1 : K 130 = ((1 : ℝ) : EReal))
    (j : Fin 512) :
    ∑ l : Fin 256, K l * lanes (BitVec.ofNat 32 q0) ((s : ℝ) : EReal) x (ix2 l j) = ((yval s q0 (xr (j.val % 256)) kr a b (j.val / 256) : ℝ) : EReal) := by
  have hq0 : ((BitVec.ofNat 32 q0).toInt : ℝ) = (q0 : ℝ) := by
    have : (BitVec.ofNat 32 q0).toInt = (q0 : ℤ) := by
      rw [BitVec.toInt_eq_toNat_of_lt] <;> rw [BitVec.toNat_ofNat] <;> omega
    rw [this]; norm_cast
  set g : ℕ → ℝ := fun l => if l < 128 then (if l < 64 ↔ j.val < 256 then kr l * (xr (j.val % 256) l * ((1 / 8) * (Real.log 2)⁻¹)) else 0)
    else if l = 128 then a * (s * (Real.log 2)⁻¹ * 64) else if l = 129 then b * (s * (Real.log 2)⁻¹)
    else if l = 130 then - (s * (Real.log 2)⁻¹ * q0) else 0 with hg
  have hterm : ∀ l : Fin 256, K l * lanes (BitVec.ofNat 32 q0) ((s : ℝ) : EReal) x (ix2 l j) = ((g l.val : ℝ) : EReal) := by
    intro l
    by_cases hl : l.val < 128
    · rw [lanes_top _ _ _ _ hl, hk l hl, hx, named_scale]
      simp only [hg, hl, if_true]
      split_ifs
      · simp only [← EReal.coe_mul]
      · simp
    · by_cases hl' : 136 ≤ l.val
      · rw [lanes_rest _ _ _ _ hl', mul_zero]
        have : g l.val = 0 := by
          simp only [hg]; rw [if_neg hl, if_neg (by omega), if_neg (by omega), if_neg (by omega)]
        rw [this]; rfl
      · have hcase : l = 128 ∨ l = 129 ∨ l = 130 ∨ l = 131 ∨ l = 132 ∨ l = 133 ∨ l = 134 ∨ l = 135 := by
          have := l.isLt
          simp only [Fin.ext_iff]
          show l.val = 128 ∨ l.val = 129 ∨ l.val = 130 ∨ l.val = 131 ∨ l.val = 132 ∨ l.val = 133 ∨ l.val = 134 ∨ l.val = 135
          omega
        have e0 : (0 : EReal) = ((0 : ℝ) : EReal) := rfl
        rcases hcase with rfl | rfl | rfl | rfl | rfl | rfl | rfl | rfl
        · rw [lanes_128, ha, named_log2e, lit_64]; simp only [← EReal.coe_mul]; rfl
        · rw [lanes_129, hb, named_log2e]; simp only [← EReal.coe_mul]; rfl
        · rw [lanes_130, h1, named_log2e, hq0, e0]; simp only [← EReal.coe_mul, ← EReal.coe_sub]
          congr 1; show _ = - (s * (Real.log 2)⁻¹ * q0); ring
        · rw [lanes_131, named_log2e, lit_64]; simp only [← EReal.coe_mul, ← EReal.coe_sub, sub_self]
          rw [← e0, mul_zero]; rfl
        · rw [lanes_132, named_log2e]; simp only [← EReal.coe_mul, ← EReal.coe_sub, sub_self]
          rw [← e0, mul_zero]; rfl
        · rw [lanes_133, named_log2e, e0]; simp only [← EReal.coe_mul, ← EReal.coe_sub, sub_self]
          rw [← e0, mul_zero]; rfl
        · rw [lanes_134, mul_zero]; rfl
        · rw [lanes_135, mul_zero]; rfl
  rw [Finset.sum_congr rfl fun l _ => hterm l, coe_sum]
  congr 1
  rw [Fin.sum_univ_eq_sum_range (fun l => g l) 256, show (256 : ℕ) = 64 + 64 + (3 + 125) from rfl, Finset.sum_range_add, Finset.sum_range_add, Finset.sum_range_add]
  have z : ∑ x ∈ Finset.range 125, g (64 + 64 + (3 + x)) = 0 := by
    refine Finset.sum_eq_zero fun x _ => ?_
    simp only [hg]
    rw [if_neg (by omega), if_neg (by omega), if_neg (by omega), if_neg (by omega)]
  have f : ∑ x ∈ Finset.range 3, g (64 + 64 + x) = s * (Real.log 2)⁻¹ * (64 * a + b - q0) := by
    rw [Finset.sum_range_succ, Finset.sum_range_succ, Finset.sum_range_succ, Finset.sum_range_zero]
    show 0 + a * (s * (Real.log 2)⁻¹ * 64) + b * (s * (Real.log 2)⁻¹) + - (s * (Real.log 2)⁻¹ * q0) = _
    ring
  rw [z, f, add_zero, yval]
  congr 1
  by_cases hj : j.val < 256
  · have hc : j.val / 256 = 0 := by omega
    have t : ∑ x ∈ Finset.range 64, g (64 + x) = 0 := by
      refine Finset.sum_eq_zero fun x hx => ?_
      have := Finset.mem_range.mp hx
      simp only [hg]
      rw [if_pos (by omega), if_neg (by omega)]
    rw [t, add_zero, hc]
    refine Finset.sum_congr rfl fun x hx => ?_
    have := Finset.mem_range.mp hx
    simp only [hg]
    rw [if_pos (by omega), if_pos (by omega), mul_zero, zero_add]
  · have hc : j.val / 256 = 1 := by omega
    have t : ∑ x ∈ Finset.range 64, g x = 0 := by
      refine Finset.sum_eq_zero fun x hx => ?_
      have := Finset.mem_range.mp hx
      simp only [hg]
      rw [if_pos (by omega), if_neg (by omega)]
    rw [t, zero_add, hc]
    refine Finset.sum_congr rfl fun x hx => ?_
    have := Finset.mem_range.mp hx
    simp only [hg]
    rw [if_pos (by omega), if_pos (by omega), mul_one]

end DiffPrompt

end
-- ==== Proof.Diff.Trip.lean ====
/-
  One trip of the kernel's loop over the earlier key tiles: what it leaves of the running bounds and sums.
-/
module

public import proofs.«01_k».proof.Proof.Gen.KernelIdeal.Loops
public import proofs.«01_k».proof.Proof.Diff.Pieces
public import Idealize.ShloMosaic.Lib.Pipeline.Value
public import Idealize.ShloMosaic.Lib.Pipeline.ValueKit.Tiles
public import Idealize.ShloMosaic.Lib.WritesUnit

@[expose] public section

set_option maxRecDepth 16384

noncomputable section

namespace DiffPrompt

open Idealize.ShloMosaic Idealize.ShloMosaic.TcCoe
open Cert.KernelIdeal Cert.KernelIdeal.Gen

/-- A head's score of the key row `r` of tile `k` for the column `j`. -/
abbrev sc (K : Vec Ideal S1x4x4096x256 .bf16) (Q : Vec Ideal S4x256x512 .bf16) (k : Fin 16) (h : Fin 4) (j : Fin 512) (r : Fin 256) : EReal :=
  ∑ l : Fin 256, K (ix4 0 h ⟨256 * k.val + r.val, by omega⟩ l) * Q (ix3 h l j)

/-- The loop makes fewer than sixteen trips. -/
theorem trips_lt (i : grid0.Coords) (k : Fin (k0_t1_loop i).trips) : k.val < 16 := by
  have h : ∀ i : grid0.Coords, (k0_t1_loop i).trips ≤ 16 := by decide +kernel
  exact lt_of_lt_of_le k.isLt (h i)

section Reads

variable {κ' : Kind} {sp : Space}

/-- A key tile's load reads the tile's rows. -/
theorem load_key (a : Memref sig κ' sp S1x4x4096x256 .bf16) (X : BufTy.Contents (Elt Ideal) a.view.ty) (off : Fin 4 → ℕ) (inb) (h : Fin 4) (k : Fin 16)
    (ho : off = ![0, h.val, 256 * k.val, 0]) (r : Fin 256) (l : Fin 256) :
    View.readAt (Elt Ideal) a.view (Rect.unit (s := S1x4x4096x256) off S1x1x256x256.size inb).toLoadRect X (ix4 0 0 r l)
      = a.view.read (Elt Ideal) X (ix4 0 h ⟨256 * k.val + r.val, by omega⟩ l) := by
  subst ho
  rw [View.readAt_eq_ld]
  pointwise

/-- A value tile's load reads the tile. -/
theorem load_val (a : Memref sig κ' sp S1x4x16x144x256 .bf16) (X : BufTy.Contents (Elt Ideal) a.view.ty) (off : Fin 5 → ℕ) (inb) (h : Fin 4) (k : Fin 16)
    (ho : off = ![0, h.val, k.val, 0, 0]) (d : Fin 144) (r : Fin 256) :
    View.readAt (Elt Ideal) a.view (Rect.unit (s := S1x4x16x144x256) off S1x1x1x144x256.size inb).toLoadRect X (ix5 0 0 0 d r)
      = a.view.read (Elt Ideal) X (ix5 0 h k d r) := by
  subst ho
  rw [View.readAt_eq_ld]
  pointwise

/-- A head's load out of a buffer of four heads reads that head. -/
theorem load_head {e : EltTy} {n p : ℕ} (a : Memref sig κ' sp ⟨3, ![4, n, p]⟩ e) (X : BufTy.Contents (Elt Ideal) a.view.ty) (off : Fin 3 → ℕ) (inb) (h : Fin 4)
    (ho : off = ![h.val, 0, 0]) (d : Fin n) (j : Fin p) :
    View.readAt (Elt Ideal) a.view (Rect.unit (s := ⟨3, ![4, n, p]⟩) off ![1, n, p] inb).toLoadRect X (ix3 0 d j)
      = a.view.read (Elt Ideal) X (ix3 h d j) := by
  subst ho
  rw [View.readAt_eq_ld]
  refine View.ld_unit_apply_of _ _ _ _ _ _ fun a => ?_
  fin_cases a <;> simp

/-- Four stores, one a head, over older ones, read back at a head. -/
theorem read_heads {e : EltTy} {n p : ℕ} (a : Memref sig κ' sp ⟨3, ![4, n, p]⟩ e) (f : BufTy.Contents (Elt Ideal) a.view.ty) (i0 i1 i2 i3)
    (w0 w1 w2 w3 : (⟨3, ![1, n, p]⟩ : Shape).Idx → Elt Ideal e) (L : List (View.Piece (Elt Ideal) ⟨3, ![4, n, p]⟩ e)) (h : Fin 4) (d : Fin n) (j : Fin p) :
    a.view.read (Elt Ideal) (a.view.writes (Elt Ideal) f
      ((⟨Rect.unit (s := ⟨3, ![4, n, p]⟩) ![3, 0, 0] ![1, n, p] i3, w3⟩ : View.Piece (Elt Ideal) ⟨3, ![4, n, p]⟩ e)
        :: ⟨Rect.unit (s := ⟨3, ![4, n, p]⟩) ![2, 0, 0] ![1, n, p] i2, w2⟩ :: ⟨Rect.unit (s := ⟨3, ![4, n, p]⟩) ![1, 0, 0] ![1, n, p] i1, w1⟩
        :: ⟨Rect.unit (s := ⟨3, ![4, n, p]⟩) ![0, 0, 0] ![1, n, p] i0, w0⟩ :: L)) (ix3 h d j)
      = (![w0, w1, w2, w3] : Fin 4 → _) h (ix3 0 d j) := by
  have hit : ∀ (g : Fin 4) (a : Fin 3), (ix3 g d j a : ℕ) = (![g.val, 0, 0] : Fin 3 → ℕ) a + (ix3 (0 : Fin 1) d j a : ℕ) := by
    intro g a; fin_cases a <;> simp
  match h with
  | 0 =>
    rw [View.read_writes_cons_unit_of_not_mem _ _ _ _ _ _ rfl 0 (Or.inl (show (0 : ℕ) < 3 by decide)),
      View.read_writes_cons_unit_of_not_mem _ _ _ _ _ _ rfl 0 (Or.inl (show (0 : ℕ) < 2 by decide)),
      View.read_writes_cons_unit_of_not_mem _ _ _ _ _ _ rfl 0 (Or.inl (show (0 : ℕ) < 1 by decide)),
      View.read_writes_cons_unit_of_mem _ _ _ _ _ _ (ix3 0 d j) rfl (hit 0)]
    rfl
  | 1 =>
    rw [View.read_writes_cons_unit_of_not_mem _ _ _ _ _ _ rfl 0 (Or.inl (show (1 : ℕ) < 3 by decide)),
      View.read_writes_cons_unit_of_not_mem _ _ _ _ _ _ rfl 0 (Or.inl (show (1 : ℕ) < 2 by decide)),
      View.read_writes_cons_unit_of_mem _ _ _ _ _ _ (ix3 0 d j) rfl (hit 1)]
    rfl
  | 2 =>
    rw [View.read_writes_cons_unit_of_not_mem _ _ _ _ _ _ rfl 0 (Or.inl (show (2 : ℕ) < 3 by decide)),
      View.read_writes_cons_unit_of_mem _ _ _ _ _ _ (ix3 0 d j) rfl (hit 2)]
    rfl
  | 3 =>
    rw [View.read_writes_cons_unit_of_mem _ _ _ _ _ _ (ix3 0 d j) rfl (hit 3)]
    rfl

end Reads

section Trip

variable (c : Dev nD) (bd : Option Variants.none.V) (i : grid0.Coords) (arg2 : Memref sig .tc .smem S8 .f32) (harg2 : arg2.IsWhole) (arg3 : Memref sig .tc .vmem S4x64 .f32) (harg3 : arg3.IsWhole) (arg4 : Memref sig .tc .vmem S256x512 .f32) (harg4 : arg4.IsWhole) (arg5 : Memref sig .tc .vmem S1x4x4096x256 .bf16) (harg5 : arg5.IsWhole) (arg6 : Memref sig .tc .vmem S1x4x16x144x256 .bf16) (harg6 : arg6.IsWhole) (arg7 : Memref sig .tc .vmem S256x512 .f32) (harg7 : arg7.IsWhole) (arg8 : Memref sig .tc .vmem S1x128 .f32) (harg8 : arg8.IsWhole) (arg9 : Memref sig .tc .vmem S256x512 .bf16) (harg9 : arg9.IsWhole) (arg10 : Memref sig .tc .vmem S4x256x512 .bf16) (harg10 : arg10.IsWhole) (arg11 : Memref sig .tc .vmem S4x1x512 .f32) (harg11 : arg11.IsWhole) (arg12 : Memref sig .tc .vmem S4x144x512 .f32) (harg12 : arg12.IsWhole) (arg1 : BitVec 32) (v341 : FVec Ideal S1x512 .f32) (v348 : FVec Ideal S256x512 .bf16) (v381 : FVec Ideal S144x512 .f32)
  (X5 : BufTy.Contents (Elt Ideal) arg5.view.ty) (X6 : BufTy.Contents (Elt Ideal) arg6.view.ty) (X10 : BufTy.Contents (Elt Ideal) arg10.view.ty) (k : Fin (k0_t1_loop i).trips)
  (f11 : BufTy.Contents (Elt Ideal) arg11.view.ty) (f12 : BufTy.Contents (Elt Ideal) arg12.view.ty)

/-- The bounds after a trip. -/
theorem trip_max (h : Fin 4) (j : Fin 512) :
    arg11.view.read (Elt Ideal) (arg11.view.writes (Elt Ideal) f11 (tripL_k0_t1 (F := Ideal) Variants.none c bd i arg2 harg2 arg3 harg3 arg4 harg4 arg5 harg5 arg6 harg6 arg7 harg7 arg8 harg8 arg9 harg9 arg10 harg10 arg11 harg11 arg12 harg12 arg1 v341 v348 v381 X5 X6 X10 k f11 f12).1) (ix3 h 0 j)
      = newMax (arg11.view.read (Elt Ideal) f11 (ix3 h 0 j))
          (sc (arg5.view.read (Elt Ideal) X5) (arg10.view.read (Elt Ideal) X10) ⟨k.val, trips_lt i k⟩ h j) := by
  have key : ∀ (h : Fin 4) (off : Fin 4 → ℕ) (inb) (ho : off = ![0, h.val, 256 * k.val, 0]) (inb' inb''),
      k0_pay9 (k0_pay2 (View.readAt (Elt Ideal) arg5.view (Rect.unit (s := S1x4x4096x256) off S1x1x256x256.size inb).toLoadRect X5)
          (View.readAt (Elt Ideal) arg10.view (Rect.unit (s := S4x256x512) ![h.val, 0, 0] S1x256x512.size inb').toLoadRect X10))
        (View.readAt (Elt Ideal) arg11.view (Rect.unit (s := S4x1x512) ![h.val, 0, 0] S1x1x512.size inb'').toLoadRect f11) (ix3 0 0 j)
      = newMax (arg11.view.read (Elt Ideal) f11 (ix3 h 0 j))
          (sc (arg5.view.read (Elt Ideal) X5) (arg10.view.read (Elt Ideal) X10) ⟨k.val, trips_lt i k⟩ h j) := by
    intro h off inb ho inb' inb''
    rw [bound_apply]
    congr 1
    · exact load_head arg11 f11 _ _ h rfl 0 j
    · funext r
      rw [score_apply]
      refine Finset.sum_congr rfl fun l _ => ?_
      rw [load_key arg5 X5 off inb h ⟨k.val, trips_lt i k⟩ ho]
      congr 1
      exact load_head arg10 X10 _ _ h rfl l j
  unfold tripL_k0_t1 trip_k0_t1
  refine (read_heads arg11 f11 _ _ _ _ _ _ _ _ [] h 0 j).trans ?_
  match h with
  | 0 => exact key 0 _ _ (k0_off9_eq i k) _ _
  | 1 => exact key 1 _ _ (k0_off10_eq i k) _ _
  | 2 => exact key 2 _ _ (k0_off11_eq i k) _ _
  | 3 => exact key 3 _ _ (k0_off12_eq i k) _ _

/-- The sums after a trip. -/
theorem trip_acc (h : Fin 4) (d : Fin 144) (j : Fin 512) :
    arg12.view.read (Elt Ideal) (arg12.view.writes (Elt Ideal) f12 (tripL_k0_t1 (F := Ideal) Variants.none c bd i arg2 harg2 arg3 harg3 arg4 harg4 arg5 harg5 arg6 harg6 arg7 harg7 arg8 harg8 arg9 harg9 arg10 harg10 arg11 harg11 arg12 harg12 arg1 v341 v348 v381 X5 X6 X10 k f11 f12).2) (ix3 h d j)
      = (fun s : Fin 256 → EReal => Ideal.exp2 (arg11.view.read (Elt Ideal) f11 (ix3 h 0 j) - newMax (arg11.view.read (Elt Ideal) f11 (ix3 h 0 j)) s)
            * arg12.view.read (Elt Ideal) f12 (ix3 h d j)
          + ∑ r : Fin 256, arg6.view.read (Elt Ideal) X6 (ix5 0 h ⟨k.val, trips_lt i k⟩ d r) * Ideal.exp2 (s r - newMax (arg11.view.read (Elt Ideal) f11 (ix3 h 0 j)) s))
        (sc (arg5.view.read (Elt Ideal) X5) (arg10.view.read (Elt Ideal) X10) ⟨k.val, trips_lt i k⟩ h j) := by
  have key : ∀ (h : Fin 4) (off : Fin 4 → ℕ) (inb) (ho : off = ![0, h.val, 256 * k.val, 0]) (inb' inb'' inb3) (off5 : Fin 5 → ℕ) (inb5) (ho5 : off5 = ![0, h.val, k.val, 0, 0]),
      (fun (s : FVec Ideal S256x512 .f32) (m : Vec Ideal S1x1x512 .f32) => k0_pay27 (k0_pay8 s m) (k0_pay10 s m)
          (View.readAt (Elt Ideal) arg12.view (Rect.unit (s := S4x144x512) ![h.val, 0, 0] S1x144x512.size inb3).toLoadRect f12)
          (View.readAt (Elt Ideal) arg6.view (Rect.unit (s := S1x4x16x144x256) off5 S1x1x1x144x256.size inb5).toLoadRect X6) (ix3 0 d j))
        (k0_pay2 (View.readAt (Elt Ideal) arg5.view (Rect.unit (s := S1x4x4096x256) off S1x1x256x256.size inb).toLoadRect X5)
          (View.readAt (Elt Ideal) arg10.view (Rect.unit (s := S4x256x512) ![h.val, 0, 0] S1x256x512.size inb').toLoadRect X10))
        (View.readAt (Elt Ideal) arg11.view (Rect.unit (s := S4x1x512) ![h.val, 0, 0] S1x1x512.size inb'').toLoadRect f11)
      = (fun s : Fin 256 → EReal => Ideal.exp2 (arg11.view.read (Elt Ideal) f11 (ix3 h 0 j) - newMax (arg11.view.read (Elt Ideal) f11 (ix3 h 0 j)) s)
            * arg12.view.read (Elt Ideal) f12 (ix3 h d j)
          + ∑ r : Fin 256, arg6.view.read (Elt Ideal) X6 (ix5 0 h ⟨k.val, trips_lt i k⟩ d r) * Ideal.exp2 (s r - newMax (arg11.view.read (Elt Ideal) f11 (ix3 h 0 j)) s))
        (sc (arg5.view.read (Elt Ideal) X5) (arg10.view.read (Elt Ideal) X10) ⟨k.val, trips_lt i k⟩ h j) := by
    intro h off inb ho inb' inb'' inb3 off5 inb5 ho5
    beta_reduce
    rw [acc_apply]
    have hs : (fun r : Fin 256 => k0_pay2 (View.readAt (Elt Ideal) arg5.view (Rect.unit (s := S1x4x4096x256) off S1x1x256x256.size inb).toLoadRect X5)
          (View.readAt (Elt Ideal) arg10.view (Rect.unit (s := S4x256x512) ![h.val, 0, 0] S1x256x512.size inb').toLoadRect X10) (ix2 r j))
        = sc (arg5.view.read (Elt Ideal) X5) (arg10.view.read (Elt Ideal) X10) ⟨k.val, trips_lt i k⟩ h j := by
      funext r
      rw [score_apply]
      refine Finset.sum_congr rfl fun l _ => ?_
      rw [load_key arg5 X5 off inb h ⟨k.val, trips_lt i k⟩ ho]
      congr 1
      exact load_head arg10 X10 _ _ h rfl l j
    have hm : View.readAt (Elt Ideal) arg11.view (Rect.unit (s := S4x1x512) ![h.val, 0, 0] S1x1x512.size inb'').toLoadRect f11 (ix3 0 0 j)
        = arg11.view.read (Elt Ideal) f11 (ix3 h 0 j) := load_head arg11 f11 _ _ h rfl 0 j
    have ha : View.readAt (Elt Ideal) arg12.view (Rect.unit (s := S4x144x512) ![h.val, 0, 0] S1x144x512.size inb3).toLoadRect f12 (ix3 0 d j)
        = arg12.view.read (Elt Ideal) f12 (ix3 h d j) := load_head arg12 f12 _ _ h rfl d j
    rw [hs, hm, ha]
    congr 1
    refine Finset.sum_congr rfl fun r _ => ?_
    rw [load_val arg6 X6 off5 inb5 h ⟨k.val, trips_lt i k⟩ ho5, ← congrFun hs r]
  unfold tripL_k0_t1 trip_k0_t1
  refine (read_heads arg12 f12 _ _ _ _ _ _ _ _ [] h d j).trans ?_
  match h with
  | 0 => exact key 0 _ _ (k0_off9_eq i k) _ _ _ _ _ (k0_off13_eq i k)
  | 1 => exact key 1 _ _ (k0_off10_eq i k) _ _ _ _ _ (k0_off14_eq i k)
  | 2 => exact key 2 _ _ (k0_off11_eq i k) _ _ _ _ _ (k0_off15_eq i k)
  | 3 => exact key 3 _ _ (k0_off12_eq i k) _ _ _ _ _ (k0_off16_eq i k)

end Trip

end DiffPrompt

end
-- ==== Proof.Diff.Loop.lean ====
/-
  The kernel's loop over the earlier key tiles, and the quotient that its sums end with.
-/
module

public import proofs.«01_k».proof.Proof.Diff.Trip

@[expose] public section

set_option maxRecDepth 16384

noncomputable section

namespace DiffPrompt

open Idealize.ShloMosaic Idealize.ShloMosaic.TcCoe
open Cert.KernelIdeal Cert.KernelIdeal.Gen

/-- The row number `d` of the sums' 144. -/
abbrev fd (d : ℕ) : Fin 144 := Fin.ofNat 144 d

/-- A sum over a tile's keys. -/
theorem sum_tile (n : ℕ) (T : Finset ℕ) (hT : ∀ x ∈ T, 256 * (n + 1) ≤ x) (f : ℕ → ℝ) :
    ∑ x ∈ T ∪ Finset.range (256 * (n + 1)), f x = ∑ x ∈ T ∪ Finset.range (256 * n), f x + ∑ r : Fin 256, f (256 * n + r.val) := by
  have d1 : Disjoint T (Finset.range (256 * (n + 1))) := Finset.disjoint_left.mpr fun x hx hr => by
    have := hT x hx; have := Finset.mem_range.mp hr; omega
  have d2 : Disjoint T (Finset.range (256 * n)) := Finset.disjoint_left.mpr fun x hx hr => by
    have := hT x hx; have := Finset.mem_range.mp hr; omega
  rw [Finset.sum_union d1, Finset.sum_union d2, add_assoc, show 256 * (n + 1) = 256 * n + 256 from rfl, Finset.sum_range_add,
    Fin.sum_univ_eq_sum_range (fun r => f (256 * n + r)) 256]

section Loop

variable (c : Dev nD) (bd : Option Variants.none.V) (i : grid0.Coords) (arg2 : Memref sig .tc .smem S8 .f32) (harg2 : arg2.IsWhole) (arg3 : Memref sig .tc .vmem S4x64 .f32) (harg3 : arg3.IsWhole) (arg4 : Memref sig .tc .vmem S256x512 .f32) (harg4 : arg4.IsWhole) (arg5 : Memref sig .tc .vmem S1x4x4096x256 .bf16) (harg5 : arg5.IsWhole) (arg6 : Memref sig .tc .vmem S1x4x16x144x256 .bf16) (harg6 : arg6.IsWhole) (arg7 : Memref sig .tc .vmem S256x512 .f32) (harg7 : arg7.IsWhole) (arg8 : Memref sig .tc .vmem S1x128 .f32) (harg8 : arg8.IsWhole) (arg9 : Memref sig .tc .vmem S256x512 .bf16) (harg9 : arg9.IsWhole) (arg10 : Memref sig .tc .vmem S4x256x512 .bf16) (harg10 : arg10.IsWhole) (arg11 : Memref sig .tc .vmem S4x1x512 .f32) (harg11 : arg11.IsWhole) (arg12 : Memref sig .tc .vmem S4x144x512 .f32) (harg12 : arg12.IsWhole) (arg1 : BitVec 32) (v341 : FVec Ideal S1x512 .f32) (v348 : FVec Ideal S256x512 .bf16) (v381 : FVec Ideal S144x512 .f32)
  (X5 : BufTy.Contents (Elt Ideal) arg5.view.ty) (X6 : BufTy.Contents (Elt Ideal) arg6.view.ty) (X10 : BufTy.Contents (Elt Ideal) arg10.view.ty)

/-- A head's column after `n` trips: the keys of the first `n` tiles are added to those of the start. -/
theorem loop_rows (G11 : BufTy.Contents (Elt Ideal) arg11.view.ty) (G12 : BufTy.Contents (Elt Ideal) arg12.view.ty) (h : Fin 4) (j : Fin 512) (y : ℕ → ℝ) (w : ℕ → ℕ → ℝ)
    (T : Finset ℕ) (hT : ∀ x ∈ T, 256 * (k0_t1_loop i).trips ≤ x)
    (h0 : Row T y w (arg11.view.read (Elt Ideal) G11 (ix3 h 0 j)) (fun d => arg12.view.read (Elt Ideal) G12 (ix3 h (fd d) j)))
    (hs : ∀ (k : Fin 16) (r : Fin 256), sc (arg5.view.read (Elt Ideal) X5) (arg10.view.read (Elt Ideal) X10) k h j r = ((y (256 * k.val + r.val) : ℝ) : EReal))
    (hv : ∀ (k : Fin 16) (d : ℕ), d ≤ 128 → ∀ r : Fin 256, arg6.view.read (Elt Ideal) X6 (ix5 0 h k (fd d) r) = ((w (256 * k.val + r.val) d : ℝ) : EReal)) :
    ∀ n, n ≤ (k0_t1_loop i).trips → Row (T ∪ Finset.range (256 * n)) y w
      (arg11.view.read (Elt Ideal) (arg11.view.writes (Elt Ideal) G11 (pb_k0_t1 (F := Ideal) Variants.none c bd i arg2 harg2 arg3 harg3 arg4 harg4 arg5 harg5 arg6 harg6 arg7 harg7 arg8 harg8 arg9 harg9 arg10 harg10 arg11 harg11 arg12 harg12 arg1 v341 v348 v381 X5 X6 X10 G11 G12 n).1) (ix3 h 0 j))
      (fun d => arg12.view.read (Elt Ideal) (arg12.view.writes (Elt Ideal) G12 (pb_k0_t1 (F := Ideal) Variants.none c bd i arg2 harg2 arg3 harg3 arg4 harg4 arg5 harg5 arg6 harg6 arg7 harg7 arg8 harg8 arg9 harg9 arg10 harg10 arg11 harg11 arg12 harg12 arg1 v341 v348 v381 X5 X6 X10 G11 G12 n).2) (ix3 h (fd d) j)) := by
  intro n
  induction n with
  | zero => intro _; simpa [pb_k0_t1] using h0
  | succ n ih =>
    intro hn
    have hstep := Row.step (ih (by omega)) (k0 := 256 * n) (T' := T ∪ Finset.range (256 * (n + 1))) (by norm_num : 0 < 256)
      (hs ⟨n, trips_lt i ⟨n, hn⟩⟩) (hv ⟨n, trips_lt i ⟨n, hn⟩⟩)
      (sum_tile n T (fun x hx => le_trans (Nat.mul_le_mul_left _ hn) (hT x hx)))
    rw [pb_k0_t1_succ Variants.none c bd i arg2 harg2 arg3 harg3 arg4 harg4 arg5 harg5 arg6 harg6 arg7 harg7 arg8 harg8 arg9 harg9 arg10 harg10 arg11 harg11 arg12 harg12 arg1 v341 v348 v381 X5 X6 X10 G11 G12 ⟨n, hn⟩]
    dsimp only
    rw [View.writes_append, View.writes_append]
    have hm := trip_max c bd i arg2 harg2 arg3 harg3 arg4 harg4 arg5 harg5 arg6 harg6 arg7 harg7 arg8 harg8 arg9 harg9 arg10 harg10 arg11 harg11 arg12 harg12 arg1 v341 v348 v381 X5 X6 X10 ⟨n, hn⟩
      (arg11.view.writes (Elt Ideal) G11 (pb_k0_t1 (F := Ideal) Variants.none c bd i arg2 harg2 arg3 harg3 arg4 harg4 arg5 harg5 arg6 harg6 arg7 harg7 arg8 harg8 arg9 harg9 arg10 harg10 arg11 harg11 arg12 harg12 arg1 v341 v348 v381 X5 X6 X10 G11 G12 n).1) (arg12.view.writes (Elt Ideal) G12 (pb_k0_t1 (F := Ideal) Variants.none c bd i arg2 harg2 arg3 harg3 arg4 harg4 arg5 harg5 arg6 harg6 arg7 harg7 arg8 harg8 arg9 harg9 arg10 harg10 arg11 harg11 arg12 harg12 arg1 v341 v348 v381 X5 X6 X10 G11 G12 n).2) h j
    have ha := fun d : Fin 144 => trip_acc c bd i arg2 harg2 arg3 harg3 arg4 harg4 arg5 harg5 arg6 harg6 arg7 harg7 arg8 harg8 arg9 harg9 arg10 harg10 arg11 harg11 arg12 harg12 arg1 v341 v348 v381 X5 X6 X10 ⟨n, hn⟩
      (arg11.view.writes (Elt Ideal) G11 (pb_k0_t1 (F := Ideal) Variants.none c bd i arg2 harg2 arg3 harg3 arg4 harg4 arg5 harg5 arg6 harg6 arg7 harg7 arg8 harg8 arg9 harg9 arg10 harg10 arg11 harg11 arg12 harg12 arg1 v341 v348 v381 X5 X6 X10 G11 G12 n).1) (arg12.view.writes (Elt Ideal) G12 (pb_k0_t1 (F := Ideal) Variants.none c bd i arg2 harg2 arg3 harg3 arg4 harg4 arg5 harg5 arg6 harg6 arg7 harg7 arg8 harg8 arg9 harg9 arg10 harg10 arg11 harg11 arg12 harg12 arg1 v341 v348 v381 X5 X6 X10 G11 G12 n).2) h d j
    rw [hm, show (fun d : ℕ => _) = (fun d : ℕ => _) from funext fun d => ha (fd d)]
    exact hstep

/-- The quotient a head ends with at a column: the weighted mean over the keys of the start and of all the loop's tiles. -/
theorem end_quot (v401 : BitVec 32) (X5' : BufTy.Contents (Elt Ideal) arg5.view.ty) (X6' : BufTy.Contents (Elt Ideal) arg6.view.ty) (X10' : BufTy.Contents (Elt Ideal) arg10.view.ty)
    (H11 : BufTy.Contents (Elt Ideal) arg11.view.ty) (H12 : BufTy.Contents (Elt Ideal) arg12.view.ty)
    (n n2 : ℕ) (hn : n = (k0_t1_loop i).trips) (hn2 : n2 = 0)
    (L11 : List (View.Piece (Elt Ideal) S4x1x512 .f32)) (L12 : List (View.Piece (Elt Ideal) S4x144x512 .f32)) (h : Fin 4) (j : Fin 512) (y x : ℕ → ℝ) (w : ℕ → ℕ → ℝ)
    (T : Finset ℕ) (hne : T.Nonempty) (hT : ∀ x ∈ T, 256 * (k0_t1_loop i).trips ≤ x)
    (h0 : Row T y w (arg11.view.read (Elt Ideal) (arg11.view.writes (Elt Ideal) arg11.view.junk L11) (ix3 h 0 j))
      (fun d => arg12.view.read (Elt Ideal) (arg12.view.writes (Elt Ideal) arg12.view.junk L12) (ix3 h (fd d) j)))
    (hs : ∀ (k : Fin 16) (r : Fin 256), sc (arg5.view.read (Elt Ideal) X5) (arg10.view.read (Elt Ideal) X10) k h j r = ((y (256 * k.val + r.val) : ℝ) : EReal))
    (hv : ∀ (k : Fin 16) (d : ℕ), d ≤ 128 → ∀ r : Fin 256, arg6.view.read (Elt Ideal) X6 (ix5 0 h k (fd d) r) = ((w (256 * k.val + r.val) d : ℝ) : EReal))
    (cst : ℝ) (hx : ∀ n, y n * Real.log 2 = x n + cst) (h1 : ∀ n, w n 128 = 1) (offa offz : Fin 3 → ℕ) (inba inbz) (hoa : offa = ![h.val, 0, 0]) (hoz : offz = ![h.val, 128, 0]) (d : Fin 128) :
    Ideal.div
      (arg12.view.readCov ((pb_k0_t2 (F := Ideal) Variants.none c bd i arg2 harg2 arg3 harg3 arg4 harg4 arg5 harg5 arg6 harg6 arg7 harg7 arg8 harg8 arg9 harg9 arg10 harg10 arg11 harg11 arg12 harg12 arg1 v341 v348 v381 v401 X5' X6' X10' H11 H12 n2).2
          ++ ((pb_k0_t1 (F := Ideal) Variants.none c bd i arg2 harg2 arg3 harg3 arg4 harg4 arg5 harg5 arg6 harg6 arg7 harg7 arg8 harg8 arg9 harg9 arg10 harg10 arg11 harg11 arg12 harg12 arg1 v341 v348 v381 X5 X6 X10 (arg11.view.writes (Elt Ideal) arg11.view.junk L11) (arg12.view.writes (Elt Ideal) arg12.view.junk L12) n).2 ++ L12))
        (Rect.unit (s := S4x144x512) offa S1x128x512.size inba).toLoadRect (ix3 0 d j))
      (arg12.view.readCov ((pb_k0_t2 (F := Ideal) Variants.none c bd i arg2 harg2 arg3 harg3 arg4 harg4 arg5 harg5 arg6 harg6 arg7 harg7 arg8 harg8 arg9 harg9 arg10 harg10 arg11 harg11 arg12 harg12 arg1 v341 v348 v381 v401 X5' X6' X10' H11 H12 n2).2
          ++ ((pb_k0_t1 (F := Ideal) Variants.none c bd i arg2 harg2 arg3 harg3 arg4 harg4 arg5 harg5 arg6 harg6 arg7 harg7 arg8 harg8 arg9 harg9 arg10 harg10 arg11 harg11 arg12 harg12 arg1 v341 v348 v381 X5 X6 X10 (arg11.view.writes (Elt Ideal) arg11.view.junk L11) (arg12.view.writes (Elt Ideal) arg12.view.junk L12) n).2 ++ L12))
        (Rect.unit (s := S4x144x512) offz S1x1x512.size inbz).toLoadRect (ix3 0 0 j))
    = ((wmean (T ∪ Finset.range (256 * n)) x (fun n => w n d) : ℝ) : EReal) := by
  subst hn hn2 hoa hoz
  have hrow := loop_rows c bd i arg2 harg2 arg3 harg3 arg4 harg4 arg5 harg5 arg6 harg6 arg7 harg7 arg8 harg8 arg9 harg9 arg10 harg10 arg11 harg11 arg12 harg12 arg1 v341 v348 v381 X5 X6 X10 _ _ h j y w T hT h0 hs hv _ le_rfl
  have hq := hrow.quotient (hne.mono Finset.subset_union_left) cst (fun n _ => hx n) (fun n _ => h1 n) d.val (by omega)
  rw [← hq]
  have e0 : (pb_k0_t2 (F := Ideal) Variants.none c bd i arg2 harg2 arg3 harg3 arg4 harg4 arg5 harg5 arg6 harg6 arg7 harg7 arg8 harg8 arg9 harg9 arg10 harg10 arg11 harg11 arg12 harg12 arg1 v341 v348 v381 v401 X5' X6' X10' H11 H12 0).2 = [] := rfl
  rw [e0, List.nil_append]
  show Ideal.div (View.readAt (Elt Ideal) arg12.view _ (arg12.view.writes (Elt Ideal) arg12.view.junk _) _) (View.readAt (Elt Ideal) arg12.view _ (arg12.view.writes (Elt Ideal) arg12.view.junk _) _) = _
  rw [View.writes_append, View.readAt_eq_ld, View.readAt_eq_ld]
  congr 1
  · refine View.ld_unit_apply_of _ _ _ _ _ _ fun a => ?_
    fin_cases a <;> simp [fd, Fin.ofNat, Nat.mod_eq_of_lt (show d.val < 144 by omega)]
  · refine View.ld_unit_apply_of _ _ _ _ _ _ fun a => ?_
    fin_cases a <;> simp [fd, Fin.ofNat]

end Loop

end DiffPrompt

end
-- ==== Proof.Diff.Start.lean ====
/-
  One grid point of the kernel: the queries' lanes it stores and the first tile's step.
-/
module

public import proofs.«01_k».proof.Proof.Gen.KernelIdeal.Frame
public import proofs.«01_k».proof.Proof.Diff.Loop

@[expose] public section

set_option maxRecDepth 16384

noncomputable section

namespace DiffPrompt

open Idealize.ShloMosaic Idealize.ShloMosaic.TcCoe
open Cert.KernelIdeal Cert.KernelIdeal.Gen

theorem Row.of_eq {T : Finset ℕ} {y : ℕ → ℝ} {w : ℕ → ℕ → ℝ} {m m' : EReal} {a a' : ℕ → EReal} (hm : m = m') (ha : ∀ d, a d = a' d) (h : Row T y w m' a') :
    Row T y w m a := by
  obtain rfl := hm
  obtain rfl : a = a' := funext ha
  exact h

/-- The first tile's step, from a bound of `⊥` and sums of zero, its scores masked by the bias block. -/
theorem first_step (K : Vec Ideal S1x1x256x256 .bf16) (Q : Vec Ideal S1x256x512 .bf16) (B : Vec Ideal S256x512 .f32) (m : Vec Ideal S1x1x512 .f32)
    (a : Vec Ideal S1x144x512 .f32) (V : Vec Ideal S1x1x1x144x256 .bf16) (j : Fin 512) (hm : m (ix3 0 0 j) = ⊥) (ha : ∀ d, a (ix3 0 d j) = 0)
    (R : Finset (Fin 256)) (k0 : ℕ) (T : Finset ℕ) (y : ℕ → ℝ) (w : ℕ → ℕ → ℝ)
    (hs : ∀ r : Fin 256, ∑ l : Fin 256, K (ix4 0 0 r l) * Q (ix3 0 l j) = ((y (k0 + r.val) : ℝ) : EReal))
    (hB : ∀ r : Fin 256, B (ix2 r j) = if r ∈ R then 0 else ⊥) (r₀ : Fin 256) (hr : r₀ ∈ R)
    (hV : ∀ d, d ≤ 128 → ∀ r : Fin 256, V (ix5 0 0 0 (fd d) r) = ((w (k0 + r.val) d : ℝ) : EReal))
    (hT : ∀ f : ℕ → ℝ, ∑ k ∈ T, f k = ∑ r ∈ R, f (k0 + r.val)) :
    Row T y w (k0_pay9 (addf (k0_pay2 K Q) (k0_pay86 B)) m (ix3 0 0 j))
      (fun d => k0_pay27 (k0_pay8 (addf (k0_pay2 K Q) (k0_pay86 B)) m) (k0_pay10 (addf (k0_pay2 K Q) (k0_pay86 B)) m) a V (ix3 0 (fd d) j)) := by
  have hS : ∀ r : Fin 256, addf (k0_pay2 K Q) (k0_pay86 B) (ix2 r j) = if r ∈ R then ((y (k0 + r.val) : ℝ) : EReal) else ⊥ := by
    intro r
    have e : addf (k0_pay2 K Q) (k0_pay86 B) (ix2 r j) = k0_pay2 K Q (ix2 r j) + B (ix2 r j) := by
      show k0_pay2 K Q (ix2 r j) + k0_pay86 B (ix2 r j) = _
      congr 1
      pointwise [k0_pay86]
    rw [e, score_apply, hs, hB]
    split
    · rw [add_zero]
    · rw [EReal.add_bot]
  generalize addf (k0_pay2 K Q) (k0_pay86 B) = S at hS
  refine Row.of_eq (bound_apply S m j) (fun d => acc_apply S m a V (fd d) j) ?_
  rw [hm]
  have h := Row.first (R := R) (k0 := k0) (T := T) (y := y) (w := w) (s := fun r : Fin 256 => S (ix2 r j)) (V := fun d r => V (ix5 0 0 0 (fd d) r)) hS hr hV hT
  refine Row.of_eq rfl (fun d => ?_) h
  rw [ha (fd d)]

/-- A stored matrix read back under its leading axis of one. -/
theorem stored_apply (L : FVec Ideal S256x512 .bf16) (hc) (l : Fin 256) (j : Fin 512) : shapeCast S1x256x512 L hc (ix3 0 l j) = L (ix2 l j) := by
  pointwise

section Block

variable (c : Dev nD) (i : grid0.Coords) (arg2 : Memref sig .tc .smem S8 .f32) (harg2 : arg2.IsWhole) (arg3 : Memref sig .tc .vmem S4x64 .f32) (harg3 : arg3.IsWhole) (arg4 : Memref sig .tc .vmem S256x512 .f32) (harg4 : arg4.IsWhole) (arg5 : Memref sig .tc .vmem S1x4x4096x256 .bf16) (harg5 : arg5.IsWhole) (arg6 : Memref sig .tc .vmem S1x4x16x144x256 .bf16) (harg6 : arg6.IsWhole) (arg7 : Memref sig .tc .vmem S256x512 .f32) (harg7 : arg7.IsWhole) (arg8 : Memref sig .tc .vmem S1x128 .f32) (harg8 : arg8.IsWhole) (arg9 : Memref sig .tc .vmem S256x512 .bf16) (harg9 : arg9.IsWhole) (arg10 : Memref sig .tc .vmem S4x256x512 .bf16) (harg10 : arg10.IsWhole) (arg11 : Memref sig .tc .vmem S4x1x512 .f32) (harg11 : arg11.IsWhole) (arg12 : Memref sig .tc .vmem S4x144x512 .f32) (harg12 : arg12.IsWhole)
  (x0 : Vec Ideal S8 .f32) (x1 : Vec Ideal S4x64 .f32) (x2 : Vec Ideal S256x512 .f32) (x3 : Vec Ideal S1x4x4096x256 .bf16) (x4 : Vec Ideal S1x4x16x144x256 .bf16) (x5 : Vec Ideal S256x512 .f32) (x6 : Vec Ideal S1x128 .f32)

/-- The queries' load of a head. -/
theorem load_q (off : Fin 2 → ℕ) (inb) (o : ℕ) (ho : off = ![0, o]) (hb : o + 128 ≤ 512) (r : Fin 256) (l : Fin 128) :
    View.readAt (Elt Ideal) arg4.view (Rect.unit (s := S256x512) off S256x128.size inb).toLoadRect (harg4.unread x2) (ix2 r l) = x2 (ix2 r ⟨o + l.val, by omega⟩) := by
  subst ho
  rw [View.readAt_eq_ld, harg4.read_unread]
  refine View.ld_unit_apply_of _ _ _ _ _ _ fun a => ?_
  fin_cases a <;> simp

/-- A head's slope. -/
theorem load_slope (off : Fin 1 → ℕ) (inb) (h : Fin 8) (ho : off = ![h.val]) (hp) :
    View.readAt (Elt Ideal) arg2.view (Rect.unit (s := S8) off S1.size inb).toLoadRect (harg2.unread x0) (Shape.Idx.first hp) = x0 (ix1 h) := by
  subst ho
  rw [View.readAt_eq_ld, harg2.read_unread]
  refine View.ld_unit_apply_of _ _ _ _ _ _ fun a => ?_
  fin_cases a
  simp [Shape.Idx.first]

/-- The lanes stored for a head are those of its queries and its slope. -/
theorem q_lanes (h : Fin 4) : ∃ x : Vec Ideal S256x128 .f32, (∀ (r : Fin 256) (l : Fin 128), x (ix2 r l) = x2 (ix2 r ⟨128 * h.val + l.val, by omega⟩)) ∧
    ∀ (l : Fin 256) (j : Fin 512), arg10.view.read (Elt Ideal) (arg10.view.writes (Elt Ideal) arg10.view.junk (kernelRun0_A.sl.HS0_4 (F := Ideal) c i arg2 harg2 arg4 harg4 x0 x2)) (ix3 h l j)
      = lanes (Scalar.muli (BitVec.ofNat 32 (i 1).val) 256#32) (x0 (ix1 ⟨h.val, by omega⟩)) x (ix2 l j) := by
  match h with
  | 0 =>
    refine ⟨(View.readAt (Elt Ideal) arg4.view (Rect.unit (s := S256x512) ![0, 0] S256x128.size inb_S256x512_S256x128_0_0).toLoadRect (harg4.unread x2)), fun r l => load_q arg4 harg4 x2 _ _ 0 rfl (by norm_num) r l, fun l j => ?_⟩
    refine (read_heads arg10 _ _ _ _ _ _ _ _ _ [] 0 l j).trans ?_
    exact (stored_apply (lanes (Scalar.muli (BitVec.ofNat 32 (i 1).val) 256#32) (View.readAt (Elt Ideal) arg2.view (Rect.unit (s := S8) ![0] S1.size inb_S8_S1_0).toLoadRect (harg2.unread x0) (Shape.Idx.first (s := S1) (by decide))) (View.readAt (Elt Ideal) arg4.view (Rect.unit (s := S256x512) ![0, 0] S256x128.size inb_S256x512_S256x128_0_0).toLoadRect (harg4.unread x2))) _ l j).trans
      (congrArg (fun s => lanes (Scalar.muli (BitVec.ofNat 32 (i 1).val) 256#32) s (View.readAt (Elt Ideal) arg4.view (Rect.unit (s := S256x512) ![0, 0] S256x128.size inb_S256x512_S256x128_0_0).toLoadRect (harg4.unread x2)) (ix2 l j)) (load_slope arg2 harg2 x0 ![0] inb_S8_S1_0 0 rfl (by decide)))
  | 1 =>
    refine ⟨(View.readAt (Elt Ideal) arg4.view (Rect.unit (s := S256x512) ![0, 128] S256x128.size inb_S256x512_S256x128_0_128).toLoadRect (harg4.unread x2)), fun r l => load_q arg4 harg4 x2 _ _ 128 rfl (by norm_num) r l, fun l j => ?_⟩
    refine (read_heads arg10 _ _ _ _ _ _ _ _ _ [] 1 l j).trans ?_
    exact (stored_apply (lanes (Scalar.muli (BitVec.ofNat 32 (i 1).val) 256#32) (View.readAt (Elt Ideal) arg2.view (Rect.unit (s := S8) ![1] S1.size inb_S8_S1_1).toLoadRect (harg2.unread x0) (Shape.Idx.first (s := S1) (by decide))) (View.readAt (Elt Ideal) arg4.view (Rect.unit (s := S256x512) ![0, 128] S256x128.size inb_S256x512_S256x128_0_128).toLoadRect (harg4.unread x2))) _ l j).trans
      (congrArg (fun s => lanes (Scalar.muli (BitVec.ofNat 32 (i 1).val) 256#32) s (View.readAt (Elt Ideal) arg4.view (Rect.unit (s := S256x512) ![0, 128] S256x128.size inb_S256x512_S256x128_0_128).toLoadRect (harg4.unread x2)) (ix2 l j)) (load_slope arg2 harg2 x0 ![1] inb_S8_S1_1 1 rfl (by decide)))
  | 2 =>
    refine ⟨(View.readAt (Elt Ideal) arg4.view (Rect.unit (s := S256x512) ![0, 256] S256x128.size inb_S256x512_S256x128_0_256).toLoadRect (harg4.unread x2)), fun r l => load_q arg4 harg4 x2 _ _ 256 rfl (by norm_num) r l, fun l j => ?_⟩
    refine (read_heads arg10 _ _ _ _ _ _ _ _ _ [] 2 l j).trans ?_
    exact (stored_apply (lanes (Scalar.muli (BitVec.ofNat 32 (i 1).val) 256#32) (View.readAt (Elt Ideal) arg2.view (Rect.unit (s := S8) ![2] S1.size inb_S8_S1_2).toLoadRect (harg2.unread x0) (Shape.Idx.first (s := S1) (by decide))) (View.readAt (Elt Ideal) arg4.view (Rect.unit (s := S256x512) ![0, 256] S256x128.size inb_S256x512_S256x128_0_256).toLoadRect (harg4.unread x2))) _ l j).trans
      (congrArg (fun s => lanes (Scalar.muli (BitVec.ofNat 32 (i 1).val) 256#32) s (View.readAt (Elt Ideal) arg4.view (Rect.unit (s := S256x512) ![0, 256] S256x128.size inb_S256x512_S256x128_0_256).toLoadRect (harg4.unread x2)) (ix2 l j)) (load_slope arg2 harg2 x0 ![2] inb_S8_S1_2 2 rfl (by decide)))
  | 3 =>
    refine ⟨(View.readAt (Elt Ideal) arg4.view (Rect.unit (s := S256x512) ![0, 384] S256x128.size inb_S256x512_S256x128_0_384).toLoadRect (harg4.unread x2)), fun r l => load_q arg4 harg4 x2 _ _ 384 rfl (by norm_num) r l, fun l j => ?_⟩
    refine (read_heads arg10 _ _ _ _ _ _ _ _ _ [] 3 l j).trans ?_
    exact (stored_apply (lanes (Scalar.muli (BitVec.ofNat 32 (i 1).val) 256#32) (View.readAt (Elt Ideal) arg2.view (Rect.unit (s := S8) ![3] S1.size inb_S8_S1_3).toLoadRect (harg2.unread x0) (Shape.Idx.first (s := S1) (by decide))) (View.readAt (Elt Ideal) arg4.view (Rect.unit (s := S256x512) ![0, 384] S256x128.size inb_S256x512_S256x128_0_384).toLoadRect (harg4.unread x2))) _ l j).trans
      (congrArg (fun s => lanes (Scalar.muli (BitVec.ofNat 32 (i 1).val) 256#32) s (View.readAt (Elt Ideal) arg4.view (Rect.unit (s := S256x512) ![0, 384] S256x128.size inb_S256x512_S256x128_0_384).toLoadRect (harg4.unread x2)) (ix2 l j)) (load_slope arg2 harg2 x0 ![3] inb_S8_S1_3 3 rfl (by decide)))

/-- A whole-buffer fill read back. -/
theorem read_fill {e : EltTy} {n p : ℕ} (a : Memref sig .tc .vmem ⟨3, ![4, n, p]⟩ e) (f : BufTy.Contents (Elt Ideal) a.view.ty) (inb)
    (w : (⟨3, ![4, n, p]⟩ : Shape).Idx → Elt Ideal e) (L : List (View.Piece (Elt Ideal) ⟨3, ![4, n, p]⟩ e)) (h : Fin 4) (d : Fin n) (j : Fin p) :
    a.view.read (Elt Ideal) (a.view.writes (Elt Ideal) f ((⟨Rect.unit (s := ⟨3, ![4, n, p]⟩) ![0, 0, 0] ![4, n, p] inb, w⟩ : View.Piece (Elt Ideal) ⟨3, ![4, n, p]⟩ e) :: L)) (ix3 h d j)
      = w (ix3 h d j) := by
  have hz : ∀ a : Fin 3, (ix3 h d j a : ℕ) = (![0, 0, 0] : Fin 3 → ℕ) a + (ix3 h d j a : ℕ) := fun a => by fin_cases a <;> simp
  rw [View.read_writes_cons_unit_of_mem _ _ _ _ _ _ (ix3 h d j) rfl hz]

/-- An earlier head's store does not reach a later head. -/
theorem read_skip {e : EltTy} {n p : ℕ} (a : Memref sig .tc .vmem ⟨3, ![4, n, p]⟩ e) (f : BufTy.Contents (Elt Ideal) a.view.ty) (off : Fin 3 → ℕ) (inb)
    (w : (⟨3, ![1, n, p]⟩ : Shape).Idx → Elt Ideal e) (L : List (View.Piece (Elt Ideal) ⟨3, ![4, n, p]⟩ e)) (h : Fin 4) (g : ℕ) (hg : g < h.val) (ho : off = ![g, 0, 0]) (d : Fin n) (j : Fin p) :
    a.view.read (Elt Ideal) (a.view.writes (Elt Ideal) f ((⟨Rect.unit (s := ⟨3, ![4, n, p]⟩) off ![1, n, p] inb, w⟩ : View.Piece (Elt Ideal) ⟨3, ![4, n, p]⟩ e) :: L)) (ix3 h d j)
      = a.view.read (Elt Ideal) (a.view.writes (Elt Ideal) f L) (ix3 h d j) :=
  View.read_writes_cons_unit_of_not_mem _ _ _ _ _ _ ho 0 (Or.inr (show g + 1 ≤ h.val from hg))

end Block

end DiffPrompt

end
-- ==== Proof.Diff.First.lean ====
/-
  The bounds and the sums one grid point holds after its first tile.
-/
module

public import proofs.«01_k».proof.Proof.Gen.KernelIdeal.Frame
public import proofs.«01_k».proof.Proof.Diff.Start

@[expose] public section

set_option maxRecDepth 16384

noncomputable section

namespace DiffPrompt

open Idealize.ShloMosaic Idealize.ShloMosaic.TcCoe
open Cert.KernelIdeal Cert.KernelIdeal.Gen

section Block

variable (c : Dev nD) (i : grid0.Coords) (arg2 : Memref sig .tc .smem S8 .f32) (harg2 : arg2.IsWhole) (arg3 : Memref sig .tc .vmem S4x64 .f32) (harg3 : arg3.IsWhole) (arg4 : Memref sig .tc .vmem S256x512 .f32) (harg4 : arg4.IsWhole) (arg5 : Memref sig .tc .vmem S1x4x4096x256 .bf16) (harg5 : arg5.IsWhole) (arg6 : Memref sig .tc .vmem S1x4x16x144x256 .bf16) (harg6 : arg6.IsWhole) (arg7 : Memref sig .tc .vmem S256x512 .f32) (harg7 : arg7.IsWhole) (arg8 : Memref sig .tc .vmem S1x128 .f32) (harg8 : arg8.IsWhole) (arg9 : Memref sig .tc .vmem S256x512 .bf16) (harg9 : arg9.IsWhole) (arg10 : Memref sig .tc .vmem S4x256x512 .bf16) (harg10 : arg10.IsWhole) (arg11 : Memref sig .tc .vmem S4x1x512 .f32) (harg11 : arg11.IsWhole) (arg12 : Memref sig .tc .vmem S4x144x512 .f32) (harg12 : arg12.IsWhole)
  (x0 : Vec Ideal S8 .f32) (x1 : Vec Ideal S4x64 .f32) (x2 : Vec Ideal S256x512 .f32) (x3 : Vec Ideal S1x4x4096x256 .bf16) (x4 : Vec Ideal S1x4x16x144x256 .bf16) (x5 : Vec Ideal S256x512 .f32) (x6 : Vec Ideal S1x128 .f32)

/-- The bounds and the sums after the first tile, at a head's column. -/
theorem first_rows (h : Fin 4) (j : Fin 512) (R : Finset (Fin 256)) (T : Finset ℕ) (y : ℕ → ℝ) (w : ℕ → ℕ → ℝ)
    (hs : ∀ r : Fin 256, sc x3 (arg10.view.read (Elt Ideal) (arg10.view.writes (Elt Ideal) arg10.view.junk (kernelRun0_A.sl.HS0_4 (F := Ideal) c i arg2 harg2 arg4 harg4 x0 x2))) (i 1) h j r = ((y (256 * (i 1).val + r.val) : ℝ) : EReal))
    (hB : ∀ r : Fin 256, x5 (ix2 r j) = if r ∈ R then 0 else ⊥) (r₀ : Fin 256) (hr : r₀ ∈ R)
    (hV : ∀ d, d ≤ 128 → ∀ r : Fin 256, x4 (ix5 0 h (i 1) (fd d) r) = ((w (256 * (i 1).val + r.val) d : ℝ) : EReal))
    (hT : ∀ f : ℕ → ℝ, ∑ k ∈ T, f k = ∑ r ∈ R, f (256 * (i 1).val + r.val)) :
    Row T y w (arg11.view.read (Elt Ideal) (arg11.view.writes (Elt Ideal) arg11.view.junk (kernelRun0_A.sl.HS1_5 (F := Ideal) c i arg2 harg2 arg4 harg4 arg5 harg5 arg7 harg7 arg10 arg11 x0 x2 x3 x5)) (ix3 h 0 j))
      (fun d => arg12.view.read (Elt Ideal) (arg12.view.writes (Elt Ideal) arg12.view.junk (kernelRun0_A.sl.HS2_5 (F := Ideal) c i arg2 harg2 arg4 harg4 arg5 harg5 arg6 harg6 arg7 harg7 arg10 arg11 arg12 x0 x2 x3 x4 x5)) (ix3 h (fd d) j)) := by
  have hB' : ∀ r : Fin 256, View.readAt (Elt Ideal) arg7.view (Rect.unit (s := S256x512) ![0, 0] S256x512.size inb_S256x512_S256x512_0_0).toLoadRect (harg7.unread x5) (ix2 r j)
      = if r ∈ R then 0 else ⊥ := by
    intro r
    rw [View.readAt_eq_ld, harg7.read_unread, ← hB r]
    refine View.ld_unit_apply_of _ _ _ _ _ _ fun a => ?_
    fin_cases a <;> simp
  have hK : ∀ (off : Fin 4 → ℕ) (inb) (ho : off = ![0, h.val, 256 * (i 1).val, 0]) (r l : Fin 256),
      View.readAt (Elt Ideal) arg5.view (Rect.unit (s := S1x4x4096x256) off S1x1x256x256.size inb).toLoadRect (harg5.unread x3) (ix4 0 0 r l)
        = x3 (ix4 0 h ⟨256 * (i 1).val + r.val, by have : (i 1).val < 16 := (i 1).isLt; omega⟩ l) := by
    intro off inb ho r l
    rw [load_key arg5 _ off inb h (i 1) ho, harg5.read_unread]
  have hW : ∀ (off : Fin 5 → ℕ) (inb) (ho : off = ![0, h.val, (i 1).val, 0, 0]) (d : ℕ) (hd : d ≤ 128) (r : Fin 256),
      View.readAt (Elt Ideal) arg6.view (Rect.unit (s := S1x4x16x144x256) off S1x1x1x144x256.size inb).toLoadRect (harg6.unread x4) (ix5 0 0 0 (fd d) r)
        = ((w (256 * (i 1).val + r.val) d : ℝ) : EReal) := by
    intro off inb ho d hd r
    rw [load_val arg6 _ off inb h (i 1) ho, harg6.read_unread, hV d hd r]
  match h, hs, hV, hK, hW with
  | 0, hs, hV, hK, hW =>
    refine Row.of_eq (read_heads arg11 _ _ _ _ _ _ _ _ _ _ 0 0 j) (fun d => read_heads arg12 _ _ _ _ _ _ _ _ _ _ 0 (fd d) j) ?_
    refine first_step (View.readAt (Elt Ideal) arg5.view (Rect.unit (s := S1x4x4096x256) (k0_off1 i) S1x1x256x256.size (k0_off1_inb i)).toLoadRect (harg5.unread x3))
      (arg10.view.readCov (kernelRun0_A.sl.HS0_4 (F := Ideal) c i arg2 harg2 arg4 harg4 x0 x2) (Rect.unit (s := S4x256x512) ![0, 0, 0] S1x256x512.size inb_S4x256x512_S1x256x512_0_0_0).toLoadRect)
      (View.readAt (Elt Ideal) arg7.view (Rect.unit (s := S256x512) ![0, 0] S256x512.size inb_S256x512_S256x512_0_0).toLoadRect (harg7.unread x5)) _ _
      (View.readAt (Elt Ideal) arg6.view (Rect.unit (s := S1x4x16x144x256) (k0_off5 i) S1x1x1x144x256.size (k0_off5_inb i)).toLoadRect (harg6.unread x4)) j ?_ ?_
      R (256 * (i 1).val) T y w ?_ hB' r₀ hr (fun d hd r => hW _ _ (k0_off5_eq i) d hd r) hT
    · exact (load_head arg11 _ _ _ 0 rfl 0 j).trans ((read_fill arg11 _ _ _ _ 0 0 j).trans lit_bot)
    · exact fun d => (load_head arg12 _ _ _ 0 rfl d j).trans ((read_fill arg12 _ _ _ _ 0 d j).trans lit_0)
    · intro r
      rw [← hs r]
      refine Finset.sum_congr rfl fun l _ => ?_
      rw [hK _ _ (k0_off1_eq i)]
      have e := load_head arg10 (arg10.view.writes (Elt Ideal) arg10.view.junk (kernelRun0_A.sl.HS0_4 (F := Ideal) c i arg2 harg2 arg4 harg4 x0 x2)) ![0, 0, 0] inb_S4x256x512_S1x256x512_0_0_0 0 rfl l j
      rw [← e]
      rfl
  | 1, hs, hV, hK, hW =>
    refine Row.of_eq (read_heads arg11 _ _ _ _ _ _ _ _ _ _ 1 0 j) (fun d => read_heads arg12 _ _ _ _ _ _ _ _ _ _ 1 (fd d) j) ?_
    refine first_step (View.readAt (Elt Ideal) arg5.view (Rect.unit (s := S1x4x4096x256) (k0_off2 i) S1x1x256x256.size (k0_off2_inb i)).toLoadRect (harg5.unread x3))
      (arg10.view.readCov (kernelRun0_A.sl.HS0_4 (F := Ideal) c i arg2 harg2 arg4 harg4 x0 x2) (Rect.unit (s := S4x256x512) ![1, 0, 0] S1x256x512.size inb_S4x256x512_S1x256x512_1_0_0).toLoadRect)
      (View.readAt (Elt Ideal) arg7.view (Rect.unit (s := S256x512) ![0, 0] S256x512.size inb_S256x512_S256x512_0_0).toLoadRect (harg7.unread x5)) _ _
      (View.readAt (Elt Ideal) arg6.view (Rect.unit (s := S1x4x16x144x256) (k0_off6 i) S1x1x1x144x256.size (k0_off6_inb i)).toLoadRect (harg6.unread x4)) j ?_ ?_
      R (256 * (i 1).val) T y w ?_ hB' r₀ hr (fun d hd r => hW _ _ (k0_off6_eq i) d hd r) hT
    · exact (load_head arg11 _ _ _ 1 rfl 0 j).trans ((read_skip arg11 _ _ _ _ _ 1 0 (by decide) rfl 0 j).trans ((read_fill arg11 _ _ _ _ 1 0 j).trans lit_bot))
    · exact fun d => (load_head arg12 _ _ _ 1 rfl d j).trans ((read_skip arg12 _ _ _ _ _ 1 0 (by decide) rfl d j).trans ((read_fill arg12 _ _ _ _ 1 d j).trans lit_0))
    · intro r
      rw [← hs r]
      refine Finset.sum_congr rfl fun l _ => ?_
      rw [hK _ _ (k0_off2_eq i)]
      have e := load_head arg10 (arg10.view.writes (Elt Ideal) arg10.view.junk (kernelRun0_A.sl.HS0_4 (F := Ideal) c i arg2 harg2 arg4 harg4 x0 x2)) ![1, 0, 0] inb_S4x256x512_S1x256x512_1_0_0 1 rfl l j
      rw [← e]
      rfl
  | 2, hs, hV, hK, hW =>
    refine Row.of_eq (read_heads arg11 _ _ _ _ _ _ _ _ _ _ 2 0 j) (fun d => read_heads arg12 _ _ _ _ _ _ _ _ _ _ 2 (fd d) j) ?_
    refine first_step (View.readAt (Elt Ideal) arg5.view (Rect.unit (s := S1x4x4096x256) (k0_off3 i) S1x1x256x256.size (k0_off3_inb i)).toLoadRect (harg5.unread x3))
      (arg10.view.readCov (kernelRun0_A.sl.HS0_4 (F := Ideal) c i arg2 harg2 arg4 harg4 x0 x2) (Rect.unit (s := S4x256x512) ![2, 0, 0] S1x256x512.size inb_S4x256x512_S1x256x512_2_0_0).toLoadRect)
      (View.readAt (Elt Ideal) arg7.view (Rect.unit (s := S256x512) ![0, 0] S256x512.size inb_S256x512_S256x512_0_0).toLoadRect (harg7.unread x5)) _ _
      (View.readAt (Elt Ideal) arg6.view (Rect.unit (s := S1x4x16x144x256) (k0_off7 i) S1x1x1x144x256.size (k0_off7_inb i)).toLoadRect (harg6.unread x4)) j ?_ ?_
      R (256 * (i 1).val) T y w ?_ hB' r₀ hr (fun d hd r => hW _ _ (k0_off7_eq i) d hd r) hT
    · exact (load_head arg11 _ _ _ 2 rfl 0 j).trans ((read_skip arg11 _ _ _ _ _ 2 1 (by decide) rfl 0 j).trans ((read_skip arg11 _ _ _ _ _ 2 0 (by decide) rfl 0 j).trans ((read_fill arg11 _ _ _ _ 2 0 j).trans lit_bot)))
    · exact fun d => (load_head arg12 _ _ _ 2 rfl d j).trans ((read_skip arg12 _ _ _ _ _ 2 1 (by decide) rfl d j).trans ((read_skip arg12 _ _ _ _ _ 2 0 (by decide) rfl d j).trans ((read_fill arg12 _ _ _ _ 2 d j).trans lit_0)))
    · intro r
      rw [← hs r]
      refine Finset.sum_congr rfl fun l _ => ?_
      rw [hK _ _ (k0_off3_eq i)]
      have e := load_head arg10 (arg10.view.writes (Elt Ideal) arg10.view.junk (kernelRun0_A.sl.HS0_4 (F := Ideal) c i arg2 harg2 arg4 harg4 x0 x2)) ![2, 0, 0] inb_S4x256x512_S1x256x512_2_0_0 2 rfl l j
      rw [← e]
      rfl
  | 3, hs, hV, hK, hW =>
    refine Row.of_eq (read_heads arg11 _ _ _ _ _ _ _ _ _ _ 3 0 j) (fun d => read_heads arg12 _ _ _ _ _ _ _ _ _ _ 3 (fd d) j) ?_
    refine first_step (View.readAt (Elt Ideal) arg5.view (Rect.unit (s := S1x4x4096x256) (k0_off4 i) S1x1x256x256.size (k0_off4_inb i)).toLoadRect (harg5.unread x3))
      (arg10.view.readCov (kernelRun0_A.sl.HS0_4 (F := Ideal) c i arg2 harg2 arg4 harg4 x0 x2) (Rect.unit (s := S4x256x512) ![3, 0, 0] S1x256x512.size inb_S4x256x512_S1x256x512_3_0_0).toLoadRect)
      (View.readAt (Elt Ideal) arg7.view (Rect.unit (s := S256x512) ![0, 0] S256x512.size inb_S256x512_S256x512_0_0).toLoadRect (harg7.unread x5)) _ _
      (View.readAt (Elt Ideal) arg6.view (Rect.unit (s := S1x4x16x144x256) (k0_off8 i) S1x1x1x144x256.size (k0_off8_inb i)).toLoadRect (harg6.unread x4)) j ?_ ?_
      R (256 * (i 1).val) T y w ?_ hB' r₀ hr (fun d hd r => hW _ _ (k0_off8_eq i) d hd r) hT
    · exact (load_head arg11 _ _ _ 3 rfl 0 j).trans ((read_skip arg11 _ _ _ _ _ 3 2 (by decide) rfl 0 j).trans ((read_skip arg11 _ _ _ _ _ 3 1 (by decide) rfl 0 j).trans ((read_skip arg11 _ _ _ _ _ 3 0 (by decide) rfl 0 j).trans ((read_fill arg11 _ _ _ _ 3 0 j).trans lit_bot))))
    · exact fun d => (load_head arg12 _ _ _ 3 rfl d j).trans ((read_skip arg12 _ _ _ _ _ 3 2 (by decide) rfl d j).trans ((read_skip arg12 _ _ _ _ _ 3 1 (by decide) rfl d j).trans ((read_skip arg12 _ _ _ _ _ 3 0 (by decide) rfl d j).trans ((read_fill arg12 _ _ _ _ 3 d j).trans lit_0))))
    · intro r
      rw [← hs r]
      refine Finset.sum_congr rfl fun l _ => ?_
      rw [hK _ _ (k0_off4_eq i)]
      have e := load_head arg10 (arg10.view.writes (Elt Ideal) arg10.view.junk (kernelRun0_A.sl.HS0_4 (F := Ideal) c i arg2 harg2 arg4 harg4 x0 x2)) ![3, 0, 0] inb_S4x256x512_S1x256x512_3_0_0 3 rfl l j
      rw [← e]
      rfl

end Block

end DiffPrompt

end
-- ==== Proof.Diff.Block.lean ====
/-
  The block one grid point of the kernel leaves.
-/
module

public import proofs.«01_k».proof.Proof.Gen.KernelIdeal.Frame
public import proofs.«01_k».proof.Proof.Diff.First

@[expose] public section

set_option maxRecDepth 16384

noncomputable section

namespace DiffPrompt

open Idealize.ShloMosaic Idealize.ShloMosaic.TcCoe
open Cert.KernelIdeal Cert.KernelIdeal.Gen

section Block

variable (c : Dev nD) (i : grid0.Coords) (arg2 : Memref sig .tc .smem S8 .f32) (harg2 : arg2.IsWhole) (arg3 : Memref sig .tc .vmem S4x64 .f32) (harg3 : arg3.IsWhole) (arg4 : Memref sig .tc .vmem S256x512 .f32) (harg4 : arg4.IsWhole) (arg5 : Memref sig .tc .vmem S1x4x4096x256 .bf16) (harg5 : arg5.IsWhole) (arg6 : Memref sig .tc .vmem S1x4x16x144x256 .bf16) (harg6 : arg6.IsWhole) (arg7 : Memref sig .tc .vmem S256x512 .f32) (harg7 : arg7.IsWhole) (arg8 : Memref sig .tc .vmem S1x128 .f32) (harg8 : arg8.IsWhole) (arg9 : Memref sig .tc .vmem S256x512 .bf16) (harg9 : arg9.IsWhole) (arg10 : Memref sig .tc .vmem S4x256x512 .bf16) (harg10 : arg10.IsWhole) (arg11 : Memref sig .tc .vmem S4x1x512 .f32) (harg11 : arg11.IsWhole) (arg12 : Memref sig .tc .vmem S4x144x512 .f32) (harg12 : arg12.IsWhole)
  (x0 : Vec Ideal S8 .f32) (x1 : Vec Ideal S4x64 .f32) (x2 : Vec Ideal S256x512 .f32) (x3 : Vec Ideal S1x4x4096x256 .bf16) (x4 : Vec Ideal S1x4x16x144x256 .bf16) (x5 : Vec Ideal S256x512 .f32) (x6 : Vec Ideal S1x128 .f32)

/-- The four stores of the output block, one a head, read back. -/
theorem read_out (v : View sig .tc .vmem S256x512 .bf16) (f : BufTy.Contents (Elt Ideal) v.ty) (i0 i1 i2 i3)
    (w0 w1 w2 w3 : S256x128.Idx → Elt Ideal .bf16) (h : Fin 4) (r : Fin 256) (d : Fin 128) :
    v.read (Elt Ideal) (v.writes (Elt Ideal) f
      [(⟨Rect.unit (s := S256x512) ![0, 384] ![256, 128] i3, w3⟩ : View.Piece (Elt Ideal) S256x512 .bf16), ⟨Rect.unit (s := S256x512) ![0, 256] ![256, 128] i2, w2⟩,
       ⟨Rect.unit (s := S256x512) ![0, 128] ![256, 128] i1, w1⟩, ⟨Rect.unit (s := S256x512) ![0, 0] ![256, 128] i0, w0⟩]) (ix2 r ⟨128 * h.val + d.val, by omega⟩)
      = (![w0, w1, w2, w3] : Fin 4 → _) h (ix2 r d) := by
  have hit : ∀ (g : Fin 4) (a : Fin 2), ((ix2 r (⟨128 * g.val + d.val, by omega⟩ : Fin 512) : S256x512.Idx) a : ℕ) = (![0, 128 * g.val] : Fin 2 → ℕ) a + ((ix2 r d : S256x128.Idx) a : ℕ) := by
    intro g a; fin_cases a <;> simp
  have hd := d.isLt
  match h with
  | 0 =>
    rw [View.read_writes_cons_unit_of_not_mem _ _ _ _ _ _ rfl 1 (Or.inl (show 128 * 0 + d.val < 384 by omega)),
      View.read_writes_cons_unit_of_not_mem _ _ _ _ _ _ rfl 1 (Or.inl (show 128 * 0 + d.val < 256 by omega)),
      View.read_writes_cons_unit_of_not_mem _ _ _ _ _ _ rfl 1 (Or.inl (show 128 * 0 + d.val < 128 by omega)),
      View.read_writes_cons_unit_of_mem _ _ _ _ _ _ (ix2 r d) rfl (hit 0)]
    rfl
  | 1 =>
    rw [View.read_writes_cons_unit_of_not_mem _ _ _ _ _ _ rfl 1 (Or.inl (show 128 * 1 + d.val < 384 by omega)),
      View.read_writes_cons_unit_of_not_mem _ _ _ _ _ _ rfl 1 (Or.inl (show 128 * 1 + d.val < 256 by omega)),
      View.read_writes_cons_unit_of_mem _ _ _ _ _ _ (ix2 r d) rfl (hit 1)]
    rfl
  | 2 =>
    rw [View.read_writes_cons_unit_of_not_mem _ _ _ _ _ _ rfl 1 (Or.inl (show 128 * 2 + d.val < 384 by omega)),
      View.read_writes_cons_unit_of_mem _ _ _ _ _ _ (ix2 r d) rfl (hit 2)]
    rfl
  | 3 =>
    rw [View.read_writes_cons_unit_of_mem _ _ _ _ _ _ (ix2 r d) rfl (hit 3)]
    rfl

/-- The score of a key `n` for the query `q` under the map `c`: the scaled product less the slope times the distance. -/
def xval (s : ℝ) (x k : ℕ → ℝ) (q n c : ℕ) : ℝ := (∑ d ∈ Finset.range 64, x (64 * c + d) * k (64 * c + d)) * (1 / 8) - s * ((q : ℝ) - (n : ℝ))

/-- The kernel's score in powers of two is that score up to a number that no key changes. -/
theorem yval_eq (s : ℝ) (x k : ℕ → ℝ) (q0 r n c : ℕ) :
    yval s q0 x k ((n / 64 : ℕ) : ℝ) ((n % 64 : ℕ) : ℝ) c * Real.log 2 = xval s x k (q0 + r) n c + s * r := by
  have h2 : Real.log 2 ≠ 0 := (Real.log_pos (by norm_num)).ne'
  have hn : (64 : ℝ) * ((n / 64 : ℕ) : ℝ) + ((n % 64 : ℕ) : ℝ) = n := by exact_mod_cast Nat.div_add_mod n 64
  have hsum : ∑ d ∈ Finset.range 64, k (64 * c + d) * (x (64 * c + d) * ((1 / 8) * (Real.log 2)⁻¹))
      = (∑ d ∈ Finset.range 64, x (64 * c + d) * k (64 * c + d)) * (1 / 8) * (Real.log 2)⁻¹ := by
    rw [Finset.sum_mul, Finset.sum_mul]
    exact Finset.sum_congr rfl fun d _ => by ring
  unfold yval xval
  rw [hsum, hn]
  push_cast
  field_simp
  ring

theorem q0_eq : ∀ a : Fin 16, Scalar.muli (BitVec.ofNat 32 a.val) 256#32 = BitVec.ofNat 32 (256 * a.val) := by decide +kernel

theorem trips_eq : ∀ i : grid0.Coords, (k0_t1_loop i).trips = (i 1).val := by decide +kernel
theorem trips2_eq : ∀ i : grid0.Coords, (k0_t2_loop i).trips = 0 := by decide +kernel

/-- A head's two maps of a query, the second times `λ` taken off the first. -/
abbrev target (lam : EReal) (s : ℝ) (x : ℕ → ℝ) (k : ℕ → ℕ → ℝ) (v : ℕ → ℕ → ℝ) (q : ℕ) (d : Fin 128) : EReal :=
  ((wmean (Finset.range (q + 1)) (fun n => xval s x (k n) q n 0) (fun n => v n d) : ℝ) : EReal)
    - lam * ((wmean (Finset.range (q + 1)) (fun n => xval s x (k n) q n 1) (fun n => v n d) : ℝ) : EReal)

/-- The block a grid point leaves: each head's normed difference of its two softmax-weighted means. -/
theorem block_value (zr : ℕ → ℕ → ℝ) (sl : ℕ → ℝ) (kr vr : ℕ → ℕ → ℕ → ℝ)
    (hz : ∀ (r : Fin 256) (l : Fin 512), x2 (ix2 r l) = ((zr r.val l.val : ℝ) : EReal))
    (hsl : ∀ h : Fin 8, h.val < 4 → x0 (ix1 h) = ((sl h.val : ℝ) : EReal))
    (hk : ∀ (h : Fin 4) (n : Fin 4096) (l : Fin 256), l.val < 128 → x3 (ix4 0 h n l) = ((kr h.val n.val l.val : ℝ) : EReal))
    (hka : ∀ (h : Fin 4) (n : Fin 4096), x3 (ix4 0 h n 128) = (((n.val / 64 : ℕ) : ℝ) : EReal))
    (hkb : ∀ (h : Fin 4) (n : Fin 4096), x3 (ix4 0 h n 129) = (((n.val % 64 : ℕ) : ℝ) : EReal))
    (hk1 : ∀ (h : Fin 4) (n : Fin 4096), x3 (ix4 0 h n 130) = ((1 : ℝ) : EReal))
    (hv : ∀ (h : Fin 4) (k : Fin 16) (d : Fin 144) (r : Fin 256), d.val < 128 → x4 (ix5 0 h k d r) = ((vr h.val (256 * k.val + r.val) d.val : ℝ) : EReal))
    (hv1 : ∀ (h : Fin 4) (k : Fin 16) (r : Fin 256), x4 (ix5 0 h k 128 r) = ((1 : ℝ) : EReal))
    (hmask : ∀ (r : Fin 256) (j : Fin 512), x5 (ix2 r j) = if r.val ≤ j.val % 256 then 0 else ⊥)
    (h : Fin 4) (r : Fin 256) (d : Fin 128) :
    out0_A_7 (F := Ideal) c i arg2 harg2 arg3 harg3 arg4 harg4 arg5 harg5 arg6 harg6 arg7 harg7 arg8 harg8 arg9 harg9 arg10 harg10 arg11 harg11 arg12 harg12 x0 x1 x2 x3 x4 x5 x6 (ix2 r ⟨128 * h.val + d.val, by omega⟩)
      = normed (target (lamOf x1 (ix2 0 0)) (sl h.val) (fun l => zr r.val (128 * h.val + l)) (kr h.val) (vr h.val) (256 * (i 1).val + r.val)) (x6 (ix2 0 d)) d := by
  have hi : (i 1).val < 16 := (i 1).isLt
  obtain ⟨x, hx, hl⟩ := q_lanes c i arg2 harg2 arg4 harg4 arg10 x0 x2 h
  set w : ℕ → ℕ → ℝ := fun n d => if d < 128 then vr h.val n d else 1 with hw
  set Y : Fin 512 → ℕ → ℝ := fun j n => yval (sl h.val) (256 * (i 1).val : ℕ) (fun l => zr (j.val % 256) (128 * h.val + l)) (kr h.val n) ((n / 64 : ℕ) : ℝ) ((n % 64 : ℕ) : ℝ) (j.val / 256) with hY
  have hsc : ∀ (j : Fin 512) (k : Fin 16) (r : Fin 256), sc x3 (arg10.view.read (Elt Ideal) (arg10.view.writes (Elt Ideal) arg10.view.junk (kernelRun0_A.sl.HS0_4 (F := Ideal) c i arg2 harg2 arg4 harg4 x0 x2))) k h j r
      = ((Y j (256 * k.val + r.val) : ℝ) : EReal) := by
    intro j k r
    show ∑ l : Fin 256, _ = _
    rw [Finset.sum_congr rfl fun l _ => by rw [hl l j], q0_eq ⟨(i 1).val, hi⟩, hsl _ h.isLt]
    exact score_real (256 * (i 1).val) (by omega) (sl h.val) x (fun r l => zr r (128 * h.val + l)) (fun r l => by rw [hx, hz]) _ (kr h.val (256 * k.val + r.val)) _ _
      (fun l hlt => hk h _ l hlt) (hka h _) (hkb h _) (hk1 h _) j
  have hvv : ∀ (k : Fin 16) (d : ℕ), d ≤ 128 → ∀ r : Fin 256, x4 (ix5 0 h k (fd d) r) = ((w (256 * k.val + r.val) d : ℝ) : EReal) := by
    intro k d hd r
    by_cases h128 : d < 128
    · have e : fd d = ⟨d, by omega⟩ := Fin.ext (Nat.mod_eq_of_lt (show d < 144 by omega))
      rw [e, hv h k _ r h128]
      simp only [hw, h128, if_true]
    · obtain rfl : d = 128 := by omega
      rw [show fd 128 = (128 : Fin 144) from rfl, hv1]
      simp [hw]
  have hrows : ∀ j : Fin 512, Row (Finset.Ico (256 * (i 1).val) (256 * (i 1).val + j.val % 256 + 1)) (Y j) w
      (arg11.view.read (Elt Ideal) (arg11.view.writes (Elt Ideal) arg11.view.junk (kernelRun0_A.sl.HS1_5 (F := Ideal) c i arg2 harg2 arg4 harg4 arg5 harg5 arg7 harg7 arg10 arg11 x0 x2 x3 x5)) (ix3 h 0 j))
      (fun d => arg12.view.read (Elt Ideal) (arg12.view.writes (Elt Ideal) arg12.view.junk (kernelRun0_A.sl.HS2_5 (F := Ideal) c i arg2 harg2 arg4 harg4 arg5 harg5 arg6 harg6 arg7 harg7 arg10 arg11 arg12 x0 x2 x3 x4 x5)) (ix3 h (fd d) j)) := by
    intro j
    have hj : j.val % 256 < 256 := Nat.mod_lt _ (by norm_num)
    refine first_rows c i arg2 harg2 arg4 harg4 arg5 harg5 arg6 harg6 arg7 harg7 arg10 arg11 arg12 x0 x2 x3 x4 x5 h j (Finset.univ.filter fun r : Fin 256 => r.val ≤ j.val % 256) _ (Y j) w
      (fun r => hsc j _ r) (fun r => by rw [hmask]; simp) ⟨0, by norm_num⟩ (by simp) (fun d hd r => hvv _ d hd r) (fun f => ?_)
    rw [sum_upto (n := 256) (j.val % 256) hj (fun r => f (256 * (i 1).val + r)), Finset.sum_Ico_eq_sum_range]
    congr 2
    omega
  have hwd : ∀ d : Fin 128, (fun n => w n d) = fun n => vr h.val n d := fun d => funext fun n => by simp [hw]
  have hq := fun (cc : ℕ) (j : Fin 512) (hj : j.val = 256 * cc + r.val) (v341 : FVec Ideal S1x512 .f32) (v348 : FVec Ideal S256x512 .bf16) (v381 : FVec Ideal S144x512 .f32) v401 X10' H11 H12 offa offz inba inbz hoa hoz (d : Fin 128) =>
    (end_quot c none i arg2 harg2 arg3 harg3 arg4 harg4 arg5 harg5 arg6 harg6 arg7 harg7 arg8 harg8 arg9 harg9 arg10 harg10 arg11 harg11 arg12 harg12 (BitVec.ofNat 32 (i 1).val) v341 v348 v381 (harg5.unread x3) (harg6.unread x4) (arg10.view.writes (Elt Ideal) arg10.view.junk (kernelRun0_A.sl.HS0_4 (F := Ideal) c i arg2 harg2 arg4 harg4 x0 x2)) v401
      (harg5.unread x3) (harg6.unread x4) X10' H11 H12 _ _ rfl (trips2_eq i) (kernelRun0_A.sl.HS1_5 (F := Ideal) c i arg2 harg2 arg4 harg4 arg5 harg5 arg7 harg7 arg10 arg11 x0 x2 x3 x5) (kernelRun0_A.sl.HS2_5 (F := Ideal) c i arg2 harg2 arg4 harg4 arg5 harg5 arg6 harg6 arg7 harg7 arg10 arg11 arg12 x0 x2 x3 x4 x5) h j (Y j)
      (fun n => xval (sl h.val) (fun l => zr r.val (128 * h.val + l)) (kr h.val n) (256 * (i 1).val + r.val) n cc) w
      _ ⟨256 * (i 1).val, Finset.mem_Ico.mpr ⟨le_rfl, by omega⟩⟩ (fun x hx => by rw [trips_eq]; exact (Finset.mem_Ico.mp hx).1) (hrows j)
      (fun k r => by rw [harg5.read_unread]; exact hsc j k r) (fun k d hd r => by rw [harg6.read_unread]; exact hvv k d hd r)
      (sl h.val * r.val) (fun n => by
        simp only [hY]
        rw [show j.val % 256 = r.val by omega, show j.val / 256 = cc by omega]
        exact yval_eq _ _ _ _ _ _ _) (fun n => by simp [hw]) offa offz inba inbz hoa hoz d).trans
      (show _ = ((wmean (Finset.range (256 * (i 1).val + r.val + 1)) (fun n => xval (sl h.val) (fun l => zr r.val (128 * h.val + l)) (kr h.val n) (256 * (i 1).val + r.val) n cc) (fun n => vr h.val n d) : ℝ) : EReal) by
        rw [trips_eq, hwd d, show j.val % 256 = r.val by omega]
        congr 2
        ext a
        simp only [Finset.mem_union, Finset.mem_Ico, Finset.mem_range]
        omega)
  have hX1 : View.readAt (Elt Ideal) arg3.view (Rect.unit (s := S4x64) ![0, 0] S4x64.size inb_S4x64_S4x64_0_0).toLoadRect (harg3.unread x1) = x1 := by
    rw [View.readAt_eq_ld, harg3.read_unread, View.ld_unit_zero (S := S4x64) (funext fun a => by fin_cases a <;> rfl)]
  have hX6 : View.readAt (Elt Ideal) arg8.view (Rect.unit (s := S1x128) ![0, 0] S1x128.size inb_S1x128_S1x128_0_0).toLoadRect (harg8.unread x6) = x6 := by
    rw [View.readAt_eq_ld, harg8.read_unread, View.ld_unit_zero (S := S1x128) (funext fun a => by fin_cases a <;> rfl)]
  have hlam := congrArg (fun X => lamOf X (ix2 0 0)) hX1
  have hnw := congrFun hX6 (ix2 0 d)
  unfold out0_A_7
  unfold kernelRun0_A
  dsimp only
  refine (read_out VO0_7 _ _ _ _ _ _ _ _ _ h r d).trans ?_
  clear hrows hsc hvv hwd hl hX1 hX6
  clear_value w Y
  match h, hq with
  | 0, hq =>
    refine (headOut_apply (lamOf (View.readAt (Elt Ideal) arg3.view (Rect.unit (s := S4x64) ![0, 0] S4x64.size inb_S4x64_S4x64_0_0).toLoadRect (harg3.unread x1))) _ _
      (View.readAt (Elt Ideal) arg8.view (Rect.unit (s := S1x128) ![0, 0] S1x128.size inb_S1x128_S1x128_0_0).toLoadRect (harg8.unread x6)) r d).trans ?_
    refine congrArg₂ (fun o w => normed o w d) (funext fun d' => ?_) hnw
    refine congrArg₂ (fun p q : EReal => p - q) ?_ (congrArg₂ (fun p q : EReal => p * q) hlam ?_)
    · exact hq 0 ⟨r.val, by omega⟩ (by simp) _ _ _ _ _ _ _ _ _ _ _ rfl rfl d'
    · exact hq 1 ⟨256 + r.val, by omega⟩ (by simp) _ _ _ _ _ _ _ _ _ _ _ rfl rfl d'
  | 1, hq =>
    refine (headOut_apply (lamOf (View.readAt (Elt Ideal) arg3.view (Rect.unit (s := S4x64) ![0, 0] S4x64.size inb_S4x64_S4x64_0_0).toLoadRect (harg3.unread x1))) _ _
      (View.readAt (Elt Ideal) arg8.view (Rect.unit (s := S1x128) ![0, 0] S1x128.size inb_S1x128_S1x128_0_0).toLoadRect (harg8.unread x6)) r d).trans ?_
    refine congrArg₂ (fun o w => normed o w d) (funext fun d' => ?_) hnw
    refine congrArg₂ (fun p q : EReal => p - q) ?_ (congrArg₂ (fun p q : EReal => p * q) hlam ?_)
    · exact hq 0 ⟨r.val, by omega⟩ (by simp) _ _ _ _ _ _ _ _ _ _ _ rfl rfl d'
    · exact hq 1 ⟨256 + r.val, by omega⟩ (by simp) _ _ _ _ _ _ _ _ _ _ _ rfl rfl d'
  | 2, hq =>
    refine (headOut_apply (lamOf (View.readAt (Elt Ideal) arg3.view (Rect.unit (s := S4x64) ![0, 0] S4x64.size inb_S4x64_S4x64_0_0).toLoadRect (harg3.unread x1))) _ _
      (View.readAt (Elt Ideal) arg8.view (Rect.unit (s := S1x128) ![0, 0] S1x128.size inb_S1x128_S1x128_0_0).toLoadRect (harg8.unread x6)) r d).trans ?_
    refine congrArg₂ (fun o w => normed o w d) (funext fun d' => ?_) hnw
    refine congrArg₂ (fun p q : EReal => p - q) ?_ (congrArg₂ (fun p q : EReal => p * q) hlam ?_)
    · exact hq 0 ⟨r.val, by omega⟩ (by simp) _ _ _ _ _ _ _ _ _ _ _ rfl rfl d'
    · exact hq 1 ⟨256 + r.val, by omega⟩ (by simp) _ _ _ _ _ _ _ _ _ _ _ rfl rfl d'
  | 3, hq =>
    refine (headOut_apply (lamOf (View.readAt (Elt Ideal) arg3.view (Rect.unit (s := S4x64) ![0, 0] S4x64.size inb_S4x64_S4x64_0_0).toLoadRect (harg3.unread x1))) _ _
      (View.readAt (Elt Ideal) arg8.view (Rect.unit (s := S1x128) ![0, 0] S1x128.size inb_S1x128_S1x128_0_0).toLoadRect (harg8.unread x6)) r d).trans ?_
    refine congrArg₂ (fun o w => normed o w d) (funext fun d' => ?_) hnw
    refine congrArg₂ (fun p q : EReal => p - q) ?_ (congrArg₂ (fun p q : EReal => p * q) hlam ?_)
    · exact hq 0 ⟨r.val, by omega⟩ (by simp) _ _ _ _ _ _ _ _ _ _ _ rfl rfl d'
    · exact hq 1 ⟨256 + r.val, by omega⟩ (by simp) _ _ _ _ _ _ _ _ _ _ _ rfl rfl d'

end Block

end DiffPrompt

end
-- ==== Proof.Diff.RefScore.lean ====
/-
  The scores of the reference, entry by entry.
-/
module

public import proofs.«01_k».proof.Proof.Gen.ReferenceIdeal.Read
public import proofs.«01_k».proof.Proof.Diff.Block

@[expose] public section

set_option maxRecDepth 16384

noncomputable section

namespace DiffPrompt

open Idealize.ShloMosaic Idealize.ShloMosaic.TcCoe
open Cert.ReferenceIdeal Cert.ReferenceIdeal.Gen Cert.ReferenceIdeal.Read

variable (x0 : (⟨S8192x5760, .f32⟩ : BufTy).Contents (Elt Ideal)) (x1 : (⟨S2x8x4096x256, .bf16⟩ : BufTy).Contents (Elt Ideal))
  (x2 : (⟨S2x8x16x144x256, .bf16⟩ : BufTy).Contents (Elt Ideal)) (x3 : (⟨S8, .f32⟩ : BufTy).Contents (Elt Ideal))
  (x4 : (⟨S4x64, .f32⟩ : BufTy).Contents (Elt Ideal)) (x5 : (⟨S1x128, .f32⟩ : BufTy).Contents (Elt Ideal))

/-- A query's entry is the entry of its row: the heads side by side, 128 numbers each, in two halves. -/
theorem ref_query (b : Fin 2) (q : Fin 4096) (h : Fin 4) (c : Fin 2) (d : Fin 64) :
    val_main_v1 x0 (ix5 b q h c d) = x0 (ix2 ⟨4096 * b.val + q.val, by omega⟩ ⟨128 * h.val + (64 * c.val + d.val), by omega⟩) := by
  rw [val_main_v1_apply, val_main_v0_apply]
  refine congrArg x0 (funext fun a => Fin.ext ?_)
  match a with
  | ⟨0, _⟩ => show _ = 4096 * b.val + q.val; simp; omega
  | ⟨1, _⟩ => show _ = 128 * h.val + (64 * c.val + d.val); simp; omega

/-- A key's entry. -/
theorem ref_key (b : Fin 2) (h : Fin 4) (n : Fin 4096) (c : Fin 2) (d : Fin 64) :
    val_main_v4 x1 (ix5 b h n c d) = x1 (ix4 b ⟨h.val, by omega⟩ n ⟨64 * c.val + d.val, by omega⟩) := by
  rw [val_main_v4_apply, val_main_v3_apply, val_main_v2_apply]
  refine congrArg x1 (funext fun a => Fin.ext ?_)
  match a with
  | ⟨0, _⟩ => show _ = b.val; simp; omega
  | ⟨1, _⟩ => show _ = h.val; simp; omega
  | ⟨2, _⟩ => show _ = n.val; simp; omega
  | ⟨3, _⟩ => show _ = 64 * c.val + d.val; simp; omega

/-- How far a key lies behind a query. -/
theorem ref_dist (q k : Fin 4096) : val_main_v18 (F := Ideal) (ix2 q k) = (((q.val : ℝ) - (k.val : ℝ) : ℝ) : EReal) := by
  rw [val_main_v18_apply, val_main_v17_apply, val_main_v15_apply, val_main_v16_apply, val_main_v13_apply, val_main_v14_apply, val_main_v9_apply,
    val_main_v9_apply]
  show ((((BitVec.ofNat 32 q.val - BitVec.ofNat 32 k.val : BitVec 32).toInt : ℝ)) : EReal) = _
  have e : (BitVec.ofNat 32 q.val - BitVec.ofNat 32 k.val : BitVec 32).toInt = (q.val : ℤ) - (k.val : ℤ) := by
    rw [BitVec.toInt_sub, BitVec.toInt_ofNat', BitVec.toInt_ofNat']
    have := q.isLt
    have := k.isLt
    simp only [Int.bmod]
    omega
  rw [e]
  push_cast
  rfl

/-- The keys a query sees are those not after it. -/
theorem ref_seen (b : Fin 2) (h : Fin 4) (c : Fin 2) (q k : Fin 4096) : val_main_call0_v1 (F := Ideal) (ix5 b h c q k) = BitVec.ofBool (decide (k.val ≤ q.val)) := by
  have e : idx_main_call0_v1 (ix5 b h c q k) = ix2 q k := funext fun a => match a with | ⟨0, _⟩ => rfl | ⟨1, _⟩ => rfl
  rw [val_main_call0_v1_apply, e, val_main_v28_apply, ref_dist, val_main_v27_apply, val_main_cst_0_apply]
  show BitVec.ofBool (decide (Ideal.ofBits .f32 0x00000000#32 ≤ (((q.val : ℝ) - (k.val : ℝ) : ℝ) : EReal))) = _
  rw [lit_0, ← EReal.coe_zero]
  congr 2
  rw [EReal.coe_le_coe_iff, sub_nonneg, Nat.cast_le]

/-- The distance term of a score. -/
theorem ref_slope (b : Fin 2) (h : Fin 4) (c : Fin 2) (q k : Fin 4096) : val_main_v25 x3 (ix5 b h c q k) = x3 (ix1 ⟨h.val, by omega⟩) * (((q.val : ℝ) - (k.val : ℝ) : ℝ) : EReal) := by
  have e : idx_main_v21 (idx_main_v23 (idx_main_v25 (ix5 b h c q k))) = ix2 q k := funext fun a => match a with | ⟨0, _⟩ => rfl | ⟨1, _⟩ => rfl
  have e' : idx_main_v19 (idx_main_v20 (idx_main_v22 (idx_main_v25 (ix5 b h c q k)))) = ix1 ⟨h.val, by omega⟩ := funext fun a => match a with | ⟨0, _⟩ => rfl
  rw [val_main_v25_apply, val_main_v24_apply, val_main_v22_apply, val_main_v20_apply, val_main_v19_apply, val_main_v23_apply, val_main_v21_apply, e, e',
    ref_dist]
  rfl

/-- The literal 1/8. -/
theorem lit_eighth : Ideal.ofBits .f32 0x3E000000#32 = ((1 / 8 : ℝ) : EReal) := by
  simp [Ideal.ofBits, Ideal.ieee, -EReal.coe_mul]
  norm_num

/-- The product of a query and a key, scaled. -/
theorem ref_product (b : Fin 2) (h : Fin 4) (c : Fin 2) (q k : Fin 4096) (x k' : ℕ → ℝ)
    (hx : ∀ l : Fin 128, x0 (ix2 ⟨4096 * b.val + q.val, by omega⟩ ⟨128 * h.val + l.val, by omega⟩) = (x l.val : EReal))
    (hk : ∀ l : Fin 128, x1 (ix4 b ⟨h.val, by omega⟩ k ⟨l.val, by omega⟩) = (k' l.val : EReal)) :
    val_main_v12 x0 x1 (ix5 b h c q k)
      = (((∑ d ∈ Finset.range 64, x (64 * c.val + d) * k' (64 * c.val + d)) * (1 / 8) : ℝ) : EReal) := by
  have el : ∀ d : Fin 64, lidx_main_v10 (ix5 b h c q k) d = ix5 b q h c d := fun d => funext fun a => match a with
    | ⟨0, _⟩ => rfl | ⟨1, _⟩ => rfl | ⟨2, _⟩ => rfl | ⟨3, _⟩ => rfl | ⟨4, _⟩ => rfl
  have er : ∀ d : Fin 64, ridx_main_v10 (ix5 b h c q k) d = ix5 b h k c d := fun d => funext fun a => match a with
    | ⟨0, _⟩ => rfl | ⟨1, _⟩ => rfl | ⟨2, _⟩ => rfl | ⟨3, _⟩ => rfl | ⟨4, _⟩ => rfl
  have es : val_main_v10 (F := Ideal) x0 x1 (ix5 b h c q k) = ((∑ d ∈ Finset.range 64, x (64 * c.val + d) * k' (64 * c.val + d) : ℝ) : EReal) := by
    rw [val_main_v10_apply, ← Fin.sum_univ_eq_sum_range (fun d => x (64 * c.val + d) * k' (64 * c.val + d)), ← coe_sum]
    refine Finset.sum_congr rfl fun d _ => ?_
    rw [el, er, ref_query, ref_key]
    have h1 := hx ⟨64 * c.val + d.val, by omega⟩
    have h2 := hk ⟨64 * c.val + d.val, by omega⟩
    rw [h1, h2, ← EReal.coe_mul]
  rw [val_main_v12_apply, es, val_main_v11_apply, val_main_cst_apply]
  show _ * Ideal.ofBits .f32 0x3E000000#32 = _
  rw [lit_eighth, ← EReal.coe_mul]

/-- A score: the scaled product less the slope times the distance, and nothing for a key after the query. -/
theorem ref_score (b : Fin 2) (h : Fin 4) (c : Fin 2) (q k : Fin 4096) (x k' : ℕ → ℝ) (s : ℝ)
    (hx : ∀ l : Fin 128, x0 (ix2 ⟨4096 * b.val + q.val, by omega⟩ ⟨128 * h.val + l.val, by omega⟩) = (x l.val : EReal))
    (hk : ∀ l : Fin 128, x1 (ix4 b ⟨h.val, by omega⟩ k ⟨l.val, by omega⟩) = (k' l.val : EReal))
    (hs : x3 (ix1 ⟨h.val, by omega⟩) = (s : EReal)) :
    val_main_v29 x0 x1 x3 (ix5 b h c q k) = if k.val ≤ q.val then ((xval s x k' q.val k.val c.val : ℝ) : EReal) else ⊥ := by
  rw [val_main_v29_apply, ref_seen, val_main_v26_apply, ref_product x0 x1 b h c q k x k' hx hk, ref_slope, hs, val_main_call0_v2_apply,
    val_main_call0_v0_apply, val_main_cst_1_apply]
  show (if BitVec.ofBool (decide (k.val ≤ q.val)) = 1#1 then (_ : EReal) - _ else Ideal.ofBits .f32 0xFF800000#32) = _
  rw [lit_bot]
  by_cases hle : k.val ≤ q.val
  · rw [if_pos (by rw [decide_eq_true hle]; rfl), if_pos hle, ← EReal.coe_mul, ← EReal.coe_sub]
    rfl
  · rw [if_neg (by rw [decide_eq_false hle]; decide), if_neg hle]

end DiffPrompt

end
-- ==== Proof.Diff.RefSoft.lean ====
/-
  The softmax of the reference, entry by entry.
-/
module

public import proofs.«01_k».proof.Proof.Gen.ReferenceIdeal.Read
public import proofs.«01_k».proof.Proof.Diff.Block

@[expose] public section

set_option maxRecDepth 16384

noncomputable section

namespace DiffPrompt

open Idealize.ShloMosaic Idealize.ShloMosaic.TcCoe
open Cert.ReferenceIdeal Cert.ReferenceIdeal.Gen Cert.ReferenceIdeal.Read

variable (x0 : (⟨S8192x5760, .f32⟩ : BufTy).Contents (Elt Ideal)) (x1 : (⟨S2x8x4096x256, .bf16⟩ : BufTy).Contents (Elt Ideal))
  (x2 : (⟨S2x8x16x144x256, .bf16⟩ : BufTy).Contents (Elt Ideal)) (x3 : (⟨S8, .f32⟩ : BufTy).Contents (Elt Ideal))
  (x4 : (⟨S4x64, .f32⟩ : BufTy).Contents (Elt Ideal)) (x5 : (⟨S1x128, .f32⟩ : BufTy).Contents (Elt Ideal))

/-- The bound of a row is its largest score. -/
theorem ref_bound (b : Fin 2) (h : Fin 4) (c : Fin 2) (q : Fin 4096) :
    val_main_v32 x0 x1 x3 (ix4 b h c q) = newMax ⊥ (fun k : Fin 4096 => val_main_v29 x0 x1 x3 (ix5 b h c q k)) := by
  have e : val_main_v30 (F := Ideal) x0 x1 x3 (ix4 b h c q)
      = (Finset.univ : Finset (Fin 4096)).fold max ⊥ (fun k : Fin 4096 => val_main_v29 x0 x1 x3 (ix5 b h c q k)) := by
    unfold val_main_v30
    generalize val_main_v29 (F := Ideal) x0 x1 x3 = y
    have hb : val_main_cst_2 (F := Ideal) (Shape.Idx.first h_S_) = ⊥ := lit_bot
    generalize val_main_cst_2 (F := Ideal) = z at hb ⊢
    pointwise
    rw [hb]
  rw [val_main_v32_apply, e, val_main_v31_apply, val_main_cst_3_apply]
  exact congrArg (fun z : EReal => max z _) lit_bot

/-- A weight is the exponential of the score less the bound. -/
theorem ref_weight (b : Fin 2) (h : Fin 4) (c : Fin 2) (q k : Fin 4096) : val_main_v36 x0 x1 x3 (ix5 b h c q k)
    = Ideal.exp (val_main_v29 x0 x1 x3 (ix5 b h c q k) - newMax ⊥ (fun k : Fin 4096 => val_main_v29 x0 x1 x3 (ix5 b h c q k))) := by
  have e : idx_main_v33 (idx_main_v34 (ix5 b h c q k)) = ix4 b h c q := funext fun a => match a with
    | ⟨0, _⟩ => rfl | ⟨1, _⟩ => rfl | ⟨2, _⟩ => rfl | ⟨3, _⟩ => rfl
  rw [val_main_v36_apply, val_main_v35_apply, val_main_v34_apply, val_main_v33_apply, e, ref_bound]
  rfl

/-- An entry of the map: the weight over the sum of the row's weights. -/
theorem ref_map (b : Fin 2) (h : Fin 4) (c : Fin 2) (q k : Fin 4096) : val_main_v40 x0 x1 x3 (ix5 b h c q k)
    = Ideal.div (val_main_v36 x0 x1 x3 (ix5 b h c q k)) (∑ j : Fin 4096, val_main_v36 x0 x1 x3 (ix5 b h c q j)) := by
  have e : idx_main_v38 (idx_main_v39 (ix5 b h c q k)) = ix4 b h c q := funext fun a => match a with
    | ⟨0, _⟩ => rfl | ⟨1, _⟩ => rfl | ⟨2, _⟩ => rfl | ⟨3, _⟩ => rfl
  have e' : ∀ j : Fin 4096, idx_main_v37 (ix4 b h c q) j = ix5 b h c q j := fun j => funext fun a => match a with
    | ⟨0, _⟩ => rfl | ⟨1, _⟩ => rfl | ⟨2, _⟩ => rfl | ⟨3, _⟩ => rfl | ⟨4, _⟩ => rfl
  have es : val_main_v37 (F := Ideal) x0 x1 x3 (ix4 b h c q) = ∑ j : Fin 4096, val_main_v36 x0 x1 x3 (ix5 b h c q j) := by
    rw [val_main_v37_apply, val_main_cst_4_apply]
    show Ideal.ofBits .f32 0x00000000#32 + _ = _
    rw [lit_0, zero_add]
    exact Finset.sum_congr rfl fun j _ => congrArg _ (e' j)
  rw [val_main_v40_apply, val_main_v39_apply, val_main_v38_apply, e, es]
  rfl

/-- An entry of the map in the reals, for real scores. -/
theorem ref_softmax (b : Fin 2) (h : Fin 4) (c : Fin 2) (q k : Fin 4096) (x : ℕ → ℝ)
    (hs : ∀ k : Fin 4096, val_main_v29 x0 x1 x3 (ix5 b h c q k) = if k.val ≤ q.val then ((x k.val : ℝ) : EReal) else ⊥) :
    val_main_v40 x0 x1 x3 (ix5 b h c q k)
      = ((if k.val ≤ q.val then Real.exp (x k.val) / ∑ j ∈ Finset.range (q.val + 1), Real.exp (x j) else 0 : ℝ) : EReal) := by
  have hm : Masked (Finset.univ.filter (fun k : Fin 4096 => k.val ≤ q.val)) (fun k => x k.val)
      (fun k : Fin 4096 => val_main_v29 x0 x1 x3 (ix5 b h c q k)) := fun k => by
    show val_main_v29 x0 x1 x3 (ix5 b h c q k) = _
    rw [hs k]
    simp only [Finset.mem_filter, Finset.mem_univ, true_and]
  have h0 := softmax_at hm (r₀ := q) (by simp) k
  rw [ref_map, ref_weight]
  simp only [ref_weight]
  refine h0.trans ?_
  rw [sum_upto q.val q.isLt (fun n => Real.exp (x n))]
  simp only [Finset.mem_filter, Finset.mem_univ, true_and]

end DiffPrompt

end
-- ==== Proof.Diff.RefMean.lean ====
/-
  The reference after the softmax: the difference of the two maps, its product with the values, and the norm.
-/
module

public import proofs.«01_k».proof.Proof.Gen.ReferenceIdeal.Read
public import proofs.«01_k».proof.Proof.Diff.Block

@[expose] public section

set_option maxRecDepth 16384

noncomputable section

namespace DiffPrompt

open Idealize.ShloMosaic Idealize.ShloMosaic.TcCoe
open Cert.ReferenceIdeal Cert.ReferenceIdeal.Gen Cert.ReferenceIdeal.Read

variable (x0 : (⟨S8192x5760, .f32⟩ : BufTy).Contents (Elt Ideal)) (x1 : (⟨S2x8x4096x256, .bf16⟩ : BufTy).Contents (Elt Ideal))
  (x2 : (⟨S2x8x16x144x256, .bf16⟩ : BufTy).Contents (Elt Ideal)) (x3 : (⟨S8, .f32⟩ : BufTy).Contents (Elt Ideal))
  (x4 : (⟨S4x64, .f32⟩ : BufTy).Contents (Elt Ideal)) (x5 : (⟨S1x128, .f32⟩ : BufTy).Contents (Elt Ideal))

/-- A value's entry. -/
theorem ref_value (b : Fin 2) (h : Fin 4) (n : Fin 4096) (d : Fin 128) :
    val_main_v8 x2 (ix4 b h n d) = x2 (ix5 b ⟨h.val, by omega⟩ ⟨n.val / 256, by omega⟩ ⟨d.val, by omega⟩ ⟨n.val % 256, by omega⟩) := by
  rw [val_main_v8_apply, val_main_v7_apply, val_main_v6_apply, val_main_v5_apply]
  refine congrArg x2 (funext fun a => Fin.ext ?_)
  match a with
  | ⟨0, _⟩ => show _ = b.val; simp; omega
  | ⟨1, _⟩ => show _ = h.val; simp; omega
  | ⟨2, _⟩ => show _ = n.val / 256; simp; omega
  | ⟨3, _⟩ => show _ = d.val; simp
  | ⟨4, _⟩ => show _ = n.val % 256; simp; omega

/-- The product of two of the four vectors, summed. -/
theorem ref_first (i : S_.Idx) : val_main_v46 (F := Ideal) x4 i = ∑ x : Fin 64, x4 (ix2 0 x) * x4 (ix2 1 x) := by
  unfold val_main_v46
  pointwise [val_main_v45, val_main_v44, val_main_v43, val_main_v42, val_main_v41, val_main_cst_5]

/-- … and of the two others. -/
theorem ref_second (i : S_.Idx) : val_main_v53 (F := Ideal) x4 i = ∑ x : Fin 64, x4 (ix2 2 x) * x4 (ix2 3 x) := by
  unfold val_main_v53
  pointwise [val_main_v52, val_main_v51, val_main_v50, val_main_v49, val_main_v48, val_main_cst_6]

/-- The number `λ`. -/
theorem ref_lam (i : S_.Idx) : val_main_v56 (F := Ideal) x4 i = lamOf x4 (ix2 0 0) := by
  rw [lamOf_apply, named_lam, val_main_v56_apply, val_main_v55_apply, val_main_v47_apply, val_main_v54_apply, ref_first, ref_second, val_main_cst_7_apply]
  show Ideal.exp _ - Ideal.exp _ + Ideal.ofBits .f32 0x3E4CCCCD#32 = _
  congr 1
  simp [Ideal.ofBits, Ideal.ieee, -EReal.coe_mul]
  norm_num

/-- The difference of the two maps. -/
theorem ref_diff (b : Fin 2) (h : Fin 4) (q k : Fin 4096) : val_main_v63 x0 x1 x3 x4 (ix4 b h q k)
    = val_main_v40 x0 x1 x3 (ix5 b h 0 q k) - lamOf x4 (ix2 0 0) * val_main_v40 x0 x1 x3 (ix5 b h 1 q k) := by
  have e : idx_main_v57 (idx_main_v58 (ix4 b h q k)) = ix5 b h 0 q k := funext fun a => Fin.ext (by
    match a with
    | ⟨0, _⟩ => show _ = b.val; simp; omega
    | ⟨1, _⟩ => show _ = h.val; simp; omega
    | ⟨2, _⟩ => rfl
    | ⟨3, _⟩ => show _ = q.val; simp; omega
    | ⟨4, _⟩ => show _ = k.val; simp)
  have e' : idx_main_v59 (idx_main_v60 (ix4 b h q k)) = ix5 b h 1 q k := funext fun a => Fin.ext (by
    match a with
    | ⟨0, _⟩ => show _ = b.val; simp; omega
    | ⟨1, _⟩ => show _ = h.val; simp; omega
    | ⟨2, _⟩ => rfl
    | ⟨3, _⟩ => show _ = q.val; simp; omega
    | ⟨4, _⟩ => show _ = k.val; simp)
  rw [val_main_v63_apply, val_main_v58_apply, val_main_v57_apply, e, val_main_v62_apply, val_main_v61_apply, ref_lam, val_main_v60_apply,
    val_main_v59_apply, e']
  rfl

/-- A mean's entry before the norm: the values weighed by the difference of the maps. -/
theorem ref_mean (b : Fin 2) (h : Fin 4) (q : Fin 4096) (d : Fin 128) : val_main_v65 x0 x1 x2 x3 x4 (ix4 b q h d)
    = ∑ k : Fin 4096, val_main_v8 x2 (ix4 b h k d) * val_main_v63 x0 x1 x3 x4 (ix4 b h q k) := by
  have e : idx_main_v65 (ix4 b q h d) = ix4 b h d q := funext fun a => match a with
    | ⟨0, _⟩ => rfl | ⟨1, _⟩ => rfl | ⟨2, _⟩ => rfl | ⟨3, _⟩ => rfl
  have el : ∀ k : Fin 4096, lidx_main_v64 (ix4 b h d q) k = ix4 b h k d := fun k => funext fun a => match a with
    | ⟨0, _⟩ => rfl | ⟨1, _⟩ => rfl | ⟨2, _⟩ => rfl | ⟨3, _⟩ => rfl
  have er : ∀ k : Fin 4096, ridx_main_v64 (ix4 b h d q) k = ix4 b h q k := fun k => funext fun a => match a with
    | ⟨0, _⟩ => rfl | ⟨1, _⟩ => rfl | ⟨2, _⟩ => rfl | ⟨3, _⟩ => rfl
  rw [val_main_v65_apply, e, val_main_v64_apply]
  exact Finset.sum_congr rfl fun k _ => by rw [el, er]

/-- An entry of the result is the norm of its row's means. -/
theorem ref_norm (b : Fin 2) (q : Fin 4096) (h : Fin 4) (d : Fin 128) :
    val_main_v83 x0 x1 x2 x3 x4 x5 (ix2 ⟨4096 * b.val + q.val, by omega⟩ ⟨128 * h.val + d.val, by omega⟩)
      = normed (fun d => val_main_v65 x0 x1 x2 x3 x4 (ix4 b q h d)) (x5 (ix2 0 d)) d := by
  have e : idx_main_v82 (ix2 ⟨4096 * b.val + q.val, by omega⟩ ⟨128 * h.val + d.val, by omega⟩) = ix4 b q h d := funext fun a => Fin.ext (by
    match a with
    | ⟨0, _⟩ => show _ = b.val; simp; omega
    | ⟨1, _⟩ => show _ = q.val; simp; omega
    | ⟨2, _⟩ => show _ = h.val; simp; omega
    | ⟨3, _⟩ => show _ = d.val; simp; omega)
  have ew : idx_main_v76 (idx_main_v77 (idx_main_v78 (ix4 b q h d))) = ix2 0 d := funext fun a => Fin.ext (by
    match a with
    | ⟨0, _⟩ => rfl
    | ⟨1, _⟩ => show _ = d.val; simp)
  have e3 : idx_main_v68 (idx_main_v74 (ix4 b q h d)) = ix3 b q h := funext fun a => match a with
    | ⟨0, _⟩ => rfl | ⟨1, _⟩ => rfl | ⟨2, _⟩ => rfl
  have es : val_main_v67 (F := Ideal) x0 x1 x2 x3 x4 (ix3 b q h)
      = ∑ x : Fin 128, val_main_v65 x0 x1 x2 x3 x4 (ix4 b q h x) * val_main_v65 x0 x1 x2 x3 x4 (ix4 b q h x) := by
    have e4 : ∀ x : Fin 128, idx_main_v67 (ix3 b q h) x = ix4 b q h x := fun x => funext fun a => match a with
      | ⟨0, _⟩ => rfl | ⟨1, _⟩ => rfl | ⟨2, _⟩ => rfl | ⟨3, _⟩ => rfl
    rw [val_main_v67_apply, val_main_cst_8_apply]
    show Ideal.ofBits .f32 0x00000000#32 + _ = _
    rw [lit_0, zero_add]
    exact Finset.sum_congr rfl fun x _ => by rw [e4, val_main_v66_apply]; rfl
  rw [val_main_v83_apply, val_main_v82_apply, e, val_main_v81_apply, val_main_v79_apply, val_main_v75_apply, val_main_v74_apply, val_main_v73_apply,
    val_main_v72_apply, val_main_v70_apply, val_main_v68_apply, e3, es, val_main_v69_apply, val_main_cst_9_apply, val_main_v71_apply,
    val_main_cst_10_apply, val_main_v78_apply, val_main_v77_apply, val_main_v76_apply, ew, val_main_v80_apply, val_main_cst_11_apply]
  rfl

end DiffPrompt

end
-- ==== Proof.Diff.RefValue.lean ====
/-
  An entry of the reference's result, for real arguments: the norm of the difference of two weighted means.
-/
module

public import proofs.«01_k».proof.Proof.Diff.RefScore
public import proofs.«01_k».proof.Proof.Diff.RefSoft
public import proofs.«01_k».proof.Proof.Diff.RefMean

@[expose] public section

set_option maxRecDepth 16384

noncomputable section

namespace DiffPrompt

open Idealize.ShloMosaic Idealize.ShloMosaic.TcCoe
open Cert.ReferenceIdeal Cert.ReferenceIdeal.Gen Cert.ReferenceIdeal.Read

variable (x0 : (⟨S8192x5760, .f32⟩ : BufTy).Contents (Elt Ideal)) (x1 : (⟨S2x8x4096x256, .bf16⟩ : BufTy).Contents (Elt Ideal))
  (x2 : (⟨S2x8x16x144x256, .bf16⟩ : BufTy).Contents (Elt Ideal)) (x3 : (⟨S8, .f32⟩ : BufTy).Contents (Elt Ideal))
  (x4 : (⟨S4x64, .f32⟩ : BufTy).Contents (Elt Ideal)) (x5 : (⟨S1x128, .f32⟩ : BufTy).Contents (Elt Ideal))

/-- `λ` is a real number when the four vectors are. -/
theorem lam_real (h : ∀ (a : Fin 4) (x : Fin 64), x4 (ix2 a x) = (((x4 (ix2 a x)).toReal : ℝ) : EReal)) :
    ∃ lam : ℝ, lamOf x4 (ix2 0 0) = (lam : EReal) := by
  refine ⟨Real.exp (∑ x : Fin 64, (x4 (ix2 0 x)).toReal * (x4 (ix2 1 x)).toReal)
    - Real.exp (∑ x : Fin 64, (x4 (ix2 2 x)).toReal * (x4 (ix2 3 x)).toReal) + 13421773 / 67108864, ?_⟩
  have e : ∀ a b : Fin 4, (∑ x : Fin 64, x4 (ix2 a x) * x4 (ix2 b x)) = ((∑ x : Fin 64, (x4 (ix2 a x)).toReal * (x4 (ix2 b x)).toReal : ℝ) : EReal) := by
    intro a b
    rw [← coe_sum]
    exact Finset.sum_congr rfl fun x _ => by rw [EReal.coe_mul, ← h a x, ← h b x]
  rw [lamOf_apply, named_lam, e, e, Ideal.exp_coe, Ideal.exp_coe, ← EReal.coe_sub, ← EReal.coe_add]

/-- A sum of values over every key, each weighed by its share of the keys up to `q`, is the weighted mean of those. -/
theorem share_sum (q : ℕ) (hq : q < 4096) (x v : ℕ → ℝ) :
    (∑ k : Fin 4096, v k.val * (if k.val ≤ q then Real.exp (x k.val) / ∑ j ∈ Finset.range (q + 1), Real.exp (x j) else 0))
      = wmean (Finset.range (q + 1)) x v := by
  have e : ∀ k : Fin 4096, v k.val * (if k.val ≤ q then Real.exp (x k.val) / ∑ j ∈ Finset.range (q + 1), Real.exp (x j) else 0)
      = if k.val ≤ q then (fun n => Real.exp (x n) * v n / ∑ j ∈ Finset.range (q + 1), Real.exp (x j)) k.val else 0 := by
    intro k
    split
    · ring
    · ring
  rw [Finset.sum_congr rfl fun k _ => e k, ← Finset.sum_filter,
    sum_upto q hq (fun n => Real.exp (x n) * v n / ∑ j ∈ Finset.range (q + 1), Real.exp (x j)), wmean, Finset.sum_div]

/-- An entry before the norm is the difference of the two halves' means. -/
theorem ref_target (b : Fin 2) (q : Fin 4096) (h : Fin 4) (d : Fin 128) (x : ℕ → ℝ) (k' v' : ℕ → ℕ → ℝ) (s : ℝ)
    (hx : ∀ l : Fin 128, x0 (ix2 ⟨4096 * b.val + q.val, by omega⟩ ⟨128 * h.val + l.val, by omega⟩) = (x l.val : EReal))
    (hk : ∀ (n : Fin 4096) (l : Fin 128), x1 (ix4 b ⟨h.val, by omega⟩ n ⟨l.val, by omega⟩) = (k' n.val l.val : EReal))
    (hv : ∀ (n : Fin 4096) (d : Fin 128),
      x2 (ix5 b ⟨h.val, by omega⟩ ⟨n.val / 256, by omega⟩ ⟨d.val, by omega⟩ ⟨n.val % 256, by omega⟩) = (v' n.val d.val : EReal))
    (hs : x3 (ix1 ⟨h.val, by omega⟩) = (s : EReal))
    (hl : ∀ (a : Fin 4) (x : Fin 64), x4 (ix2 a x) = (((x4 (ix2 a x)).toReal : ℝ) : EReal)) :
    val_main_v65 x0 x1 x2 x3 x4 (ix4 b q h d) = target (lamOf x4 (ix2 0 0)) s x k' v' q.val d := by
  obtain ⟨lam, hlam⟩ := lam_real x4 hl
  have hm : ∀ (c : Fin 2) (k : Fin 4096), val_main_v40 x0 x1 x3 (ix5 b h c q k) = ((if k.val ≤ q.val then
      Real.exp (xval s x (k' k.val) q.val k.val c.val) / ∑ j ∈ Finset.range (q.val + 1), Real.exp (xval s x (k' j) q.val j c.val) else 0 : ℝ) : EReal) :=
    fun c k => ref_softmax x0 x1 x3 b h c q k (fun n => xval s x (k' n) q.val n c.val)
      fun k => ref_score x0 x1 x3 b h c q k x (k' k.val) s hx (hk k) hs
  rw [ref_mean]
  show _ = ((wmean _ _ _ : ℝ) : EReal) - lamOf x4 (ix2 0 0) * ((wmean _ _ _ : ℝ) : EReal)
  rw [hlam, ← EReal.coe_mul, ← EReal.coe_sub, ← share_sum q.val q.isLt, ← share_sum q.val q.isLt, Finset.mul_sum, ← Finset.sum_sub_distrib, ← coe_sum]
  refine Finset.sum_congr rfl fun k _ => ?_
  rw [ref_diff, hm 0 k, hm 1 k, hlam, ref_value, hv k d, ← EReal.coe_mul, ← EReal.coe_sub, ← EReal.coe_mul]
  refine congrArg _ ?_
  rw [mul_sub, mul_left_comm]
  rfl

/-- An entry of the result. -/
theorem ref_result (b : Fin 2) (q : Fin 4096) (h : Fin 4) (d : Fin 128) (x : ℕ → ℝ) (k' v' : ℕ → ℕ → ℝ) (s : ℝ)
    (hx : ∀ l : Fin 128, x0 (ix2 ⟨4096 * b.val + q.val, by omega⟩ ⟨128 * h.val + l.val, by omega⟩) = (x l.val : EReal))
    (hk : ∀ (n : Fin 4096) (l : Fin 128), x1 (ix4 b ⟨h.val, by omega⟩ n ⟨l.val, by omega⟩) = (k' n.val l.val : EReal))
    (hv : ∀ (n : Fin 4096) (d : Fin 128),
      x2 (ix5 b ⟨h.val, by omega⟩ ⟨n.val / 256, by omega⟩ ⟨d.val, by omega⟩ ⟨n.val % 256, by omega⟩) = (v' n.val d.val : EReal))
    (hs : x3 (ix1 ⟨h.val, by omega⟩) = (s : EReal))
    (hl : ∀ (a : Fin 4) (x : Fin 64), x4 (ix2 a x) = (((x4 (ix2 a x)).toReal : ℝ) : EReal)) :
    val_main_v83 x0 x1 x2 x3 x4 x5 (ix2 ⟨4096 * b.val + q.val, by omega⟩ ⟨128 * h.val + d.val, by omega⟩)
      = normed (target (lamOf x4 (ix2 0 0)) s x k' v' q.val) (x5 (ix2 0 d)) d := by
  rw [ref_norm]
  exact congrArg (fun o => normed o (x5 (ix2 0 d)) d) (funext fun d => ref_target x0 x1 x2 x3 x4 b q h d x k' v' s hx hk hv hs hl)

end DiffPrompt

end
-- ==== Proof.Diff.Array.lean ====
/-
  What the kernel's blocks are blocks of: the arrays its windows read at a grid point, the mask the host builds, and where each output block lies.
-/
module

public import proofs.«01_k».proof.Proof.Gen.KernelIdeal.Value
public import proofs.«01_k».proof.Proof.Diff.Pieces

@[expose] public section

set_option maxRecDepth 16384

noncomputable section

namespace DiffPrompt

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The batch of a grid point. -/
abbrev bat (t : Fin cfg0.N) : Fin 2 := grid0.coords t 0

theorem tile_index : ∀ t : Fin cfg0.N, win0_2.index t 0 = t.val ∧ win0_2.index t 1 = 0 ∧ win0_7.index t 0 = t.val ∧ win0_7.index t 1 = 0
    ∧ t.val = 16 * (grid0.coords t 0).val + (grid0.coords t 1).val := by decide +kernel
theorem key_index : ∀ t : Fin cfg0.N, win0_3.index t 0 = (bat t).val ∧ win0_3.index t 1 = 0 ∧ win0_3.index t 2 = 0 ∧ win0_3.index t 3 = 0 := by decide +kernel
theorem val_index : ∀ t : Fin cfg0.N, win0_4.index t 0 = (bat t).val ∧ win0_4.index t 1 = 0 ∧ win0_4.index t 2 = 0 ∧ win0_4.index t 3 = 0 ∧ win0_4.index t 4 = 0 := by decide +kernel
theorem whole_index : ∀ t : Fin cfg0.N, win0_0.index t 0 = 0 ∧ win0_1.index t 0 = 0 ∧ win0_1.index t 1 = 0 ∧ win0_5.index t 0 = 0 ∧ win0_5.index t 1 = 0
    ∧ win0_6.index t 0 = 0 ∧ win0_6.index t 1 = 0 := by decide +kernel

theorem lt32 (t : Fin cfg0.N) : t.val < 32 := lt_of_lt_of_eq t.isLt N_0

/-- The slopes' window is the whole array. -/
theorem slope_block (t : Fin cfg0.N) (h : Fin 8) : (iblk m c 0 t : Vec Ideal S8 .f32) (ix1 h) = m ((c : Thread nD τ).loc main_arg3) (ix1 h) := by
  have hi := whole_index t
  unfold iblk
  rw [View.read_apply]
  show V m c main_arg3 _ = _
  rw [V_main_arg3]
  congr 1
  funext a
  apply Fin.ext
  match a with
  | ⟨0, _⟩ => show win0_0.index t 0 * 8 + 1 * h.val = h.val; rw [hi.1]; omega

/-- The λ vectors' window is the whole array. -/
theorem lam_block (t : Fin cfg0.N) : (iblk m c 1 t : Vec Ideal S4x64 .f32) = m ((c : Thread nD τ).loc main_arg4) := by
  have hi := whole_index t
  funext x
  unfold iblk
  rw [View.read_apply]
  show V m c main_arg4 _ = _
  rw [V_main_arg4]
  congr 1
  funext a
  apply Fin.ext
  match a with
  | ⟨0, _⟩ => show win0_1.index t 0 * 4 + 1 * (x 0).val = (x 0).val; rw [hi.2.1]; omega
  | ⟨1, _⟩ => show win0_1.index t 1 * 64 + 1 * (x 1).val = (x 1).val; rw [hi.2.2.1]; omega

/-- The norm's weight is the whole array. -/
theorem norm_block (t : Fin cfg0.N) (d : Fin 128) : (iblk m c 6 t : Vec Ideal S1x128 .f32) (ix2 0 d) = m ((c : Thread nD τ).loc main_arg5) (ix2 0 d) := by
  have hi := whole_index t
  unfold iblk
  rw [View.read_apply]
  show V m c main_arg5 _ = _
  rw [V_main_arg5]
  congr 1
  funext a
  apply Fin.ext
  match a with
  | ⟨0, _⟩ => show win0_6.index t 0 * 1 + 1 * 0 = 0; rw [hi.2.2.2.2.2.1]
  | ⟨1, _⟩ => show win0_6.index t 1 * 128 + 1 * d.val = d.val; rw [hi.2.2.2.2.2.2]; omega

/-- The keys' window is the batch's first four heads. -/
theorem key_block (t : Fin cfg0.N) (h : Fin 4) (n : Fin 4096) (l : Fin 256) :
    (iblk m c 3 t : Vec Ideal S1x4x4096x256 .bf16) (ix4 0 h n l) = m ((c : Thread nD τ).loc main_arg1) (ix4 (bat t) ⟨h.val, by omega⟩ n l) := by
  have hi := key_index t
  unfold iblk
  rw [View.read_apply]
  show V m c main_arg1 _ = _
  rw [V_main_arg1]
  congr 1
  funext a
  apply Fin.ext
  match a with
  | ⟨0, _⟩ => show win0_3.index t 0 * 1 + 1 * 0 = (bat t).val; rw [hi.1]; omega
  | ⟨1, _⟩ => show win0_3.index t 1 * 4 + 1 * h.val = h.val; rw [hi.2.1]; omega
  | ⟨2, _⟩ => show win0_3.index t 2 * 4096 + 1 * n.val = n.val; rw [hi.2.2.1]; omega
  | ⟨3, _⟩ => show win0_3.index t 3 * 256 + 1 * l.val = l.val; rw [hi.2.2.2]; omega

/-- The values' window is the batch's first four heads. -/
theorem val_block (t : Fin cfg0.N) (h : Fin 4) (k : Fin 16) (d : Fin 144) (r : Fin 256) :
    (iblk m c 4 t : Vec Ideal S1x4x16x144x256 .bf16) (ix5 0 h k d r) = m ((c : Thread nD τ).loc main_arg2) (ix5 (bat t) ⟨h.val, by omega⟩ k d r) := by
  have hi := val_index t
  unfold iblk
  rw [View.read_apply]
  show V m c main_arg2 _ = _
  rw [V_main_arg2]
  congr 1
  funext a
  apply Fin.ext
  match a with
  | ⟨0, _⟩ => show win0_4.index t 0 * 1 + 1 * 0 = (bat t).val; rw [hi.1]; omega
  | ⟨1, _⟩ => show win0_4.index t 1 * 4 + 1 * h.val = h.val; rw [hi.2.1]; omega
  | ⟨2, _⟩ => show win0_4.index t 2 * 16 + 1 * k.val = k.val; rw [hi.2.2.1]; omega
  | ⟨3, _⟩ => show win0_4.index t 3 * 144 + 1 * d.val = d.val; rw [hi.2.2.2.1]; omega
  | ⟨4, _⟩ => show win0_4.index t 4 * 256 + 1 * r.val = r.val; rw [hi.2.2.2.2]; omega

/-- The queries' window is the point's 256 rows, the first 512 lanes. -/
theorem query_block (t : Fin cfg0.N) (r : Fin 256) (l : Fin 512) :
    (X0_2 m c t : Vec Ideal S256x512 .f32) (ix2 r l) = m ((c : Thread nD τ).loc main_arg0) (ix2 ⟨256 * t.val + r.val, by have := lt32 t; omega⟩ ⟨l.val, by omega⟩) := by
  have hi := tile_index t
  unfold X0_2 Pipeline.Window.fill
  rw [dif_pos (moved0_2 t _)]
  unfold iblk
  rw [View.read_apply]
  show V m c main_arg0 _ = _
  rw [V_main_arg0]
  congr 1
  funext a
  apply Fin.ext
  match a with
  | ⟨0, _⟩ => show win0_2.index t 0 * 256 + 1 * r.val = 256 * t.val + r.val; rw [hi.1]; omega
  | ⟨1, _⟩ => show win0_2.index t 1 * 512 + 1 * l.val = l.val; rw [hi.2.1]; omega

/-- An entry of the result array is the entry of the block its grid point left. -/
theorem result_block (t : Fin cfg0.N) (r : Fin 256) (l : Fin 512) :
    ((dats m 0 c).arrAt 7 cfg0.N : Vec Ideal S8192x512 .bf16) (ix2 ⟨256 * t.val + r.val, by have := lt32 t; omega⟩ l) = (outsAt0 m c t : Vec Ideal S256x512 .bf16) (ix2 r l) := by
  have hi := tile_index t
  have h := congrFun (Value.blocks7 m c t (flush0_7 t)) (ix2 r l)
  rw [View.read_apply, Value.flushed7] at h
  refine Eq.trans ?_ (h.trans ?_)
  · show (dats m 0 c).arrAt 7 cfg0.N _ = (dats m 0 c).arrAt 7 cfg0.N _
    congr 1
    funext a
    apply Fin.ext
    match a with
    | ⟨0, _⟩ => show 256 * t.val + r.val = win0_7.index t 0 * 256 + 1 * r.val; rw [hi.2.2.1]; omega
    | ⟨1, _⟩ => show l.val = win0_7.index t 1 * 512 + 1 * l.val; rw [hi.2.2.2.1]; omega
  · rfl

end DiffPrompt

end
-- ==== Proof.Diff.Mask.lean ====
/-
  The mask of the diagonal tile, which the host builds: 0 where the key's row is at most the query's column, −∞ elsewhere.
-/
module

public import proofs.«01_k».proof.Proof.Diff.Array

@[expose] public section

set_option maxRecDepth 16384

noncomputable section

namespace DiffPrompt

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The divisor of the remainder. -/
def divisor : IVec S_ 32 := select (cmpi .eq (id (constantI S_ 32 256#32)) (constantI S_ 32 0#32)) (constantI S_ 32 1#32) (id (constantI S_ 32 256#32))

/-- The truncated remainder of the column. -/
def rem0 : IVec S256x512 32 := Host.remsi (iotaInDim S256x512 32 1) (broadcastInDim S256x512 ![] bcast_S_S256x512 divisor)

/-- The column's index within its map, as the host's remainder computes it. -/
def column : IVec S256x512 32 :=
  select (andi (cmpi .ne (cmpi .slt rem0 (broadcastInDim S256x512 ![] bcast_S_S256x512 (constantI S_ 32 0#32)))
      (broadcastInDim S256x512 ![] bcast_S_S256x512 (cmpi .slt divisor (constantI S_ 32 0#32))))
      (cmpi .ne rem0 (broadcastInDim S256x512 ![] bcast_S_S256x512 (constantI S_ 32 0#32))))
    (addi rem0 (broadcastInDim S256x512 ![] bcast_S_S256x512 divisor)) rem0

/-- The mask as the host's operations. -/
def maskArr : FVec Ideal S256x512 .f32 :=
  select (cmpi .sle (iotaInDim S256x512 32 0) column)
    (broadcastInDim S256x512 ![] bcast_S_S256x512 (constant S_ .f32 0x00000000#32))
    (broadcastInDim S256x512 ![] bcast_S_S256x512 (constant S_ .f32 0xFF800000#32))

theorem V_mask : V m c main_v5 = maskArr := by
  show StableHlo.after _ _ (Proc.devRef .tc main_v5) = _
  simp only [hostOps0, hostOps0_1, hostOps0_2, hostOps0_3, hostOps0_4, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

theorem column_apply (r : Fin 256) (j : Fin 512) : column (ix2 r j) = BitVec.ofNat 32 (j.val % 256) := by
  have h : ∀ j : Fin 512, column (ix2 0 j) = BitVec.ofNat 32 (j.val % 256) := by decide +kernel
  exact h j

theorem sle_ofNat : ∀ (a b : ℕ), a < 512 → b < 512 → ((BitVec.ofNat 32 a).sle (BitVec.ofNat 32 b) = decide (a ≤ b)) := by
  intro a b ha hb
  rw [BitVec.sle_eq_decide]
  congr 1
  have e : ∀ n : ℕ, n < 512 → (BitVec.ofNat 32 n).toInt = n := by
    intro n hn
    rw [BitVec.toInt_eq_toNat_of_lt (by rw [BitVec.toNat_ofNat]; omega), BitVec.toNat_ofNat, Nat.mod_eq_of_lt (by omega)]
  rw [e a ha, e b hb]
  exact propext Nat.cast_le

/-- The mask's entries. -/
theorem mask_apply (r : Fin 256) (j : Fin 512) : maskArr (ix2 r j) = if r.val ≤ j.val % 256 then 0 else ⊥ := by
  have hj : j.val % 256 < 256 := Nat.mod_lt _ (by norm_num)
  have e : maskArr (ix2 r j) = if (BitVec.ofNat 32 r.val).sle (column (ix2 r j)) = true then Ideal.ofBits .f32 0x00000000#32 else Ideal.ofBits .f32 0xFF800000#32 := by
    unfold maskArr
    pointwise
    show Scalar.select (BitVec.ofBool ((BitVec.ofNat 32 r.val).sle (column (ix2 r j)))) _ _ = _
    cases (BitVec.ofNat 32 r.val).sle (column (ix2 r j)) <;> rfl
  rw [e, column_apply, sle_ofNat _ _ (by omega) (by omega), lit_0, lit_bot]
  simp

/-- The mask's window is the whole array. -/
theorem mask_block (t : Fin cfg0.N) (r : Fin 256) (j : Fin 512) : (iblk m c 5 t : Vec Ideal S256x512 .f32) (ix2 r j) = ((if r.val ≤ j.val % 256 then 0 else ⊥ : EReal)) := by
  have hi := whole_index t
  rw [← mask_apply]
  unfold iblk
  rw [View.read_apply]
  show V m c main_v5 _ = _
  rw [V_mask]
  congr 1
  funext a
  apply Fin.ext
  match a with
  | ⟨0, _⟩ => show win0_5.index t 0 * 256 + 1 * r.val = r.val; rw [hi.2.2.2.1]; omega
  | ⟨1, _⟩ => show win0_5.index t 1 * 512 + 1 * j.val = j.val; rw [hi.2.2.2.2.1]; omega

end DiffPrompt

end
-- ==== Proof.Diff.Finite.lean ====
/-
  What the precondition says of the arguments, entry by entry.
-/
module

public import proofs.«01_k».proof.Pre_prepared
public import Idealize.ShloMosaic.Lib.ReduceAll
public import proofs.«01_k».proof.Proof.Diff.Pieces

@[expose] public section

set_option maxRecDepth 16384

noncomputable section

namespace DiffPrompt

open Idealize.ShloMosaic Idealize.ShloMosaic.TcCoe
open Cert.Pre_prepared

/-- Two bits whose conjunction is one are one. -/
theorem and_one : ∀ a b : BitVec 1, a &&& b = 1#1 → a = 1#1 ∧ b = 1#1 := by decide

theorem lit_inf : Ideal.ofBits .f32 0x7F800000#32 = ⊤ := by simp [Ideal.ofBits, Ideal.ieee]

/-- A number below infinity in absolute value is a real. -/
theorem real_of_lt {s : Shape} (x B : FVec Ideal s .f32) (i : s.Idx) (hB : B i = Ideal.ofBits .f32 0x7F800000#32)
    (h : cmpf .olt (Host.absf x) B i = 1#1) : x i = (((x i).toReal : ℝ) : EReal) := by
  have e : cmpf .olt (Host.absf x) B i = BitVec.ofBool (decide (max (x i) (-(x i)) < B i)) := rfl
  rw [e, hB, lit_inf] at h
  have h' : max (x i) (-(x i)) < ⊤ := by
    by_contra hn
    rw [decide_eq_false hn] at h
    exact absurd h (by decide)
  refine (EReal.coe_toReal ?_ ?_).symm
  · intro ht
    rw [ht] at h'
    simp at h'
  · intro hb
    rw [hb] at h'
    simp at h'

/-- Numbers compared equal are equal. -/
theorem eq_of_oeq {s : Shape} (x B : FVec Ideal s .f32) (i : s.Idx) (h : cmpf .oeq x B i = 1#1) : x i = B i := by
  have e : cmpf .oeq x B i = BitVec.ofBool (decide (x i = B i)) := rfl
  rw [e] at h
  by_contra hn
  rw [decide_eq_false hn] at h
  exact absurd h (by decide)

theorem pos_hi : ∀ n : Fin 4096, (IntOp.shrui ArithUnit.host (BitVec.ofNat 32 n.val) 6#32).toInt = ((n.val / 64 : ℕ) : ℤ) := by decide +kernel
theorem pos_lo : ∀ n : Fin 4096, (IntOp.andi (BitVec.ofNat 32 n.val) 63#32).toInt = ((n.val % 64 : ℕ) : ℤ) := by decide +kernel

variable [Facts] (a0 : FVec Ideal S8192x5760 .f32) (a1 : FVec Ideal S2x8x4096x256 .bf16) (a2 : FVec Ideal S2x8x16x144x256 .bf16) (a3 : FVec Ideal S8 .f32) (a4 : FVec Ideal S4x64 .f32) (a5 : FVec Ideal S1x128 .f32)

/-- The nine parts of the precondition. -/
theorem parts (h : fn (F := Ideal) a0 a1 a2 a3 a4 a5 = fun _ => 1#1) :
    (∀ (r : Fin 8192) (l : Fin 512), a0 (ix2 r ⟨l.val, by omega⟩) = (((a0 (ix2 r ⟨l.val, by omega⟩)).toReal : ℝ) : EReal))
    ∧ (∀ (b : Fin 2) (h : Fin 4) (n : Fin 4096) (l : Fin 128),
        a1 (ix4 b ⟨h.val, by omega⟩ n ⟨l.val, by omega⟩) = (((a1 (ix4 b ⟨h.val, by omega⟩ n ⟨l.val, by omega⟩)).toReal : ℝ) : EReal))
    ∧ (∀ (b : Fin 2) (h : Fin 4) (k : Fin 16) (d : Fin 128) (r : Fin 256),
        a2 (ix5 b ⟨h.val, by omega⟩ k ⟨d.val, by omega⟩ r) = (((a2 (ix5 b ⟨h.val, by omega⟩ k ⟨d.val, by omega⟩ r)).toReal : ℝ) : EReal))
    ∧ (∀ h : Fin 4, a3 (ix1 ⟨h.val, by omega⟩) = (((a3 (ix1 ⟨h.val, by omega⟩)).toReal : ℝ) : EReal))
    ∧ (∀ (a : Fin 4) (x : Fin 64), a4 (ix2 a x) = (((a4 (ix2 a x)).toReal : ℝ) : EReal))
    ∧ (∀ (b : Fin 2) (h : Fin 4) (n : Fin 4096), a1 (ix4 b ⟨h.val, by omega⟩ n 128) = (((n.val / 64 : ℕ) : ℝ) : EReal))
    ∧ (∀ (b : Fin 2) (h : Fin 4) (n : Fin 4096), a1 (ix4 b ⟨h.val, by omega⟩ n 129) = (((n.val % 64 : ℕ) : ℝ) : EReal))
    ∧ (∀ (b : Fin 2) (h : Fin 4) (n : Fin 4096), a1 (ix4 b ⟨h.val, by omega⟩ n 130) = ((1 : ℝ) : EReal))
    ∧ (∀ (b : Fin 2) (h : Fin 4) (k : Fin 16) (r : Fin 256), a2 (ix5 b ⟨h.val, by omega⟩ k 128 r) = ((1 : ℝ) : EReal)) := by
  have h0 := congrFun h (fun a => a.elim0)
  unfold fn fn_part1 fn_part2 fn_part3 at h0
  simp only [andi, IntOp.andi] at h0
  obtain ⟨h0, p8⟩ := and_one _ _ h0
  obtain ⟨h0, p7⟩ := and_one _ _ h0
  obtain ⟨h0, p6⟩ := and_one _ _ h0
  obtain ⟨h0, p5⟩ := and_one _ _ h0
  obtain ⟨h0, p4⟩ := and_one _ _ h0
  obtain ⟨h0, p3⟩ := and_one _ _ h0
  obtain ⟨h0, p2⟩ := and_one _ _ h0
  obtain ⟨p0, p1⟩ := and_one _ _ h0
  haveI : Subsingleton S_.Idx := ⟨fun a b => funext fun x => x.elim0⟩
  refine ⟨fun r l => ?_, fun b h n l => ?_, fun b h k d r => ?_, fun h => ?_, fun a x => ?_, fun b h n => ?_, fun b h n => ?_, fun b h n => ?_, fun b h k r => ?_⟩
  · have q := real_of_lt _ _ (ix2 r l) rfl (Host.reduce_andi_all _ _ _ _ _ p0 (ix2 r l))
    pointwise at q
    exact q
  · have q := real_of_lt _ _ (ix4 b h n l) rfl (Host.reduce_andi_all _ _ _ _ _ p1 (ix4 b h n l))
    pointwise at q
    exact q
  · have q := real_of_lt _ _ (ix5 b h k d r) rfl (Host.reduce_andi_all _ _ _ _ _ p2 (ix5 b h k d r))
    pointwise at q
    exact q
  · have q := real_of_lt _ _ (ix1 h) rfl (Host.reduce_andi_all _ _ _ _ _ p3 (ix1 h))
    pointwise at q
    exact q
  · exact real_of_lt _ _ (ix2 a x) rfl (Host.reduce_andi_all _ _ _ _ _ p4 (ix2 a x))
  · have q := eq_of_oeq _ _ (ix3 b h n) (Host.reduce_andi_all _ _ _ _ _ p5 (ix3 b h n))
    pointwise at q
    exact q.trans (show (((IntOp.shrui ArithUnit.host (BitVec.ofNat 32 n.val) 6#32).toInt : ℝ) : EReal) = _ by rw [pos_hi n, Int.cast_natCast])
  · have q := eq_of_oeq _ _ (ix3 b h n) (Host.reduce_andi_all _ _ _ _ _ p6 (ix3 b h n))
    pointwise at q
    exact q.trans (show (((IntOp.andi (BitVec.ofNat 32 n.val) 63#32).toInt : ℝ) : EReal) = _ by rw [pos_lo n, Int.cast_natCast])
  · have q := eq_of_oeq _ _ (ix3 b h n) (Host.reduce_andi_all _ _ _ _ _ p7 (ix3 b h n))
    pointwise at q
    exact q.trans EReal.coe_one.symm
  · have q := eq_of_oeq _ _ (ix4 b h k r) (Host.reduce_andi_all _ _ _ _ _ p8 (ix4 b h k r))
    pointwise at q
    exact q.trans EReal.coe_one.symm

end DiffPrompt

end
-- ==== Proof.Diff.Equation.lean ====
/-
  The two programs' results are equal, entry by entry, where the precondition holds.
-/
module

public import proofs.«01_k».proof.Proof.Diff.RefValue
public import proofs.«01_k».proof.Proof.Diff.Array
public import proofs.«01_k».proof.Proof.Diff.Mask
public import proofs.«01_k».proof.Proof.Diff.Finite

@[expose] public section

set_option maxRecDepth 16384

noncomputable section

namespace DiffPrompt

open Idealize.ShloMosaic Idealize.ShloMosaic.TcCoe Idealize.SL.Sem
open Cert.KernelIdeal Cert.KernelIdeal.Gen

/-- The queries as real numbers, by row and column. -/
def zAt (x : Vec Ideal S8192x5760 .f32) (r l : ℕ) : ℝ := (x (ix2 (Fin.ofNat 8192 r) (Fin.ofNat 5760 l))).toReal
/-- The slopes as real numbers. -/
def sAt (x : Vec Ideal S8 .f32) (h : ℕ) : ℝ := (x (ix1 (Fin.ofNat 8 h))).toReal
/-- The keys of a batch as real numbers, by head, position and lane. -/
def kAt (x : Vec Ideal S2x8x4096x256 .bf16) (b : Fin 2) (h n l : ℕ) : ℝ := (x (ix4 b (Fin.ofNat 8 h) (Fin.ofNat 4096 n) (Fin.ofNat 256 l))).toReal
/-- The values of a batch as real numbers, by head, position and lane. -/
def vAt (x : Vec Ideal S2x8x16x144x256 .bf16) (b : Fin 2) (h n d : ℕ) : ℝ :=
  (x (ix5 b (Fin.ofNat 8 h) (Fin.ofNat 16 (n / 256)) (Fin.ofNat 144 d) (Fin.ofNat 256 (n % 256)))).toReal

/-- A number below the bound is its own remainder. -/
theorem ofNat_val {n : ℕ} [NeZero n] (k : ℕ) (h : k < n) : Fin.ofNat n k = ⟨k, h⟩ := Fin.ext (Nat.mod_eq_of_lt h)

theorem zAt_eq (x : Vec Ideal S8192x5760 .f32) (r l : ℕ) (hr : r < 8192) (hl : l < 5760) : zAt x r l = (x (ix2 ⟨r, hr⟩ ⟨l, hl⟩)).toReal := by
  rw [zAt, ofNat_val r hr, ofNat_val l hl]
theorem sAt_eq (x : Vec Ideal S8 .f32) (h : ℕ) (hh : h < 8) : sAt x h = (x (ix1 ⟨h, hh⟩)).toReal := by
  rw [sAt, ofNat_val h hh]
theorem kAt_eq (x : Vec Ideal S2x8x4096x256 .bf16) (b : Fin 2) (h n l : ℕ) (hh : h < 8) (hn : n < 4096) (hl : l < 256) :
    kAt x b h n l = (x (ix4 b ⟨h, hh⟩ ⟨n, hn⟩ ⟨l, hl⟩)).toReal := by
  rw [kAt, ofNat_val h hh, ofNat_val n hn, ofNat_val l hl]
theorem vAt_eq (x : Vec Ideal S2x8x16x144x256 .bf16) (b : Fin 2) (h n d : ℕ) (hh : h < 8) (k r : ℕ) (hk : k < 16) (hr : r < 256) (hd : d < 144)
    (ek : n / 256 = k) (er : n % 256 = r) : vAt x b h n d = (x (ix5 b ⟨h, hh⟩ ⟨k, hk⟩ ⟨d, hd⟩ ⟨r, hr⟩)).toReal := by
  rw [vAt, ek, er, ofNat_val h hh, ofNat_val k hk, ofNat_val d hd, ofNat_val r hr]

variable [Cert.Pre_prepared.Facts] (m : (ℓ : Loc nD τ sig) → Buf (Elt Ideal) ℓ) (c : Dev nD)

/-- An entry of the kernel's result at a grid point's row. -/
theorem kernel_entry (h : Cert.Pre_prepared.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) = fun _ => 1#1)
    (t : Fin cfg0.N) (r : Fin 256) (h' : Fin 4) (d : Fin 128) :
    ((dats m 0 c).arrAt 7 cfg0.N : Vec Ideal S8192x512 .bf16) (ix2 ⟨256 * t.val + r.val, by have := lt32 t; omega⟩ ⟨128 * h'.val + d.val, by omega⟩)
      = Cert.ReferenceIdeal.Read.val_main_v83 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (ix2 ⟨256 * t.val + r.val, by have := lt32 t; omega⟩ ⟨128 * h'.val + d.val, by omega⟩) := by
  obtain ⟨hz, hk, hv, hs, hl, hka, hkb, hk1, hv1⟩ := parts _ _ _ _ _ _ h
  have ht := (tile_index t).2.2.2.2
  have hi0 : (grid0.coords t 0).val < 2 := (grid0.coords t 0).isLt
  have hi1 : (grid0.coords t 1).val < 16 := (grid0.coords t 1).isLt
  have hK := block_value c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) scM0_0 (Memref.isWhole_whole _) scM0_1 (Memref.isWhole_whole _) scM0_2
    (Memref.isWhole_whole _) (iblk m c 0 t) (iblk m c 1 t) (X0_2 m c t) (iblk m c 3 t) (iblk m c 4 t) (iblk m c 5 t) (iblk m c 6 t)
    (fun r l => zAt (m ((c : Thread nD τ).loc main_arg0)) (256 * t.val + r) l)
    (sAt (m ((c : Thread nD τ).loc main_arg3)))
    (kAt (m ((c : Thread nD τ).loc main_arg1)) (bat t))
    (vAt (m ((c : Thread nD τ).loc main_arg2)) (bat t))
    (fun r l => by
      rw [query_block, zAt_eq _ _ _ (by have := lt32 t; omega) (by omega)]
      exact hz _ l)
    (fun h hh => by
      rw [slope_block, sAt_eq _ _ h.isLt]
      exact hs ⟨h.val, hh⟩)
    (fun h n l hl => by
      rw [key_block, kAt_eq _ _ _ _ _ (by omega) n.isLt l.isLt]
      exact hk _ h n ⟨l.val, hl⟩)
    (fun h n => by rw [key_block]; exact hka _ h n)
    (fun h n => by rw [key_block]; exact hkb _ h n)
    (fun h n => by rw [key_block]; exact hk1 _ h n)
    (fun h k d r hd => by
      rw [val_block, vAt_eq _ _ _ _ _ (by omega) k.val r.val k.isLt r.isLt d.isLt (by omega) (by omega)]
      exact hv _ h k ⟨d.val, hd⟩ r)
    (fun h k r => by rw [val_block]; exact hv1 _ h k r)
    (fun r j => mask_block m c t r j)
    h' r d
  have hR := ref_result (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (bat t) ⟨256 * (grid0.coords t 1).val + r.val, by omega⟩ h' d
    (fun l => zAt (m ((c : Thread nD τ).loc main_arg0)) (256 * t.val + r.val) (128 * h'.val + l))
    (kAt (m ((c : Thread nD τ).loc main_arg1)) (bat t) h'.val)
    (vAt (m ((c : Thread nD τ).loc main_arg2)) (bat t) h'.val)
    (sAt (m ((c : Thread nD τ).loc main_arg3)) h'.val)
    (fun l => by
      have e : 256 * t.val + r.val = 4096 * (bat t).val + (256 * (grid0.coords t 1).val + r.val) := by
        show _ = 4096 * (grid0.coords t 0).val + _
        omega
      rw [e, zAt_eq _ _ _ (by show 4096 * (grid0.coords t 0).val + _ < 8192; omega) (by omega)]
      exact hz _ ⟨128 * h'.val + l.val, by omega⟩)
    (fun n l => by
      rw [kAt_eq _ _ _ _ _ (by omega) n.isLt (by omega)]
      exact hk _ h' n l)
    (fun n d => by
      rw [vAt_eq _ _ _ _ _ (by omega) (n.val / 256) (n.val % 256) (by omega) (by omega) (by omega) rfl rfl]
      exact hv _ h' ⟨n.val / 256, by omega⟩ d ⟨n.val % 256, by omega⟩)
    (by
      rw [sAt_eq _ _ (by omega)]
      exact hs h')
    hl
  have e : (⟨256 * t.val + r.val, by have := lt32 t; omega⟩ : Fin 8192)
      = ⟨4096 * (bat t).val + (256 * (grid0.coords t 1).val + r.val), by show 4096 * (grid0.coords t 0).val + _ < 8192; omega⟩ :=
    Fin.ext (by show 256 * t.val + r.val = 4096 * (grid0.coords t 0).val + (256 * (grid0.coords t 1).val + r.val); omega)
  rw [result_block]
  refine Eq.trans ?_ (hR.symm.trans (by rw [e]))
  refine Eq.trans hK ?_
  rw [lam_block, norm_block]

/-- The kernel's result array is the reference's. -/
theorem results_equal (h : Cert.Pre_prepared.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) = fun _ => 1#1) :
    ((dats m 0 c).arrAt 7 cfg0.N : Vec Ideal S8192x512 .bf16)
      = Cert.ReferenceIdeal.Read.val_main_v83 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  funext i
  have h0 : (i 0).val < 8192 := (i 0).isLt
  have h1 : (i 1).val < 512 := (i 1).isLt
  have e := kernel_entry m c h ⟨(i 0).val / 256, lt_of_lt_of_eq (show (i 0).val / 256 < 32 by omega) N_0.symm⟩ ⟨(i 0).val % 256, by omega⟩ ⟨(i 1).val / 128, by omega⟩ ⟨(i 1).val % 128, by omega⟩
  have ei : (ix2 ⟨256 * ((i 0).val / 256) + (i 0).val % 256, by omega⟩ ⟨128 * ((i 1).val / 128) + (i 1).val % 128, by omega⟩ : S8192x512.Idx) = i :=
    funext fun a => Fin.ext (by
      match a with
      | ⟨0, _⟩ => exact Nat.div_add_mod _ _
      | ⟨1, _⟩ => exact Nat.div_add_mod _ _)
  rw [← ei]
  exact e

end DiffPrompt

end
-- ==== Proof.Proj.Kernel.lean ====
/-
  The joint projection: the arrays that the host prepares, and what a block of the result holds.
-/
module

public import proofs.«01_k».proof.Proof.Gen.Kernel2Ideal.Value
public import Idealize.ShloMosaic.Lib.Pointwise
public import Idealize.ShloMosaic.Lib.Pipeline.ValueKit.Basic
public import Idealize.ShloMosaic.PureOps.Ideal.Laws

@[expose] public section

set_option maxRecDepth 16384

noncomputable section

namespace JointProj

open Idealize.ShloMosaic Idealize.ShloMosaic.TcCoe Idealize.SL.Sem
open Cert.Kernel2Ideal Cert.Kernel2Ideal.Gen

variable (m : (ℓ : Loc nD τ sig) → Buf (Elt Ideal) ℓ) (c : Dev nD)

/-- A row of the joined input: the prompt's rows first, then the sample's. -/
def xAt (x0 : Vec Ideal S2x4096x2048 .f32) (x1 : Vec Ideal S128x4x2048 .f32) (r : Fin 8704) (k : Fin 2048) : EReal :=
  if h : r.val < 8192 then x0 (ix3 ⟨r.val / 4096, by omega⟩ ⟨r.val % 4096, by omega⟩ k)
  else x1 (ix3 ⟨(r.val - 8192) / 4, by omega⟩ ⟨(r.val - 8192) % 4, by omega⟩ k)

/-- A column of the weights of a layer, zero beyond the last. -/
def wAt (w : Vec Ideal S2x2048x5648 .f32) (l : Fin 2) (k : Fin 2048) (j : Fin 5760) : EReal :=
  if h : j.val < 5648 then w (ix3 l k ⟨j.val, h⟩) else 0

/-- The rows that the kernel is given. -/
def rowsArr (x0 : Vec Ideal S2x4096x2048 .f32) (x1 : Vec Ideal S128x4x2048 .f32) : FVec Ideal S8704x2048 .bf16 :=
  truncf .bf16 (concatenate S8704x2048 0 [⟨S8192x2048, shapeCast S8192x2048 x0 shapeCasts_S2x4096x2048_S8192x2048⟩,
    ⟨S512x2048, shapeCast S512x2048 x1 shapeCasts_S128x4x2048_S512x2048⟩] concatenates_S8192x2048_S512x2048_S8704x2048_d0) bitsLt_bf16_f32

/-- The weights that the kernel is given. -/
def weightsArr (w : Vec Ideal S2x2048x5648 .f32) : FVec Ideal S2x2048x5760 .bf16 :=
  pad S2x2048x5760 ![0, 0, 0] ![0, 0, 112] ![0, 0, 0] (truncf .bf16 w bitsLt_bf16_f32 : FVec Ideal S2x2048x5648 .bf16)
    (sitofp .bf16 (constantI S_ 32 0#32) : FVec Ideal S_ .bf16) pads_S2x2048x5648_S2x2048x5760_000_000_01120 h_S_

/-- The rows' array holds what the host prepares: both groups' rows, joined. -/
theorem V_rows : V m c main_v5 = rowsArr (m ((c : Thread nD τ).loc main_arg0)) (m ((c : Thread nD τ).loc main_arg1)) := by
  show StableHlo.after _ _ (Proc.devRef .tc main_v5) = _
  simp only [hostOps0, hostOps0_1, hostOps0_2, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

/-- The weights' array holds what the host prepares: the weights, with 112 columns of zeros behind. -/
theorem V_weights : V m c main_v1 = weightsArr (m ((c : Thread nD τ).loc main_arg2)) := by
  show StableHlo.after _ _ (Proc.devRef .tc main_v1) = _
  simp only [hostOps0, hostOps0_1, hostOps0_2, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

/-- An entry of the joined rows. -/
theorem rows_apply (x0 : Vec Ideal S2x4096x2048 .f32) (x1 : Vec Ideal S128x4x2048 .f32) (r : Fin 8704) (k : Fin 2048) :
    rowsArr x0 x1 (ix2 r k) = xAt x0 x1 r k := by
  unfold rowsArr xAt
  pointwise

/-- The integer zero, cast to a float, is zero. -/
theorem zero_word (φ : FTy) : (FloatOps.sitofp φ (0#32) : Ideal φ) = (0 : EReal) := by
  show (((0#32 : BitVec 32).toInt : ℝ) : EReal) = 0
  simp

/-- An entry of the padded weights. -/
theorem weights_apply (w : Vec Ideal S2x2048x5648 .f32) (l : Fin 2) (k : Fin 2048) (j : Fin 5760) :
    weightsArr w (ix3 l k j) = wAt w l k j := by
  unfold weightsArr wAt
  pointwise
  rw [zero_word]

/-- An entry of the block that one step writes is a row times a column. -/
theorem pay_apply (x : Vec Ideal S512x2048 .bf16) (w : Vec Ideal S1x2048x1920 .bf16) (r : Fin 512) (j : Fin 1920) :
    k0_pay1 x w (ix2 r j) = ∑ k : Fin 2048, x (ix2 r k) * w (ix3 0 k j) := by
  unfold k0_pay1
  pointwise

/-- The grid has 51 steps. -/
theorem N51 (t : Fin cfg0.N) : t.val < 51 := lt_of_lt_of_eq t.isLt N_0

/-- Which block of each array a step works on: 17 blocks of rows for each of 3 blocks of columns. -/
theorem block_index : ∀ t : Fin cfg0.N, win0_0.index t 0 = t.val % 17 ∧ win0_0.index t 1 = 0
    ∧ win0_1.index t 0 = 0 ∧ win0_1.index t 1 = 0 ∧ win0_1.index t 2 = t.val / 17
    ∧ win0_2.index t 0 = t.val % 17 ∧ win0_2.index t 1 = t.val / 17 := by decide +kernel

/-- The rows' window at a step. -/
theorem rows_block (t : Fin cfg0.N) (r : Fin 512) (k : Fin 2048) : (iblk m c 0 t : Vec Ideal S512x2048 .bf16) (ix2 r k)
    = xAt (m ((c : Thread nD τ).loc main_arg0)) (m ((c : Thread nD τ).loc main_arg1)) ⟨512 * (t.val % 17) + r.val, by omega⟩ k := by
  have hi := block_index t
  rw [← rows_apply]
  unfold iblk
  rw [View.read_apply]
  show V m c main_v5 _ = _
  rw [V_rows]
  congr 1
  funext a
  apply Fin.ext
  match a with
  | ⟨0, _⟩ => show win0_0.index t 0 * 512 + 1 * r.val = 512 * (t.val % 17) + r.val; rw [hi.1]; omega
  | ⟨1, _⟩ => show win0_0.index t 1 * 2048 + 1 * k.val = k.val; rw [hi.2.1]; omega

/-- The weights' window at a step. -/
theorem weights_block (t : Fin cfg0.N) (k : Fin 2048) (j : Fin 1920) : (iblk m c 1 t : Vec Ideal S1x2048x1920 .bf16) (ix3 0 k j)
    = wAt (m ((c : Thread nD τ).loc main_arg2)) 0 k ⟨1920 * (t.val / 17) + j.val, by have := N51 t; omega⟩ := by
  have hi := block_index t
  rw [← weights_apply]
  unfold iblk
  rw [View.read_apply]
  show V m c main_v1 _ = _
  rw [V_weights]
  congr 1
  funext a
  apply Fin.ext
  match a with
  | ⟨0, _⟩ => show win0_1.index t 0 * 1 + 1 * 0 = 0; rw [hi.2.2.1]
  | ⟨1, _⟩ => show win0_1.index t 1 * 2048 + 1 * k.val = k.val; rw [hi.2.2.2.1]; omega
  | ⟨2, _⟩ => show win0_1.index t 2 * 1920 + 1 * j.val = 1920 * (t.val / 17) + j.val; rw [hi.2.2.2.2.1]; omega

/-- What a step writes, entry by entry. -/
theorem out_apply (x : Vec Ideal S512x2048 .bf16) (w : Vec Ideal S1x2048x1920 .bf16) (r : Fin 512) (j : Fin 1920) :
    out0_2 x w (ix2 r j) = ∑ k : Fin 2048, x (ix2 r k) * w (ix3 0 k j) := by
  rw [← pay_apply]
  unfold out0_2
  rw [View.canon_cons_unit_lit _ _ _ (by decide), View.ld_unit_lit _ _ (by decide), View.ld_unit_lit _ _ (by decide)]

/-- An entry of the result: a row of the joined input times a column of the weights of layer 0. -/
theorem result_entry (r : Fin 8704) (j : Fin 5760) : ((dats m 0 c).arrAt 2 cfg0.N : Vec Ideal S8704x5760 .f32) (ix2 r j)
    = ∑ k : Fin 2048, xAt (m ((c : Thread nD τ).loc main_arg0)) (m ((c : Thread nD τ).loc main_arg1)) r k * wAt (m ((c : Thread nD τ).loc main_arg2)) 0 k j := by
  obtain ⟨t, ht⟩ : ∃ t : Fin cfg0.N, t.val = 17 * (j.val / 1920) + r.val / 512 := ⟨⟨_, lt_of_lt_of_eq (by omega) N_0.symm⟩, rfl⟩
  have e1 : t.val % 17 = r.val / 512 := by omega
  have e2 : t.val / 17 = j.val / 1920 := by omega
  have hi := block_index t
  have h := congrFun (Value.blocks2 m c t (flush0_2 t)) (ix2 ⟨r.val % 512, by omega⟩ ⟨j.val % 1920, by omega⟩)
  rw [View.read_apply, Value.flushed2] at h
  refine Eq.trans ?_ (h.trans ?_)
  · show (dats m 0 c).arrAt 2 cfg0.N _ = (dats m 0 c).arrAt 2 cfg0.N _
    congr 1
    funext a
    apply Fin.ext
    match a with
    | ⟨0, _⟩ => show r.val = win0_2.index t 0 * 512 + 1 * (r.val % 512); rw [hi.2.2.2.2.2.1, e1]; omega
    | ⟨1, _⟩ => show j.val = win0_2.index t 1 * 1920 + 1 * (j.val % 1920); rw [hi.2.2.2.2.2.2, e2]; omega
  · show out0_2 _ _ (ix2 ⟨r.val % 512, _⟩ ⟨j.val % 1920, _⟩) = _
    rw [out_apply]
    refine Finset.sum_congr rfl fun k _ => ?_
    rw [rows_block, weights_block]
    have er : 512 * (t.val % 17) + r.val % 512 = r.val := by omega
    have ej : 1920 * (t.val / 17) + j.val % 1920 = j.val := by omega
    simp only [er, ej]

end JointProj

end
-- ==== Proof.Proj.Reference.lean ====
/-
  The joint projection's reference, read at an entry, and its equality with the kernel's result.
-/
module

public import proofs.«01_k».proof.Proof.Gen.Reference2Ideal.Read
public import proofs.«01_k».proof.Proof.Proj.Kernel

@[expose] public section

set_option maxRecDepth 16384

noncomputable section

namespace JointProj

open Idealize.ShloMosaic Idealize.ShloMosaic.TcCoe Idealize.SL.Sem
open Cert.Reference2Ideal Cert.Reference2Ideal.Gen Cert.Reference2Ideal.Read

variable (x0 : Vec Ideal S2x4096x2048 .f32) (x1 : Vec Ideal S128x4x2048 .f32) (w : Vec Ideal S2x2048x5648 .f32)

/-- The weights of layer 0, as the prompt's product reads them. -/
theorem ref_weights (k : Fin 2048) (j : Fin 5648) : val_main_v1 (F := Ideal) w (ix2 k j) = w (ix3 0 k j) := by
  rw [val_main_v1_apply, val_main_v0_apply]
  congr 1
  funext a
  apply Fin.ext
  match a with
  | ⟨0, _⟩ => rfl
  | ⟨1, _⟩ => show (k.val * 5648 + j.val) / 5648 % 2048 = k.val; omega
  | ⟨2, _⟩ => show (k.val * 5648 + j.val) % 5648 = j.val; omega

/-- The same weights, as the sample's product reads them. -/
theorem ref_weights' (k : Fin 2048) (j : Fin 5648) : val_main_v4 (F := Ideal) w (ix2 k j) = w (ix3 0 k j) := ref_weights w k j

/-- A row of the prompt's product. -/
theorem ref_prompt (r : Fin 8192) (j : Fin 5648) : val_main_v6 (F := Ideal) x0 w (ix2 r j)
    = ∑ k : Fin 2048, x0 (ix3 ⟨r.val / 4096, by omega⟩ ⟨r.val % 4096, by omega⟩ k) * w (ix3 0 k j) := by
  have e : idx_main_v6 (ix2 r j) = ix3 ⟨r.val / 4096, by omega⟩ ⟨r.val % 4096, by omega⟩ j := by
    funext a
    apply Fin.ext
    match a with
    | ⟨0, _⟩ => show (r.val * 5648 + j.val) / 23134208 = r.val / 4096; omega
    | ⟨1, _⟩ => show (r.val * 5648 + j.val) / 5648 % 4096 = r.val % 4096; omega
    | ⟨2, _⟩ => show (r.val * 5648 + j.val) % 5648 = j.val; omega
  rw [val_main_v6_apply, e, val_main_v2_apply]
  refine Finset.sum_congr rfl fun k _ => ?_
  refine congrArg₂ _ (congrArg x0 ?_) (Eq.trans (congrArg _ ?_) (ref_weights w k j))
  · exact funext fun a => match a with | ⟨0, _⟩ => rfl | ⟨1, _⟩ => rfl | ⟨2, _⟩ => rfl
  · exact funext fun a => match a with | ⟨0, _⟩ => rfl | ⟨1, _⟩ => rfl

/-- A row of the sample's product. -/
theorem ref_sample (r : Fin 512) (j : Fin 5648) : val_main_v7 (F := Ideal) x1 w (ix2 r j)
    = ∑ k : Fin 2048, x1 (ix3 ⟨r.val / 4, by omega⟩ ⟨r.val % 4, by omega⟩ k) * w (ix3 0 k j) := by
  have e : idx_main_v7 (ix2 r j) = ix3 ⟨r.val / 4, by omega⟩ ⟨r.val % 4, by omega⟩ j := by
    funext a
    apply Fin.ext
    match a with
    | ⟨0, _⟩ => show (r.val * 5648 + j.val) / 22592 = r.val / 4; omega
    | ⟨1, _⟩ => show (r.val * 5648 + j.val) / 5648 % 4 = r.val % 4; omega
    | ⟨2, _⟩ => show (r.val * 5648 + j.val) % 5648 = j.val; omega
  rw [val_main_v7_apply, e, val_main_v5_apply]
  refine Finset.sum_congr rfl fun k _ => ?_
  refine congrArg₂ _ (congrArg x1 ?_) (Eq.trans (congrArg _ ?_) (ref_weights' w k j))
  · exact funext fun a => match a with | ⟨0, _⟩ => rfl | ⟨1, _⟩ => rfl | ⟨2, _⟩ => rfl
  · exact funext fun a => match a with | ⟨0, _⟩ => rfl | ⟨1, _⟩ => rfl

/-- An entry of the reference: a row of the joined input times a column of the weights of layer 0, zero beyond the last column. -/
theorem ref_entry (r : Fin 8704) (j : Fin 5760) : val_main_v9 (F := Ideal) x0 x1 w (ix2 r j)
    = ∑ k : Fin 2048, xAt x0 x1 r k * wAt w 0 k j := by
  unfold val_main_v9 val_main_v8
  generalize hp : val_main_v6 (F := Ideal) x0 w = p
  generalize hs : val_main_v7 (F := Ideal) x1 w = s
  generalize hz : val_main_call0_v0 (F := Ideal) = z
  pointwise
  subst hp hs hz
  by_cases hj : j.val < 5648
  · by_cases hr : r.val < 8192
    · simp only [hj, hr, dif_pos, if_pos, ref_prompt, xAt, wAt]
    · simp only [hj, hr, dif_pos, if_neg, dif_neg, not_false_eq_true, ref_sample, xAt, wAt]
  · simp only [hj, dif_neg, if_neg, not_false_eq_true, wAt, mul_zero, Finset.sum_const_zero]
    rw [val_main_call0_v0_apply]
    exact zero_word .f32

/-- The two results are equal. -/
theorem results_equal (m : (ℓ : Loc Cert.Kernel2Ideal.nD Cert.Kernel2Ideal.τ Cert.Kernel2Ideal.sig) → Buf (Elt Ideal) ℓ) (c : Dev Cert.Kernel2Ideal.nD) :
    ((Cert.Kernel2Ideal.Gen.dats m 0 c).arrAt 2 Cert.Kernel2Ideal.cfg0.N : Vec Ideal S8704x5760 .f32)
      = val_main_v9 (F := Ideal) (m ((c : Thread Cert.Kernel2Ideal.nD Cert.Kernel2Ideal.τ).loc Cert.Kernel2Ideal.main_arg0))
          (m ((c : Thread Cert.Kernel2Ideal.nD Cert.Kernel2Ideal.τ).loc Cert.Kernel2Ideal.main_arg1))
          (m ((c : Thread Cert.Kernel2Ideal.nD Cert.Kernel2Ideal.τ).loc Cert.Kernel2Ideal.main_arg2)) := by
  funext i
  have e : i = ix2 (i 0) (i 1) := funext fun a => match a with | ⟨0, _⟩ => rfl | ⟨1, _⟩ => rfl
  rw [e]
  exact (result_entry m c (i 0) (i 1)).trans (ref_entry _ _ _ (i 0) (i 1)).symm

end JointProj

end
-- ==== Proof.Post.Stores.lean ====
/-
  The norm that closes a layer: what one step of the kernel writes into its block, from the windows it reads.
-/
module

public import proofs.«01_k».proof.Proof.Gen.Kernel3Ideal.Value
public import Idealize.ShloMosaic.Lib.Pointwise
public import Idealize.ShloMosaic.Lib.WholeRead
public import Idealize.ShloMosaic.Lib.Pipeline.ValueKit.Basic
public import Idealize.ShloMosaic.PureOps.Ideal.Laws

@[expose] public section

set_option maxRecDepth 16384

noncomputable section

namespace PostNorm

open Idealize.ShloMosaic Idealize.ShloMosaic.TcCoe Idealize.SL.Sem
open Cert.Kernel3Ideal Cert.Kernel3Ideal.Gen

variable (c : Dev nD)

/-- One column of 128 lanes of 128 rows: the window holds each row of 2048 as 16 consecutive rows of 128 lanes, so the
    `k`-th lanes of the rows from `o` on are every sixteenth row of the window. -/
def chunk (x : Vec Ideal S8192x128 .f32) (o k : ℕ) : Vec Ideal S128x128 .f32 :=
  fun i => x (ix2 ⟨(o + k + 16 * (i 0).val) % 8192, Nat.mod_lt _ (by decide)⟩ (i 1))

/-- 128 rows of 2048, joined from their sixteen columns of lanes. -/
def rowsOf (x : Vec Ideal S8192x128 .f32) (o : ℕ) : FVec Ideal S128x2048 .f32 :=
  concatenate S128x2048 1 (List.ofFn fun n : Fin 16 => (⟨S128x128, chunk x o n.val⟩ : (s : Shape) × (s.Idx → Elt Ideal .f32)))
    concatenates_S128x128_S128x128_S128x128_S128x128_S128x128_S128x128_S128x128_S128x128_S128x128_S128x128_S128x128_S128x128_S128x128_S128x128_S128x128_S128x128_S128x2048_d1

/-- 128 of a window's 512 rows of 2048 entries. -/
def part (x : Vec Ideal S512x2048 .bf16) (o : ℕ) : Vec Ideal S128x2048 .bf16 :=
  fun i => x (ix2 ⟨(o + (i 0).val) % 512, Nat.mod_lt _ (by decide)⟩ (i 1))

/-- 128 of a window's 512 rows of 256 entries. -/
def narrow (x : Vec Ideal S512x256 .bf16) (o : ℕ) : Vec Ideal S128x256 .bf16 :=
  fun i => x (ix2 ⟨(o + (i 0).val) % 512, Nat.mod_lt _ (by decide)⟩ (i 1))

/-- The rows before the norm. -/
def total (x0 : Vec Ideal S8192x128 .f32) (x1 : Vec Ideal S512x2048 .bf16) (x2 : Vec Ideal S8192x128 .f32) (x3 : Vec Ideal S512x256 .bf16)
    (x4 : Vec Ideal S1x2048x2048 .bf16) (x5 : Vec Ideal S1x256x2048 .bf16) (n : ℕ) : FVec Ideal S128x2048 .f32 :=
  addf (addf (mulf (broadcast S128x2048 (Scalar.ofBits (F := Ideal) .f32 0x3FB504F3#32)) (rowsOf x0 (2048 * n))) (rowsOf x2 (2048 * n)))
    (mulf (logistic (k0_pay1 (part x1 (128 * n)) x4)) (k0_pay2 (narrow x3 (128 * n)) x5))

/-- The rows that the step writes in its `n`-th store. -/
def written (x0 : Vec Ideal S8192x128 .f32) (x1 : Vec Ideal S512x2048 .bf16) (x2 : Vec Ideal S8192x128 .f32) (x3 : Vec Ideal S512x256 .bf16)
    (x4 : Vec Ideal S1x2048x2048 .bf16) (x5 : Vec Ideal S1x256x2048 .bf16) (x6 x7 : Vec Ideal S1x1x2048 .f32) (n : ℕ) : FVec Ideal S128x2048 .f32 :=
  k0_pay22 (total x0 x1 x2 x3 x4 x5 n) (k0_pay21 x6) x7

/-- A strided load through a slice of the window reads one column of lanes. -/
theorem strided_load (a : Memref sig .tc .vmem S8192x128 .f32) (ha : a.IsWhole) (x : Vec Ideal S8192x128 .f32) (o k : ℕ) (inb inb' h) :
    View.readAt (Elt Ideal) a.view ((Rect.unit (s := S8192x128) ![o, 0] ![2048, 128] inb).withinL
      (⟨![k, 0], ![128, 128], ![16, 1], inb'⟩ : LoadRect _) h) (ha.unread x) = chunk x o k := by
  funext i
  refine (congrFun (ha.read_unread x) _).trans ?_
  unfold chunk
  congr 1
  have hi : (i 0).val < 128 := (i 0).isLt
  have hk : o + k + 16 * 127 < 8192 := by
    have h0 : o + 2048 ≤ 8192 := inb 0
    rcases inb' 0 with h1 | h1
    · exact absurd (show (128 : ℕ) = 0 from h1) (by decide)
    · have h2 : k + 16 * 127 < 2048 := h1
      omega
  funext d
  apply Fin.ext
  match d with
  | ⟨0, _⟩ => show o + k + 16 * (i 0).val = (o + k + 16 * (i 0).val) % 8192; omega
  | ⟨1, _⟩ => show 0 + 0 + 1 * (i 1).val = (i 1).val; omega

/-- A load of 128 of the window's rows of 2048 entries. -/
theorem rows_load (a : Memref sig .tc .vmem S512x2048 .bf16) (ha : a.IsWhole) (x : Vec Ideal S512x2048 .bf16) (o : ℕ) (inb) :
    View.readAt (Elt Ideal) a.view (Rect.unit (s := S512x2048) ![o, 0] ![128, 2048] inb).toLoadRect (ha.unread x) = part x o := by
  funext i
  refine (congrFun (ha.read_unread x) _).trans ?_
  unfold part
  congr 1
  have hi : (i 0).val < 128 := (i 0).isLt
  have h0 : o + 128 ≤ 512 := inb 0
  funext d
  apply Fin.ext
  match d with
  | ⟨0, _⟩ => show o + 1 * (i 0).val = (o + (i 0).val) % 512; omega
  | ⟨1, _⟩ => show 0 + 1 * (i 1).val = (i 1).val; omega

/-- A load of 128 of the window's rows of 256 entries. -/
theorem narrow_load (a : Memref sig .tc .vmem S512x256 .bf16) (ha : a.IsWhole) (x : Vec Ideal S512x256 .bf16) (o : ℕ) (inb) :
    View.readAt (Elt Ideal) a.view (Rect.unit (s := S512x256) ![o, 0] ![128, 256] inb).toLoadRect (ha.unread x) = narrow x o := by
  funext i
  refine (congrFun (ha.read_unread x) _).trans ?_
  unfold narrow
  congr 1
  have hi : (i 0).val < 128 := (i 0).isLt
  have h0 : o + 128 ≤ 512 := inb 0
  funext d
  apply Fin.ext
  match d with
  | ⟨0, _⟩ => show o + 1 * (i 0).val = (o + (i 0).val) % 512; omega
  | ⟨1, _⟩ => show 0 + 1 * (i 1).val = (i 1).val; omega

/-- A load of all the weights of the gate. -/
theorem gate_load (a : Memref sig .tc .vmem S1x2048x2048 .bf16) (ha : a.IsWhole) (x : Vec Ideal S1x2048x2048 .bf16) (inb) :
    View.readAt (Elt Ideal) a.view (Rect.unit (s := S1x2048x2048) ![0, 0, 0] ![1, 2048, 2048] inb).toLoadRect (ha.unread x) = x := by
  funext i
  refine (congrFun (ha.read_unread x) _).trans ?_
  congr 1
  funext d
  apply Fin.ext
  match d with
  | ⟨0, _⟩ => show 0 + 1 * (i 0).val = (i 0).val; omega
  | ⟨1, _⟩ => show 0 + 1 * (i 1).val = (i 1).val; omega
  | ⟨2, _⟩ => show 0 + 1 * (i 2).val = (i 2).val; omega

/-- A load of all the weights of the projection. -/
theorem proj_load (a : Memref sig .tc .vmem S1x256x2048 .bf16) (ha : a.IsWhole) (x : Vec Ideal S1x256x2048 .bf16) (inb) :
    View.readAt (Elt Ideal) a.view (Rect.unit (s := S1x256x2048) ![0, 0, 0] ![1, 256, 2048] inb).toLoadRect (ha.unread x) = x := by
  funext i
  refine (congrFun (ha.read_unread x) _).trans ?_
  congr 1
  funext d
  apply Fin.ext
  match d with
  | ⟨0, _⟩ => show 0 + 1 * (i 0).val = (i 0).val; omega
  | ⟨1, _⟩ => show 0 + 1 * (i 1).val = (i 1).val; omega
  | ⟨2, _⟩ => show 0 + 1 * (i 2).val = (i 2).val; omega

/-- A load of a whole row of the norm. -/
theorem norm_load (a : Memref sig .tc .vmem S1x1x2048 .f32) (ha : a.IsWhole) (x : Vec Ideal S1x1x2048 .f32) (inb) :
    View.readAt (Elt Ideal) a.view (Rect.unit (s := S1x1x2048) ![0, 0, 0] ![1, 1, 2048] inb).toLoadRect (ha.unread x) = x := by
  funext i
  refine (congrFun (ha.read_unread x) _).trans ?_
  congr 1
  funext d
  apply Fin.ext
  match d with
  | ⟨0, _⟩ => show 0 + 1 * (i 0).val = (i 0).val; omega
  | ⟨1, _⟩ => show 0 + 1 * (i 1).val = (i 1).val; omega
  | ⟨2, _⟩ => show 0 + 1 * (i 2).val = (i 2).val; omega

/-- The rows of the first store. -/
theorem written_0 (x0 : Vec Ideal S8192x128 .f32) (x1 : Vec Ideal S512x2048 .bf16) (x2 : Vec Ideal S8192x128 .f32) (x3 : Vec Ideal S512x256 .bf16)
    (x4 : Vec Ideal S1x2048x2048 .bf16) (x5 : Vec Ideal S1x256x2048 .bf16) (x6 x7 : Vec Ideal S1x1x2048 .f32) :
    k0_pay16 (k0_pay12 (k0_pay10 (k0_pay1 (part x1 0) x4) (k0_pay2 (narrow x3 0) x5)) (k0_pay11 (chunk x0 0 0) (chunk x0 0 1) (chunk x0 0 2) (chunk x0
      0 3) (chunk x0 0 4) (chunk x0 0 5) (chunk x0 0 6) (chunk x0 0 7) (chunk x0 0 8) (chunk x0 0 9) (chunk x0 0 10) (chunk x0 0 11) (chunk x0 0 12)
      (chunk x0 0 13) (chunk x0 0 14) (chunk x0 0 15)) (chunk x2 0 0) (chunk x2 0 1) (chunk x2 0 2) (chunk x2 0 3) (chunk x2 0 4) (chunk x2 0 5)
      (chunk x2 0 6) (chunk x2 0 7) (chunk x2 0 8) (chunk x2 0 9) (chunk x2 0 10) (chunk x2 0 11) (chunk x2 0 12) (chunk x2 0 13) (chunk x2 0 14)
      (chunk x2 0 15)) (k0_pay13 x6) (k0_pay14 x7) (k0_pay15 (k0_pay10 (k0_pay1 (part x1 0) x4) (k0_pay2 (narrow x3 0) x5)) (k0_pay11 (chunk x0 0 0)
      (chunk x0 0 1) (chunk x0 0 2) (chunk x0 0 3) (chunk x0 0 4) (chunk x0 0 5) (chunk x0 0 6) (chunk x0 0 7) (chunk x0 0 8) (chunk x0 0 9) (chunk x0
      0 10) (chunk x0 0 11) (chunk x0 0 12) (chunk x0 0 13) (chunk x0 0 14) (chunk x0 0 15)) (chunk x2 0 0) (chunk x2 0 1) (chunk x2 0 2) (chunk x2 0
      3) (chunk x2 0 4) (chunk x2 0 5) (chunk x2 0 6) (chunk x2 0 7) (chunk x2 0 8) (chunk x2 0 9) (chunk x2 0 10) (chunk x2 0 11) (chunk x2 0 12)
      (chunk x2 0 13) (chunk x2 0 14) (chunk x2 0 15)) kernelRun0_A.sl.cst_163
    = written x0 x1 x2 x3 x4 x5 x6 x7 0 := rfl

/-- The rows of the second store. -/
theorem written_1 (x0 : Vec Ideal S8192x128 .f32) (x1 : Vec Ideal S512x2048 .bf16) (x2 : Vec Ideal S8192x128 .f32) (x3 : Vec Ideal S512x256 .bf16)
    (x4 : Vec Ideal S1x2048x2048 .bf16) (x5 : Vec Ideal S1x256x2048 .bf16) (x6 x7 : Vec Ideal S1x1x2048 .f32) :
    k0_pay22 (k0_pay20 (k0_pay18 (k0_pay3 (part x1 128) x4) (k0_pay4 (narrow x3 128) x5)) (k0_pay19 (chunk x0 2048 0) (chunk x0 2048 1) (chunk x0 2048
      2) (chunk x0 2048 3) (chunk x0 2048 4) (chunk x0 2048 5) (chunk x0 2048 6) (chunk x0 2048 7) (chunk x0 2048 8) (chunk x0 2048 9) (chunk x0 2048
      10) (chunk x0 2048 11) (chunk x0 2048 12) (chunk x0 2048 13) (chunk x0 2048 14) (chunk x0 2048 15)) (chunk x2 2048 0) (chunk x2 2048 1) (chunk
      x2 2048 2) (chunk x2 2048 3) (chunk x2 2048 4) (chunk x2 2048 5) (chunk x2 2048 6) (chunk x2 2048 7) (chunk x2 2048 8) (chunk x2 2048 9) (chunk
      x2 2048 10) (chunk x2 2048 11) (chunk x2 2048 12) (chunk x2 2048 13) (chunk x2 2048 14) (chunk x2 2048 15)) (k0_pay21 x6) x7
    = written x0 x1 x2 x3 x4 x5 x6 x7 1 := rfl

/-- The rows of the third store. -/
theorem written_2 (x0 : Vec Ideal S8192x128 .f32) (x1 : Vec Ideal S512x2048 .bf16) (x2 : Vec Ideal S8192x128 .f32) (x3 : Vec Ideal S512x256 .bf16)
    (x4 : Vec Ideal S1x2048x2048 .bf16) (x5 : Vec Ideal S1x256x2048 .bf16) (x6 x7 : Vec Ideal S1x1x2048 .f32) :
    k0_pay27 (k0_pay26 (k0_pay24 (k0_pay5 (part x1 256) x4) (k0_pay7 (k0_pay6 (narrow x3 256)) x5)) (k0_pay25 (chunk x0 4096 0) (chunk x0 4096 1)
      (chunk x0 4096 2) (chunk x0 4096 3) (chunk x0 4096 4) (chunk x0 4096 5) (chunk x0 4096 6) (chunk x0 4096 7) (chunk x0 4096 8) (chunk x0 4096 9)
      (chunk x0 4096 10) (chunk x0 4096 11) (chunk x0 4096 12) (chunk x0 4096 13) (chunk x0 4096 14) (chunk x0 4096 15)) (chunk x2 4096 0) (chunk x2
      4096 1) (chunk x2 4096 2) (chunk x2 4096 3) (chunk x2 4096 4) (chunk x2 4096 5) (chunk x2 4096 6) (chunk x2 4096 7) (chunk x2 4096 8) (chunk x2
      4096 9) (chunk x2 4096 10) (chunk x2 4096 11) (chunk x2 4096 12) (chunk x2 4096 13) (chunk x2 4096 14) (chunk x2 4096 15)) x6 x7
    = written x0 x1 x2 x3 x4 x5 x6 x7 2 := rfl

/-- The rows of the last store. -/
theorem written_3 (x0 : Vec Ideal S8192x128 .f32) (x1 : Vec Ideal S512x2048 .bf16) (x2 : Vec Ideal S8192x128 .f32) (x3 : Vec Ideal S512x256 .bf16)
    (x4 : Vec Ideal S1x2048x2048 .bf16) (x5 : Vec Ideal S1x256x2048 .bf16) (x6 x7 : Vec Ideal S1x1x2048 .f32) :
    k0_pay32 (k0_pay29 (k0_pay8 (part x1 384) x4) (k0_pay9 (narrow x3 384) x5)) (k0_pay31 (k0_pay30 (chunk x0 6144 0) (chunk x0 6144 1) (chunk x0 6144
      2) (chunk x0 6144 3) (chunk x0 6144 4) (chunk x0 6144 5) (chunk x0 6144 6) (chunk x0 6144 7) (chunk x0 6144 8) (chunk x0 6144 9) (chunk x0 6144
      10) (chunk x0 6144 11) (chunk x0 6144 12) (chunk x0 6144 13) (chunk x0 6144 14) (chunk x0 6144 15)) (chunk x2 6144 0) (chunk x2 6144 1) (chunk
      x2 6144 2) (chunk x2 6144 3) (chunk x2 6144 4) (chunk x2 6144 5) (chunk x2 6144 6) (chunk x2 6144 7) (chunk x2 6144 8) (chunk x2 6144 9) (chunk
      x2 6144 10) (chunk x2 6144 11) (chunk x2 6144 12) (chunk x2 6144 13) (chunk x2 6144 14) (chunk x2 6144 15)) x6 x7
    = written x0 x1 x2 x3 x4 x5 x6 x7 3 := rfl

set_option maxHeartbeats 800000 in
/-- The four stores of a step into its first output, last first. -/
theorem stores8 (i : grid0.Coords) (arg1 : Memref sig .tc .vmem S8192x128 .f32) (harg1 : arg1.IsWhole)
    (arg2 : Memref sig .tc .vmem S512x2048 .bf16) (harg2 : arg2.IsWhole)
    (arg3 : Memref sig .tc .vmem S8192x128 .f32) (harg3 : arg3.IsWhole)
    (arg4 : Memref sig .tc .vmem S512x256 .bf16) (harg4 : arg4.IsWhole)
    (arg5 : Memref sig .tc .vmem S1x2048x2048 .bf16) (harg5 : arg5.IsWhole)
    (arg6 : Memref sig .tc .vmem S1x256x2048 .bf16) (harg6 : arg6.IsWhole)
    (arg7 : Memref sig .tc .vmem S1x1x2048 .f32) (harg7 : arg7.IsWhole)
    (arg8 : Memref sig .tc .vmem S1x1x2048 .f32) (harg8 : arg8.IsWhole)
    (arg9 : Memref sig .tc .vmem S512x2048 .f32) (harg9 : arg9.IsWhole)
    (arg10 : Memref sig .tc .vmem S512x2048 .bf16) (harg10 : arg10.IsWhole)
    (x0 : Vec Ideal S8192x128 .f32) (x1 : Vec Ideal S512x2048 .bf16) (x2 : Vec Ideal S8192x128 .f32) (x3 : Vec Ideal S512x256 .bf16) (x4 : Vec Ideal S1x2048x2048 .bf16) (x5 : Vec Ideal S1x256x2048 .bf16) (x6 : Vec Ideal S1x1x2048 .f32) (x7 : Vec Ideal S1x1x2048 .f32) :
    (kernelRun0_A c i arg1 harg1 arg2 harg2 arg3 harg3 arg4 harg4 arg5 harg5 arg6 harg6 arg7 harg7 arg8 harg8 arg9 harg9 arg10 harg10 x0 x1 x2 x3 x4 x5 x6 x7).1
    = [⟨Rect.unit (s := S512x2048) ![384, 0] S128x2048.size inb_S512x2048_S128x2048_384_0, written x0 x1 x2 x3 x4 x5 x6 x7 3⟩,
       ⟨Rect.unit (s := S512x2048) ![256, 0] S128x2048.size inb_S512x2048_S128x2048_256_0, written x0 x1 x2 x3 x4 x5 x6 x7 2⟩,
       ⟨Rect.unit (s := S512x2048) ![128, 0] S128x2048.size inb_S512x2048_S128x2048_128_0, written x0 x1 x2 x3 x4 x5 x6 x7 1⟩,
       ⟨Rect.unit (s := S512x2048) ![0, 0] S128x2048.size inb_S512x2048_S128x2048_0_0, written x0 x1 x2 x3 x4 x5 x6 x7 0⟩] := by
  dsimp only [kernelRun0_A]
  simp only [
    kernelRun0_A.sl.r, kernelRun0_A.sl.r_1, kernelRun0_A.sl.r_2, kernelRun0_A.sl.r_3, kernelRun0_A.sl.r_4, kernelRun0_A.sl.r_5, kernelRun0_A.sl.r_6,
    kernelRun0_A.sl.r_7, kernelRun0_A.sl.r_8, kernelRun0_A.sl.r_9, kernelRun0_A.sl.r_10, kernelRun0_A.sl.r_11, kernelRun0_A.sl.r_12,
    kernelRun0_A.sl.r_13, kernelRun0_A.sl.r_14, kernelRun0_A.sl.r_15, kernelRun0_A.sl.r_16, kernelRun0_A.sl.r_17, kernelRun0_A.sl.r_18,
    kernelRun0_A.sl.r_19, kernelRun0_A.sl.r_20, kernelRun0_A.sl.r_21, kernelRun0_A.sl.r_22, kernelRun0_A.sl.r_23, kernelRun0_A.sl.r_24,
    kernelRun0_A.sl.r_25, kernelRun0_A.sl.r_26, kernelRun0_A.sl.r_27, kernelRun0_A.sl.v39, kernelRun0_A.sl.v41, kernelRun0_A.sl.v43,
    kernelRun0_A.sl.v45, kernelRun0_A.sl.v47, kernelRun0_A.sl.v49, kernelRun0_A.sl.v51, kernelRun0_A.sl.v53, kernelRun0_A.sl.v55, kernelRun0_A.sl.v57,
    kernelRun0_A.sl.v59, kernelRun0_A.sl.v61, kernelRun0_A.sl.v63, kernelRun0_A.sl.v65, kernelRun0_A.sl.v67, kernelRun0_A.sl.v69, kernelRun0_A.sl.v74,
    kernelRun0_A.sl.v76, kernelRun0_A.sl.v78, kernelRun0_A.sl.v80, kernelRun0_A.sl.v82, kernelRun0_A.sl.v84, kernelRun0_A.sl.v86, kernelRun0_A.sl.v88,
    kernelRun0_A.sl.v90, kernelRun0_A.sl.v92, kernelRun0_A.sl.v94, kernelRun0_A.sl.v96, kernelRun0_A.sl.v98, kernelRun0_A.sl.v100,
    kernelRun0_A.sl.v102, kernelRun0_A.sl.v104, kernelRun0_A.sl.v138, kernelRun0_A.sl.v140, kernelRun0_A.sl.v142, kernelRun0_A.sl.v144,
    kernelRun0_A.sl.v146, kernelRun0_A.sl.v148, kernelRun0_A.sl.v150, kernelRun0_A.sl.v152, kernelRun0_A.sl.v154, kernelRun0_A.sl.v156,
    kernelRun0_A.sl.v158, kernelRun0_A.sl.v160, kernelRun0_A.sl.v162, kernelRun0_A.sl.v164, kernelRun0_A.sl.v166, kernelRun0_A.sl.v168,
    kernelRun0_A.sl.v173, kernelRun0_A.sl.v175, kernelRun0_A.sl.v177, kernelRun0_A.sl.v179, kernelRun0_A.sl.v181, kernelRun0_A.sl.v183,
    kernelRun0_A.sl.v185, kernelRun0_A.sl.v187, kernelRun0_A.sl.v189, kernelRun0_A.sl.v191, kernelRun0_A.sl.v193, kernelRun0_A.sl.v195,
    kernelRun0_A.sl.v197, kernelRun0_A.sl.v199, kernelRun0_A.sl.v201, kernelRun0_A.sl.v203, kernelRun0_A.sl.v237, kernelRun0_A.sl.v239,
    kernelRun0_A.sl.v241, kernelRun0_A.sl.v243, kernelRun0_A.sl.v245, kernelRun0_A.sl.v247, kernelRun0_A.sl.v249, kernelRun0_A.sl.v251,
    kernelRun0_A.sl.v253, kernelRun0_A.sl.v255, kernelRun0_A.sl.v257, kernelRun0_A.sl.v259, kernelRun0_A.sl.v261, kernelRun0_A.sl.v263,
    kernelRun0_A.sl.v265, kernelRun0_A.sl.v267, kernelRun0_A.sl.v272, kernelRun0_A.sl.v274, kernelRun0_A.sl.v276, kernelRun0_A.sl.v278,
    kernelRun0_A.sl.v280, kernelRun0_A.sl.v282, kernelRun0_A.sl.v284, kernelRun0_A.sl.v286, kernelRun0_A.sl.v288, kernelRun0_A.sl.v290,
    kernelRun0_A.sl.v292, kernelRun0_A.sl.v294, kernelRun0_A.sl.v296, kernelRun0_A.sl.v298, kernelRun0_A.sl.v300, kernelRun0_A.sl.v302,
    kernelRun0_A.sl.v336, kernelRun0_A.sl.v338, kernelRun0_A.sl.v340, kernelRun0_A.sl.v342, kernelRun0_A.sl.v344, kernelRun0_A.sl.v346,
    kernelRun0_A.sl.v348, kernelRun0_A.sl.v350, kernelRun0_A.sl.v352, kernelRun0_A.sl.v354, kernelRun0_A.sl.v356, kernelRun0_A.sl.v358,
    kernelRun0_A.sl.v360, kernelRun0_A.sl.v362, kernelRun0_A.sl.v364, kernelRun0_A.sl.v366, kernelRun0_A.sl.v371, kernelRun0_A.sl.v373,
    kernelRun0_A.sl.v375, kernelRun0_A.sl.v377, kernelRun0_A.sl.v379, kernelRun0_A.sl.v381, kernelRun0_A.sl.v383, kernelRun0_A.sl.v385,
    kernelRun0_A.sl.v387, kernelRun0_A.sl.v389, kernelRun0_A.sl.v391, kernelRun0_A.sl.v393, kernelRun0_A.sl.v395, kernelRun0_A.sl.v397,
    kernelRun0_A.sl.v399, kernelRun0_A.sl.v401,
    strided_load, rows_load, narrow_load, gate_load, proj_load, norm_load, written_0, written_1, written_2, written_3]

set_option maxHeartbeats 800000 in
/-- The four stores of a step into its second output: the same rows, with the same values. -/
theorem stores9 (i : grid0.Coords) (arg1 : Memref sig .tc .vmem S8192x128 .f32) (harg1 : arg1.IsWhole)
    (arg2 : Memref sig .tc .vmem S512x2048 .bf16) (harg2 : arg2.IsWhole)
    (arg3 : Memref sig .tc .vmem S8192x128 .f32) (harg3 : arg3.IsWhole)
    (arg4 : Memref sig .tc .vmem S512x256 .bf16) (harg4 : arg4.IsWhole)
    (arg5 : Memref sig .tc .vmem S1x2048x2048 .bf16) (harg5 : arg5.IsWhole)
    (arg6 : Memref sig .tc .vmem S1x256x2048 .bf16) (harg6 : arg6.IsWhole)
    (arg7 : Memref sig .tc .vmem S1x1x2048 .f32) (harg7 : arg7.IsWhole)
    (arg8 : Memref sig .tc .vmem S1x1x2048 .f32) (harg8 : arg8.IsWhole)
    (arg9 : Memref sig .tc .vmem S512x2048 .f32) (harg9 : arg9.IsWhole)
    (arg10 : Memref sig .tc .vmem S512x2048 .bf16) (harg10 : arg10.IsWhole)
    (x0 : Vec Ideal S8192x128 .f32) (x1 : Vec Ideal S512x2048 .bf16) (x2 : Vec Ideal S8192x128 .f32) (x3 : Vec Ideal S512x256 .bf16) (x4 : Vec Ideal S1x2048x2048 .bf16) (x5 : Vec Ideal S1x256x2048 .bf16) (x6 : Vec Ideal S1x1x2048 .f32) (x7 : Vec Ideal S1x1x2048 .f32) :
    (kernelRun0_A c i arg1 harg1 arg2 harg2 arg3 harg3 arg4 harg4 arg5 harg5 arg6 harg6 arg7 harg7 arg8 harg8 arg9 harg9 arg10 harg10 x0 x1 x2 x3 x4 x5 x6 x7).2.1
    = [⟨Rect.unit (s := S512x2048) ![384, 0] S128x2048.size inb_S512x2048_S128x2048_384_0, written x0 x1 x2 x3 x4 x5 x6 x7 3⟩,
       ⟨Rect.unit (s := S512x2048) ![256, 0] S128x2048.size inb_S512x2048_S128x2048_256_0, written x0 x1 x2 x3 x4 x5 x6 x7 2⟩,
       ⟨Rect.unit (s := S512x2048) ![128, 0] S128x2048.size inb_S512x2048_S128x2048_128_0, written x0 x1 x2 x3 x4 x5 x6 x7 1⟩,
       ⟨Rect.unit (s := S512x2048) ![0, 0] S128x2048.size inb_S512x2048_S128x2048_0_0, written x0 x1 x2 x3 x4 x5 x6 x7 0⟩] := by
  have e0 : ∀ h w b z k, k0_pay17 (F := Ideal) h w b z k = k0_pay16 h w b z k := fun _ _ _ _ _ => rfl
  have e1 : ∀ h w b, k0_pay23 (F := Ideal) h w b = k0_pay22 h w b := fun _ _ _ => rfl
  have e2 : ∀ h w b, k0_pay28 (F := Ideal) h w b = k0_pay27 h w b := fun _ _ _ => rfl
  have e3 : ∀ g s w b, k0_pay33 (F := Ideal) g s w b = k0_pay32 g s w b := fun _ _ _ _ => rfl
  dsimp only [kernelRun0_A]
  simp only [
    kernelRun0_A.sl.r, kernelRun0_A.sl.r_1, kernelRun0_A.sl.r_2, kernelRun0_A.sl.r_3, kernelRun0_A.sl.r_4, kernelRun0_A.sl.r_5, kernelRun0_A.sl.r_6,
    kernelRun0_A.sl.r_7, kernelRun0_A.sl.r_8, kernelRun0_A.sl.r_9, kernelRun0_A.sl.r_10, kernelRun0_A.sl.r_11, kernelRun0_A.sl.r_12,
    kernelRun0_A.sl.r_13, kernelRun0_A.sl.r_14, kernelRun0_A.sl.r_15, kernelRun0_A.sl.r_16, kernelRun0_A.sl.r_17, kernelRun0_A.sl.r_18,
    kernelRun0_A.sl.r_19, kernelRun0_A.sl.r_20, kernelRun0_A.sl.r_21, kernelRun0_A.sl.r_22, kernelRun0_A.sl.r_23, kernelRun0_A.sl.r_24,
    kernelRun0_A.sl.r_25, kernelRun0_A.sl.r_26, kernelRun0_A.sl.r_27, kernelRun0_A.sl.v39, kernelRun0_A.sl.v41, kernelRun0_A.sl.v43,
    kernelRun0_A.sl.v45, kernelRun0_A.sl.v47, kernelRun0_A.sl.v49, kernelRun0_A.sl.v51, kernelRun0_A.sl.v53, kernelRun0_A.sl.v55, kernelRun0_A.sl.v57,
    kernelRun0_A.sl.v59, kernelRun0_A.sl.v61, kernelRun0_A.sl.v63, kernelRun0_A.sl.v65, kernelRun0_A.sl.v67, kernelRun0_A.sl.v69, kernelRun0_A.sl.v74,
    kernelRun0_A.sl.v76, kernelRun0_A.sl.v78, kernelRun0_A.sl.v80, kernelRun0_A.sl.v82, kernelRun0_A.sl.v84, kernelRun0_A.sl.v86, kernelRun0_A.sl.v88,
    kernelRun0_A.sl.v90, kernelRun0_A.sl.v92, kernelRun0_A.sl.v94, kernelRun0_A.sl.v96, kernelRun0_A.sl.v98, kernelRun0_A.sl.v100,
    kernelRun0_A.sl.v102, kernelRun0_A.sl.v104, kernelRun0_A.sl.v138, kernelRun0_A.sl.v140, kernelRun0_A.sl.v142, kernelRun0_A.sl.v144,
    kernelRun0_A.sl.v146, kernelRun0_A.sl.v148, kernelRun0_A.sl.v150, kernelRun0_A.sl.v152, kernelRun0_A.sl.v154, kernelRun0_A.sl.v156,
    kernelRun0_A.sl.v158, kernelRun0_A.sl.v160, kernelRun0_A.sl.v162, kernelRun0_A.sl.v164, kernelRun0_A.sl.v166, kernelRun0_A.sl.v168,
    kernelRun0_A.sl.v173, kernelRun0_A.sl.v175, kernelRun0_A.sl.v177, kernelRun0_A.sl.v179, kernelRun0_A.sl.v181, kernelRun0_A.sl.v183,
    kernelRun0_A.sl.v185, kernelRun0_A.sl.v187, kernelRun0_A.sl.v189, kernelRun0_A.sl.v191, kernelRun0_A.sl.v193, kernelRun0_A.sl.v195,
    kernelRun0_A.sl.v197, kernelRun0_A.sl.v199, kernelRun0_A.sl.v201, kernelRun0_A.sl.v203, kernelRun0_A.sl.v237, kernelRun0_A.sl.v239,
    kernelRun0_A.sl.v241, kernelRun0_A.sl.v243, kernelRun0_A.sl.v245, kernelRun0_A.sl.v247, kernelRun0_A.sl.v249, kernelRun0_A.sl.v251,
    kernelRun0_A.sl.v253, kernelRun0_A.sl.v255, kernelRun0_A.sl.v257, kernelRun0_A.sl.v259, kernelRun0_A.sl.v261, kernelRun0_A.sl.v263,
    kernelRun0_A.sl.v265, kernelRun0_A.sl.v267, kernelRun0_A.sl.v272, kernelRun0_A.sl.v274, kernelRun0_A.sl.v276, kernelRun0_A.sl.v278,
    kernelRun0_A.sl.v280, kernelRun0_A.sl.v282, kernelRun0_A.sl.v284, kernelRun0_A.sl.v286, kernelRun0_A.sl.v288, kernelRun0_A.sl.v290,
    kernelRun0_A.sl.v292, kernelRun0_A.sl.v294, kernelRun0_A.sl.v296, kernelRun0_A.sl.v298, kernelRun0_A.sl.v300, kernelRun0_A.sl.v302,
    kernelRun0_A.sl.v336, kernelRun0_A.sl.v338, kernelRun0_A.sl.v340, kernelRun0_A.sl.v342, kernelRun0_A.sl.v344, kernelRun0_A.sl.v346,
    kernelRun0_A.sl.v348, kernelRun0_A.sl.v350, kernelRun0_A.sl.v352, kernelRun0_A.sl.v354, kernelRun0_A.sl.v356, kernelRun0_A.sl.v358,
    kernelRun0_A.sl.v360, kernelRun0_A.sl.v362, kernelRun0_A.sl.v364, kernelRun0_A.sl.v366, kernelRun0_A.sl.v371, kernelRun0_A.sl.v373,
    kernelRun0_A.sl.v375, kernelRun0_A.sl.v377, kernelRun0_A.sl.v379, kernelRun0_A.sl.v381, kernelRun0_A.sl.v383, kernelRun0_A.sl.v385,
    kernelRun0_A.sl.v387, kernelRun0_A.sl.v389, kernelRun0_A.sl.v391, kernelRun0_A.sl.v393, kernelRun0_A.sl.v395, kernelRun0_A.sl.v397,
    kernelRun0_A.sl.v399, kernelRun0_A.sl.v401,
    strided_load, rows_load, narrow_load, gate_load, proj_load, norm_load, e0, e1, e2, e3, written_0, written_1, written_2, written_3]

end PostNorm

end
-- ==== Proof.Post.Rows.lean ====
/-
  The norm that closes a layer: an entry of the block that one step of the kernel writes.
-/
module

public import proofs.«01_k».proof.Proof.Post.Stores
public import Idealize.ShloMosaic.Lib.WritesUnit

@[expose] public section

set_option maxRecDepth 16384

noncomputable section

namespace PostNorm

open Idealize.ShloMosaic Idealize.ShloMosaic.TcCoe Idealize.SL.Sem
open Cert.Kernel3Ideal Cert.Kernel3Ideal.Gen

variable (c : Dev nD)

/-- An entry of a row before the norm: the scaled stream, the experts' output, and the gated embedding. -/
def mix (x f g p : EReal) : EReal := Ideal.ofBits .f32 0x3FB504F3#32 * x + f + Ideal.logistic g * p

/-- The mean of a row. -/
def mean (h : Fin 2048 → EReal) : EReal := Ideal.div (∑ k, h k) (Ideal.ofBits .f32 0x45000000#32)

/-- An entry of a normalized row. -/
def normed (h : Fin 2048 → EReal) (w b : EReal) (j : Fin 2048) : EReal :=
  (h j - mean h) * Ideal.rsqrt (mean (fun k => (h k - mean h) * (h k - mean h)) + Ideal.ofBits .f32 0x3727C5AC#32) * w + b

/-- An entry of 128 joined rows. -/
theorem rowsOf_apply (x : Vec Ideal S8192x128 .f32) (o : ℕ) (r : Fin 128) (j : Fin 2048) :
    rowsOf x o (ix2 r j) = x (ix2 ⟨(o + j.val / 128 + 16 * r.val) % 8192, Nat.mod_lt _ (by decide)⟩ ⟨j.val % 128, Nat.mod_lt _ (by decide)⟩) := by
  have hj := j.isLt
  unfold rowsOf
  exact (concatenate_ofFn_apply (t := S128x2048) (s₁ := S128x128) 1 (fun n : Fin 16 => chunk x o n.val) _ rfl 128 rfl (ix2 r j)
    ⟨j.val / 128, by omega⟩ rfl (ix2 r ⟨j.val % 128, Nat.mod_lt _ (by decide)⟩) rfl
    (fun b hb => match b with | ⟨0, _⟩ => rfl | ⟨1, _⟩ => absurd rfl hb)).trans rfl

/-- An entry of the gate's product. -/
theorem gate_apply (x : Vec Ideal S128x2048 .bf16) (w : Vec Ideal S1x2048x2048 .bf16) (r : Fin 128) (j : Fin 2048) :
    k0_pay1 x w (ix2 r j) = ∑ k : Fin 2048, x (ix2 r k) * w (ix3 0 k j) := by
  unfold k0_pay1
  pointwise

/-- An entry of the embedding's product. -/
theorem proj_apply (x : Vec Ideal S128x256 .bf16) (w : Vec Ideal S1x256x2048 .bf16) (r : Fin 128) (j : Fin 2048) :
    k0_pay2 x w (ix2 r j) = ∑ k : Fin 256, x (ix2 r k) * w (ix3 0 k j) := by
  unfold k0_pay2
  pointwise

/-- An entry of the sum of four arrays, as the kernel forms it. -/
theorem mix_apply (X Y g p : FVec Ideal S128x2048 .f32) (r : Fin 128) (j : Fin 2048) :
    addf (addf (mulf (broadcast S128x2048 (Scalar.ofBits (F := Ideal) .f32 0x3FB504F3#32)) X) Y) (mulf (logistic g) p) (ix2 r j)
      = mix (X (ix2 r j)) (Y (ix2 r j)) (g (ix2 r j)) (p (ix2 r j)) := by
  unfold mix
  pointwise

/-- An entry of the norm, as the kernel forms it. -/
theorem norm_apply (h : FVec Ideal S128x2048 .f32) (w b : Vec Ideal S1x1x2048 .f32) (r : Fin 128) (j : Fin 2048) :
    k0_pay22 h (k0_pay21 w) b (ix2 r j) = normed (fun k => h (ix2 r k)) (w (ix3 0 0 j)) (b (ix3 0 0 j)) j := by
  unfold k0_pay22 k0_pay21 normed mean
  pointwise

/-- A row of a block before the norm, from the windows that a step reads. -/
def blockRow (x0 : Vec Ideal S8192x128 .f32) (x1 : Vec Ideal S512x2048 .bf16) (x2 : Vec Ideal S8192x128 .f32) (x3 : Vec Ideal S512x256 .bf16)
    (x4 : Vec Ideal S1x2048x2048 .bf16) (x5 : Vec Ideal S1x256x2048 .bf16) (r : Fin 512) (j : Fin 2048) : EReal :=
  mix (x0 (ix2 ⟨16 * r.val + j.val / 128, by omega⟩ ⟨j.val % 128, by omega⟩)) (x2 (ix2 ⟨16 * r.val + j.val / 128, by omega⟩ ⟨j.val % 128, by omega⟩))
    (∑ k : Fin 2048, x1 (ix2 r k) * x4 (ix3 0 k j)) (∑ k : Fin 256, x3 (ix2 r k) * x5 (ix3 0 k j))

/-- An entry of one store. -/
theorem written_apply (x0 : Vec Ideal S8192x128 .f32) (x1 : Vec Ideal S512x2048 .bf16) (x2 : Vec Ideal S8192x128 .f32) (x3 : Vec Ideal S512x256 .bf16)
    (x4 : Vec Ideal S1x2048x2048 .bf16) (x5 : Vec Ideal S1x256x2048 .bf16) (x6 x7 : Vec Ideal S1x1x2048 .f32) (n : Fin 4) (r : Fin 128) (j : Fin 2048) :
    written x0 x1 x2 x3 x4 x5 x6 x7 n.val (ix2 r j)
      = normed (blockRow x0 x1 x2 x3 x4 x5 ⟨128 * n.val + r.val, by omega⟩) (x6 (ix3 0 0 j)) (x7 (ix3 0 0 j)) j := by
  unfold written
  rw [norm_apply]
  congr 1
  funext k
  unfold total blockRow
  have hk := k.isLt
  rw [mix_apply, rowsOf_apply, rowsOf_apply, gate_apply, proj_apply]
  have e : (2048 * n.val + k.val / 128 + 16 * r.val) % 8192 = 16 * (128 * n.val + r.val) + k.val / 128 := by omega
  have e' : (128 * n.val + r.val) % 512 = 128 * n.val + r.val := by omega
  simp only [e]
  congr 1
  · refine Finset.sum_congr rfl fun l _ => ?_
    show x1 (ix2 ⟨(128 * n.val + r.val) % 512, _⟩ l) * _ = _
    simp only [e']
  · refine Finset.sum_congr rfl fun l _ => ?_
    show x3 (ix2 ⟨(128 * n.val + r.val) % 512, _⟩ l) * _ = _
    simp only [e']

/-- The four stores of an output block, 128 rows each, read back. -/
theorem read_rows {φ : EltTy} (v : View sig .tc .vmem S512x2048 φ) (f : BufTy.Contents (Elt Ideal) v.ty) (i0 i1 i2 i3)
    (w : ℕ → S128x2048.Idx → Elt Ideal φ) (n : Fin 4) (r : Fin 128) (j : Fin 2048) :
    v.read (Elt Ideal) (v.writes (Elt Ideal) f
      [(⟨Rect.unit (s := S512x2048) ![384, 0] ![128, 2048] i3, w 3⟩ : View.Piece (Elt Ideal) S512x2048 φ), ⟨Rect.unit (s := S512x2048) ![256, 0] ![128, 2048] i2, w 2⟩,
       ⟨Rect.unit (s := S512x2048) ![128, 0] ![128, 2048] i1, w 1⟩, ⟨Rect.unit (s := S512x2048) ![0, 0] ![128, 2048] i0, w 0⟩]) (ix2 ⟨128 * n.val + r.val, by omega⟩ j)
      = w n.val (ix2 r j) := by
  have hit : ∀ (g : Fin 4) (a : Fin 2), ((ix2 (⟨128 * g.val + r.val, by omega⟩ : Fin 512) j : S512x2048.Idx) a : ℕ) = (![128 * g.val, 0] : Fin 2 → ℕ) a + ((ix2 r j : S128x2048.Idx) a : ℕ) := by
    intro g a; fin_cases a <;> simp
  have hd := r.isLt
  match n with
  | 0 =>
    rw [View.read_writes_cons_unit_of_not_mem _ _ _ _ _ _ rfl 0 (Or.inl (show 128 * 0 + r.val < 384 by omega)),
      View.read_writes_cons_unit_of_not_mem _ _ _ _ _ _ rfl 0 (Or.inl (show 128 * 0 + r.val < 256 by omega)),
      View.read_writes_cons_unit_of_not_mem _ _ _ _ _ _ rfl 0 (Or.inl (show 128 * 0 + r.val < 128 by omega)),
      View.read_writes_cons_unit_of_mem _ _ _ _ _ _ (ix2 r j) rfl (hit 0)]
    rfl
  | 1 =>
    rw [View.read_writes_cons_unit_of_not_mem _ _ _ _ _ _ rfl 0 (Or.inl (show 128 * 1 + r.val < 384 by omega)),
      View.read_writes_cons_unit_of_not_mem _ _ _ _ _ _ rfl 0 (Or.inl (show 128 * 1 + r.val < 256 by omega)),
      View.read_writes_cons_unit_of_mem _ _ _ _ _ _ (ix2 r j) rfl (hit 1)]
    rfl
  | 2 =>
    rw [View.read_writes_cons_unit_of_not_mem _ _ _ _ _ _ rfl 0 (Or.inl (show 128 * 2 + r.val < 384 by omega)),
      View.read_writes_cons_unit_of_mem _ _ _ _ _ _ (ix2 r j) rfl (hit 2)]
    rfl
  | 3 =>
    rw [View.read_writes_cons_unit_of_mem _ _ _ _ _ _ (ix2 r j) rfl (hit 3)]
    rfl

end PostNorm

end
-- ==== Proof.Post.Kernel.lean ====
/-
  The norm that closes a layer: the arrays that the host prepares, and what the kernel's two results hold.
-/
module

public import proofs.«01_k».proof.Proof.Post.Rows
public import proofs.«01_k».proof.Proof.Gen.Reference3Ideal.Read

@[expose] public section

set_option maxRecDepth 16384

noncomputable section

namespace PostNorm

open Idealize.ShloMosaic Idealize.ShloMosaic.TcCoe Idealize.SL.Sem
open Cert.Kernel3Ideal Cert.Kernel3Ideal.Gen

variable (m : (ℓ : Loc nD τ sig) → Buf (Elt Ideal) ℓ) (c : Dev nD)

/-- The embeddings' rows that the host joins: the prompt's of layer 0, then the sample's. -/
def pArr (x3 : Vec Ideal S2x2x4096x256 .f32) (x4 : Vec Ideal S2x128x4x256 .f32) : FVec Ideal S8704x256 .f32 :=
  Cert.Reference3Ideal.Read.val_main_v9 (F := Ideal) x3 x4

/-- The embeddings' array holds what the host prepares. -/
theorem V_p : V m c main_v9 = (truncf .bf16 (pArr (m ((c : Thread nD τ).loc main_arg3)) (m ((c : Thread nD τ).loc main_arg4))) bitsLt_bf16_f32 : FVec Ideal S8704x256 .bf16) := by
  show StableHlo.after _ _ (Proc.devRef .tc main_v9) = _
  simp only [hostOps0, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

/-- The gate's array holds its weights, cast. -/
theorem V_gate : V m c main_v0 = (truncf .bf16 (m ((c : Thread nD τ).loc main_arg5)) bitsLt_bf16_f32 : FVec Ideal S2x2048x2048 .bf16) := by
  show StableHlo.after _ _ (Proc.devRef .tc main_v0) = _
  simp only [hostOps0, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp

/-- The projection's array holds its weights, cast. -/
theorem V_proj : V m c main_v1 = (truncf .bf16 (m ((c : Thread nD τ).loc main_arg6)) bitsLt_bf16_f32 : FVec Ideal S2x256x2048 .bf16) := by
  show StableHlo.after _ _ (Proc.devRef .tc main_v1) = _
  simp only [hostOps0, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp

/-- The norm's scale, with an axis more. -/
theorem V_scale : V m c main_v10 = (shapeCast S2x1x2048 (m ((c : Thread nD τ).loc main_arg7)) shapeCasts_S2x2048_S2x1x2048 : Vec Ideal S2x1x2048 .f32) := by
  show StableHlo.after _ _ (Proc.devRef .tc main_v10) = _
  simp only [hostOps0, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

/-- The norm's shift, with an axis more. -/
theorem V_shift : V m c main_v11 = (shapeCast S2x1x2048 (m ((c : Thread nD τ).loc main_arg8)) shapeCasts_S2x2048_S2x1x2048 : Vec Ideal S2x1x2048 .f32) := by
  show StableHlo.after _ _ (Proc.devRef .tc main_v11) = _
  simp only [hostOps0, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

/-- The grid has 17 steps. -/
theorem N17 (t : Fin cfg0.N) : t.val < 17 := lt_of_lt_of_eq t.isLt N_0

/-- Which block of each array a step works on: its own block of rows, and the whole of layer 0's weights. -/
theorem block_index : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0 ∧ win0_4.index t 2 = 0) ∧ (win0_5.index t 0 = 0 ∧ win0_5.index t 1 = 0 ∧ win0_5.index t 2 = 0)
    ∧ (win0_6.index t 0 = 0 ∧ win0_6.index t 1 = 0 ∧ win0_6.index t 2 = 0) ∧ (win0_7.index t 0 = 0 ∧ win0_7.index t 1 = 0 ∧ win0_7.index t 2 = 0)
    ∧ (win0_8.index t 0 = t.val ∧ win0_8.index t 1 = 0) ∧ (win0_9.index t 0 = t.val ∧ win0_9.index t 1 = 0) := by decide +kernel

/-- The stream's window at a step. -/
theorem stream_block (t : Fin cfg0.N) (r : Fin 8192) (k : Fin 128) : (iblk m c 0 t : Vec Ideal S8192x128 .f32) (ix2 r k)
    = (m ((c : Thread nD τ).loc main_arg0)) (ix2 ⟨8192 * t.val + r.val, by have := N17 t; omega⟩ k) := by
  have hi := block_index t
  unfold iblk
  rw [View.read_apply]
  show V m c main_arg0 _ = _
  rw [V_main_arg0]
  show (m ((c : Thread nD τ).loc main_arg0)) _ = _
  congr 1
  funext a
  apply Fin.ext
  match a with
  | ⟨0, _⟩ => show win0_0.index t 0 * 8192 + 1 * r.val = 8192 * t.val + r.val; rw [hi.1.1]; omega
  | ⟨1, _⟩ => show win0_0.index t 1 * 128 + 1 * k.val = k.val; rw [hi.1.2]; omega

/-- The cast stream's window at a step. -/
theorem cast_block (t : Fin cfg0.N) (r : Fin 512) (k : Fin 2048) : (iblk m c 1 t : Vec Ideal S512x2048 .bf16) (ix2 r k)
    = (m ((c : Thread nD τ).loc main_arg1)) (ix2 ⟨512 * t.val + r.val, by have := N17 t; omega⟩ k) := by
  have hi := block_index t
  unfold iblk
  rw [View.read_apply]
  show V m c main_arg1 _ = _
  rw [V_main_arg1]
  show (m ((c : Thread nD τ).loc main_arg1)) _ = _
  congr 1
  funext a
  apply Fin.ext
  match a with
  | ⟨0, _⟩ => show win0_1.index t 0 * 512 + 1 * r.val = 512 * t.val + r.val; rw [hi.2.1.1]; omega
  | ⟨1, _⟩ => show win0_1.index t 1 * 2048 + 1 * k.val = k.val; rw [hi.2.1.2]; omega

/-- The experts' window at a step. -/
theorem experts_block (t : Fin cfg0.N) (r : Fin 8192) (k : Fin 128) : (iblk m c 2 t : Vec Ideal S8192x128 .f32) (ix2 r k)
    = (m ((c : Thread nD τ).loc main_arg2)) (ix2 ⟨8192 * t.val + r.val, by have := N17 t; omega⟩ k) := by
  have hi := block_index t
  unfold iblk
  rw [View.read_apply]
  show V m c main_arg2 _ = _
  rw [V_main_arg2]
  show (m ((c : Thread nD τ).loc main_arg2)) _ = _
  congr 1
  funext a
  apply Fin.ext
  match a with
  | ⟨0, _⟩ => show win0_2.index t 0 * 8192 + 1 * r.val = 8192 * t.val + r.val; rw [hi.2.2.1.1]; omega
  | ⟨1, _⟩ => show win0_2.index t 1 * 128 + 1 * k.val = k.val; rw [hi.2.2.1.2]; omega

/-- The embeddings' window at a step. -/
theorem p_block (t : Fin cfg0.N) (r : Fin 512) (k : Fin 256) : (iblk m c 3 t : Vec Ideal S512x256 .bf16) (ix2 r k)
    = (pArr (m ((c : Thread nD τ).loc main_arg3)) (m ((c : Thread nD τ).loc main_arg4))) (ix2 ⟨512 * t.val + r.val, by have := N17 t; omega⟩ k) := by
  have hi := block_index t
  unfold iblk
  rw [View.read_apply]
  show V m c main_v9 _ = _
  rw [V_p]
  show (pArr (m ((c : Thread nD τ).loc main_arg3)) (m ((c : Thread nD τ).loc main_arg4))) _ = _
  congr 1
  funext a
  apply Fin.ext
  match a with
  | ⟨0, _⟩ => show win0_3.index t 0 * 512 + 1 * r.val = 512 * t.val + r.val; rw [hi.2.2.2.1.1]; omega
  | ⟨1, _⟩ => show win0_3.index t 1 * 256 + 1 * k.val = k.val; rw [hi.2.2.2.1.2]; omega

/-- The gate's window at a step. -/
theorem gate_block (t : Fin cfg0.N) (k : Fin 2048) (j : Fin 2048) : (iblk m c 4 t : Vec Ideal S1x2048x2048 .bf16) (ix3 0 k j)
    = (m ((c : Thread nD τ).loc main_arg5)) (ix3 0 k j) := by
  have hi := block_index t
  unfold iblk
  rw [View.read_apply]
  show V m c main_v0 _ = _
  rw [V_gate]
  show (m ((c : Thread nD τ).loc main_arg5)) _ = _
  congr 1
  funext a
  apply Fin.ext
  match a with
  | ⟨0, _⟩ => show win0_4.index t 0 * 1 + 1 * 0 = 0; rw [hi.2.2.2.2.1.1]
  | ⟨1, _⟩ => show win0_4.index t 1 * 2048 + 1 * k.val = k.val; rw [hi.2.2.2.2.1.2.1]; omega
  | ⟨2, _⟩ => show win0_4.index t 2 * 2048 + 1 * j.val = j.val; rw [hi.2.2.2.2.1.2.2]; omega

/-- The projection's window at a step. -/
theorem proj_block (t : Fin cfg0.N) (k : Fin 256) (j : Fin 2048) : (iblk m c 5 t : Vec Ideal S1x256x2048 .bf16) (ix3 0 k j)
    = (m ((c : Thread nD τ).loc main_arg6)) (ix3 0 k j) := by
  have hi := block_index t
  unfold iblk
  rw [View.read_apply]
  show V m c main_v1 _ = _
  rw [V_proj]
  show (m ((c : Thread nD τ).loc main_arg6)) _ = _
  congr 1
  funext a
  apply Fin.ext
  match a with
  | ⟨0, _⟩ => show win0_5.index t 0 * 1 + 1 * 0 = 0; rw [hi.2.2.2.2.2.1.1]
  | ⟨1, _⟩ => show win0_5.index t 1 * 256 + 1 * k.val = k.val; rw [hi.2.2.2.2.2.1.2.1]; omega
  | ⟨2, _⟩ => show win0_5.index t 2 * 2048 + 1 * j.val = j.val; rw [hi.2.2.2.2.2.1.2.2]; omega

/-- A row that is given an axis more keeps its entries. -/
theorem row_axis (x : Vec Ideal S2x2048 .f32) (j : Fin 2048) : shapeCast S2x1x2048 x shapeCasts_S2x2048_S2x1x2048 (ix3 0 0 j) = x (ix2 0 j) := by
  pointwise

/-- The scale's window at a step. -/
theorem scale_block (t : Fin cfg0.N) (j : Fin 2048) : (iblk m c 6 t : Vec Ideal S1x1x2048 .f32) (ix3 0 0 j)
    = (m ((c : Thread nD τ).loc main_arg7)) (ix2 0 j) := by
  have hi := block_index t
  unfold iblk
  rw [View.read_apply]
  show V m c main_v10 _ = _
  rw [V_scale]
  refine Eq.trans (congrArg _ (?_ : _ = ix3 (0 : Fin 2) (0 : Fin 1) j)) (row_axis _ j)
  funext a
  apply Fin.ext
  match a with
  | ⟨0, _⟩ => show win0_6.index t 0 * 1 + 1 * 0 = 0; rw [hi.2.2.2.2.2.2.1.1]
  | ⟨1, _⟩ => show win0_6.index t 1 * 1 + 1 * 0 = 0; rw [hi.2.2.2.2.2.2.1.2.1]
  | ⟨2, _⟩ => show win0_6.index t 2 * 2048 + 1 * j.val = j.val; rw [hi.2.2.2.2.2.2.1.2.2]; omega

/-- The shift's window at a step. -/
theorem shift_block (t : Fin cfg0.N) (j : Fin 2048) : (iblk m c 7 t : Vec Ideal S1x1x2048 .f32) (ix3 0 0 j)
    = (m ((c : Thread nD τ).loc main_arg8)) (ix2 0 j) := by
  have hi := block_index t
  unfold iblk
  rw [View.read_apply]
  show V m c main_v11 _ = _
  rw [V_shift]
  refine Eq.trans (congrArg _ (?_ : _ = ix3 (0 : Fin 2) (0 : Fin 1) j)) (row_axis _ j)
  funext a
  apply Fin.ext
  match a with
  | ⟨0, _⟩ => show win0_7.index t 0 * 1 + 1 * 0 = 0; rw [hi.2.2.2.2.2.2.2.1.1]
  | ⟨1, _⟩ => show win0_7.index t 1 * 1 + 1 * 0 = 0; rw [hi.2.2.2.2.2.2.2.1.2.1]
  | ⟨2, _⟩ => show win0_7.index t 2 * 2048 + 1 * j.val = j.val; rw [hi.2.2.2.2.2.2.2.1.2.2]; omega

/-- A row before the norm, from the kernel's arguments. -/
def rowAt (a0 : Vec Ideal S139264x128 .f32) (a1 : Vec Ideal S8704x2048 .bf16) (a2 : Vec Ideal S147456x128 .f32) (p : FVec Ideal S8704x256 .f32)
    (g : Vec Ideal S2x2048x2048 .f32) (w : Vec Ideal S2x256x2048 .f32) (r : Fin 8704) (j : Fin 2048) : EReal :=
  mix (a0 (ix2 ⟨16 * r.val + j.val / 128, by omega⟩ ⟨j.val % 128, by omega⟩)) (a2 (ix2 ⟨16 * r.val + j.val / 128, by omega⟩ ⟨j.val % 128, by omega⟩))
    (∑ k : Fin 2048, a1 (ix2 r k) * g (ix3 0 k j)) (∑ k : Fin 256, p (ix2 r k) * w (ix3 0 k j))

/-- A step's row before the norm is the row of the arguments at its place. -/
theorem block_row (t : Fin cfg0.N) (r : Fin 512) : blockRow (iblk m c 0 t) (iblk m c 1 t) (iblk m c 2 t) (iblk m c 3 t) (iblk m c 4 t) (iblk m c 5 t) r
    = rowAt (m ((c : Thread nD τ).loc main_arg0)) (m ((c : Thread nD τ).loc main_arg1)) (m ((c : Thread nD τ).loc main_arg2)) (pArr (m ((c : Thread nD τ).loc main_arg3)) (m ((c : Thread nD τ).loc main_arg4))) (m ((c : Thread nD τ).loc main_arg5)) (m ((c : Thread nD τ).loc main_arg6)) ⟨512 * t.val + r.val, by have := N17 t; omega⟩ := by
  funext j
  unfold blockRow rowAt
  rw [stream_block, experts_block]
  have e : 8192 * t.val + (16 * r.val + j.val / 128) = 16 * (512 * t.val + r.val) + j.val / 128 := by omega
  simp only [e]
  congr 1
  · refine Finset.sum_congr rfl fun k _ => ?_
    rw [cast_block, gate_block]
  · refine Finset.sum_congr rfl fun k _ => ?_
    rw [p_block, proj_block]

/-- An entry of a result, from the arguments: an entry of a normalized row. -/
def entryAt (r : Fin 8704) (j : Fin 2048) : EReal :=
  normed (rowAt (m ((c : Thread nD τ).loc main_arg0)) (m ((c : Thread nD τ).loc main_arg1)) (m ((c : Thread nD τ).loc main_arg2)) (pArr (m ((c : Thread nD τ).loc main_arg3)) (m ((c : Thread nD τ).loc main_arg4))) (m ((c : Thread nD τ).loc main_arg5)) (m ((c : Thread nD τ).loc main_arg6)) r) ((m ((c : Thread nD τ).loc main_arg7)) (ix2 0 j)) ((m ((c : Thread nD τ).loc main_arg8)) (ix2 0 j)) j

/-- What a step writes into its first output, entry by entry. -/
theorem out8_apply (i : grid0.Coords) (arg1 : Memref sig .tc .vmem S8192x128 .f32) (harg1 : arg1.IsWhole)
    (arg2 : Memref sig .tc .vmem S512x2048 .bf16) (harg2 : arg2.IsWhole) (arg3 : Memref sig .tc .vmem S8192x128 .f32) (harg3 : arg3.IsWhole)
    (arg4 : Memref sig .tc .vmem S512x256 .bf16) (harg4 : arg4.IsWhole) (arg5 : Memref sig .tc .vmem S1x2048x2048 .bf16) (harg5 : arg5.IsWhole)
    (arg6 : Memref sig .tc .vmem S1x256x2048 .bf16) (harg6 : arg6.IsWhole) (arg7 : Memref sig .tc .vmem S1x1x2048 .f32) (harg7 : arg7.IsWhole)
    (arg8 : Memref sig .tc .vmem S1x1x2048 .f32) (harg8 : arg8.IsWhole) (arg9 : Memref sig .tc .vmem S512x2048 .f32) (harg9 : arg9.IsWhole)
    (arg10 : Memref sig .tc .vmem S512x2048 .bf16) (harg10 : arg10.IsWhole)
    (x0 : Vec Ideal S8192x128 .f32) (x1 : Vec Ideal S512x2048 .bf16) (x2 : Vec Ideal S8192x128 .f32) (x3 : Vec Ideal S512x256 .bf16)
    (x4 : Vec Ideal S1x2048x2048 .bf16) (x5 : Vec Ideal S1x256x2048 .bf16) (x6 x7 : Vec Ideal S1x1x2048 .f32) (r : Fin 512) (j : Fin 2048) :
    out0_A_8 c i arg1 harg1 arg2 harg2 arg3 harg3 arg4 harg4 arg5 harg5 arg6 harg6 arg7 harg7 arg8 harg8 arg9 harg9 arg10 harg10
      x0 x1 x2 x3 x4 x5 x6 x7 (ix2 r j)
      = normed (blockRow x0 x1 x2 x3 x4 x5 r) (x6 (ix3 0 0 j)) (x7 (ix3 0 0 j)) j := by
  obtain ⟨n, q, hq⟩ : ∃ (n : Fin 4) (q : Fin 128), r = ⟨128 * n.val + q.val, by omega⟩ :=
    ⟨⟨r.val / 128, by omega⟩, ⟨r.val % 128, by omega⟩, Fin.ext (by show r.val = 128 * (r.val / 128) + r.val % 128; omega)⟩
  rw [hq, ← written_apply]
  unfold out0_A_8
  have h := stores8 c i arg1 harg1 arg2 harg2 arg3 harg3 arg4 harg4 arg5 harg5 arg6 harg6 arg7 harg7 arg8 harg8 arg9 harg9 arg10 harg10
    x0 x1 x2 x3 x4 x5 x6 x7
  generalize (kernelRun0_A c i arg1 harg1 arg2 harg2 arg3 harg3 arg4 harg4 arg5 harg5 arg6 harg6 arg7 harg7 arg8 harg8 arg9 harg9 arg10 harg10
    x0 x1 x2 x3 x4 x5 x6 x7).1 = L at h ⊢
  subst h
  generalize written x0 x1 x2 x3 x4 x5 x6 x7 = w
  exact read_rows (φ := .f32) VO0_8 VO0_8.junk inb_S512x2048_S128x2048_0_0 inb_S512x2048_S128x2048_128_0 inb_S512x2048_S128x2048_256_0
    inb_S512x2048_S128x2048_384_0 w n q j

/-- An entry of the first result. -/
theorem result8_entry (r : Fin 8704) (j : Fin 2048) : ((dats m 0 c).arrAt 8 cfg0.N : Vec Ideal S8704x2048 .f32) (ix2 r j) = entryAt m c r j := by
  obtain ⟨t, ht⟩ : ∃ t : Fin cfg0.N, t.val = r.val / 512 := ⟨⟨_, lt_of_lt_of_eq (by omega) N_0.symm⟩, rfl⟩
  have hi := block_index t
  have h := congrFun (Value.blocks8 m c t (flush0_8 t)) (ix2 ⟨r.val % 512, by omega⟩ j)
  rw [View.read_apply, Value.flushed8_A] at h
  refine Eq.trans ?_ (h.trans ?_)
  · show (dats m 0 c).arrAt 8 cfg0.N _ = (dats m 0 c).arrAt 8 cfg0.N _
    congr 1
    funext a
    apply Fin.ext
    match a with
    | ⟨0, _⟩ => show r.val = win0_8.index t 0 * 512 + 1 * (r.val % 512); rw [hi.2.2.2.2.2.2.2.2.1.1, ht]; omega
    | ⟨1, _⟩ => show j.val = win0_8.index t 1 * 2048 + 1 * j.val; rw [hi.2.2.2.2.2.2.2.2.1.2]; omega
  · refine (out8_apply c _ _ _ _ _ _ _ _ _ _ _ _ _ _ _ _ _ _ _ _ _ _ _ _ _ _ _ _ _ ⟨r.val % 512, by omega⟩ j).trans ?_
    rw [block_row, scale_block, shift_block]
    unfold entryAt
    have er : 512 * t.val + r.val % 512 = r.val := by omega
    simp only [er]

/-- What a step writes into its second output, entry by entry. -/
theorem out9_apply (i : grid0.Coords) (arg1 : Memref sig .tc .vmem S8192x128 .f32) (harg1 : arg1.IsWhole)
    (arg2 : Memref sig .tc .vmem S512x2048 .bf16) (harg2 : arg2.IsWhole) (arg3 : Memref sig .tc .vmem S8192x128 .f32) (harg3 : arg3.IsWhole)
    (arg4 : Memref sig .tc .vmem S512x256 .bf16) (harg4 : arg4.IsWhole) (arg5 : Memref sig .tc .vmem S1x2048x2048 .bf16) (harg5 : arg5.IsWhole)
    (arg6 : Memref sig .tc .vmem S1x256x2048 .bf16) (harg6 : arg6.IsWhole) (arg7 : Memref sig .tc .vmem S1x1x2048 .f32) (harg7 : arg7.IsWhole)
    (arg8 : Memref sig .tc .vmem S1x1x2048 .f32) (harg8 : arg8.IsWhole) (arg9 : Memref sig .tc .vmem S512x2048 .f32) (harg9 : arg9.IsWhole)
    (arg10 : Memref sig .tc .vmem S512x2048 .bf16) (harg10 : arg10.IsWhole)
    (x0 : Vec Ideal S8192x128 .f32) (x1 : Vec Ideal S512x2048 .bf16) (x2 : Vec Ideal S8192x128 .f32) (x3 : Vec Ideal S512x256 .bf16)
    (x4 : Vec Ideal S1x2048x2048 .bf16) (x5 : Vec Ideal S1x256x2048 .bf16) (x6 x7 : Vec Ideal S1x1x2048 .f32) (r : Fin 512) (j : Fin 2048) :
    out0_A_9 c i arg1 harg1 arg2 harg2 arg3 harg3 arg4 harg4 arg5 harg5 arg6 harg6 arg7 harg7 arg8 harg8 arg9 harg9 arg10 harg10
      x0 x1 x2 x3 x4 x5 x6 x7 (ix2 r j)
      = normed (blockRow x0 x1 x2 x3 x4 x5 r) (x6 (ix3 0 0 j)) (x7 (ix3 0 0 j)) j := by
  obtain ⟨n, q, hq⟩ : ∃ (n : Fin 4) (q : Fin 128), r = ⟨128 * n.val + q.val, by omega⟩ :=
    ⟨⟨r.val / 128, by omega⟩, ⟨r.val % 128, by omega⟩, Fin.ext (by show r.val = 128 * (r.val / 128) + r.val % 128; omega)⟩
  rw [hq, ← written_apply]
  unfold out0_A_9
  have h := stores9 c i arg1 harg1 arg2 harg2 arg3 harg3 arg4 harg4 arg5 harg5 arg6 harg6 arg7 harg7 arg8 harg8 arg9 harg9 arg10 harg10
    x0 x1 x2 x3 x4 x5 x6 x7
  generalize (kernelRun0_A c i arg1 harg1 arg2 harg2 arg3 harg3 arg4 harg4 arg5 harg5 arg6 harg6 arg7 harg7 arg8 harg8 arg9 harg9 arg10 harg10
    x0 x1 x2 x3 x4 x5 x6 x7).2.1 = L at h ⊢
  subst h
  generalize written x0 x1 x2 x3 x4 x5 x6 x7 = w
  exact read_rows (φ := .bf16) VO0_9 VO0_9.junk inb_S512x2048_S128x2048_0_0 inb_S512x2048_S128x2048_128_0 inb_S512x2048_S128x2048_256_0
    inb_S512x2048_S128x2048_384_0 w n q j

/-- An entry of the second result. -/
theorem result9_entry (r : Fin 8704) (j : Fin 2048) : ((dats m 0 c).arrAt 9 cfg0.N : Vec Ideal S8704x2048 .bf16) (ix2 r j) = entryAt m c r j := by
  obtain ⟨t, ht⟩ : ∃ t : Fin cfg0.N, t.val = r.val / 512 := ⟨⟨_, lt_of_lt_of_eq (by omega) N_0.symm⟩, rfl⟩
  have hi := block_index t
  have h := congrFun (Value.blocks9 m c t (flush0_9 t)) (ix2 ⟨r.val % 512, by omega⟩ j)
  rw [View.read_apply, Value.flushed9_A] at h
  refine Eq.trans ?_ (h.trans ?_)
  · show (dats m 0 c).arrAt 9 cfg0.N _ = (dats m 0 c).arrAt 9 cfg0.N _
    congr 1
    funext a
    apply Fin.ext
    match a with
    | ⟨0, _⟩ => show r.val = win0_9.index t 0 * 512 + 1 * (r.val % 512); rw [hi.2.2.2.2.2.2.2.2.2.1, ht]; omega
    | ⟨1, _⟩ => show j.val = win0_9.index t 1 * 2048 + 1 * j.val; rw [hi.2.2.2.2.2.2.2.2.2.2]; omega
  · refine (out9_apply c _ _ _ _ _ _ _ _ _ _ _ _ _ _ _ _ _ _ _ _ _ _ _ _ _ _ _ _ _ ⟨r.val % 512, by omega⟩ j).trans ?_
    rw [block_row, scale_block, shift_block]
    unfold entryAt
    have er : 512 * t.val + r.val % 512 = r.val := by omega
    simp only [er]

end PostNorm

end
-- ==== Proof.Post.Reference.lean ====
/-
  The norm that closes a layer: the reference, read at an entry, and its equality with the kernel's two results.
-/
module

public import proofs.«01_k».proof.Proof.Gen.Reference3Ideal.Read
public import proofs.«01_k».proof.Proof.Post.Kernel
public import Idealize.ShloMosaic.Lib.IdealHost

@[expose] public section

set_option maxRecDepth 16384

noncomputable section

namespace PostNorm

open Idealize.ShloMosaic Idealize.ShloMosaic.TcCoe Idealize.SL.Sem
open Cert.Reference3Ideal Cert.Reference3Ideal.Gen Cert.Reference3Ideal.Read

section Entry

variable (x0 : Vec Ideal S139264x128 .f32) (x1 : Vec Ideal S8704x2048 .bf16) (x2 : Vec Ideal S147456x128 .f32) (x3 : Vec Ideal S2x2x4096x256 .f32)
  (x4 : Vec Ideal S2x128x4x256 .f32) (x5 : Vec Ideal S2x2048x2048 .f32) (x6 : Vec Ideal S2x256x2048 .f32) (x7 x8 : Vec Ideal S2x2048 .f32)

/-- The logistic function, as the reference writes it. -/
theorem sigmoid_eq (s : EReal) : Ideal.div (Ideal.ofBits .f32 0x3F800000#32) (Ideal.ofBits .f32 0x3F800000#32 + Ideal.exp (-s)) = Ideal.logistic s := by
  rw [Ideal.ofBits_one_f32]
  rfl

/-- The reference's rows of the stream are the kernel's rows of lanes, sixteen for each. -/
theorem ref_stream (r : Fin 8704) (j : Fin 2048) : val_main_v0 (F := Ideal) x0 (ix2 r j)
    = x0 (ix2 ⟨16 * r.val + j.val / 128, by omega⟩ ⟨j.val % 128, by omega⟩) := by
  rw [val_main_v0_apply]
  congr 1
  funext a
  apply Fin.ext
  match a with
  | ⟨0, _⟩ => show (r.val * 2048 + j.val) / 128 = 16 * r.val + j.val / 128; omega
  | ⟨1, _⟩ => show (r.val * 2048 + j.val) % 128 = j.val % 128; omega

/-- So are its rows of the experts' output. -/
theorem ref_experts (r : Fin 8704) (j : Fin 2048) : val_main_v2 (F := Ideal) x2 (ix2 r j)
    = x2 (ix2 ⟨16 * r.val + j.val / 128, by omega⟩ ⟨j.val % 128, by omega⟩) := by
  rw [val_main_v2_apply, val_main_v1_apply]
  congr 1
  funext a
  apply Fin.ext
  match a with
  | ⟨0, _⟩ => show (r.val * 2048 + j.val) / 128 = 16 * r.val + j.val / 128; omega
  | ⟨1, _⟩ => show (r.val * 2048 + j.val) % 128 = j.val % 128; omega

/-- The gate's weights of layer 0. -/
theorem ref_gate (k j : Fin 2048) : val_main_v12 (F := Ideal) x5 (ix2 k j) = x5 (ix3 0 k j) := by
  rw [val_main_v12_apply, val_main_v11_apply]
  congr 1
  funext a
  apply Fin.ext
  match a with
  | ⟨0, _⟩ => rfl
  | ⟨1, _⟩ => show (k.val * 2048 + j.val) / 2048 % 2048 = k.val; omega
  | ⟨2, _⟩ => show (k.val * 2048 + j.val) % 2048 = j.val; omega

/-- The projection's weights of layer 0. -/
theorem ref_proj (k : Fin 256) (j : Fin 2048) : val_main_v21 (F := Ideal) x6 (ix2 k j) = x6 (ix3 0 k j) := by
  rw [val_main_v21_apply, val_main_v20_apply]
  congr 1
  funext a
  apply Fin.ext
  match a with
  | ⟨0, _⟩ => rfl
  | ⟨1, _⟩ => show (k.val * 2048 + j.val) / 2048 % 256 = k.val; omega
  | ⟨2, _⟩ => show (k.val * 2048 + j.val) % 2048 = j.val; omega

/-- An entry of the gate's product. -/
theorem ref_gate_sum (r : Fin 8704) (j : Fin 2048) : val_main_v13 (F := Ideal) x1 x5 (ix2 r j) = ∑ k : Fin 2048, x1 (ix2 r k) * x5 (ix3 0 k j) := by
  rw [val_main_v13_apply]
  refine Finset.sum_congr rfl fun k _ => ?_
  refine congrArg₂ _ (congrArg x1 ?_) (Eq.trans (congrArg _ ?_) (ref_gate x5 k j))
  · exact funext fun a => match a with | ⟨0, _⟩ => rfl | ⟨1, _⟩ => rfl
  · exact funext fun a => match a with | ⟨0, _⟩ => rfl | ⟨1, _⟩ => rfl

/-- An entry of the embedding's product. -/
theorem ref_proj_sum (r : Fin 8704) (j : Fin 2048) : val_main_v22 (F := Ideal) x3 x4 x6 (ix2 r j) = ∑ k : Fin 256, pArr x3 x4 (ix2 r k) * x6 (ix3 0 k j) := by
  rw [val_main_v22_apply]
  refine Finset.sum_congr rfl fun k _ => ?_
  refine congrArg₂ _ (congrArg (val_main_v9 (F := Ideal) x3 x4) ?_) (Eq.trans (congrArg _ ?_) (ref_proj x6 k j))
  · exact funext fun a => match a with | ⟨0, _⟩ => rfl | ⟨1, _⟩ => rfl
  · exact funext fun a => match a with | ⟨0, _⟩ => rfl | ⟨1, _⟩ => rfl

/-- An entry of the reference's rows before the norm. -/
theorem ref_row (r : Fin 8704) (j : Fin 2048) : val_main_v27 (F := Ideal) x0 x1 x2 x3 x4 x5 x6 (ix2 r j) = rowAt x0 x1 x2 (pArr x3 x4) x5 x6 r j := by
  unfold rowAt mix
  rw [← ref_stream x0 r j, ← ref_experts x2 r j, ← ref_gate_sum x1 x5 r j, ← ref_proj_sum x3 x4 x6 r j, ← sigmoid_eq, val_main_v27_apply, val_main_v26_apply, val_main_v25_apply,
    val_main_v24_apply, val_main_v23_apply, val_main_v19_apply, val_main_v18_apply, val_main_v17_apply, val_main_v16_apply, val_main_v15_apply,
    val_main_v14_apply]
  rfl

/-- The mean of a row of the reference. -/
theorem ref_mean (r : Fin 8704) : val_main_v31 (F := Ideal) x0 x1 x2 x3 x4 x5 x6 (ix2 r 0) = mean (rowAt x0 x1 x2 (pArr x3 x4) x5 x6 r) := by
  have e : (fun k => val_main_v27 (F := Ideal) x0 x1 x2 x3 x4 x5 x6 (idx_main_v28 (idx_main_v29 (ix2 r 0)) k)) = rowAt x0 x1 x2 (pArr x3 x4) x5 x6 r := by
    funext k
    rw [← ref_row]
    congr 1
    exact funext fun a => match a with | ⟨0, _⟩ => rfl | ⟨1, _⟩ => rfl
  rw [val_main_v31_apply, val_main_v29_apply, val_main_v30_apply, val_main_v28_apply]
  unfold mean
  rw [e]
  show Ideal.div (Ideal.ofBits .f32 0x00000000#32 + _) _ = _
  rw [Ideal.ofBits_zero_f32, zero_add]
  rfl

/-- A deviation from the mean, as the variance reads it. -/
theorem ref_dev (r : Fin 8704) (j : Fin 2048) : val_main_v33 (F := Ideal) x0 x1 x2 x3 x4 x5 x6 (ix2 r j)
    = rowAt x0 x1 x2 (pArr x3 x4) x5 x6 r j - mean (rowAt x0 x1 x2 (pArr x3 x4) x5 x6 r) := by
  have e : idx_main_v32 (ix2 r j) = ix2 r 0 := funext fun a => match a with | ⟨0, _⟩ => rfl | ⟨1, _⟩ => rfl
  rw [val_main_v33_apply, val_main_v32_apply, e, ref_mean, ref_row]
  rfl

/-- A deviation from the mean, as the result reads it. -/
theorem ref_dev' (r : Fin 8704) (j : Fin 2048) : val_main_v40 (F := Ideal) x0 x1 x2 x3 x4 x5 x6 (ix2 r j)
    = rowAt x0 x1 x2 (pArr x3 x4) x5 x6 r j - mean (rowAt x0 x1 x2 (pArr x3 x4) x5 x6 r) := by
  have e : idx_main_v39 (ix2 r j) = ix2 r 0 := funext fun a => match a with | ⟨0, _⟩ => rfl | ⟨1, _⟩ => rfl
  rw [val_main_v40_apply, val_main_v39_apply, e, ref_mean, ref_row]
  rfl

/-- The variance of a row of the reference. -/
theorem ref_var (r : Fin 8704) : val_main_v38 (F := Ideal) x0 x1 x2 x3 x4 x5 x6 (ix2 r 0)
    = mean (fun k => (rowAt x0 x1 x2 (pArr x3 x4) x5 x6 r k - mean (rowAt x0 x1 x2 (pArr x3 x4) x5 x6 r))
        * (rowAt x0 x1 x2 (pArr x3 x4) x5 x6 r k - mean (rowAt x0 x1 x2 (pArr x3 x4) x5 x6 r))) := by
  have e : (fun k => val_main_v34 (F := Ideal) x0 x1 x2 x3 x4 x5 x6 (idx_main_v35 (idx_main_v36 (ix2 r 0)) k))
      = fun k => (rowAt x0 x1 x2 (pArr x3 x4) x5 x6 r k - mean (rowAt x0 x1 x2 (pArr x3 x4) x5 x6 r))
        * (rowAt x0 x1 x2 (pArr x3 x4) x5 x6 r k - mean (rowAt x0 x1 x2 (pArr x3 x4) x5 x6 r)) := by
    funext k
    rw [← ref_dev, val_main_v34_apply]
    have e' : idx_main_v35 (idx_main_v36 (ix2 r 0)) k = ix2 r k := funext fun a => match a with | ⟨0, _⟩ => rfl | ⟨1, _⟩ => rfl
    rw [e']
    rfl
  rw [val_main_v38_apply, val_main_v36_apply, val_main_v37_apply, val_main_v35_apply]
  rw [e]
  generalize (fun k => (rowAt x0 x1 x2 (pArr x3 x4) x5 x6 r k - mean (rowAt x0 x1 x2 (pArr x3 x4) x5 x6 r))
        * (rowAt x0 x1 x2 (pArr x3 x4) x5 x6 r k - mean (rowAt x0 x1 x2 (pArr x3 x4) x5 x6 r))) = q
  unfold mean
  show Ideal.div (Ideal.ofBits .f32 0x00000000#32 + _) _ = _
  rw [Ideal.ofBits_zero_f32, zero_add]
  rfl

/-- The norm's scale. -/
theorem ref_scale (r : Fin 8704) (j : Fin 2048) : val_main_v49 (F := Ideal) x7 (ix2 r j) = x7 (ix2 0 j) := by
  rw [val_main_v49_apply, val_main_v48_apply, val_main_v47_apply, val_main_v46_apply]
  congr 1
  funext a
  apply Fin.ext
  match a with
  | ⟨0, _⟩ => rfl
  | ⟨1, _⟩ => show j.val % 2048 = j.val; omega

/-- The norm's shift. -/
theorem ref_shift (r : Fin 8704) (j : Fin 2048) : val_main_v54 (F := Ideal) x8 (ix2 r j) = x8 (ix2 0 j) := by
  rw [val_main_v54_apply, val_main_v53_apply, val_main_v52_apply, val_main_v51_apply]
  congr 1
  funext a
  apply Fin.ext
  match a with
  | ⟨0, _⟩ => rfl
  | ⟨1, _⟩ => show j.val % 2048 = j.val; omega

/-- An entry of the reference's result: an entry of the same normalized row. -/
theorem ref_entry (r : Fin 8704) (j : Fin 2048) : val_main_v55 (F := Ideal) x0 x1 x2 x3 x4 x5 x6 x7 x8 (ix2 r j)
    = normed (rowAt x0 x1 x2 (pArr x3 x4) x5 x6 r) (x7 (ix2 0 j)) (x8 (ix2 0 j)) j := by
  have e : idx_main_v44 (ix2 r j) = ix2 r 0 := funext fun a => match a with | ⟨0, _⟩ => rfl | ⟨1, _⟩ => rfl
  rw [val_main_v55_apply, val_main_v50_apply, val_main_v45_apply, val_main_v44_apply, e, val_main_v43_apply, val_main_v42_apply, val_main_v41_apply,
    ref_scale, ref_shift, ref_dev', ref_var]
  rfl

/-- The second result's entry is the first's: the cast is the identity. -/
theorem ref_cast_entry (r : Fin 8704) (j : Fin 2048) : val_main_v56 (F := Ideal) x0 x1 x2 x3 x4 x5 x6 x7 x8 (ix2 r j)
    = normed (rowAt x0 x1 x2 (pArr x3 x4) x5 x6 r) (x7 (ix2 0 j)) (x8 (ix2 0 j)) j := by
  rw [val_main_v56_apply]
  exact ref_entry x0 x1 x2 x3 x4 x5 x6 x7 x8 r j

end Entry

section Results

variable (m : (ℓ : Loc Cert.Kernel3Ideal.nD Cert.Kernel3Ideal.τ Cert.Kernel3Ideal.sig) → Buf (Elt Ideal) ℓ) (c : Dev Cert.Kernel3Ideal.nD)

/-- The first results are equal. -/
theorem results_equal :
    ((Cert.Kernel3Ideal.Gen.dats m 0 c).arrAt 8 Cert.Kernel3Ideal.cfg0.N : Vec Ideal S8704x2048 .f32)
      = val_main_v55 (F := Ideal) (m ((c : Thread Cert.Kernel3Ideal.nD Cert.Kernel3Ideal.τ).loc Cert.Kernel3Ideal.main_arg0))
          (m ((c : Thread Cert.Kernel3Ideal.nD Cert.Kernel3Ideal.τ).loc Cert.Kernel3Ideal.main_arg1))
          (m ((c : Thread Cert.Kernel3Ideal.nD Cert.Kernel3Ideal.τ).loc Cert.Kernel3Ideal.main_arg2))
          (m ((c : Thread Cert.Kernel3Ideal.nD Cert.Kernel3Ideal.τ).loc Cert.Kernel3Ideal.main_arg3))
          (m ((c : Thread Cert.Kernel3Ideal.nD Cert.Kernel3Ideal.τ).loc Cert.Kernel3Ideal.main_arg4))
          (m ((c : Thread Cert.Kernel3Ideal.nD Cert.Kernel3Ideal.τ).loc Cert.Kernel3Ideal.main_arg5))
          (m ((c : Thread Cert.Kernel3Ideal.nD Cert.Kernel3Ideal.τ).loc Cert.Kernel3Ideal.main_arg6))
          (m ((c : Thread Cert.Kernel3Ideal.nD Cert.Kernel3Ideal.τ).loc Cert.Kernel3Ideal.main_arg7))
          (m ((c : Thread Cert.Kernel3Ideal.nD Cert.Kernel3Ideal.τ).loc Cert.Kernel3Ideal.main_arg8)) := by
  funext i
  have e : i = ix2 (i 0) (i 1) := funext fun a => match a with | ⟨0, _⟩ => rfl | ⟨1, _⟩ => rfl
  rw [e]
  exact (result8_entry m c (i 0) (i 1)).trans (ref_entry _ _ _ _ _ _ _ _ _ (i 0) (i 1)).symm

/-- The second results are equal: the same values, cast. -/
theorem cast_results_equal :
    ((Cert.Kernel3Ideal.Gen.dats m 0 c).arrAt 9 Cert.Kernel3Ideal.cfg0.N : Vec Ideal S8704x2048 .bf16)
      = val_main_v56 (F := Ideal) (m ((c : Thread Cert.Kernel3Ideal.nD Cert.Kernel3Ideal.τ).loc Cert.Kernel3Ideal.main_arg0))
          (m ((c : Thread Cert.Kernel3Ideal.nD Cert.Kernel3Ideal.τ).loc Cert.Kernel3Ideal.main_arg1))
          (m ((c : Thread Cert.Kernel3Ideal.nD Cert.Kernel3Ideal.τ).loc Cert.Kernel3Ideal.main_arg2))
          (m ((c : Thread Cert.Kernel3Ideal.nD Cert.Kernel3Ideal.τ).loc Cert.Kernel3Ideal.main_arg3))
          (m ((c : Thread Cert.Kernel3Ideal.nD Cert.Kernel3Ideal.τ).loc Cert.Kernel3Ideal.main_arg4))
          (m ((c : Thread Cert.Kernel3Ideal.nD Cert.Kernel3Ideal.τ).loc Cert.Kernel3Ideal.main_arg5))
          (m ((c : Thread Cert.Kernel3Ideal.nD Cert.Kernel3Ideal.τ).loc Cert.Kernel3Ideal.main_arg6))
          (m ((c : Thread Cert.Kernel3Ideal.nD Cert.Kernel3Ideal.τ).loc Cert.Kernel3Ideal.main_arg7))
          (m ((c : Thread Cert.Kernel3Ideal.nD Cert.Kernel3Ideal.τ).loc Cert.Kernel3Ideal.main_arg8)) := by
  funext i
  have e : i = ix2 (i 0) (i 1) := funext fun a => match a with | ⟨0, _⟩ => rfl | ⟨1, _⟩ => rfl
  rw [e]
  exact (result9_entry m c (i 0) (i 1)).trans (ref_cast_entry _ _ _ _ _ _ _ _ _ (i 0) (i 1)).symm

end Results

end PostNorm

end
-- ==== Proof.Moe.Kernel.lean ====
/-
  The experts' feed-forward: the arrays that the host prepares, what a step contributes to its block of rows,
  and what the result holds when a block's sixteen steps are done.
-/
module

public import proofs.«01_k».proof.Proof.Gen.Kernel4Ideal.Value
public import Idealize.ShloMosaic.Lib.Pointwise
public import Idealize.ShloMosaic.Lib.WritesUnit
public import Idealize.ShloMosaic.Lib.Pipeline.ValueKit.Basic
public import Idealize.ShloMosaic.Lib.Pipeline.ValueKit.Acc
public import Idealize.ShloMosaic.PureOps.Ideal.Laws

@[expose] public section

set_option maxRecDepth 16384

noncomputable section

namespace Experts

open Idealize.ShloMosaic Idealize.ShloMosaic.TcCoe Idealize.SL.Sem
open Cert.Kernel4Ideal Cert.Kernel4Ideal.Gen

variable (m : (ℓ : Loc nD τ sig) → Buf (Elt Ideal) ℓ) (c : Dev nD)

/-- The gates' row, summed with all but one expert's gate replaced by zero, is that expert's gate. -/
theorem gate_sum (f : Fin 16 → EReal) (e : Fin 16) :
    (∑ x : Fin 16, Scalar.select (IntOp.cmpi CmpIPredicate.eq (BitVec.ofNat 32 x.val) (BitVec.ofNat 32 e.val)) (f x) 0) = f e := by
  have h : ∀ x : Fin 16, Scalar.select (IntOp.cmpi CmpIPredicate.eq (BitVec.ofNat 32 x.val) (BitVec.ofNat 32 e.val)) (f x) 0 = if x = e then f x else 0 := by
    intro x
    by_cases hx : x = e
    · subst hx
      simp [Scalar.select, IntOp.cmpi]
    · have : ∀ x e : Fin 16, x ≠ e → IntOp.cmpi CmpIPredicate.eq (BitVec.ofNat 32 x.val) (BitVec.ofNat 32 e.val) ≠ 1#1 := by decide
      rw [if_neg hx]
      exact if_neg (this x e hx)
  rw [Finset.sum_congr rfl fun x _ => h x]
  simp

/-- One hidden value of one expert for one row, before the gate. -/
def hidden (a b : EReal) : EReal := a * Ideal.logistic a * b

/-- An entry of an expert's contribution: its hidden values for the row, scaled by the row's gate, times a column of its last weights. -/
theorem pay_apply (i : grid0.Coords) (e : Fin 16) (he : (i 1).val = e.val) (x : Vec Ideal S1088x2048 .bf16) (g : Vec Ideal S1088x16 .f32) (wg wu : Vec Ideal S1x2048x512 .bf16) (wd : Vec Ideal S1x512x2048 .bf16)
    (r : Fin 1088) (j : Fin 2048) : k0_pay1 i x wg wu g wd (ix2 r j)
      = ∑ f : Fin 512, hidden (∑ k : Fin 2048, x (ix2 r k) * wg (ix3 0 k f)) (∑ k : Fin 2048, x (ix2 r k) * wu (ix3 0 k f))
          * g (ix2 r e) * wd (ix3 0 f j) := by
  unfold k0_pay1
  pointwise
  refine Finset.sum_congr rfl fun f _ => ?_
  rw [he, gate_sum (fun x => g (ix2 r x)) e]
  rfl

/-- A later step's block: what the steps before left, and the expert's contribution. -/
theorem pay_later_apply (i : grid0.Coords) (x : Vec Ideal S1088x2048 .bf16) (g : Vec Ideal S1088x16 .f32) (wg wu : Vec Ideal S1x2048x512 .bf16) (wd : Vec Ideal S1x512x2048 .bf16)
    (p : Vec Ideal S1088x2048 .f32) (r : Fin 1088) (j : Fin 2048) : k0_pay2 i x wg wu g wd p (ix2 r j) = p (ix2 r j) + k0_pay1 i x wg wu g wd (ix2 r j) := by
  unfold k0_pay2
  generalize k0_pay1 i x wg wu g wd = q
  pointwise

/-- The grid has 128 steps. -/
theorem N128 (t : Fin cfg0.N) : t.val < 128 := lt_of_lt_of_eq t.isLt N_0

/-- The expert of a step. -/
theorem expert_index : ∀ t : Fin cfg0.N, (grid0.coords t 1).val = t.val % 16 := by decide +kernel

/-- Which block of each array a step works on: the 16 experts for each of 8 blocks of rows. -/
theorem block_index : ∀ t : Fin cfg0.N, (win0_0.index t 0 = t.val / 16 ∧ win0_0.index t 1 = 0)
    ∧ (win0_1.index t 0 = t.val / 16 ∧ win0_1.index t 1 = 0)
    ∧ (win0_2.index t 0 = t.val % 16 ∧ win0_2.index t 1 = 0 ∧ win0_2.index t 2 = 0)
    ∧ (win0_3.index t 0 = t.val % 16 ∧ win0_3.index t 1 = 0 ∧ win0_3.index t 2 = 0)
    ∧ (win0_4.index t 0 = t.val % 16 ∧ win0_4.index t 1 = 0 ∧ win0_4.index t 2 = 0)
    ∧ (win0_5.index t 0 = t.val / 16 ∧ win0_5.index t 1 = 0) := by decide +kernel

/-- The first two weights, as the host cuts and casts those of layer 0. -/
def upArr (w : Vec Ideal S2x16x2048x512 .f32) : FVec Ideal S16x2048x512 .bf16 :=
  truncf .bf16 (shapeCast S16x2048x512 (extractStridedSlice S1x16x2048x512 ![0, 0, 0, 0] w slices_S2x16x2048x512_S1x16x2048x512_0_0_0_0)
    shapeCasts_S1x16x2048x512_S16x2048x512 : FVec Ideal S16x2048x512 .f32) bitsLt_bf16_f32

/-- The last weights, as the host cuts and casts those of layer 0. -/
def downArr (w : Vec Ideal S2x16x512x2048 .f32) : FVec Ideal S16x512x2048 .bf16 :=
  truncf .bf16 (shapeCast S16x512x2048 (extractStridedSlice S1x16x512x2048 ![0, 0, 0, 0] w slices_S2x16x512x2048_S1x16x512x2048_0_0_0_0)
    shapeCasts_S1x16x512x2048_S16x512x2048 : FVec Ideal S16x512x2048 .f32) bitsLt_bf16_f32

/-- The gate weights' array holds what the host prepares. -/
theorem V_gateW : V m c main_v2 = upArr (m ((c : Thread nD τ).loc main_arg2)) := by
  show StableHlo.after _ _ (Proc.devRef .tc main_v2) = _
  simp only [hostOps0]
  after_results_simp
  rfl

/-- The up weights' array holds what the host prepares. -/
theorem V_upW : V m c main_v5 = upArr (m ((c : Thread nD τ).loc main_arg3)) := by
  show StableHlo.after _ _ (Proc.devRef .tc main_v5) = _
  simp only [hostOps0]
  after_results_simp
  rfl

/-- The down weights' array holds what the host prepares. -/
theorem V_downW : V m c main_v8 = downArr (m ((c : Thread nD τ).loc main_arg4)) := by
  show StableHlo.after _ _ (Proc.devRef .tc main_v8) = _
  simp only [hostOps0]
  after_results_simp
  rfl

/-- An entry of the first two weights of layer 0. -/
theorem up_apply (w : Vec Ideal S2x16x2048x512 .f32) (e : Fin 16) (k : Fin 2048) (f : Fin 512) : upArr w (ix3 e k f) = w (ix4 0 e k f) := by
  unfold upArr
  pointwise

/-- An entry of the last weights of layer 0. -/
theorem down_apply (w : Vec Ideal S2x16x512x2048 .f32) (e : Fin 16) (f : Fin 512) (j : Fin 2048) : downArr w (ix3 e f j) = w (ix4 0 e f j) := by
  unfold downArr
  pointwise

/-- A load of a whole block of two axes. -/
theorem load2 {n0 n1 : ℕ} {φ : EltTy} (a : Memref sig .tc .vmem ⟨2, ![n0, n1]⟩ φ) (ha : a.IsWhole) (x : Vec Ideal ⟨2, ![n0, n1]⟩ φ) (inb) :
    View.readAt (Elt Ideal) a.view (Rect.unit (s := ⟨2, ![n0, n1]⟩) ![0, 0] ![n0, n1] inb).toLoadRect (ha.unread x) = x := by
  funext i
  refine (congrFun (ha.read_unread x) _).trans ?_
  congr 1
  funext d
  apply Fin.ext
  match d with
  | ⟨0, _⟩ => show 0 + 1 * (i 0).val = (i 0).val; omega
  | ⟨1, _⟩ => show 0 + 1 * (i 1).val = (i 1).val; omega

/-- A load of a whole block of three axes. -/
theorem load3 {n0 n1 n2 : ℕ} {φ : EltTy} (a : Memref sig .tc .vmem ⟨3, ![n0, n1, n2]⟩ φ) (ha : a.IsWhole) (x : Vec Ideal ⟨3, ![n0, n1, n2]⟩ φ) (inb) :
    View.readAt (Elt Ideal) a.view (Rect.unit (s := ⟨3, ![n0, n1, n2]⟩) ![0, 0, 0] ![n0, n1, n2] inb).toLoadRect (ha.unread x) = x := by
  funext i
  refine (congrFun (ha.read_unread x) _).trans ?_
  congr 1
  funext d
  apply Fin.ext
  match d with
  | ⟨0, _⟩ => show 0 + 1 * (i 0).val = (i 0).val; omega
  | ⟨1, _⟩ => show 0 + 1 * (i 1).val = (i 1).val; omega
  | ⟨2, _⟩ => show 0 + 1 * (i 2).val = (i 2).val; omega

/-- The step of the first expert leaves its contribution. -/
theorem out_first (i : grid0.Coords) (arg2 : Memref sig .tc .vmem S1088x2048 .bf16) (harg2 : arg2.IsWhole) (arg3 : Memref sig .tc .vmem S1088x16 .f32) (harg3 : arg3.IsWhole)
    (arg4 : Memref sig .tc .vmem S1x2048x512 .bf16) (harg4 : arg4.IsWhole) (arg5 : Memref sig .tc .vmem S1x2048x512 .bf16) (harg5 : arg5.IsWhole)
    (arg6 : Memref sig .tc .vmem S1x512x2048 .bf16) (harg6 : arg6.IsWhole) (arg7 : Memref sig .tc .vmem S1088x2048 .f32) (harg7 : arg7.IsWhole)
    (hc0 : cond0_0 i) (hc1 : ¬cond0_1 i)
    (x0 : Vec Ideal S1088x2048 .bf16) (x1 : Vec Ideal S1088x16 .f32) (x2 x3 : Vec Ideal S1x2048x512 .bf16) (x4 : Vec Ideal S1x512x2048 .bf16) (r : Fin 1088) (j : Fin 2048) :
    out0_A_5 c i arg2 harg2 arg3 harg3 arg4 harg4 arg5 harg5 arg6 harg6 arg7 harg7 hc0 hc1 x0 x1 x2 x3 x4 (ix2 r j) = k0_pay1 i x0 x2 x3 x1 x4 (ix2 r j) := by
  unfold out0_A_5
  have h : (kernelRun0_A c i arg2 harg2 arg3 harg3 arg4 harg4 arg5 harg5 arg6 harg6 arg7 harg7 hc0 hc1 x0 x1 x2 x3 x4).1
      = [⟨Rect.unit (s := S1088x2048) ![0, 0] S1088x2048.size inb_S1088x2048_S1088x2048_0_0, k0_pay1 i x0 x2 x3 x1 x4⟩] := by
    dsimp only [kernelRun0_A]
    rw [load2 arg2 harg2, load2 arg3 harg3, load3 arg4 harg4, load3 arg5 harg5, load3 arg6 harg6]
  generalize (kernelRun0_A c i arg2 harg2 arg3 harg3 arg4 harg4 arg5 harg5 arg6 harg6 arg7 harg7 hc0 hc1 x0 x1 x2 x3 x4).1 = L at h ⊢
  subst h
  generalize k0_pay1 i x0 x2 x3 x1 x4 = w
  exact View.read_writes_cons_unit_of_mem VO0_5 VO0_5.junk _ _ _ _ (ix2 r j) rfl (fun a => by fin_cases a <;> simp)

/-- The step of a later expert leaves what was there, and its contribution. -/
theorem out_later (i : grid0.Coords) (arg2 : Memref sig .tc .vmem S1088x2048 .bf16) (harg2 : arg2.IsWhole) (arg3 : Memref sig .tc .vmem S1088x16 .f32) (harg3 : arg3.IsWhole)
    (arg4 : Memref sig .tc .vmem S1x2048x512 .bf16) (harg4 : arg4.IsWhole) (arg5 : Memref sig .tc .vmem S1x2048x512 .bf16) (harg5 : arg5.IsWhole)
    (arg6 : Memref sig .tc .vmem S1x512x2048 .bf16) (harg6 : arg6.IsWhole) (arg7 : Memref sig .tc .vmem S1088x2048 .f32) (harg7 : arg7.IsWhole)
    (hc0 : ¬cond0_0 i) (hc1 : cond0_1 i)
    (x0 : Vec Ideal S1088x2048 .bf16) (x1 : Vec Ideal S1088x16 .f32) (x2 x3 : Vec Ideal S1x2048x512 .bf16) (x4 : Vec Ideal S1x512x2048 .bf16)
    (x5 : Vec Ideal S1088x2048 .f32) (r : Fin 1088) (j : Fin 2048) :
    out0_B_5 c i arg2 harg2 arg3 harg3 arg4 harg4 arg5 harg5 arg6 harg6 arg7 harg7 hc0 hc1 x0 x1 x2 x3 x4 x5 (ix2 r j) = k0_pay2 i x0 x2 x3 x1 x4 x5 (ix2 r j) := by
  unfold out0_B_5
  have h : (kernelRun0_B c i arg2 harg2 arg3 harg3 arg4 harg4 arg5 harg5 arg6 harg6 arg7 harg7 hc0 hc1 x0 x1 x2 x3 x4 x5).1
      = [⟨Rect.unit (s := S1088x2048) ![0, 0] S1088x2048.size inb_S1088x2048_S1088x2048_0_0, k0_pay2 i x0 x2 x3 x1 x4 x5⟩] := by
    dsimp only [kernelRun0_B]
    rw [load2 arg2 harg2, load2 arg3 harg3, load3 arg4 harg4, load3 arg5 harg5, load3 arg6 harg6, load2 arg7 harg7]
  generalize (kernelRun0_B c i arg2 harg2 arg3 harg3 arg4 harg4 arg5 harg5 arg6 harg6 arg7 harg7 hc0 hc1 x0 x1 x2 x3 x4 x5).1 = L at h ⊢
  subst h
  generalize k0_pay2 i x0 x2 x3 x1 x4 x5 = w
  exact View.read_writes_cons_unit_of_mem VO0_5 VO0_5.junk _ _ _ _ (ix2 r j) rfl (fun a => by fin_cases a <;> simp)

/-- The rows' window at a step. -/
theorem rows_block (t : Fin cfg0.N) (r : Fin 1088) (k : Fin 2048) : (iblk m c 0 t : Vec Ideal S1088x2048 .bf16) (ix2 r k)
    = (m ((c : Thread nD τ).loc main_arg0)) (ix2 ⟨1088 * (t.val / 16) + r.val, by have := N128 t; omega⟩ k) := by
  have hi := block_index t
  unfold iblk
  rw [View.read_apply]
  show V m c main_arg0 _ = _
  rw [V_main_arg0]
  show (m ((c : Thread nD τ).loc main_arg0)) _ = _
  congr 1
  funext a
  apply Fin.ext
  match a with
  | ⟨0, _⟩ => show win0_0.index t 0 * 1088 + 1 * r.val = 1088 * (t.val / 16) + r.val; rw [hi.1.1]; omega
  | ⟨1, _⟩ => show win0_0.index t 1 * 2048 + 1 * k.val = k.val; rw [hi.1.2]; omega

/-- The gates' window at a step. -/
theorem gates_block (t : Fin cfg0.N) (r : Fin 1088) (e : Fin 16) : (iblk m c 1 t : Vec Ideal S1088x16 .f32) (ix2 r e)
    = (m ((c : Thread nD τ).loc main_arg1)) (ix2 ⟨1088 * (t.val / 16) + r.val, by have := N128 t; omega⟩ e) := by
  have hi := block_index t
  unfold iblk
  rw [View.read_apply]
  show V m c main_arg1 _ = _
  rw [V_main_arg1]
  show (m ((c : Thread nD τ).loc main_arg1)) _ = _
  congr 1
  funext a
  apply Fin.ext
  match a with
  | ⟨0, _⟩ => show win0_1.index t 0 * 1088 + 1 * r.val = 1088 * (t.val / 16) + r.val; rw [hi.2.1.1]; omega
  | ⟨1, _⟩ => show win0_1.index t 1 * 16 + 1 * e.val = e.val; rw [hi.2.1.2]; omega

/-- The gate weights' window at a step. -/
theorem gateW_block (t : Fin cfg0.N) (k : Fin 2048) (f : Fin 512) : (iblk m c 2 t : Vec Ideal S1x2048x512 .bf16) (ix3 0 k f)
    = (m ((c : Thread nD τ).loc main_arg2)) (ix4 0 ⟨t.val % 16, by omega⟩ k f) := by
  have hi := block_index t
  rw [← up_apply (m ((c : Thread nD τ).loc main_arg2)) ⟨t.val % 16, by omega⟩ k f]
  unfold iblk
  rw [View.read_apply]
  show V m c main_v2 _ = _
  rw [V_gateW]
  show upArr (m ((c : Thread nD τ).loc main_arg2)) _ = _
  congr 1
  funext a
  apply Fin.ext
  match a with
  | ⟨0, _⟩ => show win0_2.index t 0 * 1 + 1 * 0 = t.val % 16; rw [hi.2.2.1.1]; omega
  | ⟨1, _⟩ => show win0_2.index t 1 * 2048 + 1 * k.val = k.val; rw [hi.2.2.1.2.1]; omega
  | ⟨2, _⟩ => show win0_2.index t 2 * 512 + 1 * f.val = f.val; rw [hi.2.2.1.2.2]; omega

/-- The up weights' window at a step. -/
theorem upW_block (t : Fin cfg0.N) (k : Fin 2048) (f : Fin 512) : (iblk m c 3 t : Vec Ideal S1x2048x512 .bf16) (ix3 0 k f)
    = (m ((c : Thread nD τ).loc main_arg3)) (ix4 0 ⟨t.val % 16, by omega⟩ k f) := by
  have hi := block_index t
  rw [← up_apply (m ((c : Thread nD τ).loc main_arg3)) ⟨t.val % 16, by omega⟩ k f]
  unfold iblk
  rw [View.read_apply]
  show V m c main_v5 _ = _
  rw [V_upW]
  show upArr (m ((c : Thread nD τ).loc main_arg3)) _ = _
  congr 1
  funext a
  apply Fin.ext
  match a with
  | ⟨0, _⟩ => show win0_3.index t 0 * 1 + 1 * 0 = t.val % 16; rw [hi.2.2.2.1.1]; omega
  | ⟨1, _⟩ => show win0_3.index t 1 * 2048 + 1 * k.val = k.val; rw [hi.2.2.2.1.2.1]; omega
  | ⟨2, _⟩ => show win0_3.index t 2 * 512 + 1 * f.val = f.val; rw [hi.2.2.2.1.2.2]; omega

/-- The down weights' window at a step. -/
theorem downW_block (t : Fin cfg0.N) (f : Fin 512) (j : Fin 2048) : (iblk m c 4 t : Vec Ideal S1x512x2048 .bf16) (ix3 0 f j)
    = (m ((c : Thread nD τ).loc main_arg4)) (ix4 0 ⟨t.val % 16, by omega⟩ f j) := by
  have hi := block_index t
  rw [← down_apply (m ((c : Thread nD τ).loc main_arg4)) ⟨t.val % 16, by omega⟩ f j]
  unfold iblk
  rw [View.read_apply]
  show V m c main_v8 _ = _
  rw [V_downW]
  show downArr (m ((c : Thread nD τ).loc main_arg4)) _ = _
  congr 1
  funext a
  apply Fin.ext
  match a with
  | ⟨0, _⟩ => show win0_4.index t 0 * 1 + 1 * 0 = t.val % 16; rw [hi.2.2.2.2.1.1]; omega
  | ⟨1, _⟩ => show win0_4.index t 1 * 512 + 1 * f.val = f.val; rw [hi.2.2.2.2.1.2.1]; omega
  | ⟨2, _⟩ => show win0_4.index t 2 * 2048 + 1 * j.val = j.val; rw [hi.2.2.2.2.1.2.2]; omega

/-- What one expert adds to an entry of the result. -/
def expertTerm (x : Vec Ideal S8704x2048 .bf16) (g : Vec Ideal S8704x16 .f32) (wg wu : Vec Ideal S2x16x2048x512 .f32) (wd : Vec Ideal S2x16x512x2048 .f32)
    (r : Fin 8704) (j : Fin 2048) (e : Fin 16) : EReal :=
  ∑ f : Fin 512, hidden (∑ k : Fin 2048, x (ix2 r k) * wg (ix4 0 e k f)) (∑ k : Fin 2048, x (ix2 r k) * wu (ix4 0 e k f))
    * g (ix2 r e) * wd (ix4 0 e f j)

/-- What a step adds to an entry of its block. -/
def stepTerm (t : Fin cfg0.N) (i : S1088x2048.Idx) : EReal :=
  expertTerm (m ((c : Thread nD τ).loc main_arg0)) (m ((c : Thread nD τ).loc main_arg1)) (m ((c : Thread nD τ).loc main_arg2))
    (m ((c : Thread nD τ).loc main_arg3)) (m ((c : Thread nD τ).loc main_arg4))
    ⟨1088 * (t.val / 16) + (i 0).val, by have := N128 t; have : (i 0).val < 1088 := (i 0).isLt; omega⟩ (i 1) ⟨t.val % 16, by omega⟩

/-- A step's contribution, from the arguments. -/
theorem step_pay (t : Fin cfg0.N) (r : Fin 1088) (j : Fin 2048) :
    k0_pay1 (grid0.coords t) (iblk m c 0 t : Vec Ideal S1088x2048 .bf16) (iblk m c 2 t : Vec Ideal S1x2048x512 .bf16) (iblk m c 3 t : Vec Ideal S1x2048x512 .bf16)
      (iblk m c 1 t : Vec Ideal S1088x16 .f32) (iblk m c 4 t : Vec Ideal S1x512x2048 .bf16) (ix2 r j) = stepTerm m c t (ix2 r j) := by
  rw [pay_apply (grid0.coords t) ⟨t.val % 16, by omega⟩ (expert_index t)]
  unfold stepTerm expertTerm
  refine Finset.sum_congr rfl fun f _ => ?_
  rw [gates_block, downW_block]
  refine congrArg₂ (· * ·) (congrArg₂ (· * ·) (congrArg₂ hidden (Finset.sum_congr rfl fun k _ => ?_) (Finset.sum_congr rfl fun k _ => ?_)) rfl) rfl
  · exact congrArg₂ (· * ·) (rows_block m c t r k) (gateW_block m c t k f)
  · exact congrArg₂ (· * ·) (rows_block m c t r k) (upW_block m c t k f)

/-- An index of a block, by its coordinates. -/
theorem idx_eta (i : S1088x2048.Idx) : i = ix2 (i 0 : Fin 1088) (i 1 : Fin 2048) := by
  funext a
  match a with
  | ⟨0, _⟩ => rfl
  | ⟨1, _⟩ => rfl

/-- The first step of a block of rows. -/
theorem outs_first (t : Fin cfg0.N) (h0 : t.val % 16 = 0) (i : S1088x2048.Idx) :
    (outsAt0 m c t.val t.isLt : S1088x2048.Idx → EReal) i = (fun _ => (0 : EReal)) i + stepTerm m c t i := by
  obtain ⟨r, j, rfl⟩ : ∃ (r : Fin 1088) (j : Fin 2048), i = ix2 r j := ⟨i 0, i 1, idx_eta i⟩
  rw [outsAt0_A m c t h0 (by omega), out_first, step_pay]
  exact (zero_add _).symm

/-- Every later step of a block of rows. -/
theorem outs_later (t : Fin cfg0.N) (h0 : ¬t.val % 16 = 0) (i : S1088x2048.Idx) :
    (outsAt0 m c t.val t.isLt : S1088x2048.Idx → EReal) i
      = (outsAt0 m c (t.val - 1) (Nat.lt_of_le_of_lt (Nat.sub_le _ _) t.isLt) : S1088x2048.Idx → EReal) i + stepTerm m c t i := by
  obtain ⟨r, j, rfl⟩ : ∃ (r : Fin 1088) (j : Fin 2048), i = ix2 r j := ⟨i 0, i 1, idx_eta i⟩
  rw [outsAt0_B m c t h0 (by omega), out_later, pay_later_apply, step_pay]

/-- What a block of rows holds after its last step: the sum over the experts. -/
theorem outs_last (t : Fin cfg0.N) (hr : t.val % 16 = 15) (i : S1088x2048.Idx) :
    (outsAt0 m c t.val t.isLt : S1088x2048.Idx → EReal) i
      = ∑ e : Fin 16, expertTerm (m ((c : Thread nD τ).loc main_arg0)) (m ((c : Thread nD τ).loc main_arg1)) (m ((c : Thread nD τ).loc main_arg2))
          (m ((c : Thread nD τ).loc main_arg3)) (m ((c : Thread nD τ).loc main_arg4))
          ⟨1088 * (t.val / 16) + (i 0).val, by have := N128 t; have : (i 0).val < 1088 := (i 0).isLt; omega⟩ (i 1) e := by
  refine (Pipeline.eq_sum_fin_of_reset_step_apply_of_flush (fun n h => (outsAt0 m c n h : S1088x2048.Idx → EReal)) 16 (fun _ => (0 : EReal)) (stepTerm m c)
    (outs_first m c) (outs_later m c) t hr i).trans ?_
  refine (zero_add _).trans (Finset.sum_congr rfl fun s _ => ?_)
  unfold stepTerm
  congr 1
  · exact Fin.ext (by show 1088 * ((16 * (t.val / 16) + s.val) / 16) + (i 0).val = 1088 * (t.val / 16) + (i 0).val; omega)
  · exact Fin.ext (by show (16 * (t.val / 16) + s.val) % 16 = s.val; omega)

/-- The whole result: at each entry the sum over the experts. -/
def resultArr : Vec Ideal S8704x2048 .f32 := fun y =>
  ∑ e : Fin 16, expertTerm (m ((c : Thread nD τ).loc main_arg0)) (m ((c : Thread nD τ).loc main_arg1)) (m ((c : Thread nD τ).loc main_arg2))
    (m ((c : Thread nD τ).loc main_arg3)) (m ((c : Thread nD τ).loc main_arg4)) (y 0) (y 1) e

/-- Each block that is written back is the result's block. -/
theorem flushed_eq (t : Fin cfg0.N) (hf : (cfg0.win 5).flush t = true) :
    (dats m 0 c).flushed 5 t = ((cfg0.win 5).blk t).view.read (Elt Ideal) (resultArr m c) := by
  have hi := block_index t
  rw [Value.flushed5]
  funext y
  rw [View.read_apply]
  refine (outs_last m c t ((flush0_5 t).mp hf) y).trans ?_
  show _ = resultArr m c _
  unfold resultArr
  refine Finset.sum_congr rfl fun e _ => ?_
  congr 1
  · exact Fin.ext (by show 1088 * (t.val / 16) + (y 0).val = win0_5.index t 0 * 1088 + 1 * (y 0).val; rw [hi.2.2.2.2.2.1]; omega)
  · exact Fin.ext (by show (y 1).val = win0_5.index t 1 * 2048 + 1 * (y 1).val; rw [hi.2.2.2.2.2.2]; omega)

/-- An entry of the result: the sum over the experts of layer 0. -/
theorem result_entry (r : Fin 8704) (j : Fin 2048) : ((dats m 0 c).arrAt 5 cfg0.N : Vec Ideal S8704x2048 .f32) (ix2 r j)
    = ∑ e : Fin 16, expertTerm (m ((c : Thread nD τ).loc main_arg0)) (m ((c : Thread nD τ).loc main_arg1)) (m ((c : Thread nD τ).loc main_arg2))
        (m ((c : Thread nD τ).loc main_arg3)) (m ((c : Thread nD τ).loc main_arg4)) r j e := by
  obtain ⟨t, ht⟩ : ∃ t : Fin cfg0.N, t.val = 16 * (r.val / 1088) + 15 := ⟨⟨_, lt_of_lt_of_eq (by omega) N_0.symm⟩, rfl⟩
  have hi := block_index t
  have h := congrFun ((dats m 0 c).read_blk_arrAt 5 (resultArr m c) (flushed_eq m c) t ((flush0_5 t).mpr (by omega))) (ix2 (⟨r.val % 1088, by omega⟩ : Fin 1088) j)
  rw [View.read_apply, View.read_apply] at h
  have he : ((cfg0.win 5).blk t).view.emb (ix2 (⟨r.val % 1088, by omega⟩ : Fin 1088) j) = (ix2 r j : S8704x2048.Idx) := by
    funext a
    apply Fin.ext
    match a with
    | ⟨0, _⟩ => show win0_5.index t 0 * 1088 + 1 * (r.val % 1088) = r.val; rw [hi.2.2.2.2.2.1]; omega
    | ⟨1, _⟩ => show win0_5.index t 1 * 2048 + 1 * j.val = j.val; rw [hi.2.2.2.2.2.2]; omega
  rw [he] at h
  exact h

end Experts

end
-- ==== Proof.Moe.Reference.lean ====
/-
  The experts' reference, read at an entry, and its equality with the kernel's result.
-/
module

public import proofs.«01_k».proof.Proof.Gen.Reference4Ideal.Read
public import proofs.«01_k».proof.Proof.Moe.Kernel

@[expose] public section

set_option maxRecDepth 16384

noncomputable section

namespace Experts

open Idealize.ShloMosaic Idealize.ShloMosaic.TcCoe Idealize.SL.Sem
open Cert.Reference4Ideal Cert.Reference4Ideal.Gen Cert.Reference4Ideal.Read

variable (x : Vec Ideal S8704x2048 .bf16) (g : Vec Ideal S8704x16 .f32) (wg wu : Vec Ideal S2x16x2048x512 .f32) (wd : Vec Ideal S2x16x512x2048 .f32)

/-- The gate weights of layer 0. -/
theorem ref_gateW (e : Fin 16) (k : Fin 2048) (f : Fin 512) : val_main_v2 (F := Ideal) wg (ix3 e k f) = wg (ix4 0 e k f) := by
  rw [val_main_v2_apply, val_main_v1_apply]
  congr 1
  funext a
  apply Fin.ext
  match a with
  | ⟨0, _⟩ => rfl
  | ⟨1, _⟩ => show ((e.val * 2048 + k.val) * 512 + f.val) / 1048576 % 16 = e.val; omega
  | ⟨2, _⟩ => show ((e.val * 2048 + k.val) * 512 + f.val) / 512 % 2048 = k.val; omega
  | ⟨3, _⟩ => show ((e.val * 2048 + k.val) * 512 + f.val) % 512 = f.val; omega

/-- The up weights of layer 0. -/
theorem ref_upW (e : Fin 16) (k : Fin 2048) (f : Fin 512) : val_main_v4 (F := Ideal) wu (ix3 e k f) = wu (ix4 0 e k f) := ref_gateW wu e k f

/-- The down weights of layer 0. -/
theorem ref_downW (e : Fin 16) (f : Fin 512) (j : Fin 2048) : val_main_v6 (F := Ideal) wd (ix3 e f j) = wd (ix4 0 e f j) := by
  rw [val_main_v6_apply, val_main_v5_apply]
  congr 1
  funext a
  apply Fin.ext
  match a with
  | ⟨0, _⟩ => rfl
  | ⟨1, _⟩ => show ((e.val * 512 + f.val) * 2048 + j.val) / 1048576 % 16 = e.val; omega
  | ⟨2, _⟩ => show ((e.val * 512 + f.val) * 2048 + j.val) / 2048 % 512 = f.val; omega
  | ⟨3, _⟩ => show ((e.val * 512 + f.val) * 2048 + j.val) % 2048 = j.val; omega

/-- The gate product of an expert, at an entry. -/
theorem ref_gate (r : Fin 8704) (e : Fin 16) (f : Fin 512) : val_main_v7 (F := Ideal) x wg (ix3 r e f)
    = ∑ k : Fin 2048, x (ix2 r k) * wg (ix4 0 e k f) := by
  rw [val_main_v7_apply]
  refine Finset.sum_congr rfl fun k _ => ?_
  refine congrArg₂ _ (congrArg x ?_) (Eq.trans (congrArg _ ?_) (ref_gateW wg e k f))
  · exact funext fun a => match a with | ⟨0, _⟩ => rfl | ⟨1, _⟩ => rfl
  · exact funext fun a => match a with | ⟨0, _⟩ => rfl | ⟨1, _⟩ => rfl | ⟨2, _⟩ => rfl

/-- The up product of an expert, at an entry. -/
theorem ref_up (r : Fin 8704) (e : Fin 16) (f : Fin 512) : val_main_v9 (F := Ideal) x wu (ix3 r e f)
    = ∑ k : Fin 2048, x (ix2 r k) * wu (ix4 0 e k f) := ref_gate x wu r e f

/-- The quotient by one plus the exponential of the negative is the logistic function. -/
theorem logistic_eq (s : EReal) : Ideal.div (Ideal.ofBits .f32 0x3F800000#32) (Ideal.ofBits .f32 0x3F800000#32 + Ideal.exp (-s)) = Ideal.logistic s := by
  rw [Ideal.ofBits_one_f32]
  rfl

/-- The hidden value of an expert for a row. -/
theorem ref_hidden (r : Fin 8704) (e : Fin 16) (f : Fin 512) : val_main_v10 (F := Ideal) x wg wu (ix3 r e f)
    = hidden (∑ k : Fin 2048, x (ix2 r k) * wg (ix4 0 e k f)) (∑ k : Fin 2048, x (ix2 r k) * wu (ix4 0 e k f)) := by
  rw [val_main_v10_apply, ref_up, val_main_v8_apply, val_main_call0_v5_apply, val_main_call0_v4_apply, val_main_call0_cst_0_apply, val_main_call0_v3_apply,
    val_main_call0_v2_apply, val_main_call0_cst_apply, val_main_call0_v1_apply, val_main_call0_v0_apply, ref_gate]
  unfold hidden
  rw [← logistic_eq]
  rfl

/-- The gated hidden value. -/
theorem ref_gated (r : Fin 8704) (e : Fin 16) (f : Fin 512) : val_main_v13 (F := Ideal) x g wg wu (ix3 r e f)
    = hidden (∑ k : Fin 2048, x (ix2 r k) * wg (ix4 0 e k f)) (∑ k : Fin 2048, x (ix2 r k) * wu (ix4 0 e k f)) * g (ix2 r e) := by
  rw [val_main_v13_apply, ref_hidden, val_main_v12_apply, val_main_v11_apply]
  refine congrArg₂ (· * ·) rfl (congrArg g ?_)
  exact funext fun a => match a with | ⟨0, _⟩ => rfl | ⟨1, _⟩ => rfl

/-- An entry of the reference: the sum over the experts of layer 0. -/
theorem ref_entry (r : Fin 8704) (j : Fin 2048) : val_main_v14 (F := Ideal) x g wg wu wd (ix2 r j)
    = ∑ e : Fin 16, expertTerm x g wg wu wd r j e := by
  unfold val_main_v14
  generalize hp : val_main_v13 (F := Ideal) x g wg wu = p
  generalize hs : val_main_v6 (F := Ideal) wd = s
  pointwise
  subst hp hs
  unfold expertTerm
  refine Finset.sum_congr rfl fun e _ => Finset.sum_congr rfl fun f _ => ?_
  rw [ref_gated, ref_downW]

/-- The two results are equal. -/
theorem results_equal (m : (ℓ : Loc Cert.Kernel4Ideal.nD Cert.Kernel4Ideal.τ Cert.Kernel4Ideal.sig) → Buf (Elt Ideal) ℓ) (c : Dev Cert.Kernel4Ideal.nD) :
    ((Cert.Kernel4Ideal.Gen.dats m 0 c).arrAt 5 Cert.Kernel4Ideal.cfg0.N : Vec Ideal S8704x2048 .f32)
      = val_main_v14 (F := Ideal) (m ((c : Thread Cert.Kernel4Ideal.nD Cert.Kernel4Ideal.τ).loc Cert.Kernel4Ideal.main_arg0))
          (m ((c : Thread Cert.Kernel4Ideal.nD Cert.Kernel4Ideal.τ).loc Cert.Kernel4Ideal.main_arg1))
          (m ((c : Thread Cert.Kernel4Ideal.nD Cert.Kernel4Ideal.τ).loc Cert.Kernel4Ideal.main_arg2))
          (m ((c : Thread Cert.Kernel4Ideal.nD Cert.Kernel4Ideal.τ).loc Cert.Kernel4Ideal.main_arg3))
          (m ((c : Thread Cert.Kernel4Ideal.nD Cert.Kernel4Ideal.τ).loc Cert.Kernel4Ideal.main_arg4)) := by
  funext i
  have e : i = ix2 (i 0) (i 1) := funext fun a => match a with | ⟨0, _⟩ => rfl | ⟨1, _⟩ => rfl
  rw [e]
  exact (result_entry m c (i 0) (i 1)).trans (ref_entry _ _ _ _ _ (i 0) (i 1)).symm

end Experts

end
-- ==== Proof.Out.Kernel.lean ====
/-
  The output projection and first norm of a layer: the arrays that the host prepares, and what the kernel's results hold.
-/
module

public import proofs.«01_k».proof.Proof.Gen.Kernel5Ideal.Value
public import proofs.«01_k».proof.Proof.Post.Rows
public import Idealize.ShloMosaic.Lib.Pointwise
public import Idealize.ShloMosaic.Lib.Pipeline.ValueKit.Basic

@[expose] public section

set_option maxRecDepth 16384

noncomputable section

namespace OutNorm

open Idealize.ShloMosaic Idealize.ShloMosaic.TcCoe Idealize.SL.Sem
open Cert.Kernel5Ideal Cert.Kernel5Ideal.Gen
open PostNorm (mean normed)

/-- An entry of a row before the norm: the scaled stream and the three parts of the projection. -/
def joined (x p q s : EReal) : EReal := Ideal.ofBits .f32 0x3FB504F3#32 * x + ((p + q) + s)

/-- A row of a block before the norm, from the windows that a step reads. -/
def blockRow (x0 : Vec Ideal S256x2048 .f32) (x1 x2 : Vec Ideal S256x512 .bf16) (x3 : Vec Ideal S256x1024 .bf16)
    (x4 x5 : Vec Ideal S512x2048 .bf16) (x6 : Vec Ideal S1024x2048 .bf16) (r : Fin 256) (j : Fin 2048) : EReal :=
  joined (x0 (ix2 r j)) (∑ k : Fin 512, x1 (ix2 r k) * x4 (ix2 k j)) (∑ k : Fin 512, x2 (ix2 r k) * x5 (ix2 k j))
    (∑ k : Fin 1024, x3 (ix2 r k) * x6 (ix2 k j))

section Block

variable (x0 : Vec Ideal S256x2048 .f32) (x1 x2 : Vec Ideal S256x512 .bf16) (x3 : Vec Ideal S256x1024 .bf16)
    (x4 x5 : Vec Ideal S512x2048 .bf16) (x6 : Vec Ideal S1024x2048 .bf16)

/-- A deviation from its row's mean, as the kernel forms it. -/
theorem dev_apply (r : Fin 256) (j : Fin 2048) : k0_pay4 x1 x4 x2 x5 x3 x6 x0 (ix2 r j)
    = blockRow x0 x1 x2 x3 x4 x5 x6 r j - mean (blockRow x0 x1 x2 x3 x4 x5 x6 r) := by
  unfold k0_pay4 mean blockRow joined
  pointwise

/-- The variance of a row, as the kernel forms it. -/
theorem var_apply (r : Fin 256) : k0_pay5 x1 x4 x2 x5 x3 x6 x0 (ix2 r 0)
    = mean (fun k => (blockRow x0 x1 x2 x3 x4 x5 x6 r k - mean (blockRow x0 x1 x2 x3 x4 x5 x6 r))
        * (blockRow x0 x1 x2 x3 x4 x5 x6 r k - mean (blockRow x0 x1 x2 x3 x4 x5 x6 r))) := by
  simp only [← dev_apply]
  unfold k0_pay5
  generalize k0_pay4 x1 x4 x2 x5 x3 x6 x0 = d
  unfold mean
  pointwise

/-- An entry of the norm, from the deviations and the variances. -/
theorem scaled_apply (w b : Vec Ideal S1x2048 .f32) (d : FVec Ideal S256x2048 .f32) (v : FVec Ideal S256x1 .f32) (r : Fin 256) (j : Fin 2048) :
    k0_pay6 (k0_pay2 w) (k0_pay3 b) d v (ix2 r j)
      = d (ix2 r j) * Ideal.rsqrt (v (ix2 r 0) + Ideal.ofBits .f32 0x3727C5AC#32) * w (ix2 0 j) + b (ix2 0 j) := by
  unfold k0_pay6 k0_pay2 k0_pay3
  pointwise

variable (x7 x8 : Vec Ideal S1x2048 .f32) (x9 : Vec Ideal S2048x16 .f32) (x10 : Vec Ideal S1x16 .f32)

/-- What a step writes into its first output, entry by entry. -/
theorem out11_apply (r : Fin 256) (j : Fin 2048) : out0_11 x0 x1 x2 x3 x4 x5 x6 x7 x8 x9 x10 (ix2 r j)
    = normed (blockRow x0 x1 x2 x3 x4 x5 x6 r) (x7 (ix2 0 j)) (x8 (ix2 0 j)) j := by
  unfold out0_11 k0_pay23 k0_pay24 k0_pay25 k0_pay26
  rw [View.canon_cons_unit_lit _ _ _ (by decide)]
  rw [View.ld_unit_lit _ x0 (by decide), View.ld_unit_lit _ x1 (by decide), View.ld_unit_lit _ x2 (by decide), View.ld_unit_lit _ x3 (by decide),
    View.ld_unit_lit _ x4 (by decide), View.ld_unit_lit _ x5 (by decide), View.ld_unit_lit _ x6 (by decide), View.ld_unit_lit _ x7 (by decide),
    View.ld_unit_lit _ x8 (by decide)]
  rw [scaled_apply, dev_apply, var_apply]
  rfl

/-- What a step writes into its second output, entry by entry: the same, cast. -/
theorem out12_apply (r : Fin 256) (j : Fin 2048) : out0_12 x0 x1 x2 x3 x4 x5 x6 x7 x8 x9 x10 (ix2 r j)
    = normed (blockRow x0 x1 x2 x3 x4 x5 x6 r) (x7 (ix2 0 j)) (x8 (ix2 0 j)) j := by
  unfold out0_12 k0_pay23 k0_pay24 k0_pay25 k0_pay26
  rw [View.canon_cons_unit_lit _ _ _ (by decide)]
  rw [View.ld_unit_lit _ x0 (by decide), View.ld_unit_lit _ x1 (by decide), View.ld_unit_lit _ x2 (by decide), View.ld_unit_lit _ x3 (by decide),
    View.ld_unit_lit _ x4 (by decide), View.ld_unit_lit _ x5 (by decide), View.ld_unit_lit _ x6 (by decide), View.ld_unit_lit _ x7 (by decide),
    View.ld_unit_lit _ x8 (by decide)]
  show k0_pay6 (F := Ideal) _ _ _ _ (ix2 r j) = _
  rw [scaled_apply, dev_apply, var_apply]
  rfl

end Block

variable (m : (ℓ : Loc nD τ sig) → Buf (Elt Ideal) ℓ) (c : Dev nD)

/-- The projection's weights of layer 0, as the host cuts them out. -/
def weightArr (w : Vec Ideal S2x2048x2048 .f32) : FVec Ideal S2048x2048 .bf16 :=
  truncf .bf16 (shapeCast S2048x2048 (extractStridedSlice S1x2048x2048 ![0, 0, 0] w slices_S2x2048x2048_S1x2048x2048_0_0_0 : Vec Ideal S1x2048x2048 .f32)
    shapeCasts_S1x2048x2048_S2048x2048 : FVec Ideal S2048x2048 .f32) bitsLt_bf16_f32

/-- A row of the norm's parameters of layer 0, as the host cuts it out. -/
def rowArr (w : Vec Ideal S2x2048 .f32) : Vec Ideal S1x2048 .f32 :=
  shapeCast S1x2048 (shapeCast S2048 (extractStridedSlice S1x2048 ![0, 0] w slices_S2x2048_S1x2048_0_0 : Vec Ideal S1x2048 .f32)
    shapeCasts_S1x2048_S2048 : Vec Ideal S2048 .f32) shapeCasts_S2048_S1x2048

/-- An entry of the weights. -/
theorem weight_apply (w : Vec Ideal S2x2048x2048 .f32) (k j : Fin 2048) : weightArr w (ix2 k j) = w (ix3 0 k j) := by
  unfold weightArr
  pointwise

/-- An entry of a row of parameters. -/
theorem row_apply (w : Vec Ideal S2x2048 .f32) (j : Fin 2048) : rowArr w (ix2 0 j) = w (ix2 0 j) := by
  unfold rowArr
  pointwise

/-- The weights' array holds what the host cuts out. -/
theorem V_weight : V m c main_v2 = weightArr (m ((c : Thread nD τ).loc main_arg4)) := by
  show StableHlo.after _ _ (Proc.devRef .tc main_v2) = _
  simp only [hostOps0, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

/-- So does the scale's. -/
theorem V_scale : V m c main_v5 = rowArr (m ((c : Thread nD τ).loc main_arg5)) := by
  show StableHlo.after _ _ (Proc.devRef .tc main_v5) = _
  simp only [hostOps0, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

/-- So does the shift's. -/
theorem V_shift : V m c main_v8 = rowArr (m ((c : Thread nD τ).loc main_arg6)) := by
  show StableHlo.after _ _ (Proc.devRef .tc main_v8) = _
  simp only [hostOps0, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

/-- The grid has 34 steps. -/
theorem N34 (t : Fin cfg0.N) : t.val < 34 := lt_of_lt_of_eq t.isLt N_0

/-- Which block of the arrays with a row for each token a step works on: its own. -/
theorem block_index : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_11.index t 0 = t.val ∧ win0_11.index t 1 = 0) ∧ (win0_12.index t 0 = t.val ∧ win0_12.index t 1 = 0) := by decide +kernel

/-- Which block of the weights and parameters: the same at every step. -/
theorem whole_index : ∀ t : Fin cfg0.N, (win0_4.index t 0 = 0 ∧ win0_4.index t 1 = 0) ∧ (win0_5.index t 0 = 1 ∧ win0_5.index t 1 = 0)
    ∧ (win0_6.index t 0 = 1 ∧ win0_6.index t 1 = 0) ∧ (win0_7.index t 0 = 0 ∧ win0_7.index t 1 = 0)
    ∧ (win0_8.index t 0 = 0 ∧ win0_8.index t 1 = 0) := by decide +kernel

/-- The stream's window at a step. -/
theorem stream_block (t : Fin cfg0.N) (r : Fin 256) (k : Fin 2048) : (iblk m c 0 t : Vec Ideal S256x2048 .f32) (ix2 r k)
    = (m ((c : Thread nD τ).loc main_arg0)) (ix2 ⟨256 * t.val + r.val, by have := N34 t; omega⟩ k) := by
  have hi := block_index t
  unfold iblk
  rw [View.read_apply]
  show V m c main_arg0 _ = _
  rw [V_main_arg0]
  show (m ((c : Thread nD τ).loc main_arg0)) _ = _
  congr 1
  funext a
  apply Fin.ext
  match a with
  | ⟨0, _⟩ => show win0_0.index t 0 * 256 + 1 * r.val = 256 * t.val + r.val; rw [hi.1.1]; omega
  | ⟨1, _⟩ => show win0_0.index t 1 * 2048 + 1 * k.val = k.val; rw [hi.1.2]; omega

/-- The first mixer's window at a step. -/
theorem a_block (t : Fin cfg0.N) (r : Fin 256) (k : Fin 512) : (iblk m c 1 t : Vec Ideal S256x512 .bf16) (ix2 r k)
    = (m ((c : Thread nD τ).loc main_arg1)) (ix2 ⟨256 * t.val + r.val, by have := N34 t; omega⟩ k) := by
  have hi := block_index t
  unfold iblk
  rw [View.read_apply]
  show V m c main_arg1 _ = _
  rw [V_main_arg1]
  show (m ((c : Thread nD τ).loc main_arg1)) _ = _
  congr 1
  funext a
  apply Fin.ext
  match a with
  | ⟨0, _⟩ => show win0_1.index t 0 * 256 + 1 * r.val = 256 * t.val + r.val; rw [hi.2.1.1]; omega
  | ⟨1, _⟩ => show win0_1.index t 1 * 512 + 1 * k.val = k.val; rw [hi.2.1.2]; omega

/-- The second mixer's window at a step. -/
theorem b_block (t : Fin cfg0.N) (r : Fin 256) (k : Fin 512) : (iblk m c 2 t : Vec Ideal S256x512 .bf16) (ix2 r k)
    = (m ((c : Thread nD τ).loc main_arg2)) (ix2 ⟨256 * t.val + r.val, by have := N34 t; omega⟩ k) := by
  have hi := block_index t
  unfold iblk
  rw [View.read_apply]
  show V m c main_arg2 _ = _
  rw [V_main_arg2]
  show (m ((c : Thread nD τ).loc main_arg2)) _ = _
  congr 1
  funext a
  apply Fin.ext
  match a with
  | ⟨0, _⟩ => show win0_2.index t 0 * 256 + 1 * r.val = 256 * t.val + r.val; rw [hi.2.2.1.1]; omega
  | ⟨1, _⟩ => show win0_2.index t 1 * 512 + 1 * k.val = k.val; rw [hi.2.2.1.2]; omega

/-- The third mixer's window at a step. -/
theorem c_block (t : Fin cfg0.N) (r : Fin 256) (k : Fin 1024) : (iblk m c 3 t : Vec Ideal S256x1024 .bf16) (ix2 r k)
    = (m ((c : Thread nD τ).loc main_arg3)) (ix2 ⟨256 * t.val + r.val, by have := N34 t; omega⟩ k) := by
  have hi := block_index t
  unfold iblk
  rw [View.read_apply]
  show V m c main_arg3 _ = _
  rw [V_main_arg3]
  show (m ((c : Thread nD τ).loc main_arg3)) _ = _
  congr 1
  funext a
  apply Fin.ext
  match a with
  | ⟨0, _⟩ => show win0_3.index t 0 * 256 + 1 * r.val = 256 * t.val + r.val; rw [hi.2.2.2.1.1]; omega
  | ⟨1, _⟩ => show win0_3.index t 1 * 1024 + 1 * k.val = k.val; rw [hi.2.2.2.1.2]; omega

/-- The window of the weights' first part of rows. -/
theorem wa_block (t : Fin cfg0.N) (k : Fin 512) (j : Fin 2048) : (iblk m c 4 t : Vec Ideal S512x2048 .bf16) (ix2 k j)
    = (m ((c : Thread nD τ).loc main_arg4)) (ix3 0 ⟨k.val, by omega⟩ j) := by
  have hi := whole_index t
  rw [← weight_apply (m ((c : Thread nD τ).loc main_arg4)) ⟨k.val, by omega⟩ j]
  unfold iblk
  rw [View.read_apply]
  show V m c main_v2 _ = _
  rw [V_weight]
  congr 1
  funext a
  apply Fin.ext
  match a with
  | ⟨0, _⟩ => show win0_4.index t 0 * 512 + 1 * k.val = k.val; rw [hi.1.1]; omega
  | ⟨1, _⟩ => show win0_4.index t 1 * 2048 + 1 * j.val = j.val; rw [hi.1.2]; omega

/-- The window of the weights' second part of rows. -/
theorem wb_block (t : Fin cfg0.N) (k : Fin 512) (j : Fin 2048) : (iblk m c 5 t : Vec Ideal S512x2048 .bf16) (ix2 k j)
    = (m ((c : Thread nD τ).loc main_arg4)) (ix3 0 ⟨512 + k.val, by omega⟩ j) := by
  have hi := whole_index t
  rw [← weight_apply (m ((c : Thread nD τ).loc main_arg4)) ⟨512 + k.val, by omega⟩ j]
  unfold iblk
  rw [View.read_apply]
  show V m c main_v2 _ = _
  rw [V_weight]
  congr 1
  funext a
  apply Fin.ext
  match a with
  | ⟨0, _⟩ => show win0_5.index t 0 * 512 + 1 * k.val = 512 + k.val; rw [hi.2.1.1]; omega
  | ⟨1, _⟩ => show win0_5.index t 1 * 2048 + 1 * j.val = j.val; rw [hi.2.1.2]; omega

/-- The window of the weights' third part of rows. -/
theorem wc_block (t : Fin cfg0.N) (k : Fin 1024) (j : Fin 2048) : (iblk m c 6 t : Vec Ideal S1024x2048 .bf16) (ix2 k j)
    = (m ((c : Thread nD τ).loc main_arg4)) (ix3 0 ⟨1024 + k.val, by omega⟩ j) := by
  have hi := whole_index t
  rw [← weight_apply (m ((c : Thread nD τ).loc main_arg4)) ⟨1024 + k.val, by omega⟩ j]
  unfold iblk
  rw [View.read_apply]
  show V m c main_v2 _ = _
  rw [V_weight]
  congr 1
  funext a
  apply Fin.ext
  match a with
  | ⟨0, _⟩ => show win0_6.index t 0 * 1024 + 1 * k.val = 1024 + k.val; rw [hi.2.2.1.1]; omega
  | ⟨1, _⟩ => show win0_6.index t 1 * 2048 + 1 * j.val = j.val; rw [hi.2.2.1.2]; omega

/-- The scale's window at a step. -/
theorem scale_block (t : Fin cfg0.N) (j : Fin 2048) : (iblk m c 7 t : Vec Ideal S1x2048 .f32) (ix2 0 j)
    = (m ((c : Thread nD τ).loc main_arg5)) (ix2 0 j) := by
  have hi := whole_index t
  rw [← row_apply (m ((c : Thread nD τ).loc main_arg5)) j]
  unfold iblk
  rw [View.read_apply]
  show V m c main_v5 _ = _
  rw [V_scale]
  congr 1
  funext a
  apply Fin.ext
  match a with
  | ⟨0, _⟩ => show win0_7.index t 0 * 1 + 1 * 0 = 0; rw [hi.2.2.2.1.1]
  | ⟨1, _⟩ => show win0_7.index t 1 * 2048 + 1 * j.val = j.val; rw [hi.2.2.2.1.2]; omega

/-- The shift's window at a step. -/
theorem shift_block (t : Fin cfg0.N) (j : Fin 2048) : (iblk m c 8 t : Vec Ideal S1x2048 .f32) (ix2 0 j)
    = (m ((c : Thread nD τ).loc main_arg6)) (ix2 0 j) := by
  have hi := whole_index t
  rw [← row_apply (m ((c : Thread nD τ).loc main_arg6)) j]
  unfold iblk
  rw [View.read_apply]
  show V m c main_v8 _ = _
  rw [V_shift]
  congr 1
  funext a
  apply Fin.ext
  match a with
  | ⟨0, _⟩ => show win0_8.index t 0 * 1 + 1 * 0 = 0; rw [hi.2.2.2.2.1]
  | ⟨1, _⟩ => show win0_8.index t 1 * 2048 + 1 * j.val = j.val; rw [hi.2.2.2.2.2]; omega

/-- A row before the norm, from the kernel's arguments. -/
def rowAt (a0 : Vec Ideal S8704x2048 .f32) (a1 a2 : Vec Ideal S8704x512 .bf16) (a3 : Vec Ideal S8704x1024 .bf16) (w : Vec Ideal S2x2048x2048 .f32)
    (r : Fin 8704) (j : Fin 2048) : EReal :=
  joined (a0 (ix2 r j)) (∑ k : Fin 512, a1 (ix2 r k) * w (ix3 0 ⟨k.val, by omega⟩ j)) (∑ k : Fin 512, a2 (ix2 r k) * w (ix3 0 ⟨512 + k.val, by omega⟩ j))
    (∑ k : Fin 1024, a3 (ix2 r k) * w (ix3 0 ⟨1024 + k.val, by omega⟩ j))

/-- A step's row before the norm is the row of the arguments at its place. -/
theorem block_row (t : Fin cfg0.N) (r : Fin 256) : blockRow (iblk m c 0 t) (iblk m c 1 t) (iblk m c 2 t) (iblk m c 3 t) (iblk m c 4 t) (iblk m c 5 t) (iblk m c 6 t) r
    = rowAt (m ((c : Thread nD τ).loc main_arg0)) (m ((c : Thread nD τ).loc main_arg1)) (m ((c : Thread nD τ).loc main_arg2)) (m ((c : Thread nD τ).loc main_arg3))
        (m ((c : Thread nD τ).loc main_arg4)) ⟨256 * t.val + r.val, by have := N34 t; omega⟩ := by
  funext j
  unfold blockRow rowAt
  rw [stream_block]
  congr 1
  · refine Finset.sum_congr rfl fun k _ => ?_
    rw [a_block, wa_block]
  · refine Finset.sum_congr rfl fun k _ => ?_
    rw [b_block, wb_block]
  · refine Finset.sum_congr rfl fun k _ => ?_
    rw [c_block, wc_block]

/-- An entry of a result, from the arguments: an entry of a normalized row. -/
def entryAt (r : Fin 8704) (j : Fin 2048) : EReal :=
  normed (rowAt (m ((c : Thread nD τ).loc main_arg0)) (m ((c : Thread nD τ).loc main_arg1)) (m ((c : Thread nD τ).loc main_arg2)) (m ((c : Thread nD τ).loc main_arg3))
    (m ((c : Thread nD τ).loc main_arg4)) r) ((m ((c : Thread nD τ).loc main_arg5)) (ix2 0 j)) ((m ((c : Thread nD τ).loc main_arg6)) (ix2 0 j)) j

/-- An entry of the first result. -/
theorem result11_entry (r : Fin 8704) (j : Fin 2048) : ((dats m 0 c).arrAt 11 cfg0.N : Vec Ideal S8704x2048 .f32) (ix2 r j) = entryAt m c r j := by
  obtain ⟨t, ht⟩ : ∃ t : Fin cfg0.N, t.val = r.val / 256 := ⟨⟨_, lt_of_lt_of_eq (by omega) N_0.symm⟩, rfl⟩
  have hi := block_index t
  have h := congrFun (Value.blocks11 m c t (flush0_11 t)) (ix2 ⟨r.val % 256, by omega⟩ j)
  rw [View.read_apply, Value.flushed11] at h
  refine Eq.trans ?_ (h.trans ?_)
  · show (dats m 0 c).arrAt 11 cfg0.N _ = (dats m 0 c).arrAt 11 cfg0.N _
    congr 1
    funext a
    apply Fin.ext
    match a with
    | ⟨0, _⟩ => show r.val = win0_11.index t 0 * 256 + 1 * (r.val % 256); rw [hi.2.2.2.2.1.1, ht]; omega
    | ⟨1, _⟩ => show j.val = win0_11.index t 1 * 2048 + 1 * j.val; rw [hi.2.2.2.2.1.2]; omega
  · refine (out11_apply _ _ _ _ _ _ _ _ _ _ _ ⟨r.val % 256, by omega⟩ j).trans ?_
    rw [block_row, scale_block, shift_block]
    unfold entryAt
    have er : 256 * t.val + r.val % 256 = r.val := by omega
    simp only [er]

/-- An entry of the second result. -/
theorem result12_entry (r : Fin 8704) (j : Fin 2048) : ((dats m 0 c).arrAt 12 cfg0.N : Vec Ideal S8704x2048 .bf16) (ix2 r j) = entryAt m c r j := by
  obtain ⟨t, ht⟩ : ∃ t : Fin cfg0.N, t.val = r.val / 256 := ⟨⟨_, lt_of_lt_of_eq (by omega) N_0.symm⟩, rfl⟩
  have hi := block_index t
  have h := congrFun (Value.blocks12 m c t (flush0_12 t)) (ix2 ⟨r.val % 256, by omega⟩ j)
  rw [View.read_apply, Value.flushed12] at h
  refine Eq.trans ?_ (h.trans ?_)
  · show (dats m 0 c).arrAt 12 cfg0.N _ = (dats m 0 c).arrAt 12 cfg0.N _
    congr 1
    funext a
    apply Fin.ext
    match a with
    | ⟨0, _⟩ => show r.val = win0_12.index t 0 * 256 + 1 * (r.val % 256); rw [hi.2.2.2.2.2.1, ht]; omega
    | ⟨1, _⟩ => show j.val = win0_12.index t 1 * 2048 + 1 * j.val; rw [hi.2.2.2.2.2.2]; omega
  · refine (out12_apply _ _ _ _ _ _ _ _ _ _ _ ⟨r.val % 256, by omega⟩ j).trans ?_
    rw [block_row, scale_block, shift_block]
    unfold entryAt
    have er : 256 * t.val + r.val % 256 = r.val := by omega
    simp only [er]

end OutNorm

end
-- ==== Proof.Out.Reference.lean ====
/-
  The output projection and first norm of a layer: the reference, read at an entry, and its equality with the kernel's two results.
-/
module

public import proofs.«01_k».proof.Proof.Gen.Reference5Ideal.Read
public import proofs.«01_k».proof.Proof.Out.Kernel
public import Idealize.ShloMosaic.Lib.IdealHost

@[expose] public section

set_option maxRecDepth 16384

noncomputable section

namespace OutNorm

open Idealize.ShloMosaic Idealize.ShloMosaic.TcCoe Idealize.SL.Sem
open Cert.Reference5Ideal Cert.Reference5Ideal.Gen Cert.Reference5Ideal.Read
open PostNorm (mean normed)

/-- A sum over 2048 terms, in three parts. -/
theorem sum_parts (f : Fin 2048 → EReal) : (∑ k, f k)
    = ((∑ k : Fin 512, f ⟨k.val, by omega⟩) + ∑ k : Fin 512, f ⟨512 + k.val, by omega⟩) + ∑ k : Fin 1024, f ⟨1024 + k.val, by omega⟩ := by
  have h := Fin.sum_univ_add (a := 1024) (b := 1024) f
  have h' := Fin.sum_univ_add (a := 512) (b := 512) (fun k => f (Fin.castAdd 1024 k))
  exact h.trans (congrArg₂ (· + ·) h' rfl)

section Entry

variable (x0 : Vec Ideal S8704x2048 .f32) (x1 x2 : Vec Ideal S8704x512 .bf16) (x3 : Vec Ideal S8704x1024 .bf16)
  (x4 : Vec Ideal S2x2048x2048 .f32) (x5 x6 : Vec Ideal S2x2048 .f32)

/-- A row of the joined mixers' outputs, by its column. -/
theorem cat_apply (r : Fin 8704) (k : Fin 2048) : val_main_v3 (F := Ideal) x1 x2 x3 (ix2 r k)
    = if h : k.val < 512 then x1 (ix2 r ⟨k.val, h⟩) else if h' : k.val - 512 < 512 then x2 (ix2 r ⟨k.val - 512, h'⟩) else x3 (ix2 r ⟨k.val - 512 - 512, by omega⟩) := by
  unfold val_main_v3 val_main_v0 val_main_v1 val_main_v2
  pointwise

/-- The projection's weights of layer 0. -/
theorem ref_weight (k j : Fin 2048) : val_main_v5 (F := Ideal) x4 (ix2 k j) = x4 (ix3 0 k j) := by
  rw [val_main_v5_apply, val_main_v4_apply]
  congr 1
  funext a
  apply Fin.ext
  match a with
  | ⟨0, _⟩ => rfl
  | ⟨1, _⟩ => show (k.val * 2048 + j.val) / 2048 % 2048 = k.val; omega
  | ⟨2, _⟩ => show (k.val * 2048 + j.val) % 2048 = j.val; omega

/-- An entry of the projection: one sum for each mixer. -/
theorem ref_sum (r : Fin 8704) (j : Fin 2048) : val_main_v6 (F := Ideal) x1 x2 x3 x4 (ix2 r j)
    = ((∑ k : Fin 512, x1 (ix2 r k) * x4 (ix3 0 ⟨k.val, by omega⟩ j)) + ∑ k : Fin 512, x2 (ix2 r k) * x4 (ix3 0 ⟨512 + k.val, by omega⟩ j))
      + ∑ k : Fin 1024, x3 (ix2 r k) * x4 (ix3 0 ⟨1024 + k.val, by omega⟩ j) := by
  rw [val_main_v6_apply]
  have e : ∀ k : Fin 2048, val_main_v3 (F := Ideal) x1 x2 x3 (lidx_main_v6 (ix2 r j) k) * val_main_v5 (F := Ideal) x4 (ridx_main_v6 (ix2 r j) k)
      = val_main_v3 (F := Ideal) x1 x2 x3 (ix2 r k) * x4 (ix3 0 k j) := fun k => by
    refine congrArg₂ (· * ·) (congrArg (val_main_v3 (F := Ideal) x1 x2 x3) ?_) (Eq.trans (congrArg _ ?_) (ref_weight x4 k j))
    · exact funext fun a => match a with | ⟨0, _⟩ => rfl | ⟨1, _⟩ => rfl
    · exact funext fun a => match a with | ⟨0, _⟩ => rfl | ⟨1, _⟩ => rfl
  refine (Finset.sum_congr rfl fun k _ => e k).trans ?_
  refine (sum_parts _).trans (congrArg₂ (· + ·) (congrArg₂ (· + ·) ?_ ?_) ?_)
  · refine Finset.sum_congr rfl fun k _ => ?_
    rw [cat_apply, dif_pos k.isLt]
  · refine Finset.sum_congr rfl fun k _ => ?_
    have hk := k.isLt
    rw [cat_apply, dif_neg (show ¬ 512 + k.val < 512 by omega), dif_pos (show 512 + k.val - 512 < 512 by omega)]
    have ek : 512 + k.val - 512 = k.val := by omega
    simp only [ek]
  · refine Finset.sum_congr rfl fun k _ => ?_
    rw [cat_apply, dif_neg (show ¬ 1024 + k.val < 512 by omega), dif_neg (show ¬ 1024 + k.val - 512 < 512 by omega)]
    have ek : 1024 + k.val - 512 - 512 = k.val := by omega
    simp only [ek]

/-- An entry of the reference's rows before the norm. -/
theorem ref_row (r : Fin 8704) (j : Fin 2048) : val_main_v9 (F := Ideal) x0 x1 x2 x3 x4 (ix2 r j) = rowAt x0 x1 x2 x3 x4 r j := by
  unfold rowAt joined
  rw [← ref_sum x1 x2 x3 x4 r j, val_main_v9_apply, val_main_v8_apply]
  rfl

/-- The mean of a row of the reference. -/
theorem ref_mean (r : Fin 8704) : val_main_v13 (F := Ideal) x0 x1 x2 x3 x4 (ix2 r 0) = mean (rowAt x0 x1 x2 x3 x4 r) := by
  have e : (fun k => val_main_v9 (F := Ideal) x0 x1 x2 x3 x4 (idx_main_v10 (idx_main_v11 (ix2 r 0)) k)) = rowAt x0 x1 x2 x3 x4 r := by
    funext k
    rw [← ref_row]
    congr 1
    exact funext fun a => match a with | ⟨0, _⟩ => rfl | ⟨1, _⟩ => rfl
  rw [val_main_v13_apply, val_main_v11_apply, val_main_v12_apply, val_main_v10_apply]
  unfold mean
  rw [e]
  show Ideal.div (Ideal.ofBits .f32 0x00000000#32 + _) _ = _
  rw [Ideal.ofBits_zero_f32, zero_add]
  rfl

/-- A deviation from the mean, as the variance reads it. -/
theorem ref_dev (r : Fin 8704) (j : Fin 2048) : val_main_v15 (F := Ideal) x0 x1 x2 x3 x4 (ix2 r j)
    = rowAt x0 x1 x2 x3 x4 r j - mean (rowAt x0 x1 x2 x3 x4 r) := by
  have e : idx_main_v14 (ix2 r j) = ix2 r 0 := funext fun a => match a with | ⟨0, _⟩ => rfl | ⟨1, _⟩ => rfl
  rw [val_main_v15_apply, val_main_v14_apply, e, ref_mean, ref_row]
  rfl

/-- A deviation from the mean, as the result reads it. -/
theorem ref_dev' (r : Fin 8704) (j : Fin 2048) : val_main_v22 (F := Ideal) x0 x1 x2 x3 x4 (ix2 r j)
    = rowAt x0 x1 x2 x3 x4 r j - mean (rowAt x0 x1 x2 x3 x4 r) := by
  have e : idx_main_v21 (ix2 r j) = ix2 r 0 := funext fun a => match a with | ⟨0, _⟩ => rfl | ⟨1, _⟩ => rfl
  rw [val_main_v22_apply, val_main_v21_apply, e, ref_mean, ref_row]
  rfl

/-- The variance of a row of the reference. -/
theorem ref_var (r : Fin 8704) : val_main_v20 (F := Ideal) x0 x1 x2 x3 x4 (ix2 r 0)
    = mean (fun k => (rowAt x0 x1 x2 x3 x4 r k - mean (rowAt x0 x1 x2 x3 x4 r))
        * (rowAt x0 x1 x2 x3 x4 r k - mean (rowAt x0 x1 x2 x3 x4 r))) := by
  have e : (fun k => val_main_v16 (F := Ideal) x0 x1 x2 x3 x4 (idx_main_v17 (idx_main_v18 (ix2 r 0)) k))
      = fun k => (rowAt x0 x1 x2 x3 x4 r k - mean (rowAt x0 x1 x2 x3 x4 r))
        * (rowAt x0 x1 x2 x3 x4 r k - mean (rowAt x0 x1 x2 x3 x4 r)) := by
    funext k
    rw [← ref_dev, val_main_v16_apply]
    have e' : idx_main_v17 (idx_main_v18 (ix2 r 0)) k = ix2 r k := funext fun a => match a with | ⟨0, _⟩ => rfl | ⟨1, _⟩ => rfl
    rw [e']
    rfl
  rw [val_main_v20_apply, val_main_v18_apply, val_main_v19_apply, val_main_v17_apply]
  rw [e]
  generalize (fun k => (rowAt x0 x1 x2 x3 x4 r k - mean (rowAt x0 x1 x2 x3 x4 r))
        * (rowAt x0 x1 x2 x3 x4 r k - mean (rowAt x0 x1 x2 x3 x4 r))) = q
  unfold mean
  show Ideal.div (Ideal.ofBits .f32 0x00000000#32 + _) _ = _
  rw [Ideal.ofBits_zero_f32, zero_add]
  rfl

/-- The norm's scale. -/
theorem ref_scale (r : Fin 8704) (j : Fin 2048) : val_main_v31 (F := Ideal) x5 (ix2 r j) = x5 (ix2 0 j) := by
  rw [val_main_v31_apply, val_main_v30_apply, val_main_v29_apply, val_main_v28_apply]
  congr 1
  funext a
  apply Fin.ext
  match a with
  | ⟨0, _⟩ => rfl
  | ⟨1, _⟩ => show j.val % 2048 = j.val; omega

/-- The norm's shift. -/
theorem ref_shift (r : Fin 8704) (j : Fin 2048) : val_main_v36 (F := Ideal) x6 (ix2 r j) = x6 (ix2 0 j) := by
  rw [val_main_v36_apply, val_main_v35_apply, val_main_v34_apply, val_main_v33_apply]
  congr 1
  funext a
  apply Fin.ext
  match a with
  | ⟨0, _⟩ => rfl
  | ⟨1, _⟩ => show j.val % 2048 = j.val; omega

/-- An entry of the reference's result: an entry of the same normalized row. -/
theorem ref_entry (r : Fin 8704) (j : Fin 2048) : val_main_v37 (F := Ideal) x0 x1 x2 x3 x4 x5 x6 (ix2 r j)
    = normed (rowAt x0 x1 x2 x3 x4 r) (x5 (ix2 0 j)) (x6 (ix2 0 j)) j := by
  have e : idx_main_v26 (ix2 r j) = ix2 r 0 := funext fun a => match a with | ⟨0, _⟩ => rfl | ⟨1, _⟩ => rfl
  rw [val_main_v37_apply, val_main_v32_apply, val_main_v27_apply, val_main_v26_apply, e, val_main_v25_apply, val_main_v24_apply, val_main_v23_apply,
    ref_scale, ref_shift, ref_dev', ref_var]
  rfl

/-- The second result's entry is the first's: the cast is the identity. -/
theorem ref_cast_entry (r : Fin 8704) (j : Fin 2048) : val_main_v38 (F := Ideal) x0 x1 x2 x3 x4 x5 x6 (ix2 r j)
    = normed (rowAt x0 x1 x2 x3 x4 r) (x5 (ix2 0 j)) (x6 (ix2 0 j)) j := by
  rw [val_main_v38_apply]
  exact ref_entry x0 x1 x2 x3 x4 x5 x6 r j

end Entry

section Results

variable (m : (ℓ : Loc Cert.Kernel5Ideal.nD Cert.Kernel5Ideal.τ Cert.Kernel5Ideal.sig) → Buf (Elt Ideal) ℓ) (c : Dev Cert.Kernel5Ideal.nD)

/-- The first results are equal. -/
theorem results_equal :
    ((Cert.Kernel5Ideal.Gen.dats m 0 c).arrAt 11 Cert.Kernel5Ideal.cfg0.N : Vec Ideal S8704x2048 .f32)
      = val_main_v37 (F := Ideal)
          (m ((c : Thread Cert.Kernel5Ideal.nD Cert.Kernel5Ideal.τ).loc Cert.Kernel5Ideal.main_arg0))
          (m ((c : Thread Cert.Kernel5Ideal.nD Cert.Kernel5Ideal.τ).loc Cert.Kernel5Ideal.main_arg1))
          (m ((c : Thread Cert.Kernel5Ideal.nD Cert.Kernel5Ideal.τ).loc Cert.Kernel5Ideal.main_arg2))
          (m ((c : Thread Cert.Kernel5Ideal.nD Cert.Kernel5Ideal.τ).loc Cert.Kernel5Ideal.main_arg3))
          (m ((c : Thread Cert.Kernel5Ideal.nD Cert.Kernel5Ideal.τ).loc Cert.Kernel5Ideal.main_arg4))
          (m ((c : Thread Cert.Kernel5Ideal.nD Cert.Kernel5Ideal.τ).loc Cert.Kernel5Ideal.main_arg5))
          (m ((c : Thread Cert.Kernel5Ideal.nD Cert.Kernel5Ideal.τ).loc Cert.Kernel5Ideal.main_arg6)) := by
  funext i
  have e : i = ix2 (i 0) (i 1) := funext fun a => match a with | ⟨0, _⟩ => rfl | ⟨1, _⟩ => rfl
  rw [e]
  exact (result11_entry m c (i 0) (i 1)).trans (ref_entry _ _ _ _ _ _ _ (i 0) (i 1)).symm

/-- The second results are equal: the same values, cast. -/
theorem cast_results_equal :
    ((Cert.Kernel5Ideal.Gen.dats m 0 c).arrAt 12 Cert.Kernel5Ideal.cfg0.N : Vec Ideal S8704x2048 .bf16)
      = val_main_v38 (F := Ideal)
          (m ((c : Thread Cert.Kernel5Ideal.nD Cert.Kernel5Ideal.τ).loc Cert.Kernel5Ideal.main_arg0))
          (m ((c : Thread Cert.Kernel5Ideal.nD Cert.Kernel5Ideal.τ).loc Cert.Kernel5Ideal.main_arg1))
          (m ((c : Thread Cert.Kernel5Ideal.nD Cert.Kernel5Ideal.τ).loc Cert.Kernel5Ideal.main_arg2))
          (m ((c : Thread Cert.Kernel5Ideal.nD Cert.Kernel5Ideal.τ).loc Cert.Kernel5Ideal.main_arg3))
          (m ((c : Thread Cert.Kernel5Ideal.nD Cert.Kernel5Ideal.τ).loc Cert.Kernel5Ideal.main_arg4))
          (m ((c : Thread Cert.Kernel5Ideal.nD Cert.Kernel5Ideal.τ).loc Cert.Kernel5Ideal.main_arg5))
          (m ((c : Thread Cert.Kernel5Ideal.nD Cert.Kernel5Ideal.τ).loc Cert.Kernel5Ideal.main_arg6)) := by
  funext i
  have e : i = ix2 (i 0) (i 1) := funext fun a => match a with | ⟨0, _⟩ => rfl | ⟨1, _⟩ => rfl
  rw [e]
  exact (result12_entry m c (i 0) (i 1)).trans (ref_cast_entry _ _ _ _ _ _ _ (i 0) (i 1)).symm

end Results

end OutNorm

end
-- ==== Proof.Last.Kernel.lean ====
/-
  The embedding gate and second norm of the last layer, as the dense kernel computes them: the arrays that the host
  prepares, what the kernel's array holds, and the two results that the host deals out of it.
-/
module

public import proofs.«01_k».proof.Proof.Gen.Kernel6Ideal.Frame
public import proofs.«01_k».proof.Proof.Gen.Reference6Ideal.Read
public import proofs.«01_k».proof.Proof.Post.Rows
public import Idealize.ShloMosaic.Lib.Pointwise
public import Idealize.ShloMosaic.Lib.Pipeline.Value
public import Idealize.ShloMosaic.Lib.Pipeline.ValueKit.Basic

@[expose] public section

set_option maxRecDepth 16384

noncomputable section

namespace LastNorm

open Idealize.ShloMosaic Idealize.ShloMosaic.TcCoe Idealize.SL.Sem
open Cert.Kernel6Ideal Cert.Kernel6Ideal.Gen
open PostNorm (mean normed mix)

/-- A row of a block before the norm, from the windows that a step reads. -/
def blockRow (x0 : Vec Ideal S256x2048 .f32) (x1 : Vec Ideal S256x2048 .bf16) (x2 : Vec Ideal S256x2048 .f32) (x3 : Vec Ideal S256x256 .bf16)
    (x4 : Vec Ideal S2048x2048 .bf16) (x5 : Vec Ideal S256x2048 .bf16) (r : Fin 256) (j : Fin 2048) : EReal :=
  mix (x0 (ix2 r j)) (x2 (ix2 r j)) (∑ k : Fin 2048, x1 (ix2 r k) * x4 (ix2 k j)) (∑ k : Fin 256, x3 (ix2 r k) * x5 (ix2 k j))

section Block

variable (x0 : Vec Ideal S256x2048 .f32) (x1 : Vec Ideal S256x2048 .bf16) (x2 : Vec Ideal S256x2048 .f32) (x3 : Vec Ideal S256x256 .bf16)
    (x4 : Vec Ideal S2048x2048 .bf16) (x5 : Vec Ideal S256x2048 .bf16)

/-- A deviation from its row's mean, as the kernel forms it. -/
theorem dev_apply (r : Fin 256) (j : Fin 2048) : k0_pay5 x1 x4 x3 x5 x0 x2 (ix2 r j)
    = blockRow x0 x1 x2 x3 x4 x5 r j - mean (blockRow x0 x1 x2 x3 x4 x5 r) := by
  unfold k0_pay5 mean blockRow mix
  pointwise

/-- The factor that brings a row to unit variance, as the kernel forms it. -/
theorem factor_apply (r : Fin 256) : k0_pay6 x1 x4 x3 x5 x0 x2 (ix2 r 0)
    = Ideal.rsqrt (mean (fun k => (blockRow x0 x1 x2 x3 x4 x5 r k - mean (blockRow x0 x1 x2 x3 x4 x5 r))
        * (blockRow x0 x1 x2 x3 x4 x5 r k - mean (blockRow x0 x1 x2 x3 x4 x5 r))) + Ideal.ofBits .f32 0x3727C5AC#32) := by
  simp only [← dev_apply]
  unfold k0_pay6
  generalize k0_pay5 x1 x4 x3 x5 x0 x2 = d
  unfold mean
  pointwise

/-- An entry of the norm, from the deviations and the factors. -/
theorem scaled_apply (w b : Vec Ideal S1x2048 .f32) (d : FVec Ideal S256x2048 .f32) (v : FVec Ideal S256x1 .f32) (r : Fin 256) (j : Fin 2048) :
    k0_pay1 (k0_pay3 w) (k0_pay4 b) d v (ix2 r j)
      = d (ix2 r j) * v (ix2 r 0) * w (ix2 0 j) + b (ix2 0 j) := by
  unfold k0_pay1 k0_pay3 k0_pay4
  pointwise

variable (x6 x7 : Vec Ideal S1x2048 .f32)

/-- What a step writes into its first output, entry by entry. -/
theorem out8_apply (r : Fin 256) (j : Fin 2048) : out0_8 x0 x1 x2 x3 x4 x5 x6 x7 (ix2 r j)
    = normed (blockRow x0 x1 x2 x3 x4 x5 r) (x6 (ix2 0 j)) (x7 (ix2 0 j)) j := by
  unfold out0_8 k0_pay7 k0_pay8 k0_pay9 k0_pay10
  rw [View.canon_cons_unit_lit _ _ _ (by decide)]
  rw [View.ld_unit_lit _ x0 (by decide), View.ld_unit_lit _ x1 (by decide), View.ld_unit_lit _ x2 (by decide), View.ld_unit_lit _ x3 (by decide),
    View.ld_unit_lit _ x4 (by decide), View.ld_unit_lit _ x5 (by decide), View.ld_unit_lit _ x6 (by decide), View.ld_unit_lit _ x7 (by decide)]
  rw [scaled_apply, dev_apply, factor_apply]
  rfl

end Block

variable (m : (ℓ : Loc nD τ sig) → Buf (Elt Ideal) ℓ) (c : Dev nD)

/-- The embeddings' rows that the host joins: the prompt's of layer 1, then the sample's. -/
def pArr (x3 : Vec Ideal S2x2x4096x256 .f32) (x4 : Vec Ideal S2x128x4x256 .f32) : FVec Ideal S8704x256 .f32 :=
  Cert.Reference6Ideal.Read.val_main_v6 (F := Ideal) x3 x4

/-- The gate's weights of layer 1, as the host cuts them out. -/
def gateArr (w : Vec Ideal S2x2048x2048 .f32) : FVec Ideal S2048x2048 .bf16 :=
  truncf .bf16 (shapeCast S2048x2048 (extractStridedSlice S1x2048x2048 ![1, 0, 0] w slices_S2x2048x2048_S1x2048x2048_1_0_0 : Vec Ideal S1x2048x2048 .f32)
    shapeCasts_S1x2048x2048_S2048x2048 : FVec Ideal S2048x2048 .f32) bitsLt_bf16_f32

/-- The embedding's weights of layer 1, as the host cuts them out. -/
def projArr (w : Vec Ideal S2x256x2048 .f32) : FVec Ideal S256x2048 .bf16 :=
  truncf .bf16 (shapeCast S256x2048 (extractStridedSlice S1x256x2048 ![1, 0, 0] w slices_S2x256x2048_S1x256x2048_1_0_0 : Vec Ideal S1x256x2048 .f32)
    shapeCasts_S1x256x2048_S256x2048 : FVec Ideal S256x2048 .f32) bitsLt_bf16_f32

/-- A row of the norm's parameters of layer 1, as the host cuts it out. -/
def rowArr (w : Vec Ideal S2x2048 .f32) : Vec Ideal S1x2048 .f32 :=
  shapeCast S1x2048 (shapeCast S2048 (extractStridedSlice S1x2048 ![1, 0] w slices_S2x2048_S1x2048_1_0 : Vec Ideal S1x2048 .f32)
    shapeCasts_S1x2048_S2048 : Vec Ideal S2048 .f32) shapeCasts_S2048_S1x2048

/-- An entry of the gate's weights. -/
theorem gate_apply (w : Vec Ideal S2x2048x2048 .f32) (k j : Fin 2048) : gateArr w (ix2 k j) = w (ix3 1 k j) := by
  unfold gateArr
  pointwise

/-- An entry of the embedding's weights. -/
theorem proj_apply (w : Vec Ideal S2x256x2048 .f32) (k : Fin 256) (j : Fin 2048) : projArr w (ix2 k j) = w (ix3 1 k j) := by
  unfold projArr
  pointwise

/-- An entry of a row of parameters. -/
theorem row_apply (w : Vec Ideal S2x2048 .f32) (j : Fin 2048) : rowArr w (ix2 0 j) = w (ix2 1 j) := by
  unfold rowArr
  pointwise

/-- The embeddings' array holds what the host joins. -/
theorem V_p : V m c main_v7 = (truncf .bf16 (pArr (m ((c : Thread nD τ).loc main_arg3)) (m ((c : Thread nD τ).loc main_arg4))) bitsLt_bf16_f32 : FVec Ideal S8704x256 .bf16) := by
  show StableHlo.after _ _ (Proc.devRef .tc main_v7) = _
  simp only [hostOps0, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

/-- The gate's array holds what the host cuts out. -/
theorem V_gate : V m c main_v10 = gateArr (m ((c : Thread nD τ).loc main_arg5)) := by
  show StableHlo.after _ _ (Proc.devRef .tc main_v10) = _
  simp only [hostOps0, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

/-- So does the embedding's. -/
theorem V_proj : V m c main_v13 = projArr (m ((c : Thread nD τ).loc main_arg6)) := by
  show StableHlo.after _ _ (Proc.devRef .tc main_v13) = _
  simp only [hostOps0, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

/-- So does the scale's. -/
theorem V_scale : V m c main_v16 = rowArr (m ((c : Thread nD τ).loc main_arg7)) := by
  show StableHlo.after _ _ (Proc.devRef .tc main_v16) = _
  simp only [hostOps0, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

/-- So does the shift's. -/
theorem V_shift : V m c main_v19 = rowArr (m ((c : Thread nD τ).loc main_arg8)) := by
  show StableHlo.after _ _ (Proc.devRef .tc main_v19) = _
  simp only [hostOps0, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

/-- The grid has 34 steps. -/
theorem N34 (t : Fin cfg0.N) : t.val < 34 := lt_of_lt_of_eq t.isLt N_0

/-- Which block of the arrays with a row for each token a step works on: its own. -/
theorem block_index : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_8.index t 0 = t.val ∧ win0_8.index t 1 = 0) := by decide +kernel

/-- Which block of the weights and parameters: the whole, at every step. -/
theorem whole_index : ∀ t : Fin cfg0.N, (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0) := by decide +kernel

/-- The stream's window at a step. -/
theorem stream_block (t : Fin cfg0.N) (r : Fin 256) (k : Fin 2048) : (iblk m c 0 t : Vec Ideal S256x2048 .f32) (ix2 r k)
    = (m ((c : Thread nD τ).loc main_arg0)) (ix2 ⟨256 * t.val + r.val, by have := N34 t; omega⟩ k) := by
  have hi := block_index t
  unfold iblk
  rw [View.read_apply]
  show V m c main_arg0 _ = _
  rw [V_main_arg0]
  show (m ((c : Thread nD τ).loc main_arg0)) _ = _
  congr 1
  funext a
  apply Fin.ext
  match a with
  | ⟨0, _⟩ => show win0_0.index t 0 * 256 + 1 * r.val = 256 * t.val + r.val; rw [hi.1.1]; omega
  | ⟨1, _⟩ => show win0_0.index t 1 * 2048 + 1 * k.val = k.val; rw [hi.1.2]; omega

/-- The cast stream's window at a step. -/
theorem cast_block (t : Fin cfg0.N) (r : Fin 256) (k : Fin 2048) : (iblk m c 1 t : Vec Ideal S256x2048 .bf16) (ix2 r k)
    = (m ((c : Thread nD τ).loc main_arg1)) (ix2 ⟨256 * t.val + r.val, by have := N34 t; omega⟩ k) := by
  have hi := block_index t
  unfold iblk
  rw [View.read_apply]
  show V m c main_arg1 _ = _
  rw [V_main_arg1]
  show (m ((c : Thread nD τ).loc main_arg1)) _ = _
  congr 1
  funext a
  apply Fin.ext
  match a with
  | ⟨0, _⟩ => show win0_1.index t 0 * 256 + 1 * r.val = 256 * t.val + r.val; rw [hi.2.1.1]; omega
  | ⟨1, _⟩ => show win0_1.index t 1 * 2048 + 1 * k.val = k.val; rw [hi.2.1.2]; omega

/-- The experts' window at a step. -/
theorem experts_block (t : Fin cfg0.N) (r : Fin 256) (k : Fin 2048) : (iblk m c 2 t : Vec Ideal S256x2048 .f32) (ix2 r k)
    = (m ((c : Thread nD τ).loc main_arg2)) (ix2 ⟨256 * t.val + r.val, by have := N34 t; omega⟩ k) := by
  have hi := block_index t
  unfold iblk
  rw [View.read_apply]
  show V m c main_arg2 _ = _
  rw [V_main_arg2]
  show (m ((c : Thread nD τ).loc main_arg2)) _ = _
  congr 1
  funext a
  apply Fin.ext
  match a with
  | ⟨0, _⟩ => show win0_2.index t 0 * 256 + 1 * r.val = 256 * t.val + r.val; rw [hi.2.2.1.1]; omega
  | ⟨1, _⟩ => show win0_2.index t 1 * 2048 + 1 * k.val = k.val; rw [hi.2.2.1.2]; omega

/-- The embeddings' window at a step. -/
theorem p_block (t : Fin cfg0.N) (r : Fin 256) (k : Fin 256) : (iblk m c 3 t : Vec Ideal S256x256 .bf16) (ix2 r k)
    = (pArr (m ((c : Thread nD τ).loc main_arg3)) (m ((c : Thread nD τ).loc main_arg4))) (ix2 ⟨256 * t.val + r.val, by have := N34 t; omega⟩ k) := by
  have hi := block_index t
  unfold iblk
  rw [View.read_apply]
  show V m c main_v7 _ = _
  rw [V_p]
  show (pArr (m ((c : Thread nD τ).loc main_arg3)) (m ((c : Thread nD τ).loc main_arg4))) _ = _
  congr 1
  funext a
  apply Fin.ext
  match a with
  | ⟨0, _⟩ => show win0_3.index t 0 * 256 + 1 * r.val = 256 * t.val + r.val; rw [hi.2.2.2.1.1]; omega
  | ⟨1, _⟩ => show win0_3.index t 1 * 256 + 1 * k.val = k.val; rw [hi.2.2.2.1.2]; omega

/-- The gate's window at a step. -/
theorem gate_block (t : Fin cfg0.N) (k : Fin 2048) (j : Fin 2048) : (iblk m c 4 t : Vec Ideal S2048x2048 .bf16) (ix2 k j)
    = (m ((c : Thread nD τ).loc main_arg5)) (ix3 1 k j) := by
  have hi := whole_index t
  rw [← gate_apply (m ((c : Thread nD τ).loc main_arg5)) k j]
  unfold iblk
  rw [View.read_apply]
  show V m c main_v10 _ = _
  rw [V_gate]
  congr 1
  funext a
  apply Fin.ext
  match a with
  | ⟨0, _⟩ => show win0_4.index t 0 * 2048 + 1 * k.val = k.val; rw [hi.1.1]; omega
  | ⟨1, _⟩ => show win0_4.index t 1 * 2048 + 1 * j.val = j.val; rw [hi.1.2]; omega

/-- The window of the embedding's weights at a step. -/
theorem proj_block (t : Fin cfg0.N) (k : Fin 256) (j : Fin 2048) : (iblk m c 5 t : Vec Ideal S256x2048 .bf16) (ix2 k j)
    = (m ((c : Thread nD τ).loc main_arg6)) (ix3 1 k j) := by
  have hi := whole_index t
  rw [← proj_apply (m ((c : Thread nD τ).loc main_arg6)) k j]
  unfold iblk
  rw [View.read_apply]
  show V m c main_v13 _ = _
  rw [V_proj]
  congr 1
  funext a
  apply Fin.ext
  match a with
  | ⟨0, _⟩ => show win0_5.index t 0 * 256 + 1 * k.val = k.val; rw [hi.2.1.1]; omega
  | ⟨1, _⟩ => show win0_5.index t 1 * 2048 + 1 * j.val = j.val; rw [hi.2.1.2]; omega

/-- The scale's window at a step. -/
theorem scale_block (t : Fin cfg0.N) (j : Fin 2048) : (iblk m c 6 t : Vec Ideal S1x2048 .f32) (ix2 0 j)
    = (m ((c : Thread nD τ).loc main_arg7)) (ix2 1 j) := by
  have hi := whole_index t
  rw [← row_apply (m ((c : Thread nD τ).loc main_arg7)) j]
  unfold iblk
  rw [View.read_apply]
  show V m c main_v16 _ = _
  rw [V_scale]
  congr 1
  funext a
  apply Fin.ext
  match a with
  | ⟨0, _⟩ => show win0_6.index t 0 * 1 + 1 * 0 = 0; rw [hi.2.2.1.1]
  | ⟨1, _⟩ => show win0_6.index t 1 * 2048 + 1 * j.val = j.val; rw [hi.2.2.1.2]; omega

/-- The shift's window at a step. -/
theorem shift_block (t : Fin cfg0.N) (j : Fin 2048) : (iblk m c 7 t : Vec Ideal S1x2048 .f32) (ix2 0 j)
    = (m ((c : Thread nD τ).loc main_arg8)) (ix2 1 j) := by
  have hi := whole_index t
  rw [← row_apply (m ((c : Thread nD τ).loc main_arg8)) j]
  unfold iblk
  rw [View.read_apply]
  show V m c main_v19 _ = _
  rw [V_shift]
  congr 1
  funext a
  apply Fin.ext
  match a with
  | ⟨0, _⟩ => show win0_7.index t 0 * 1 + 1 * 0 = 0; rw [hi.2.2.2.1]
  | ⟨1, _⟩ => show win0_7.index t 1 * 2048 + 1 * j.val = j.val; rw [hi.2.2.2.2]; omega

/-- A row before the norm, from the kernel's arguments. -/
def rowAt (a0 : Vec Ideal S8704x2048 .f32) (a1 : Vec Ideal S8704x2048 .bf16) (a2 : Vec Ideal S8704x2048 .f32) (p : FVec Ideal S8704x256 .f32)
    (g : Vec Ideal S2x2048x2048 .f32) (w : Vec Ideal S2x256x2048 .f32) (r : Fin 8704) (j : Fin 2048) : EReal :=
  mix (a0 (ix2 r j)) (a2 (ix2 r j)) (∑ k : Fin 2048, a1 (ix2 r k) * g (ix3 1 k j)) (∑ k : Fin 256, p (ix2 r k) * w (ix3 1 k j))

/-- A step's row before the norm is the row of the arguments at its place. -/
theorem block_row (t : Fin cfg0.N) (r : Fin 256) : blockRow (iblk m c 0 t) (iblk m c 1 t) (iblk m c 2 t) (iblk m c 3 t) (iblk m c 4 t) (iblk m c 5 t) r
    = rowAt (m ((c : Thread nD τ).loc main_arg0)) (m ((c : Thread nD τ).loc main_arg1)) (m ((c : Thread nD τ).loc main_arg2)) (pArr (m ((c : Thread nD τ).loc main_arg3)) (m ((c : Thread nD τ).loc main_arg4))) (m ((c : Thread nD τ).loc main_arg5)) (m ((c : Thread nD τ).loc main_arg6)) ⟨256 * t.val + r.val, by have := N34 t; omega⟩ := by
  funext j
  unfold blockRow rowAt
  rw [stream_block, experts_block]
  refine congrArg₂ (mix _ _) ?_ ?_
  · refine Finset.sum_congr rfl fun k _ => ?_
    rw [cast_block, gate_block]
  · refine Finset.sum_congr rfl fun k _ => ?_
    rw [p_block, proj_block]

/-- An entry of the kernel's array, from the arguments: an entry of a normalized row. -/
def entryAt (r : Fin 8704) (j : Fin 2048) : EReal :=
  normed (rowAt (m ((c : Thread nD τ).loc main_arg0)) (m ((c : Thread nD τ).loc main_arg1)) (m ((c : Thread nD τ).loc main_arg2)) (pArr (m ((c : Thread nD τ).loc main_arg3)) (m ((c : Thread nD τ).loc main_arg4))) (m ((c : Thread nD τ).loc main_arg5)) (m ((c : Thread nD τ).loc main_arg6)) r) ((m ((c : Thread nD τ).loc main_arg7)) (ix2 1 j)) ((m ((c : Thread nD τ).loc main_arg8)) (ix2 1 j)) j

/-- Steps write different blocks of the first output. -/
theorem index_inj : ∀ t t' : Fin cfg0.N, win0_8.index t = win0_8.index t' → t = t' :=
  (by decide +kernel : ∀ t t' : Fin grid0.N, win0_8.index t = win0_8.index t' → t = t')

/-- So the blocks of two steps share no entry. -/
theorem blocks_disjoint : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (index_inj t t' h)

/-- A block of the kernel's array, read back, is what its step wrote. -/
theorem block_kept (t : Fin cfg0.N) : ((cfg0.win 8).blk t).view.read (Elt Ideal) ((dats m 0 c).arrAt 8 cfg0.N)
    = (cfg0.win 8).cut (grid0.coords t) (out0_8 (iblk m c 0 t) (iblk m c 1 t) (iblk m c 2 t) (iblk m c 3 t) (iblk m c 4 t) (iblk m c 5 t) (iblk m c 6 t) (iblk m c 7 t)) := by
  refine ((dats m 0 c).read_blk_arrAt_eq_flushed 8 blocks_disjoint cfg0.N t t.isLt (flush0_8 t)).trans ?_
  show (cfg0.win 8).cut (grid0.coords t) ((dats m 0 c).after 8 t) = _
  rw [after0_8]

/-- An entry of the kernel's array. -/
theorem array_entry (r : Fin 8704) (j : Fin 2048) : ((dats m 0 c).arrAt 8 cfg0.N : Vec Ideal S8704x2048 .f32) (ix2 r j) = entryAt m c r j := by
  obtain ⟨t, ht⟩ : ∃ t : Fin cfg0.N, t.val = r.val / 256 := ⟨⟨_, lt_of_lt_of_eq (by omega) N_0.symm⟩, rfl⟩
  have hi := block_index t
  have h := congrFun (block_kept m c t) (ix2 ⟨r.val % 256, by omega⟩ j)
  rw [View.read_apply] at h
  refine Eq.trans ?_ (h.trans ?_)
  · show (dats m 0 c).arrAt 8 cfg0.N _ = (dats m 0 c).arrAt 8 cfg0.N _
    congr 1
    funext a
    apply Fin.ext
    match a with
    | ⟨0, _⟩ => show r.val = win0_8.index t 0 * 256 + 1 * (r.val % 256); rw [hi.2.2.2.2.1, ht]; omega
    | ⟨1, _⟩ => show j.val = win0_8.index t 1 * 2048 + 1 * j.val; rw [hi.2.2.2.2.2]; omega
  · refine (out8_apply _ _ _ _ _ _ _ _ ⟨r.val % 256, by omega⟩ j).trans ?_
    rw [block_row, scale_block, shift_block]
    unfold entryAt
    have er : 256 * t.val + r.val % 256 = r.val := by omega
    simp only [er]

/-- The prompt's rows of an array, in the prompt's shape. -/
def ofPrompt (x : Vec Ideal S8704x2048 .f32) : Vec Ideal S2x4096x2048 .f32 :=
  shapeCast S2x4096x2048 (extractStridedSlice S8192x2048 ![0, 0] x slices_S8704x2048_S8192x2048_0_0 : Vec Ideal S8192x2048 .f32) shapeCasts_S8192x2048_S2x4096x2048

/-- The sample's rows of an array, in the sample's shape. -/
def ofSample (x : Vec Ideal S8704x2048 .f32) : Vec Ideal S128x4x2048 .f32 :=
  shapeCast S128x4x2048 (extractStridedSlice S512x2048 ![8192, 0] x slices_S8704x2048_S512x2048_8192_0 : Vec Ideal S512x2048 .f32) shapeCasts_S512x2048_S128x4x2048

/-- Where the host starts to deal out the results, the first output holds the kernel's array. -/
theorem array_kept : Pipeline.withArrays spec0 c (V0 m c) (fun w => (dats m 0 c).arrAt w cfg0.N) (Proc.devRef .tc main_v20_0)
    = (dats m 0 c).arrAt 8 cfg0.N :=
  Pipeline.withArrays_arr spec0 launch0.win.arr_inj c (V0 m c) (fun w => (dats m 0 c).arrAt w cfg0.N) 8

/-- The first result holds the prompt's rows of the kernel's array. -/
theorem prompt_tail : Pipeline.afterTail₀ cfgs (dats m) 0 (V0 m) [hostOps1] c main_v22 = ofPrompt ((dats m 0 c).arrAt 8 cfg0.N) := by
  rw [← array_kept]
  show StableHlo.after [hostOps1].flatten (Pipeline.withArrays spec0 c (V0 m c) (fun w => (dats m 0 c).arrAt w cfg0.N)) _ = _
  generalize Pipeline.withArrays spec0 c (V0 m c) (fun w => (dats m 0 c).arrAt w cfg0.N) = W
  simp only [hostOps1, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

/-- The second result holds the sample's rows of it. -/
theorem sample_tail : Pipeline.afterTail₀ cfgs (dats m) 0 (V0 m) [hostOps1] c main_v24 = ofSample ((dats m 0 c).arrAt 8 cfg0.N) := by
  rw [← array_kept]
  show StableHlo.after [hostOps1].flatten (Pipeline.withArrays spec0 c (V0 m c) (fun w => (dats m 0 c).arrAt w cfg0.N)) _ = _
  generalize Pipeline.withArrays spec0 c (V0 m c) (fun w => (dats m 0 c).arrAt w cfg0.N) = W
  simp only [hostOps1, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

end LastNorm

end
-- ==== Proof.Last.Reference.lean ====
/-
  The embedding gate and second norm of the last layer: the reference, read at an entry, and the equality of its two
  results with the kernel's.
-/
module

public import proofs.«01_k».proof.Proof.Last.Kernel
public import proofs.«01_k».proof.Proof.Post.Reference

@[expose] public section

set_option maxRecDepth 16384

noncomputable section

namespace LastNorm

open Idealize.ShloMosaic Idealize.ShloMosaic.TcCoe Idealize.SL.Sem
open Cert.Reference6Ideal Cert.Reference6Ideal.Gen Cert.Reference6Ideal.Read
open PostNorm (mean normed mix)

section Entry

variable (x0 : Vec Ideal S8704x2048 .f32) (x1 : Vec Ideal S8704x2048 .bf16) (x2 : Vec Ideal S8704x2048 .f32) (x3 : Vec Ideal S2x2x4096x256 .f32)
  (x4 : Vec Ideal S2x128x4x256 .f32) (x5 : Vec Ideal S2x2048x2048 .f32) (x6 : Vec Ideal S2x256x2048 .f32) (x7 x8 : Vec Ideal S2x2048 .f32)

/-- The gate's weights of layer 1. -/
theorem ref_gate (k j : Fin 2048) : val_main_v9 (F := Ideal) x5 (ix2 k j) = x5 (ix3 1 k j) := by
  rw [val_main_v9_apply, val_main_v8_apply]
  congr 1
  funext a
  apply Fin.ext
  match a with
  | ⟨0, _⟩ => rfl
  | ⟨1, _⟩ => show (k.val * 2048 + j.val) / 2048 % 2048 = k.val; omega
  | ⟨2, _⟩ => show (k.val * 2048 + j.val) % 2048 = j.val; omega

/-- The projection's weights of layer 1. -/
theorem ref_proj (k : Fin 256) (j : Fin 2048) : val_main_v18 (F := Ideal) x6 (ix2 k j) = x6 (ix3 1 k j) := by
  rw [val_main_v18_apply, val_main_v17_apply]
  congr 1
  funext a
  apply Fin.ext
  match a with
  | ⟨0, _⟩ => rfl
  | ⟨1, _⟩ => show (k.val * 2048 + j.val) / 2048 % 256 = k.val; omega
  | ⟨2, _⟩ => show (k.val * 2048 + j.val) % 2048 = j.val; omega

/-- An entry of the gate's product. -/
theorem ref_gate_sum (r : Fin 8704) (j : Fin 2048) : val_main_v10 (F := Ideal) x1 x5 (ix2 r j) = ∑ k : Fin 2048, x1 (ix2 r k) * x5 (ix3 1 k j) := by
  rw [val_main_v10_apply]
  refine Finset.sum_congr rfl fun k _ => ?_
  refine congrArg₂ _ (congrArg x1 ?_) (Eq.trans (congrArg _ ?_) (ref_gate x5 k j))
  · exact funext fun a => match a with | ⟨0, _⟩ => rfl | ⟨1, _⟩ => rfl
  · exact funext fun a => match a with | ⟨0, _⟩ => rfl | ⟨1, _⟩ => rfl

/-- An entry of the embedding's product. -/
theorem ref_proj_sum (r : Fin 8704) (j : Fin 2048) : val_main_v19 (F := Ideal) x3 x4 x6 (ix2 r j) = ∑ k : Fin 256, pArr x3 x4 (ix2 r k) * x6 (ix3 1 k j) := by
  rw [val_main_v19_apply]
  refine Finset.sum_congr rfl fun k _ => ?_
  refine congrArg₂ _ (congrArg (val_main_v6 (F := Ideal) x3 x4) ?_) (Eq.trans (congrArg _ ?_) (ref_proj x6 k j))
  · exact funext fun a => match a with | ⟨0, _⟩ => rfl | ⟨1, _⟩ => rfl
  · exact funext fun a => match a with | ⟨0, _⟩ => rfl | ⟨1, _⟩ => rfl

/-- An entry of the reference's rows before the norm. -/
theorem ref_row (r : Fin 8704) (j : Fin 2048) : val_main_v24 (F := Ideal) x0 x1 x2 x3 x4 x5 x6 (ix2 r j) = rowAt x0 x1 x2 (pArr x3 x4) x5 x6 r j := by
  unfold rowAt mix
  rw [← ref_gate_sum x1 x5 r j, ← ref_proj_sum x3 x4 x6 r j, ← PostNorm.sigmoid_eq, val_main_v24_apply, val_main_v23_apply, val_main_v22_apply,
    val_main_v21_apply, val_main_v20_apply, val_main_v16_apply, val_main_v15_apply, val_main_v14_apply, val_main_v13_apply, val_main_v12_apply,
    val_main_v11_apply]
  rfl

/-- The mean of a row of the reference. -/
theorem ref_mean (r : Fin 8704) : val_main_v28 (F := Ideal) x0 x1 x2 x3 x4 x5 x6 (ix2 r 0) = mean (rowAt x0 x1 x2 (pArr x3 x4) x5 x6 r) := by
  have e : (fun k => val_main_v24 (F := Ideal) x0 x1 x2 x3 x4 x5 x6 (idx_main_v25 (idx_main_v26 (ix2 r 0)) k)) = rowAt x0 x1 x2 (pArr x3 x4) x5 x6 r := by
    funext k
    rw [← ref_row]
    congr 1
    exact funext fun a => match a with | ⟨0, _⟩ => rfl | ⟨1, _⟩ => rfl
  rw [val_main_v28_apply, val_main_v26_apply, val_main_v27_apply, val_main_v25_apply]
  unfold mean
  rw [e]
  show Ideal.div (Ideal.ofBits .f32 0x00000000#32 + _) _ = _
  rw [Ideal.ofBits_zero_f32, zero_add]
  rfl

/-- A deviation from the mean, as the variance reads it. -/
theorem ref_dev (r : Fin 8704) (j : Fin 2048) : val_main_v30 (F := Ideal) x0 x1 x2 x3 x4 x5 x6 (ix2 r j)
    = rowAt x0 x1 x2 (pArr x3 x4) x5 x6 r j - mean (rowAt x0 x1 x2 (pArr x3 x4) x5 x6 r) := by
  have e : idx_main_v29 (ix2 r j) = ix2 r 0 := funext fun a => match a with | ⟨0, _⟩ => rfl | ⟨1, _⟩ => rfl
  rw [val_main_v30_apply, val_main_v29_apply, e, ref_mean, ref_row]
  rfl

/-- A deviation from the mean, as the result reads it. -/
theorem ref_dev' (r : Fin 8704) (j : Fin 2048) : val_main_v37 (F := Ideal) x0 x1 x2 x3 x4 x5 x6 (ix2 r j)
    = rowAt x0 x1 x2 (pArr x3 x4) x5 x6 r j - mean (rowAt x0 x1 x2 (pArr x3 x4) x5 x6 r) := by
  have e : idx_main_v36 (ix2 r j) = ix2 r 0 := funext fun a => match a with | ⟨0, _⟩ => rfl | ⟨1, _⟩ => rfl
  rw [val_main_v37_apply, val_main_v36_apply, e, ref_mean, ref_row]
  rfl

/-- The variance of a row of the reference. -/
theorem ref_var (r : Fin 8704) : val_main_v35 (F := Ideal) x0 x1 x2 x3 x4 x5 x6 (ix2 r 0)
    = mean (fun k => (rowAt x0 x1 x2 (pArr x3 x4) x5 x6 r k - mean (rowAt x0 x1 x2 (pArr x3 x4) x5 x6 r))
        * (rowAt x0 x1 x2 (pArr x3 x4) x5 x6 r k - mean (rowAt x0 x1 x2 (pArr x3 x4) x5 x6 r))) := by
  have e : (fun k => val_main_v31 (F := Ideal) x0 x1 x2 x3 x4 x5 x6 (idx_main_v32 (idx_main_v33 (ix2 r 0)) k))
      = fun k => (rowAt x0 x1 x2 (pArr x3 x4) x5 x6 r k - mean (rowAt x0 x1 x2 (pArr x3 x4) x5 x6 r))
        * (rowAt x0 x1 x2 (pArr x3 x4) x5 x6 r k - mean (rowAt x0 x1 x2 (pArr x3 x4) x5 x6 r)) := by
    funext k
    rw [← ref_dev, val_main_v31_apply]
    have e' : idx_main_v32 (idx_main_v33 (ix2 r 0)) k = ix2 r k := funext fun a => match a with | ⟨0, _⟩ => rfl | ⟨1, _⟩ => rfl
    rw [e']
    rfl
  rw [val_main_v35_apply, val_main_v33_apply, val_main_v34_apply, val_main_v32_apply]
  rw [e]
  generalize (fun k => (rowAt x0 x1 x2 (pArr x3 x4) x5 x6 r k - mean (rowAt x0 x1 x2 (pArr x3 x4) x5 x6 r))
        * (rowAt x0 x1 x2 (pArr x3 x4) x5 x6 r k - mean (rowAt x0 x1 x2 (pArr x3 x4) x5 x6 r))) = q
  unfold mean
  show Ideal.div (Ideal.ofBits .f32 0x00000000#32 + _) _ = _
  rw [Ideal.ofBits_zero_f32, zero_add]
  rfl

/-- The norm's scale. -/
theorem ref_scale (r : Fin 8704) (j : Fin 2048) : val_main_v46 (F := Ideal) x7 (ix2 r j) = x7 (ix2 1 j) := by
  rw [val_main_v46_apply, val_main_v45_apply, val_main_v44_apply, val_main_v43_apply]
  congr 1
  funext a
  apply Fin.ext
  match a with
  | ⟨0, _⟩ => rfl
  | ⟨1, _⟩ => show j.val % 2048 = j.val; omega

/-- The norm's shift. -/
theorem ref_shift (r : Fin 8704) (j : Fin 2048) : val_main_v51 (F := Ideal) x8 (ix2 r j) = x8 (ix2 1 j) := by
  rw [val_main_v51_apply, val_main_v50_apply, val_main_v49_apply, val_main_v48_apply]
  congr 1
  funext a
  apply Fin.ext
  match a with
  | ⟨0, _⟩ => rfl
  | ⟨1, _⟩ => show j.val % 2048 = j.val; omega

/-- An entry of the reference's rows: an entry of the same normalized row. -/
theorem ref_entry (r : Fin 8704) (j : Fin 2048) : val_main_v52 (F := Ideal) x0 x1 x2 x3 x4 x5 x6 x7 x8 (ix2 r j)
    = normed (rowAt x0 x1 x2 (pArr x3 x4) x5 x6 r) (x7 (ix2 1 j)) (x8 (ix2 1 j)) j := by
  have e : idx_main_v41 (ix2 r j) = ix2 r 0 := funext fun a => match a with | ⟨0, _⟩ => rfl | ⟨1, _⟩ => rfl
  rw [val_main_v52_apply, val_main_v47_apply, val_main_v42_apply, val_main_v41_apply, e, val_main_v40_apply, val_main_v39_apply, val_main_v38_apply,
    ref_scale, ref_shift, ref_dev', ref_var]
  rfl

end Entry

section Results

variable (m : (ℓ : Loc Cert.Kernel6Ideal.nD Cert.Kernel6Ideal.τ Cert.Kernel6Ideal.sig) → Buf (Elt Ideal) ℓ) (c : Dev Cert.Kernel6Ideal.nD)

/-- The kernel's array is the reference's rows. -/
theorem rows_equal :
    ((Cert.Kernel6Ideal.Gen.dats m 0 c).arrAt 8 Cert.Kernel6Ideal.cfg0.N : Vec Ideal S8704x2048 .f32)
      = val_main_v52 (F := Ideal)
          (m ((c : Thread Cert.Kernel6Ideal.nD Cert.Kernel6Ideal.τ).loc Cert.Kernel6Ideal.main_arg0))
          (m ((c : Thread Cert.Kernel6Ideal.nD Cert.Kernel6Ideal.τ).loc Cert.Kernel6Ideal.main_arg1))
          (m ((c : Thread Cert.Kernel6Ideal.nD Cert.Kernel6Ideal.τ).loc Cert.Kernel6Ideal.main_arg2))
          (m ((c : Thread Cert.Kernel6Ideal.nD Cert.Kernel6Ideal.τ).loc Cert.Kernel6Ideal.main_arg3))
          (m ((c : Thread Cert.Kernel6Ideal.nD Cert.Kernel6Ideal.τ).loc Cert.Kernel6Ideal.main_arg4))
          (m ((c : Thread Cert.Kernel6Ideal.nD Cert.Kernel6Ideal.τ).loc Cert.Kernel6Ideal.main_arg5))
          (m ((c : Thread Cert.Kernel6Ideal.nD Cert.Kernel6Ideal.τ).loc Cert.Kernel6Ideal.main_arg6))
          (m ((c : Thread Cert.Kernel6Ideal.nD Cert.Kernel6Ideal.τ).loc Cert.Kernel6Ideal.main_arg7))
          (m ((c : Thread Cert.Kernel6Ideal.nD Cert.Kernel6Ideal.τ).loc Cert.Kernel6Ideal.main_arg8)) := by
  funext i
  have e : i = ix2 (i 0) (i 1) := funext fun a => match a with | ⟨0, _⟩ => rfl | ⟨1, _⟩ => rfl
  rw [e]
  exact (array_entry m c (i 0) (i 1)).trans (ref_entry _ _ _ _ _ _ _ _ _ (i 0) (i 1)).symm

/-- So the prompt's rows of both are equal. -/
theorem prompt_equal : ofPrompt ((Cert.Kernel6Ideal.Gen.dats m 0 c).arrAt 8 Cert.Kernel6Ideal.cfg0.N)
      = val_main_v54 (F := Ideal)
          (m ((c : Thread Cert.Kernel6Ideal.nD Cert.Kernel6Ideal.τ).loc Cert.Kernel6Ideal.main_arg0))
          (m ((c : Thread Cert.Kernel6Ideal.nD Cert.Kernel6Ideal.τ).loc Cert.Kernel6Ideal.main_arg1))
          (m ((c : Thread Cert.Kernel6Ideal.nD Cert.Kernel6Ideal.τ).loc Cert.Kernel6Ideal.main_arg2))
          (m ((c : Thread Cert.Kernel6Ideal.nD Cert.Kernel6Ideal.τ).loc Cert.Kernel6Ideal.main_arg3))
          (m ((c : Thread Cert.Kernel6Ideal.nD Cert.Kernel6Ideal.τ).loc Cert.Kernel6Ideal.main_arg4))
          (m ((c : Thread Cert.Kernel6Ideal.nD Cert.Kernel6Ideal.τ).loc Cert.Kernel6Ideal.main_arg5))
          (m ((c : Thread Cert.Kernel6Ideal.nD Cert.Kernel6Ideal.τ).loc Cert.Kernel6Ideal.main_arg6))
          (m ((c : Thread Cert.Kernel6Ideal.nD Cert.Kernel6Ideal.τ).loc Cert.Kernel6Ideal.main_arg7))
          (m ((c : Thread Cert.Kernel6Ideal.nD Cert.Kernel6Ideal.τ).loc Cert.Kernel6Ideal.main_arg8)) := by
  rw [rows_equal]
  rfl

/-- And so are the sample's. -/
theorem sample_equal : ofSample ((Cert.Kernel6Ideal.Gen.dats m 0 c).arrAt 8 Cert.Kernel6Ideal.cfg0.N)
      = val_main_v56 (F := Ideal)
          (m ((c : Thread Cert.Kernel6Ideal.nD Cert.Kernel6Ideal.τ).loc Cert.Kernel6Ideal.main_arg0))
          (m ((c : Thread Cert.Kernel6Ideal.nD Cert.Kernel6Ideal.τ).loc Cert.Kernel6Ideal.main_arg1))
          (m ((c : Thread Cert.Kernel6Ideal.nD Cert.Kernel6Ideal.τ).loc Cert.Kernel6Ideal.main_arg2))
          (m ((c : Thread Cert.Kernel6Ideal.nD Cert.Kernel6Ideal.τ).loc Cert.Kernel6Ideal.main_arg3))
          (m ((c : Thread Cert.Kernel6Ideal.nD Cert.Kernel6Ideal.τ).loc Cert.Kernel6Ideal.main_arg4))
          (m ((c : Thread Cert.Kernel6Ideal.nD Cert.Kernel6Ideal.τ).loc Cert.Kernel6Ideal.main_arg5))
          (m ((c : Thread Cert.Kernel6Ideal.nD Cert.Kernel6Ideal.τ).loc Cert.Kernel6Ideal.main_arg6))
          (m ((c : Thread Cert.Kernel6Ideal.nD Cert.Kernel6Ideal.τ).loc Cert.Kernel6Ideal.main_arg7))
          (m ((c : Thread Cert.Kernel6Ideal.nD Cert.Kernel6Ideal.τ).loc Cert.Kernel6Ideal.main_arg8)) := by
  rw [rows_equal]
  rfl

end Results

end LastNorm

end
-- ==== Proof.Deal.Kernel.lean ====
/-
  The joint projection with the results that the host reads out of its columns: the arrays that the host prepares, what
  the kernel's array holds, and the four results of the sample and the one of the prompt.
-/
module

public import proofs.«01_k».proof.Proof.Gen.Kernel7Ideal.Frame
public import proofs.«01_k».proof.Proof.Proj.Kernel
public import Idealize.ShloMosaic.Lib.Pointwise
public import Idealize.ShloMosaic.Lib.Pipeline.Value
public import Idealize.ShloMosaic.Lib.Pipeline.ValueKit.Basic
public import Idealize.ShloMosaic.PureOps.Ideal.Laws

@[expose] public section

set_option maxRecDepth 16384

noncomputable section

namespace Deal

open Idealize.ShloMosaic Idealize.ShloMosaic.TcCoe Idealize.SL.Sem
open Cert.Kernel7Ideal Cert.Kernel7Ideal.Gen
open JointProj (xAt wAt zero_word)

variable (m : (ℓ : Loc nD τ sig) → Buf (Elt Ideal) ℓ) (c : Dev nD)

/-- The rows that the kernel is given. -/
def rowsArr (x0 : Vec Ideal S2x4096x2048 .f32) (x1 : Vec Ideal S128x4x2048 .f32) : FVec Ideal S8704x2048 .bf16 :=
  truncf .bf16 (concatenate S8704x2048 0 [⟨S8192x2048, shapeCast S8192x2048 x0 shapeCasts_S2x4096x2048_S8192x2048⟩,
    ⟨S512x2048, shapeCast S512x2048 x1 shapeCasts_S128x4x2048_S512x2048⟩] concatenates_S8192x2048_S512x2048_S8704x2048_d0) bitsLt_bf16_f32

/-- The weights that the kernel is given. -/
def weightsArr (w : Vec Ideal S2x2048x5648 .f32) : FVec Ideal S2x2048x5760 .bf16 :=
  pad S2x2048x5760 ![0, 0, 0] ![0, 0, 112] ![0, 0, 0] (truncf .bf16 w bitsLt_bf16_f32 : FVec Ideal S2x2048x5648 .bf16)
    (sitofp .bf16 (constantI S_ 32 0#32) : FVec Ideal S_ .bf16) pads_S2x2048x5648_S2x2048x5760_000_000_01120 h_S_

/-- The rows' array holds what the host prepares: both groups' rows, joined. -/
theorem V_rows : V0 m c main_v5 = rowsArr (m ((c : Thread nD τ).loc main_arg0)) (m ((c : Thread nD τ).loc main_arg1)) := by
  show StableHlo.after _ _ (Proc.devRef .tc main_v5) = _
  simp only [hostOps0, hostOps0_1, hostOps0_2, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

/-- The weights' array holds what the host prepares: the weights, with 112 columns of zeros behind. -/
theorem V_weights : V0 m c main_v1 = weightsArr (m ((c : Thread nD τ).loc main_arg2)) := by
  show StableHlo.after _ _ (Proc.devRef .tc main_v1) = _
  simp only [hostOps0, hostOps0_1, hostOps0_2, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

/-- An entry of the joined rows. -/
theorem rows_apply (x0 : Vec Ideal S2x4096x2048 .f32) (x1 : Vec Ideal S128x4x2048 .f32) (r : Fin 8704) (k : Fin 2048) :
    rowsArr x0 x1 (ix2 r k) = xAt x0 x1 r k := by
  unfold rowsArr xAt
  pointwise

/-- An entry of the padded weights. -/
theorem weights_apply (w : Vec Ideal S2x2048x5648 .f32) (l : Fin 2) (k : Fin 2048) (j : Fin 5760) :
    weightsArr w (ix3 l k j) = wAt w l k j := by
  unfold weightsArr wAt
  pointwise
  rw [zero_word]

/-- An entry of the block that one step writes is a row times a column. -/
theorem pay_apply (x : Vec Ideal S512x2048 .bf16) (w : Vec Ideal S1x2048x1920 .bf16) (r : Fin 512) (j : Fin 1920) :
    k0_pay1 x w (ix2 r j) = ∑ k : Fin 2048, x (ix2 r k) * w (ix3 0 k j) := by
  unfold k0_pay1
  pointwise

/-- The grid has 51 steps. -/
theorem N51 (t : Fin cfg0.N) : t.val < 51 := lt_of_lt_of_eq t.isLt N_0

/-- Which block of each array a step works on: 17 blocks of rows for each of 3 blocks of columns. -/
theorem block_index : ∀ t : Fin cfg0.N, win0_0.index t 0 = t.val % 17 ∧ win0_0.index t 1 = 0
    ∧ win0_1.index t 0 = 0 ∧ win0_1.index t 1 = 0 ∧ win0_1.index t 2 = t.val / 17
    ∧ win0_2.index t 0 = t.val % 17 ∧ win0_2.index t 1 = t.val / 17 := by decide +kernel

/-- The rows' window at a step. -/
theorem rows_block (t : Fin cfg0.N) (r : Fin 512) (k : Fin 2048) : (iblk m c 0 t : Vec Ideal S512x2048 .bf16) (ix2 r k)
    = xAt (m ((c : Thread nD τ).loc main_arg0)) (m ((c : Thread nD τ).loc main_arg1)) ⟨512 * (t.val % 17) + r.val, by omega⟩ k := by
  have hi := block_index t
  rw [← rows_apply]
  unfold iblk
  rw [View.read_apply]
  show V0 m c main_v5 _ = _
  rw [V_rows]
  congr 1
  funext a
  apply Fin.ext
  match a with
  | ⟨0, _⟩ => show win0_0.index t 0 * 512 + 1 * r.val = 512 * (t.val % 17) + r.val; rw [hi.1]; omega
  | ⟨1, _⟩ => show win0_0.index t 1 * 2048 + 1 * k.val = k.val; rw [hi.2.1]; omega

/-- The weights' window at a step. -/
theorem weights_block (t : Fin cfg0.N) (k : Fin 2048) (j : Fin 1920) : (iblk m c 1 t : Vec Ideal S1x2048x1920 .bf16) (ix3 0 k j)
    = wAt (m ((c : Thread nD τ).loc main_arg2)) 0 k ⟨1920 * (t.val / 17) + j.val, by have := N51 t; omega⟩ := by
  have hi := block_index t
  rw [← weights_apply]
  unfold iblk
  rw [View.read_apply]
  show V0 m c main_v1 _ = _
  rw [V_weights]
  congr 1
  funext a
  apply Fin.ext
  match a with
  | ⟨0, _⟩ => show win0_1.index t 0 * 1 + 1 * 0 = 0; rw [hi.2.2.1]
  | ⟨1, _⟩ => show win0_1.index t 1 * 2048 + 1 * k.val = k.val; rw [hi.2.2.2.1]; omega
  | ⟨2, _⟩ => show win0_1.index t 2 * 1920 + 1 * j.val = 1920 * (t.val / 17) + j.val; rw [hi.2.2.2.2.1]; omega

/-- What a step writes, entry by entry. -/
theorem out_apply (x : Vec Ideal S512x2048 .bf16) (w : Vec Ideal S1x2048x1920 .bf16) (r : Fin 512) (j : Fin 1920) :
    out0_2 x w (ix2 r j) = ∑ k : Fin 2048, x (ix2 r k) * w (ix3 0 k j) := by
  rw [← pay_apply]
  unfold out0_2
  rw [View.canon_cons_unit_lit _ _ _ (by decide), View.ld_unit_lit _ _ (by decide), View.ld_unit_lit _ _ (by decide)]

/-- No two steps write the same block. -/
theorem index_inj : ∀ t t' : Fin cfg0.N, win0_2.index t = win0_2.index t' → t = t' :=
  (by decide +kernel : ∀ t t' : Fin grid0.N, win0_2.index t = win0_2.index t' → t = t')

/-- So the blocks of two steps share no entry. -/
theorem blocks_disjoint : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (index_inj t t' h)

/-- A block of the kernel's array, read back, is what its step wrote. -/
theorem block_kept (t : Fin cfg0.N) : ((cfg0.win 2).blk t).view.read (Elt Ideal) ((dats m 0 c).arrAt 2 cfg0.N)
    = (cfg0.win 2).cut (grid0.coords t) (out0_2 (iblk m c 0 t) (iblk m c 1 t)) := by
  refine ((dats m 0 c).read_blk_arrAt_eq_flushed 2 blocks_disjoint cfg0.N t t.isLt (flush0_2 t)).trans ?_
  show (cfg0.win 2).cut (grid0.coords t) ((dats m 0 c).after 2 t) = _
  rw [after0_2]

/-- An entry of the kernel's array: a row of the joined input times a column of the weights of layer 0. -/
theorem array_entry (r : Fin 8704) (j : Fin 5760) : ((dats m 0 c).arrAt 2 cfg0.N : Vec Ideal S8704x5760 .f32) (ix2 r j)
    = ∑ k : Fin 2048, xAt (m ((c : Thread nD τ).loc main_arg0)) (m ((c : Thread nD τ).loc main_arg1)) r k * wAt (m ((c : Thread nD τ).loc main_arg2)) 0 k j := by
  obtain ⟨t, ht⟩ : ∃ t : Fin cfg0.N, t.val = 17 * (j.val / 1920) + r.val / 512 := ⟨⟨_, lt_of_lt_of_eq (by omega) N_0.symm⟩, rfl⟩
  have e1 : t.val % 17 = r.val / 512 := by omega
  have e2 : t.val / 17 = j.val / 1920 := by omega
  have hi := block_index t
  have h := congrFun (block_kept m c t) (ix2 ⟨r.val % 512, by omega⟩ ⟨j.val % 1920, by omega⟩)
  rw [View.read_apply] at h
  refine Eq.trans ?_ (h.trans ?_)
  · show (dats m 0 c).arrAt 2 cfg0.N _ = (dats m 0 c).arrAt 2 cfg0.N _
    congr 1
    funext a
    apply Fin.ext
    match a with
    | ⟨0, _⟩ => show r.val = win0_2.index t 0 * 512 + 1 * (r.val % 512); rw [hi.2.2.2.2.2.1, e1]; omega
    | ⟨1, _⟩ => show j.val = win0_2.index t 1 * 1920 + 1 * (j.val % 1920); rw [hi.2.2.2.2.2.2, e2]; omega
  · show out0_2 _ _ (ix2 ⟨r.val % 512, _⟩ ⟨j.val % 1920, _⟩) = _
    rw [out_apply]
    refine Finset.sum_congr rfl fun k _ => ?_
    rw [rows_block, weights_block]
    have er : 512 * (t.val % 17) + r.val % 512 = r.val := by omega
    have ej : 1920 * (t.val / 17) + j.val % 1920 = j.val := by omega
    simp only [er, ej]

/-- The sample's rows of the kernel's array, by sequence and position. -/
def sampleRows (o : Vec Ideal S8704x5760 .f32) : Vec Ideal S128x4x5760 .f32 :=
  shapeCast S128x4x5760 (extractStridedSlice S512x5760 ![8192, 0] o slices_S8704x5760_S512x5760_8192_0) shapeCasts_S512x5760_S128x4x5760

/-- The first attention's keys, by heads. -/
def keysA (o : Vec Ideal S8704x5760 .f32) : Vec Ideal S128x4x4x128 .f32 :=
  shapeCast S128x4x4x128 (extractStridedSlice S128x4x512 ![0, 0, 512] (sampleRows o) slices_S128x4x5760_S128x4x512_0_0_512) shapeCasts_S128x4x512_S128x4x4x128

/-- The first attention's values, by heads. -/
def valsA (o : Vec Ideal S8704x5760 .f32) : Vec Ideal S128x4x4x128 .f32 :=
  shapeCast S128x4x4x128 (extractStridedSlice S128x4x512 ![0, 0, 1024] (sampleRows o) slices_S128x4x5760_S128x4x512_0_0_1024) shapeCasts_S128x4x512_S128x4x4x128

/-- The second attention's keys, by heads. -/
def keysB (o : Vec Ideal S8704x5760 .f32) : Vec Ideal S128x4x4x128 .f32 :=
  shapeCast S128x4x4x128 (extractStridedSlice S128x4x512 ![0, 0, 2048] (sampleRows o) slices_S128x4x5760_S128x4x512_0_0_2048) shapeCasts_S128x4x512_S128x4x4x128

/-- The second attention's values, by heads. -/
def valsB (o : Vec Ideal S8704x5760 .f32) : Vec Ideal S128x4x4x128 .f32 :=
  shapeCast S128x4x4x128 (extractStridedSlice S128x4x512 ![0, 0, 2560] (sampleRows o) slices_S128x4x5760_S128x4x512_0_0_2560) shapeCasts_S128x4x512_S128x4x4x128

/-- The last three rows of the convolved columns of each of the prompt's sequences. -/
def convRows (o : Vec Ideal S8704x5760 .f32) : Vec Ideal S2x3x1536 .f32 :=
  concatenate S2x3x1536 0
    [⟨S1x3x1536, broadcastInDim S1x3x1536 ![1, 2] bcast_S3x1536_S1x3x1536_1_2
        (extractStridedSlice S3x1536 ![4093, 4096] o slices_S8704x5760_S3x1536_4093_4096 : Vec Ideal S3x1536 .f32)⟩,
     ⟨S1x3x1536, broadcastInDim S1x3x1536 ![1, 2] bcast_S3x1536_S1x3x1536_1_2
        (extractStridedSlice S3x1536 ![8189, 4096] o slices_S8704x5760_S3x1536_8189_4096 : Vec Ideal S3x1536 .f32)⟩]
    concatenates_S1x3x1536_S1x3x1536_S2x3x1536_d0

/-- An entry of the first attention's keys. -/
theorem keysA_apply (o : Vec Ideal S8704x5760 .f32) (b : Fin 128) (t : Fin 4) (h : Fin 4) (d : Fin 128) :
    keysA o (ix4 b t h d) = o (ix2 ⟨8192 + 4 * b.val + t.val, by omega⟩ ⟨512 + 128 * h.val + d.val, by omega⟩) := by
  unfold keysA sampleRows
  pointwise
  congr 1
  funext a
  apply Fin.ext
  match a with
  | ⟨0, _⟩ => simp only [ix2]; omega
  | ⟨1, _⟩ => simp only [ix2]; omega

/-- An entry of the first attention's values. -/
theorem valsA_apply (o : Vec Ideal S8704x5760 .f32) (b : Fin 128) (t : Fin 4) (h : Fin 4) (d : Fin 128) :
    valsA o (ix4 b t h d) = o (ix2 ⟨8192 + 4 * b.val + t.val, by omega⟩ ⟨1024 + 128 * h.val + d.val, by omega⟩) := by
  unfold valsA sampleRows
  pointwise
  congr 1
  funext a
  apply Fin.ext
  match a with
  | ⟨0, _⟩ => simp only [ix2]; omega
  | ⟨1, _⟩ => simp only [ix2]; omega

/-- An entry of the second attention's keys. -/
theorem keysB_apply (o : Vec Ideal S8704x5760 .f32) (b : Fin 128) (t : Fin 4) (h : Fin 4) (d : Fin 128) :
    keysB o (ix4 b t h d) = o (ix2 ⟨8192 + 4 * b.val + t.val, by omega⟩ ⟨2048 + 128 * h.val + d.val, by omega⟩) := by
  unfold keysB sampleRows
  pointwise
  congr 1
  funext a
  apply Fin.ext
  match a with
  | ⟨0, _⟩ => simp only [ix2]; omega
  | ⟨1, _⟩ => simp only [ix2]; omega

/-- An entry of the second attention's values. -/
theorem valsB_apply (o : Vec Ideal S8704x5760 .f32) (b : Fin 128) (t : Fin 4) (h : Fin 4) (d : Fin 128) :
    valsB o (ix4 b t h d) = o (ix2 ⟨8192 + 4 * b.val + t.val, by omega⟩ ⟨2560 + 128 * h.val + d.val, by omega⟩) := by
  unfold valsB sampleRows
  pointwise
  congr 1
  funext a
  apply Fin.ext
  match a with
  | ⟨0, _⟩ => simp only [ix2]; omega
  | ⟨1, _⟩ => simp only [ix2]; omega

/-- An entry of the prompt's last convolved rows. -/
theorem convRows_apply (o : Vec Ideal S8704x5760 .f32) (b : Fin 2) (r : Fin 3) (j : Fin 1536) :
    convRows o (ix3 b r j) = o (ix2 ⟨4096 * b.val + (4093 + r.val), by omega⟩ ⟨4096 + j.val, by omega⟩) := by
  unfold convRows
  pointwise
  obtain h | h : b.val = 0 ∨ b.val = 1 := by omega
  · simp only [h, Nat.lt_one_iff, dite_true, Nat.mul_zero, Nat.zero_add]
  · have e : 4096 * 1 + (4093 + r.val) = 8189 + r.val := by omega
    simp only [h, lt_irrefl, dite_false, e]

/-- After the host's last lines the kernel's array is still what the kernel left. -/
theorem array_kept : Pipeline.withArrays spec0 c (V0 m c) (fun w => (dats m 0 c).arrAt w cfg0.N) (Proc.devRef .tc main_v6)
    = (dats m 0 c).arrAt 2 cfg0.N :=
  Pipeline.withArrays_arr spec0 launch0.win.arr_inj c (V0 m c) (fun w => (dats m 0 c).arrAt w cfg0.N) 2

/-- The result with the first attention's keys is read out of the kernel's array. -/
theorem keysA_tail : Pipeline.afterTail₀ cfgs (dats m) 0 (V0 m) [hostOps1] c main_v10 = keysA ((dats m 0 c).arrAt 2 cfg0.N) := by
  rw [← array_kept]
  show StableHlo.after [hostOps1].flatten (Pipeline.withArrays spec0 c (V0 m c) (fun w => (dats m 0 c).arrAt w cfg0.N)) _ = _
  generalize Pipeline.withArrays spec0 c (V0 m c) (fun w => (dats m 0 c).arrAt w cfg0.N) = W
  simp only [hostOps1, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

/-- The result with the first attention's values is read out of the kernel's array. -/
theorem valsA_tail : Pipeline.afterTail₀ cfgs (dats m) 0 (V0 m) [hostOps1] c main_v12 = valsA ((dats m 0 c).arrAt 2 cfg0.N) := by
  rw [← array_kept]
  show StableHlo.after [hostOps1].flatten (Pipeline.withArrays spec0 c (V0 m c) (fun w => (dats m 0 c).arrAt w cfg0.N)) _ = _
  generalize Pipeline.withArrays spec0 c (V0 m c) (fun w => (dats m 0 c).arrAt w cfg0.N) = W
  simp only [hostOps1, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

/-- The result with the second attention's keys is read out of the kernel's array. -/
theorem keysB_tail : Pipeline.afterTail₀ cfgs (dats m) 0 (V0 m) [hostOps1] c main_v14 = keysB ((dats m 0 c).arrAt 2 cfg0.N) := by
  rw [← array_kept]
  show StableHlo.after [hostOps1].flatten (Pipeline.withArrays spec0 c (V0 m c) (fun w => (dats m 0 c).arrAt w cfg0.N)) _ = _
  generalize Pipeline.withArrays spec0 c (V0 m c) (fun w => (dats m 0 c).arrAt w cfg0.N) = W
  simp only [hostOps1, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

/-- The result with the second attention's values is read out of the kernel's array. -/
theorem valsB_tail : Pipeline.afterTail₀ cfgs (dats m) 0 (V0 m) [hostOps1] c main_v16 = valsB ((dats m 0 c).arrAt 2 cfg0.N) := by
  rw [← array_kept]
  show StableHlo.after [hostOps1].flatten (Pipeline.withArrays spec0 c (V0 m c) (fun w => (dats m 0 c).arrAt w cfg0.N)) _ = _
  generalize Pipeline.withArrays spec0 c (V0 m c) (fun w => (dats m 0 c).arrAt w cfg0.N) = W
  simp only [hostOps1, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

/-- The result with the prompt's last convolved rows is read out of the kernel's array. -/
theorem convRows_tail : Pipeline.afterTail₀ cfgs (dats m) 0 (V0 m) [hostOps1] c main_v21 = convRows ((dats m 0 c).arrAt 2 cfg0.N) := by
  rw [← array_kept]
  show StableHlo.after [hostOps1].flatten (Pipeline.withArrays spec0 c (V0 m c) (fun w => (dats m 0 c).arrAt w cfg0.N)) _ = _
  generalize Pipeline.withArrays spec0 c (V0 m c) (fun w => (dats m 0 c).arrAt w cfg0.N) = W
  simp only [hostOps1, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

end Deal

end
-- ==== Proof.Deal.Reference.lean ====
/-
  The joint projection's reference, read at an entry of each of its five results, and their equality with the kernel's.
-/
module

public import proofs.«01_k».proof.Proof.Gen.Reference7Ideal.Read
public import proofs.«01_k».proof.Proof.Deal.Kernel

@[expose] public section

set_option maxRecDepth 16384

noncomputable section

namespace Deal

open Idealize.ShloMosaic Idealize.ShloMosaic.TcCoe Idealize.SL.Sem
open Cert.Reference7Ideal Cert.Reference7Ideal.Gen Cert.Reference7Ideal.Read
open JointProj (xAt wAt)

variable (x0 : Vec Ideal S2x4096x2048 .f32) (x1 : Vec Ideal S128x4x2048 .f32) (w : Vec Ideal S2x2048x5648 .f32)

/-- The weights of layer 0, as the prompt's product reads them. -/
theorem ref_weights (k : Fin 2048) (j : Fin 5648) : val_main_v1 (F := Ideal) w (ix2 k j) = w (ix3 0 k j) := by
  rw [val_main_v1_apply, val_main_v0_apply]
  congr 1
  funext a
  apply Fin.ext
  match a with
  | ⟨0, _⟩ => rfl
  | ⟨1, _⟩ => show (k.val * 5648 + j.val) / 5648 % 2048 = k.val; omega
  | ⟨2, _⟩ => show (k.val * 5648 + j.val) % 5648 = j.val; omega

/-- The same weights, as the sample's product reads them. -/
theorem ref_weights' (k : Fin 2048) (j : Fin 5648) : val_main_v13 (F := Ideal) w (ix2 k j) = w (ix3 0 k j) := ref_weights w k j

/-- An entry of the prompt's product. -/
theorem ref_prompt (b : Fin 2) (t : Fin 4096) (j : Fin 5648) : val_main_v2 (F := Ideal) x0 w (ix3 b t j)
    = ∑ k : Fin 2048, x0 (ix3 b t k) * w (ix3 0 k j) := by
  rw [val_main_v2_apply]
  refine Finset.sum_congr rfl fun k _ => ?_
  refine congrArg₂ _ (congrArg x0 ?_) (Eq.trans (congrArg _ ?_) (ref_weights w k j))
  · exact funext fun a => match a with | ⟨0, _⟩ => rfl | ⟨1, _⟩ => rfl | ⟨2, _⟩ => rfl
  · exact funext fun a => match a with | ⟨0, _⟩ => rfl | ⟨1, _⟩ => rfl

/-- An entry of the sample's product. -/
theorem ref_sample (b : Fin 128) (t : Fin 4) (j : Fin 5648) : val_main_v14 (F := Ideal) x1 w (ix3 b t j)
    = ∑ k : Fin 2048, x1 (ix3 b t k) * w (ix3 0 k j) := by
  rw [val_main_v14_apply]
  refine Finset.sum_congr rfl fun k _ => ?_
  refine congrArg₂ _ (congrArg x1 ?_) (Eq.trans (congrArg _ ?_) (ref_weights' w k j))
  · exact funext fun a => match a with | ⟨0, _⟩ => rfl | ⟨1, _⟩ => rfl | ⟨2, _⟩ => rfl
  · exact funext fun a => match a with | ⟨0, _⟩ => rfl | ⟨1, _⟩ => rfl

/-- A sample row of the joined input times a column of the weights. -/
theorem joined_sample (b : Fin 128) (t : Fin 4) (j : ℕ) (hj : j < 5648) :
    ∑ k : Fin 2048, xAt x0 x1 ⟨8192 + 4 * b.val + t.val, by omega⟩ k * wAt w 0 k ⟨j, by omega⟩
      = ∑ k : Fin 2048, x1 (ix3 b t k) * w (ix3 0 k ⟨j, hj⟩) := by
  refine Finset.sum_congr rfl fun k _ => ?_
  have hr : ¬ 8192 + 4 * b.val + t.val < 8192 := by omega
  have eb : (8192 + 4 * b.val + t.val - 8192) / 4 = b.val := by omega
  have et : (8192 + 4 * b.val + t.val - 8192) % 4 = t.val := by omega
  simp only [xAt, wAt, hr, hj, dif_neg, dif_pos, not_false_eq_true, eb, et]

/-- A prompt row of the joined input times a column of the weights. -/
theorem joined_prompt (b : Fin 2) (t : Fin 4096) (j : ℕ) (hj : j < 5648) :
    ∑ k : Fin 2048, xAt x0 x1 ⟨4096 * b.val + t.val, by omega⟩ k * wAt w 0 k ⟨j, by omega⟩
      = ∑ k : Fin 2048, x0 (ix3 b t k) * w (ix3 0 k ⟨j, hj⟩) := by
  refine Finset.sum_congr rfl fun k _ => ?_
  have hr : 4096 * b.val + t.val < 8192 := by omega
  have eb : (4096 * b.val + t.val) / 4096 = b.val := by omega
  have et : (4096 * b.val + t.val) % 4096 = t.val := by omega
  simp only [xAt, wAt, hr, hj, dif_pos, eb, et]

/-- An entry of the reference's first attention's keys. -/
theorem ref_keysA (b : Fin 128) (t : Fin 4) (h : Fin 4) (d : Fin 128) : val_main_v25 (F := Ideal) x1 w (ix4 b t h d)
    = ∑ k : Fin 2048, x1 (ix3 b t k) * w (ix3 0 k ⟨512 + 128 * h.val + d.val, by omega⟩) := by
  rw [val_main_v25_apply, val_main_v16_apply, ← ref_sample]
  congr 1
  funext a
  apply Fin.ext
  match a with
  | ⟨0, _⟩ => show (((b.val * 4 + t.val) * 4 + h.val) * 128 + d.val) / 2048 = b.val; omega
  | ⟨1, _⟩ => show (((b.val * 4 + t.val) * 4 + h.val) * 128 + d.val) / 512 % 4 = t.val; omega
  | ⟨2, _⟩ => show 512 + (((b.val * 4 + t.val) * 4 + h.val) * 128 + d.val) % 512 = 512 + 128 * h.val + d.val; omega

/-- An entry of the reference's first attention's values. -/
theorem ref_valsA (b : Fin 128) (t : Fin 4) (h : Fin 4) (d : Fin 128) : val_main_v26 (F := Ideal) x1 w (ix4 b t h d)
    = ∑ k : Fin 2048, x1 (ix3 b t k) * w (ix3 0 k ⟨1024 + 128 * h.val + d.val, by omega⟩) := by
  rw [val_main_v26_apply, val_main_v17_apply, ← ref_sample]
  congr 1
  funext a
  apply Fin.ext
  match a with
  | ⟨0, _⟩ => show (((b.val * 4 + t.val) * 4 + h.val) * 128 + d.val) / 2048 = b.val; omega
  | ⟨1, _⟩ => show (((b.val * 4 + t.val) * 4 + h.val) * 128 + d.val) / 512 % 4 = t.val; omega
  | ⟨2, _⟩ => show 1024 + (((b.val * 4 + t.val) * 4 + h.val) * 128 + d.val) % 512 = 1024 + 128 * h.val + d.val; omega

/-- An entry of the reference's second attention's keys. -/
theorem ref_keysB (b : Fin 128) (t : Fin 4) (h : Fin 4) (d : Fin 128) : val_main_v27 (F := Ideal) x1 w (ix4 b t h d)
    = ∑ k : Fin 2048, x1 (ix3 b t k) * w (ix3 0 k ⟨2048 + 128 * h.val + d.val, by omega⟩) := by
  rw [val_main_v27_apply, val_main_v19_apply, ← ref_sample]
  congr 1
  funext a
  apply Fin.ext
  match a with
  | ⟨0, _⟩ => show (((b.val * 4 + t.val) * 4 + h.val) * 128 + d.val) / 2048 = b.val; omega
  | ⟨1, _⟩ => show (((b.val * 4 + t.val) * 4 + h.val) * 128 + d.val) / 512 % 4 = t.val; omega
  | ⟨2, _⟩ => show 2048 + (((b.val * 4 + t.val) * 4 + h.val) * 128 + d.val) % 512 = 2048 + 128 * h.val + d.val; omega

/-- An entry of the reference's second attention's values. -/
theorem ref_valsB (b : Fin 128) (t : Fin 4) (h : Fin 4) (d : Fin 128) : val_main_v28 (F := Ideal) x1 w (ix4 b t h d)
    = ∑ k : Fin 2048, x1 (ix3 b t k) * w (ix3 0 k ⟨2560 + 128 * h.val + d.val, by omega⟩) := by
  rw [val_main_v28_apply, val_main_v20_apply, ← ref_sample]
  congr 1
  funext a
  apply Fin.ext
  match a with
  | ⟨0, _⟩ => show (((b.val * 4 + t.val) * 4 + h.val) * 128 + d.val) / 2048 = b.val; omega
  | ⟨1, _⟩ => show (((b.val * 4 + t.val) * 4 + h.val) * 128 + d.val) / 512 % 4 = t.val; omega
  | ⟨2, _⟩ => show 2560 + (((b.val * 4 + t.val) * 4 + h.val) * 128 + d.val) % 512 = 2560 + 128 * h.val + d.val; omega

/-- An entry of the reference's last convolved rows. -/
theorem ref_convRows (b : Fin 2) (r : Fin 3) (j : Fin 1536) : val_main_v24 (F := Ideal) x0 w (ix3 b r j)
    = ∑ k : Fin 2048, x0 (ix3 b ⟨4093 + r.val, by omega⟩ k) * w (ix3 0 k ⟨4096 + j.val, by omega⟩) := by
  rw [val_main_v24_apply, val_main_v10_apply, ← ref_prompt]
  congr 1
  funext a
  apply Fin.ext
  match a with
  | ⟨0, _⟩ => rfl
  | ⟨1, _⟩ => rfl
  | ⟨2, _⟩ => rfl

variable (m : (ℓ : Loc Cert.Kernel7Ideal.nD Cert.Kernel7Ideal.τ Cert.Kernel7Ideal.sig) → Buf (Elt Ideal) ℓ) (c : Dev Cert.Kernel7Ideal.nD)

/-- The first attention's keys are equal. -/
theorem keysA_equal : keysA ((Cert.Kernel7Ideal.Gen.dats m 0 c).arrAt 2 Cert.Kernel7Ideal.cfg0.N)
    = val_main_v25 (F := Ideal) (m ((c : Thread Cert.Kernel7Ideal.nD Cert.Kernel7Ideal.τ).loc Cert.Kernel7Ideal.main_arg1))
        (m ((c : Thread Cert.Kernel7Ideal.nD Cert.Kernel7Ideal.τ).loc Cert.Kernel7Ideal.main_arg2)) := by
  funext i
  have e : i = ix4 (i 0) (i 1) (i 2) (i 3) := funext fun a => match a with | ⟨0, _⟩ => rfl | ⟨1, _⟩ => rfl | ⟨2, _⟩ => rfl | ⟨3, _⟩ => rfl
  have h2 : (i 2).val < 4 := (i 2).isLt
  have h3 : (i 3).val < 128 := (i 3).isLt
  rw [e]
  exact (((keysA_apply _ (i 0) (i 1) (i 2) (i 3)).trans (array_entry m c _ _)).trans (joined_sample _ _ _ (i 0) (i 1) _ (by omega))).trans
    (ref_keysA _ _ (i 0) (i 1) (i 2) (i 3)).symm

/-- The first attention's values are equal. -/
theorem valsA_equal : valsA ((Cert.Kernel7Ideal.Gen.dats m 0 c).arrAt 2 Cert.Kernel7Ideal.cfg0.N)
    = val_main_v26 (F := Ideal) (m ((c : Thread Cert.Kernel7Ideal.nD Cert.Kernel7Ideal.τ).loc Cert.Kernel7Ideal.main_arg1))
        (m ((c : Thread Cert.Kernel7Ideal.nD Cert.Kernel7Ideal.τ).loc Cert.Kernel7Ideal.main_arg2)) := by
  funext i
  have e : i = ix4 (i 0) (i 1) (i 2) (i 3) := funext fun a => match a with | ⟨0, _⟩ => rfl | ⟨1, _⟩ => rfl | ⟨2, _⟩ => rfl | ⟨3, _⟩ => rfl
  have h2 : (i 2).val < 4 := (i 2).isLt
  have h3 : (i 3).val < 128 := (i 3).isLt
  rw [e]
  exact (((valsA_apply _ (i 0) (i 1) (i 2) (i 3)).trans (array_entry m c _ _)).trans (joined_sample _ _ _ (i 0) (i 1) _ (by omega))).trans
    (ref_valsA _ _ (i 0) (i 1) (i 2) (i 3)).symm

/-- The second attention's keys are equal. -/
theorem keysB_equal : keysB ((Cert.Kernel7Ideal.Gen.dats m 0 c).arrAt 2 Cert.Kernel7Ideal.cfg0.N)
    = val_main_v27 (F := Ideal) (m ((c : Thread Cert.Kernel7Ideal.nD Cert.Kernel7Ideal.τ).loc Cert.Kernel7Ideal.main_arg1))
        (m ((c : Thread Cert.Kernel7Ideal.nD Cert.Kernel7Ideal.τ).loc Cert.Kernel7Ideal.main_arg2)) := by
  funext i
  have e : i = ix4 (i 0) (i 1) (i 2) (i 3) := funext fun a => match a with | ⟨0, _⟩ => rfl | ⟨1, _⟩ => rfl | ⟨2, _⟩ => rfl | ⟨3, _⟩ => rfl
  have h2 : (i 2).val < 4 := (i 2).isLt
  have h3 : (i 3).val < 128 := (i 3).isLt
  rw [e]
  exact (((keysB_apply _ (i 0) (i 1) (i 2) (i 3)).trans (array_entry m c _ _)).trans (joined_sample _ _ _ (i 0) (i 1) _ (by omega))).trans
    (ref_keysB _ _ (i 0) (i 1) (i 2) (i 3)).symm

/-- The second attention's values are equal. -/
theorem valsB_equal : valsB ((Cert.Kernel7Ideal.Gen.dats m 0 c).arrAt 2 Cert.Kernel7Ideal.cfg0.N)
    = val_main_v28 (F := Ideal) (m ((c : Thread Cert.Kernel7Ideal.nD Cert.Kernel7Ideal.τ).loc Cert.Kernel7Ideal.main_arg1))
        (m ((c : Thread Cert.Kernel7Ideal.nD Cert.Kernel7Ideal.τ).loc Cert.Kernel7Ideal.main_arg2)) := by
  funext i
  have e : i = ix4 (i 0) (i 1) (i 2) (i 3) := funext fun a => match a with | ⟨0, _⟩ => rfl | ⟨1, _⟩ => rfl | ⟨2, _⟩ => rfl | ⟨3, _⟩ => rfl
  have h2 : (i 2).val < 4 := (i 2).isLt
  have h3 : (i 3).val < 128 := (i 3).isLt
  rw [e]
  exact (((valsB_apply _ (i 0) (i 1) (i 2) (i 3)).trans (array_entry m c _ _)).trans (joined_sample _ _ _ (i 0) (i 1) _ (by omega))).trans
    (ref_valsB _ _ (i 0) (i 1) (i 2) (i 3)).symm

/-- The prompt's last convolved rows are equal. -/
theorem convRows_equal : convRows ((Cert.Kernel7Ideal.Gen.dats m 0 c).arrAt 2 Cert.Kernel7Ideal.cfg0.N)
    = val_main_v24 (F := Ideal) (m ((c : Thread Cert.Kernel7Ideal.nD Cert.Kernel7Ideal.τ).loc Cert.Kernel7Ideal.main_arg0))
        (m ((c : Thread Cert.Kernel7Ideal.nD Cert.Kernel7Ideal.τ).loc Cert.Kernel7Ideal.main_arg2)) := by
  funext i
  have e : i = ix3 (i 0) (i 1) (i 2) := funext fun a => match a with | ⟨0, _⟩ => rfl | ⟨1, _⟩ => rfl | ⟨2, _⟩ => rfl
  have h1 : (i 1).val < 3 := (i 1).isLt
  have h2 : (i 2).val < 1536 := (i 2).isLt
  rw [e]
  exact (((convRows_apply _ (i 0) (i 1) (i 2)).trans (array_entry m c _ _)).trans (joined_prompt _ _ _ (i 0) ⟨4093 + (i 1).val, by omega⟩ _ (by omega))).trans
    (ref_convRows _ _ (i 0) (i 1) (i 2)).symm

end Deal

end
-- ==== Proof.DealLast.Kernel.lean ====
/-
  The joint projection of layer 1 with the results that the host reads out of its columns: what the kernel's array holds, and
  the five results.
-/
module

public import proofs.«01_k».proof.Proof.Gen.Kernel8Ideal.Frame
public import proofs.«01_k».proof.Proof.Deal.Kernel
public import Idealize.ShloMosaic.Lib.Pointwise
public import Idealize.ShloMosaic.Lib.Pipeline.Value
public import Idealize.ShloMosaic.Lib.Pipeline.ValueKit.Basic
public import Idealize.ShloMosaic.PureOps.Ideal.Laws

@[expose] public section

set_option maxRecDepth 16384

noncomputable section

namespace DealLast

open Idealize.ShloMosaic Idealize.ShloMosaic.TcCoe Idealize.SL.Sem
open Cert.Kernel8Ideal Cert.Kernel8Ideal.Gen
open JointProj (wAt zero_word)

variable (m : (ℓ : Loc nD τ sig) → Buf (Elt Ideal) ℓ) (c : Dev nD)

/-- An entry of the rows that the call is given. -/
def given (x : Vec Ideal S8704x2048 .bf16) (r : Fin 8704) (k : Fin 2048) : EReal := x (ix2 r k)

/-- The weights that the kernel is given. -/
def weightsArr (w : Vec Ideal S2x2048x5648 .f32) : FVec Ideal S2x2048x5760 .bf16 :=
  pad S2x2048x5760 ![0, 0, 0] ![0, 0, 112] ![0, 0, 0] (truncf .bf16 w bitsLt_bf16_f32 : FVec Ideal S2x2048x5648 .bf16)
    (sitofp .bf16 (constantI S_ 32 0#32) : FVec Ideal S_ .bf16) pads_S2x2048x5648_S2x2048x5760_000_000_01120 h_S_

/-- The rows' array is still the argument. -/
theorem V_rows : V0 m c main_arg0 = m ((c : Thread nD τ).loc main_arg0) := by
  show StableHlo.after _ _ (Proc.devRef .tc main_arg0) = _
  simp only [hostOps0, hostOps0_1, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp

/-- The weights' array holds what the host prepares: the weights, with 112 columns of zeros behind. -/
theorem V_weights : V0 m c main_v1 = weightsArr (m ((c : Thread nD τ).loc main_arg1)) := by
  show StableHlo.after _ _ (Proc.devRef .tc main_v1) = _
  simp only [hostOps0, hostOps0_1, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

/-- An entry of the padded weights. -/
theorem weights_apply (w : Vec Ideal S2x2048x5648 .f32) (l : Fin 2) (k : Fin 2048) (j : Fin 5760) :
    weightsArr w (ix3 l k j) = wAt w l k j := by
  unfold weightsArr wAt
  pointwise
  rw [zero_word]

/-- An entry of the block that one step writes is a row times a column. -/
theorem pay_apply (x : Vec Ideal S512x2048 .bf16) (w : Vec Ideal S1x2048x1920 .bf16) (r : Fin 512) (j : Fin 1920) :
    k0_pay1 x w (ix2 r j) = ∑ k : Fin 2048, x (ix2 r k) * w (ix3 0 k j) := by
  unfold k0_pay1
  pointwise

/-- The grid has 51 steps. -/
theorem N51 (t : Fin cfg0.N) : t.val < 51 := lt_of_lt_of_eq t.isLt N_0

/-- Which block of each array a step works on: 17 blocks of rows for each of 3 blocks of columns. -/
theorem block_index : ∀ t : Fin cfg0.N, win0_0.index t 0 = t.val % 17 ∧ win0_0.index t 1 = 0
    ∧ win0_1.index t 0 = 1 ∧ win0_1.index t 1 = 0 ∧ win0_1.index t 2 = t.val / 17
    ∧ win0_2.index t 0 = t.val % 17 ∧ win0_2.index t 1 = t.val / 17 := by decide +kernel

/-- The rows' window at a step. -/
theorem rows_block (t : Fin cfg0.N) (r : Fin 512) (k : Fin 2048) : (iblk m c 0 t : Vec Ideal S512x2048 .bf16) (ix2 r k)
    = given (m ((c : Thread nD τ).loc main_arg0)) ⟨512 * (t.val % 17) + r.val, by omega⟩ k := by
  have hi := block_index t
  unfold given
  unfold iblk
  rw [View.read_apply]
  show V0 m c main_arg0 _ = _
  rw [V_rows]
  congr 1
  funext a
  apply Fin.ext
  match a with
  | ⟨0, _⟩ => show win0_0.index t 0 * 512 + 1 * r.val = 512 * (t.val % 17) + r.val; rw [hi.1]; omega
  | ⟨1, _⟩ => show win0_0.index t 1 * 2048 + 1 * k.val = k.val; rw [hi.2.1]; omega

/-- The weights' window at a step. -/
theorem weights_block (t : Fin cfg0.N) (k : Fin 2048) (j : Fin 1920) : (iblk m c 1 t : Vec Ideal S1x2048x1920 .bf16) (ix3 0 k j)
    = wAt (m ((c : Thread nD τ).loc main_arg1)) 1 k ⟨1920 * (t.val / 17) + j.val, by have := N51 t; omega⟩ := by
  have hi := block_index t
  rw [← weights_apply]
  unfold iblk
  rw [View.read_apply]
  show V0 m c main_v1 _ = _
  rw [V_weights]
  congr 1
  funext a
  apply Fin.ext
  match a with
  | ⟨0, _⟩ => show win0_1.index t 0 * 1 + 1 * 0 = 1; rw [hi.2.2.1]
  | ⟨1, _⟩ => show win0_1.index t 1 * 2048 + 1 * k.val = k.val; rw [hi.2.2.2.1]; omega
  | ⟨2, _⟩ => show win0_1.index t 2 * 1920 + 1 * j.val = 1920 * (t.val / 17) + j.val; rw [hi.2.2.2.2.1]; omega

/-- What a step writes, entry by entry. -/
theorem out_apply (x : Vec Ideal S512x2048 .bf16) (w : Vec Ideal S1x2048x1920 .bf16) (r : Fin 512) (j : Fin 1920) :
    out0_2 x w (ix2 r j) = ∑ k : Fin 2048, x (ix2 r k) * w (ix3 0 k j) := by
  rw [← pay_apply]
  unfold out0_2
  rw [View.canon_cons_unit_lit _ _ _ (by decide), View.ld_unit_lit _ _ (by decide), View.ld_unit_lit _ _ (by decide)]

/-- No two steps write the same block. -/
theorem index_inj : ∀ t t' : Fin cfg0.N, win0_2.index t = win0_2.index t' → t = t' :=
  (by decide +kernel : ∀ t t' : Fin grid0.N, win0_2.index t = win0_2.index t' → t = t')

/-- So the blocks of two steps share no entry. -/
theorem blocks_disjoint : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (index_inj t t' h)

/-- A block of the kernel's array, read back, is what its step wrote. -/
theorem block_kept (t : Fin cfg0.N) : ((cfg0.win 2).blk t).view.read (Elt Ideal) ((dats m 0 c).arrAt 2 cfg0.N)
    = (cfg0.win 2).cut (grid0.coords t) (out0_2 (iblk m c 0 t) (iblk m c 1 t)) := by
  refine ((dats m 0 c).read_blk_arrAt_eq_flushed 2 blocks_disjoint cfg0.N t t.isLt (flush0_2 t)).trans ?_
  show (cfg0.win 2).cut (grid0.coords t) ((dats m 0 c).after 2 t) = _
  rw [after0_2]

/-- An entry of the kernel's array: a row that the call is given times a column of the weights of layer 1. -/
theorem array_entry (r : Fin 8704) (j : Fin 5760) : ((dats m 0 c).arrAt 2 cfg0.N : Vec Ideal S8704x5760 .f32) (ix2 r j)
    = ∑ k : Fin 2048, given (m ((c : Thread nD τ).loc main_arg0)) r k * wAt (m ((c : Thread nD τ).loc main_arg1)) 1 k j := by
  obtain ⟨t, ht⟩ : ∃ t : Fin cfg0.N, t.val = 17 * (j.val / 1920) + r.val / 512 := ⟨⟨_, lt_of_lt_of_eq (by omega) N_0.symm⟩, rfl⟩
  have e1 : t.val % 17 = r.val / 512 := by omega
  have e2 : t.val / 17 = j.val / 1920 := by omega
  have hi := block_index t
  have h := congrFun (block_kept m c t) (ix2 ⟨r.val % 512, by omega⟩ ⟨j.val % 1920, by omega⟩)
  rw [View.read_apply] at h
  refine Eq.trans ?_ (h.trans ?_)
  · show (dats m 0 c).arrAt 2 cfg0.N _ = (dats m 0 c).arrAt 2 cfg0.N _
    congr 1
    funext a
    apply Fin.ext
    match a with
    | ⟨0, _⟩ => show r.val = win0_2.index t 0 * 512 + 1 * (r.val % 512); rw [hi.2.2.2.2.2.1, e1]; omega
    | ⟨1, _⟩ => show j.val = win0_2.index t 1 * 1920 + 1 * (j.val % 1920); rw [hi.2.2.2.2.2.2, e2]; omega
  · show out0_2 _ _ (ix2 ⟨r.val % 512, _⟩ ⟨j.val % 1920, _⟩) = _
    rw [out_apply]
    refine Finset.sum_congr rfl fun k _ => ?_
    rw [rows_block, weights_block]
    have er : 512 * (t.val % 17) + r.val % 512 = r.val := by omega
    have ej : 1920 * (t.val / 17) + j.val % 1920 = j.val := by omega
    simp only [er, ej]

/-- After the host's last lines the kernel's array is still what the kernel left. -/
theorem array_kept : Pipeline.withArrays spec0 c (V0 m c) (fun w => (dats m 0 c).arrAt w cfg0.N) (Proc.devRef .tc main_v2)
    = (dats m 0 c).arrAt 2 cfg0.N :=
  Pipeline.withArrays_arr spec0 launch0.win.arr_inj c (V0 m c) (fun w => (dats m 0 c).arrAt w cfg0.N) 2

/-- The result with the first attention's keys is read out of the kernel's array. -/
theorem keysA_tail : Pipeline.afterTail₀ cfgs (dats m) 0 (V0 m) [hostOps1] c main_v6 = Deal.keysA ((dats m 0 c).arrAt 2 cfg0.N) := by
  rw [← array_kept]
  show StableHlo.after [hostOps1].flatten (Pipeline.withArrays spec0 c (V0 m c) (fun w => (dats m 0 c).arrAt w cfg0.N)) _ = _
  generalize Pipeline.withArrays spec0 c (V0 m c) (fun w => (dats m 0 c).arrAt w cfg0.N) = W
  simp only [hostOps1, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

/-- The result with the first attention's values is read out of the kernel's array. -/
theorem valsA_tail : Pipeline.afterTail₀ cfgs (dats m) 0 (V0 m) [hostOps1] c main_v8 = Deal.valsA ((dats m 0 c).arrAt 2 cfg0.N) := by
  rw [← array_kept]
  show StableHlo.after [hostOps1].flatten (Pipeline.withArrays spec0 c (V0 m c) (fun w => (dats m 0 c).arrAt w cfg0.N)) _ = _
  generalize Pipeline.withArrays spec0 c (V0 m c) (fun w => (dats m 0 c).arrAt w cfg0.N) = W
  simp only [hostOps1, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

/-- The result with the second attention's keys is read out of the kernel's array. -/
theorem keysB_tail : Pipeline.afterTail₀ cfgs (dats m) 0 (V0 m) [hostOps1] c main_v10 = Deal.keysB ((dats m 0 c).arrAt 2 cfg0.N) := by
  rw [← array_kept]
  show StableHlo.after [hostOps1].flatten (Pipeline.withArrays spec0 c (V0 m c) (fun w => (dats m 0 c).arrAt w cfg0.N)) _ = _
  generalize Pipeline.withArrays spec0 c (V0 m c) (fun w => (dats m 0 c).arrAt w cfg0.N) = W
  simp only [hostOps1, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

/-- The result with the second attention's values is read out of the kernel's array. -/
theorem valsB_tail : Pipeline.afterTail₀ cfgs (dats m) 0 (V0 m) [hostOps1] c main_v12 = Deal.valsB ((dats m 0 c).arrAt 2 cfg0.N) := by
  rw [← array_kept]
  show StableHlo.after [hostOps1].flatten (Pipeline.withArrays spec0 c (V0 m c) (fun w => (dats m 0 c).arrAt w cfg0.N)) _ = _
  generalize Pipeline.withArrays spec0 c (V0 m c) (fun w => (dats m 0 c).arrAt w cfg0.N) = W
  simp only [hostOps1, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

/-- The result with the prompt's last convolved rows is read out of the kernel's array. -/
theorem convRows_tail : Pipeline.afterTail₀ cfgs (dats m) 0 (V0 m) [hostOps1] c main_v17 = Deal.convRows ((dats m 0 c).arrAt 2 cfg0.N) := by
  rw [← array_kept]
  show StableHlo.after [hostOps1].flatten (Pipeline.withArrays spec0 c (V0 m c) (fun w => (dats m 0 c).arrAt w cfg0.N)) _ = _
  generalize Pipeline.withArrays spec0 c (V0 m c) (fun w => (dats m 0 c).arrAt w cfg0.N) = W
  simp only [hostOps1, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

end DealLast

end
-- ==== Proof.DealLast.Reference.lean ====
/-
  The reference of the joint projection of layer 1, read at an entry of each of its five results, and their equality with the kernel's.
-/
module

public import proofs.«01_k».proof.Proof.Gen.Reference8Ideal.Read
public import proofs.«01_k».proof.Proof.DealLast.Kernel

@[expose] public section

set_option maxRecDepth 16384

noncomputable section

namespace DealLast

open Idealize.ShloMosaic Idealize.ShloMosaic.TcCoe Idealize.SL.Sem
open Cert.Reference8Ideal Cert.Reference8Ideal.Gen Cert.Reference8Ideal.Read
open JointProj (wAt)
open Deal (keysA valsA keysB valsB convRows keysA_apply valsA_apply keysB_apply valsB_apply convRows_apply)

variable (x : Vec Ideal S8704x2048 .bf16) (w : Vec Ideal S2x2048x5648 .f32)

/-- The weights of layer 1, as the prompt's product reads them. -/
theorem ref_weights (k : Fin 2048) (j : Fin 5648) : val_main_v6 (F := Ideal) w (ix2 k j) = w (ix3 1 k j) := by
  rw [val_main_v6_apply, val_main_v5_apply]
  congr 1
  funext a
  apply Fin.ext
  match a with
  | ⟨0, _⟩ => rfl
  | ⟨1, _⟩ => show (k.val * 5648 + j.val) / 5648 % 2048 = k.val; omega
  | ⟨2, _⟩ => show (k.val * 5648 + j.val) % 5648 = j.val; omega

/-- The same weights, as the sample's product reads them. -/
theorem ref_weights' (k : Fin 2048) (j : Fin 5648) : val_main_v18 (F := Ideal) w (ix2 k j) = w (ix3 1 k j) := ref_weights w k j

/-- A prompt row, as the reference cuts it out. -/
theorem ref_prompt_row (b : Fin 2) (t : Fin 4096) (k : Fin 2048) : val_main_v2 (F := Ideal) x (ix3 b t k) = given x ⟨4096 * b.val + t.val, by omega⟩ k := by
  unfold val_main_v2 val_main_v1 val_main_v0 given
  pointwise
  congr 1
  funext a
  apply Fin.ext
  match a with
  | ⟨0, _⟩ => simp only [ix2]; omega
  | ⟨1, _⟩ => simp only [ix2]

/-- A sample row, as the reference cuts it out. -/
theorem ref_sample_row (b : Fin 128) (t : Fin 4) (k : Fin 2048) : val_main_v4 (F := Ideal) x (ix3 b t k) = given x ⟨8192 + 4 * b.val + t.val, by omega⟩ k := by
  unfold val_main_v4 val_main_v3 val_main_v0 given
  pointwise
  congr 1
  funext a
  apply Fin.ext
  match a with
  | ⟨0, _⟩ => simp only [ix2]; omega
  | ⟨1, _⟩ => simp only [ix2]

/-- An entry of the prompt's product. -/
theorem ref_prompt (b : Fin 2) (t : Fin 4096) (j : Fin 5648) : val_main_v7 (F := Ideal) x w (ix3 b t j)
    = ∑ k : Fin 2048, given x ⟨4096 * b.val + t.val, by omega⟩ k * w (ix3 1 k j) := by
  rw [val_main_v7_apply]
  refine Finset.sum_congr rfl fun k _ => ?_
  refine congrArg₂ _ (Eq.trans (congrArg _ ?_) (ref_prompt_row x b t k)) (Eq.trans (congrArg _ ?_) (ref_weights w k j))
  · exact funext fun a => match a with | ⟨0, _⟩ => rfl | ⟨1, _⟩ => rfl | ⟨2, _⟩ => rfl
  · exact funext fun a => match a with | ⟨0, _⟩ => rfl | ⟨1, _⟩ => rfl

/-- An entry of the sample's product. -/
theorem ref_sample (b : Fin 128) (t : Fin 4) (j : Fin 5648) : val_main_v19 (F := Ideal) x w (ix3 b t j)
    = ∑ k : Fin 2048, given x ⟨8192 + 4 * b.val + t.val, by omega⟩ k * w (ix3 1 k j) := by
  rw [val_main_v19_apply]
  refine Finset.sum_congr rfl fun k _ => ?_
  refine congrArg₂ _ (Eq.trans (congrArg _ ?_) (ref_sample_row x b t k)) (Eq.trans (congrArg _ ?_) (ref_weights' w k j))
  · exact funext fun a => match a with | ⟨0, _⟩ => rfl | ⟨1, _⟩ => rfl | ⟨2, _⟩ => rfl
  · exact funext fun a => match a with | ⟨0, _⟩ => rfl | ⟨1, _⟩ => rfl

/-- A sample row that the call is given times a column of the weights. -/
theorem joined_sample (b : Fin 128) (t : Fin 4) (j : ℕ) (hj : j < 5648) :
    ∑ k : Fin 2048, given x ⟨8192 + 4 * b.val + t.val, by omega⟩ k * wAt w 1 k ⟨j, by omega⟩
      = ∑ k : Fin 2048, given x ⟨8192 + 4 * b.val + t.val, by omega⟩ k * w (ix3 1 k ⟨j, hj⟩) := by
  refine Finset.sum_congr rfl fun k _ => ?_
  simp only [wAt, hj, dif_pos]

/-- A prompt row that the call is given times a column of the weights. -/
theorem joined_prompt (b : Fin 2) (t : Fin 4096) (j : ℕ) (hj : j < 5648) :
    ∑ k : Fin 2048, given x ⟨4096 * b.val + t.val, by omega⟩ k * wAt w 1 k ⟨j, by omega⟩
      = ∑ k : Fin 2048, given x ⟨4096 * b.val + t.val, by omega⟩ k * w (ix3 1 k ⟨j, hj⟩) := by
  refine Finset.sum_congr rfl fun k _ => ?_
  simp only [wAt, hj, dif_pos]

/-- An entry of the reference's first attention's keys. -/
theorem ref_keysA (b : Fin 128) (t : Fin 4) (h : Fin 4) (d : Fin 128) : val_main_v30 (F := Ideal) x w (ix4 b t h d)
    = ∑ k : Fin 2048, given x ⟨8192 + 4 * b.val + t.val, by omega⟩ k * w (ix3 1 k ⟨512 + 128 * h.val + d.val, by omega⟩) := by
  rw [val_main_v30_apply, val_main_v21_apply, ← ref_sample]
  congr 1
  funext a
  apply Fin.ext
  match a with
  | ⟨0, _⟩ => show (((b.val * 4 + t.val) * 4 + h.val) * 128 + d.val) / 2048 = b.val; omega
  | ⟨1, _⟩ => show (((b.val * 4 + t.val) * 4 + h.val) * 128 + d.val) / 512 % 4 = t.val; omega
  | ⟨2, _⟩ => show 512 + (((b.val * 4 + t.val) * 4 + h.val) * 128 + d.val) % 512 = 512 + 128 * h.val + d.val; omega

/-- An entry of the reference's first attention's values. -/
theorem ref_valsA (b : Fin 128) (t : Fin 4) (h : Fin 4) (d : Fin 128) : val_main_v31 (F := Ideal) x w (ix4 b t h d)
    = ∑ k : Fin 2048, given x ⟨8192 + 4 * b.val + t.val, by omega⟩ k * w (ix3 1 k ⟨1024 + 128 * h.val + d.val, by omega⟩) := by
  rw [val_main_v31_apply, val_main_v22_apply, ← ref_sample]
  congr 1
  funext a
  apply Fin.ext
  match a with
  | ⟨0, _⟩ => show (((b.val * 4 + t.val) * 4 + h.val) * 128 + d.val) / 2048 = b.val; omega
  | ⟨1, _⟩ => show (((b.val * 4 + t.val) * 4 + h.val) * 128 + d.val) / 512 % 4 = t.val; omega
  | ⟨2, _⟩ => show 1024 + (((b.val * 4 + t.val) * 4 + h.val) * 128 + d.val) % 512 = 1024 + 128 * h.val + d.val; omega

/-- An entry of the reference's second attention's keys. -/
theorem ref_keysB (b : Fin 128) (t : Fin 4) (h : Fin 4) (d : Fin 128) : val_main_v32 (F := Ideal) x w (ix4 b t h d)
    = ∑ k : Fin 2048, given x ⟨8192 + 4 * b.val + t.val, by omega⟩ k * w (ix3 1 k ⟨2048 + 128 * h.val + d.val, by omega⟩) := by
  rw [val_main_v32_apply, val_main_v24_apply, ← ref_sample]
  congr 1
  funext a
  apply Fin.ext
  match a with
  | ⟨0, _⟩ => show (((b.val * 4 + t.val) * 4 + h.val) * 128 + d.val) / 2048 = b.val; omega
  | ⟨1, _⟩ => show (((b.val * 4 + t.val) * 4 + h.val) * 128 + d.val) / 512 % 4 = t.val; omega
  | ⟨2, _⟩ => show 2048 + (((b.val * 4 + t.val) * 4 + h.val) * 128 + d.val) % 512 = 2048 + 128 * h.val + d.val; omega

/-- An entry of the reference's second attention's values. -/
theorem ref_valsB (b : Fin 128) (t : Fin 4) (h : Fin 4) (d : Fin 128) : val_main_v33 (F := Ideal) x w (ix4 b t h d)
    = ∑ k : Fin 2048, given x ⟨8192 + 4 * b.val + t.val, by omega⟩ k * w (ix3 1 k ⟨2560 + 128 * h.val + d.val, by omega⟩) := by
  rw [val_main_v33_apply, val_main_v25_apply, ← ref_sample]
  congr 1
  funext a
  apply Fin.ext
  match a with
  | ⟨0, _⟩ => show (((b.val * 4 + t.val) * 4 + h.val) * 128 + d.val) / 2048 = b.val; omega
  | ⟨1, _⟩ => show (((b.val * 4 + t.val) * 4 + h.val) * 128 + d.val) / 512 % 4 = t.val; omega
  | ⟨2, _⟩ => show 2560 + (((b.val * 4 + t.val) * 4 + h.val) * 128 + d.val) % 512 = 2560 + 128 * h.val + d.val; omega

/-- An entry of the reference's last convolved rows. -/
theorem ref_convRows (b : Fin 2) (r : Fin 3) (j : Fin 1536) : val_main_v29 (F := Ideal) x w (ix3 b r j)
    = ∑ k : Fin 2048, given x ⟨4096 * b.val + (4093 + r.val), by omega⟩ k * w (ix3 1 k ⟨4096 + j.val, by omega⟩) := by
  rw [val_main_v29_apply, val_main_v15_apply]
  refine Eq.trans ?_ (ref_prompt x w b ⟨4093 + r.val, by omega⟩ ⟨4096 + j.val, by omega⟩)
  congr 1
  funext a
  apply Fin.ext
  match a with
  | ⟨0, _⟩ => rfl
  | ⟨1, _⟩ => rfl
  | ⟨2, _⟩ => rfl

variable (m : (ℓ : Loc Cert.Kernel8Ideal.nD Cert.Kernel8Ideal.τ Cert.Kernel8Ideal.sig) → Buf (Elt Ideal) ℓ) (c : Dev Cert.Kernel8Ideal.nD)

/-- The first attention's keys are equal. -/
theorem keysA_equal : keysA ((Cert.Kernel8Ideal.Gen.dats m 0 c).arrAt 2 Cert.Kernel8Ideal.cfg0.N)
    = val_main_v30 (F := Ideal) (m ((c : Thread Cert.Kernel8Ideal.nD Cert.Kernel8Ideal.τ).loc Cert.Kernel8Ideal.main_arg0))
        (m ((c : Thread Cert.Kernel8Ideal.nD Cert.Kernel8Ideal.τ).loc Cert.Kernel8Ideal.main_arg1)) := by
  funext i
  have e : i = ix4 (i 0) (i 1) (i 2) (i 3) := funext fun a => match a with | ⟨0, _⟩ => rfl | ⟨1, _⟩ => rfl | ⟨2, _⟩ => rfl | ⟨3, _⟩ => rfl
  have h2 : (i 2).val < 4 := (i 2).isLt
  have h3 : (i 3).val < 128 := (i 3).isLt
  rw [e]
  exact (((keysA_apply _ (i 0) (i 1) (i 2) (i 3)).trans (array_entry m c _ _)).trans (joined_sample _ _ (i 0) (i 1) _ (by omega))).trans
    (ref_keysA _ _ (i 0) (i 1) (i 2) (i 3)).symm

/-- The first attention's values are equal. -/
theorem valsA_equal : valsA ((Cert.Kernel8Ideal.Gen.dats m 0 c).arrAt 2 Cert.Kernel8Ideal.cfg0.N)
    = val_main_v31 (F := Ideal) (m ((c : Thread Cert.Kernel8Ideal.nD Cert.Kernel8Ideal.τ).loc Cert.Kernel8Ideal.main_arg0))
        (m ((c : Thread Cert.Kernel8Ideal.nD Cert.Kernel8Ideal.τ).loc Cert.Kernel8Ideal.main_arg1)) := by
  funext i
  have e : i = ix4 (i 0) (i 1) (i 2) (i 3) := funext fun a => match a with | ⟨0, _⟩ => rfl | ⟨1, _⟩ => rfl | ⟨2, _⟩ => rfl | ⟨3, _⟩ => rfl
  have h2 : (i 2).val < 4 := (i 2).isLt
  have h3 : (i 3).val < 128 := (i 3).isLt
  rw [e]
  exact (((valsA_apply _ (i 0) (i 1) (i 2) (i 3)).trans (array_entry m c _ _)).trans (joined_sample _ _ (i 0) (i 1) _ (by omega))).trans
    (ref_valsA _ _ (i 0) (i 1) (i 2) (i 3)).symm

/-- The second attention's keys are equal. -/
theorem keysB_equal : keysB ((Cert.Kernel8Ideal.Gen.dats m 0 c).arrAt 2 Cert.Kernel8Ideal.cfg0.N)
    = val_main_v32 (F := Ideal) (m ((c : Thread Cert.Kernel8Ideal.nD Cert.Kernel8Ideal.τ).loc Cert.Kernel8Ideal.main_arg0))
        (m ((c : Thread Cert.Kernel8Ideal.nD Cert.Kernel8Ideal.τ).loc Cert.Kernel8Ideal.main_arg1)) := by
  funext i
  have e : i = ix4 (i 0) (i 1) (i 2) (i 3) := funext fun a => match a with | ⟨0, _⟩ => rfl | ⟨1, _⟩ => rfl | ⟨2, _⟩ => rfl | ⟨3, _⟩ => rfl
  have h2 : (i 2).val < 4 := (i 2).isLt
  have h3 : (i 3).val < 128 := (i 3).isLt
  rw [e]
  exact (((keysB_apply _ (i 0) (i 1) (i 2) (i 3)).trans (array_entry m c _ _)).trans (joined_sample _ _ (i 0) (i 1) _ (by omega))).trans
    (ref_keysB _ _ (i 0) (i 1) (i 2) (i 3)).symm

/-- The second attention's values are equal. -/
theorem valsB_equal : valsB ((Cert.Kernel8Ideal.Gen.dats m 0 c).arrAt 2 Cert.Kernel8Ideal.cfg0.N)
    = val_main_v33 (F := Ideal) (m ((c : Thread Cert.Kernel8Ideal.nD Cert.Kernel8Ideal.τ).loc Cert.Kernel8Ideal.main_arg0))
        (m ((c : Thread Cert.Kernel8Ideal.nD Cert.Kernel8Ideal.τ).loc Cert.Kernel8Ideal.main_arg1)) := by
  funext i
  have e : i = ix4 (i 0) (i 1) (i 2) (i 3) := funext fun a => match a with | ⟨0, _⟩ => rfl | ⟨1, _⟩ => rfl | ⟨2, _⟩ => rfl | ⟨3, _⟩ => rfl
  have h2 : (i 2).val < 4 := (i 2).isLt
  have h3 : (i 3).val < 128 := (i 3).isLt
  rw [e]
  exact (((valsB_apply _ (i 0) (i 1) (i 2) (i 3)).trans (array_entry m c _ _)).trans (joined_sample _ _ (i 0) (i 1) _ (by omega))).trans
    (ref_valsB _ _ (i 0) (i 1) (i 2) (i 3)).symm

/-- The prompt's last convolved rows are equal. -/
theorem convRows_equal : convRows ((Cert.Kernel8Ideal.Gen.dats m 0 c).arrAt 2 Cert.Kernel8Ideal.cfg0.N)
    = val_main_v29 (F := Ideal) (m ((c : Thread Cert.Kernel8Ideal.nD Cert.Kernel8Ideal.τ).loc Cert.Kernel8Ideal.main_arg0))
        (m ((c : Thread Cert.Kernel8Ideal.nD Cert.Kernel8Ideal.τ).loc Cert.Kernel8Ideal.main_arg1)) := by
  funext i
  have e : i = ix3 (i 0) (i 1) (i 2) := funext fun a => match a with | ⟨0, _⟩ => rfl | ⟨1, _⟩ => rfl | ⟨2, _⟩ => rfl
  have h1 : (i 1).val < 3 := (i 1).isLt
  have h2 : (i 2).val < 1536 := (i 2).isLt
  rw [e]
  exact (((convRows_apply _ (i 0) (i 1) (i 2)).trans (array_entry m c _ _)).trans (joined_prompt _ _ (i 0) ⟨4093 + (i 1).val, by omega⟩ _ (by omega))).trans
    (ref_convRows _ _ (i 0) (i 1) (i 2)).symm

end DealLast

end
-- ==== Proof.PromptDeal.Kernel.lean ====
/-
  The joint projection of layer 0 with the prompt's keys and values read out of its columns: the arrays that the host
  prepares, what the kernel's array holds, and the four results.
-/
module

public import proofs.«01_k».proof.Proof.Gen.Kernel9Ideal.Frame
public import proofs.«01_k».proof.Proof.Proj.Kernel
public import Idealize.ShloMosaic.Lib.Pointwise
public import Idealize.ShloMosaic.Lib.Pipeline.Value
public import Idealize.ShloMosaic.Lib.Pipeline.ValueKit.Basic
public import Idealize.ShloMosaic.PureOps.Ideal.Laws

@[expose] public section

set_option maxRecDepth 16384

noncomputable section

namespace PromptDeal

open Idealize.ShloMosaic Idealize.ShloMosaic.TcCoe Idealize.SL.Sem
open Cert.Kernel9Ideal Cert.Kernel9Ideal.Gen
open JointProj (xAt wAt zero_word)

variable (m : (ℓ : Loc nD τ sig) → Buf (Elt Ideal) ℓ) (c : Dev nD)

/-- The rows that the kernel is given. -/
def rowsArr (x0 : Vec Ideal S2x4096x2048 .f32) (x1 : Vec Ideal S128x4x2048 .f32) : FVec Ideal S8704x2048 .bf16 :=
  truncf .bf16 (concatenate S8704x2048 0 [⟨S8192x2048, shapeCast S8192x2048 x0 shapeCasts_S2x4096x2048_S8192x2048⟩,
    ⟨S512x2048, shapeCast S512x2048 x1 shapeCasts_S128x4x2048_S512x2048⟩] concatenates_S8192x2048_S512x2048_S8704x2048_d0) bitsLt_bf16_f32

/-- The weights that the kernel is given. -/
def weightsArr (w : Vec Ideal S2x2048x5648 .f32) : FVec Ideal S2048x5760 .bf16 :=
  pad S2048x5760 ![0, 0] ![0, 112] ![0, 0]
    (truncf .bf16 (shapeCast S2048x5648 (extractStridedSlice S1x2048x5648 ![0, 0, 0] w slices_S2x2048x5648_S1x2048x5648_0_0_0 : Vec Ideal S1x2048x5648 .f32)
      shapeCasts_S1x2048x5648_S2048x5648 : FVec Ideal S2048x5648 .f32) bitsLt_bf16_f32 : FVec Ideal S2048x5648 .bf16)
    (sitofp .bf16 (constantI S_ 32 0#32) : FVec Ideal S_ .bf16) pads_S2048x5648_S2048x5760_000_01120 h_S_

/-- The rows' array holds what the host prepares: both groups' rows, joined. -/
theorem V_rows : V0 m c main_v3 = rowsArr (m ((c : Thread nD τ).loc main_arg0)) (m ((c : Thread nD τ).loc main_arg1)) := by
  show StableHlo.after _ _ (Proc.devRef .tc main_v3) = _
  simp only [hostOps0, hostOps0_1, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

/-- The weights' array holds what the host prepares: the weights, with 112 columns of zeros behind. -/
theorem V_weights : V0 m c main_v7 = weightsArr (m ((c : Thread nD τ).loc main_arg2)) := by
  show StableHlo.after _ _ (Proc.devRef .tc main_v7) = _
  simp only [hostOps0, hostOps0_1, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

/-- An entry of the joined rows. -/
theorem rows_apply (x0 : Vec Ideal S2x4096x2048 .f32) (x1 : Vec Ideal S128x4x2048 .f32) (r : Fin 8704) (k : Fin 2048) :
    rowsArr x0 x1 (ix2 r k) = xAt x0 x1 r k := by
  unfold rowsArr xAt
  pointwise

/-- An entry of the padded weights. -/
theorem weights_apply (w : Vec Ideal S2x2048x5648 .f32) (k : Fin 2048) (j : Fin 5760) :
    weightsArr w (ix2 k j) = wAt w 0 k j := by
  unfold weightsArr wAt
  pointwise
  rw [zero_word]

/-- An entry of the block that one step writes is a row times a column. -/
theorem pay_apply (x : Vec Ideal S512x2048 .bf16) (w : Vec Ideal S2048x1920 .bf16) (r : Fin 512) (j : Fin 1920) :
    k0_pay1 x w (ix2 r j) = ∑ k : Fin 2048, x (ix2 r k) * w (ix2 k j) := by
  unfold k0_pay1
  pointwise

/-- The grid has 51 steps. -/
theorem N51 (t : Fin cfg0.N) : t.val < 51 := lt_of_lt_of_eq t.isLt N_0

/-- Which block of each array a step works on: 17 blocks of rows for each of 3 blocks of columns. -/
theorem block_index : ∀ t : Fin cfg0.N, win0_0.index t 0 = t.val % 17 ∧ win0_0.index t 1 = 0
    ∧ win0_1.index t 0 = 0 ∧ win0_1.index t 1 = t.val / 17
    ∧ win0_2.index t 0 = t.val % 17 ∧ win0_2.index t 1 = t.val / 17 := by decide +kernel

/-- The rows' window at a step. -/
theorem rows_block (t : Fin cfg0.N) (r : Fin 512) (k : Fin 2048) : (iblk m c 0 t : Vec Ideal S512x2048 .bf16) (ix2 r k)
    = xAt (m ((c : Thread nD τ).loc main_arg0)) (m ((c : Thread nD τ).loc main_arg1)) ⟨512 * (t.val % 17) + r.val, by omega⟩ k := by
  have hi := block_index t
  rw [← rows_apply]
  unfold iblk
  rw [View.read_apply]
  show V0 m c main_v3 _ = _
  rw [V_rows]
  congr 1
  funext a
  apply Fin.ext
  match a with
  | ⟨0, _⟩ => show win0_0.index t 0 * 512 + 1 * r.val = 512 * (t.val % 17) + r.val; rw [hi.1]; omega
  | ⟨1, _⟩ => show win0_0.index t 1 * 2048 + 1 * k.val = k.val; rw [hi.2.1]; omega

/-- The weights' window at a step. -/
theorem weights_block (t : Fin cfg0.N) (k : Fin 2048) (j : Fin 1920) : (iblk m c 1 t : Vec Ideal S2048x1920 .bf16) (ix2 k j)
    = wAt (m ((c : Thread nD τ).loc main_arg2)) 0 k ⟨1920 * (t.val / 17) + j.val, by have := N51 t; omega⟩ := by
  have hi := block_index t
  rw [← weights_apply]
  unfold iblk
  rw [View.read_apply]
  show V0 m c main_v7 _ = _
  rw [V_weights]
  congr 1
  funext a
  apply Fin.ext
  match a with
  | ⟨0, _⟩ => show win0_1.index t 0 * 2048 + 1 * k.val = k.val; rw [hi.2.2.1]; omega
  | ⟨1, _⟩ => show win0_1.index t 1 * 1920 + 1 * j.val = 1920 * (t.val / 17) + j.val; rw [hi.2.2.2.1]; omega

/-- What a step writes, entry by entry. -/
theorem out_apply (x : Vec Ideal S512x2048 .bf16) (w : Vec Ideal S2048x1920 .bf16) (r : Fin 512) (j : Fin 1920) :
    out0_2 x w (ix2 r j) = ∑ k : Fin 2048, x (ix2 r k) * w (ix2 k j) := by
  rw [← pay_apply]
  unfold out0_2
  rw [View.canon_cons_unit_lit _ _ _ (by decide), View.ld_unit_lit _ _ (by decide), View.ld_unit_lit _ _ (by decide)]

/-- No two steps write the same block. -/
theorem index_inj : ∀ t t' : Fin cfg0.N, win0_2.index t = win0_2.index t' → t = t' :=
  (by decide +kernel : ∀ t t' : Fin grid0.N, win0_2.index t = win0_2.index t' → t = t')

/-- So the blocks of two steps share no entry. -/
theorem blocks_disjoint : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (index_inj t t' h)

/-- A block of the kernel's array, read back, is what its step wrote. -/
theorem block_kept (t : Fin cfg0.N) : ((cfg0.win 2).blk t).view.read (Elt Ideal) ((dats m 0 c).arrAt 2 cfg0.N)
    = (cfg0.win 2).cut (grid0.coords t) (out0_2 (iblk m c 0 t) (iblk m c 1 t)) := by
  refine ((dats m 0 c).read_blk_arrAt_eq_flushed 2 blocks_disjoint cfg0.N t t.isLt (flush0_2 t)).trans ?_
  show (cfg0.win 2).cut (grid0.coords t) ((dats m 0 c).after 2 t) = _
  rw [after0_2]

/-- An entry of the kernel's array: a row of the joined input times a column of the weights of layer 0. -/
theorem array_entry (r : Fin 8704) (j : Fin 5760) : ((dats m 0 c).arrAt 2 cfg0.N : Vec Ideal S8704x5760 .f32) (ix2 r j)
    = ∑ k : Fin 2048, xAt (m ((c : Thread nD τ).loc main_arg0)) (m ((c : Thread nD τ).loc main_arg1)) r k * wAt (m ((c : Thread nD τ).loc main_arg2)) 0 k j := by
  obtain ⟨t, ht⟩ : ∃ t : Fin cfg0.N, t.val = 17 * (j.val / 1920) + r.val / 512 := ⟨⟨_, lt_of_lt_of_eq (by omega) N_0.symm⟩, rfl⟩
  have e1 : t.val % 17 = r.val / 512 := by omega
  have e2 : t.val / 17 = j.val / 1920 := by omega
  have hi := block_index t
  have h := congrFun (block_kept m c t) (ix2 ⟨r.val % 512, by omega⟩ ⟨j.val % 1920, by omega⟩)
  rw [View.read_apply] at h
  refine Eq.trans ?_ (h.trans ?_)
  · show (dats m 0 c).arrAt 2 cfg0.N _ = (dats m 0 c).arrAt 2 cfg0.N _
    congr 1
    funext a
    apply Fin.ext
    match a with
    | ⟨0, _⟩ => show r.val = win0_2.index t 0 * 512 + 1 * (r.val % 512); rw [hi.2.2.2.2.1, e1]; omega
    | ⟨1, _⟩ => show j.val = win0_2.index t 1 * 1920 + 1 * (j.val % 1920); rw [hi.2.2.2.2.2, e2]; omega
  · show out0_2 _ _ (ix2 ⟨r.val % 512, _⟩ ⟨j.val % 1920, _⟩) = _
    rw [out_apply]
    refine Finset.sum_congr rfl fun k _ => ?_
    rw [rows_block, weights_block]
    have er : 512 * (t.val % 17) + r.val % 512 = r.val := by omega
    have ej : 1920 * (t.val / 17) + j.val % 1920 = j.val := by omega
    simp only [er, ej]

/-- The prompt's rows of the kernel's array. -/
def promptRows (o : Vec Ideal S8704x5760 .f32) : Vec Ideal S8192x5760 .f32 := extractStridedSlice S8192x5760 ![0, 0] o slices_S8704x5760_S8192x5760_0_0

/-- The first attention's keys, by heads. -/
def keysA (o : Vec Ideal S8704x5760 .f32) : Vec Ideal S2x4096x4x128 .f32 :=
  shapeCast S2x4096x4x128 (extractStridedSlice S8192x512 ![0, 512] (promptRows o) slices_S8192x5760_S8192x512_0_512 : Vec Ideal S8192x512 .f32) shapeCasts_S8192x512_S2x4096x4x128

/-- The first attention's values, by heads. -/
def valsA (o : Vec Ideal S8704x5760 .f32) : Vec Ideal S2x4096x4x128 .f32 :=
  shapeCast S2x4096x4x128 (extractStridedSlice S8192x512 ![0, 1024] (promptRows o) slices_S8192x5760_S8192x512_0_1024 : Vec Ideal S8192x512 .f32) shapeCasts_S8192x512_S2x4096x4x128

/-- The second attention's keys, by heads. -/
def keysB (o : Vec Ideal S8704x5760 .f32) : Vec Ideal S2x4096x4x128 .f32 :=
  shapeCast S2x4096x4x128 (extractStridedSlice S8192x512 ![0, 2048] (promptRows o) slices_S8192x5760_S8192x512_0_2048 : Vec Ideal S8192x512 .f32) shapeCasts_S8192x512_S2x4096x4x128

/-- The second attention's values, by heads. -/
def valsB (o : Vec Ideal S8704x5760 .f32) : Vec Ideal S2x4096x4x128 .f32 :=
  shapeCast S2x4096x4x128 (extractStridedSlice S8192x512 ![0, 2560] (promptRows o) slices_S8192x5760_S8192x512_0_2560 : Vec Ideal S8192x512 .f32) shapeCasts_S8192x512_S2x4096x4x128

/-- An entry of the first attention's keys. -/
theorem keysA_apply (o : Vec Ideal S8704x5760 .f32) (b : Fin 2) (t : Fin 4096) (h : Fin 4) (d : Fin 128) :
    keysA o (ix4 b t h d) = o (ix2 ⟨4096 * b.val + t.val, by omega⟩ ⟨512 + 128 * h.val + d.val, by omega⟩) := by
  unfold keysA promptRows
  pointwise
  congr 1
  funext a
  apply Fin.ext
  match a with
  | ⟨0, _⟩ => simp only [ix2]; omega
  | ⟨1, _⟩ => simp only [ix2]; omega

/-- An entry of the first attention's values. -/
theorem valsA_apply (o : Vec Ideal S8704x5760 .f32) (b : Fin 2) (t : Fin 4096) (h : Fin 4) (d : Fin 128) :
    valsA o (ix4 b t h d) = o (ix2 ⟨4096 * b.val + t.val, by omega⟩ ⟨1024 + 128 * h.val + d.val, by omega⟩) := by
  unfold valsA promptRows
  pointwise
  congr 1
  funext a
  apply Fin.ext
  match a with
  | ⟨0, _⟩ => simp only [ix2]; omega
  | ⟨1, _⟩ => simp only [ix2]; omega

/-- An entry of the second attention's keys. -/
theorem keysB_apply (o : Vec Ideal S8704x5760 .f32) (b : Fin 2) (t : Fin 4096) (h : Fin 4) (d : Fin 128) :
    keysB o (ix4 b t h d) = o (ix2 ⟨4096 * b.val + t.val, by omega⟩ ⟨2048 + 128 * h.val + d.val, by omega⟩) := by
  unfold keysB promptRows
  pointwise
  congr 1
  funext a
  apply Fin.ext
  match a with
  | ⟨0, _⟩ => simp only [ix2]; omega
  | ⟨1, _⟩ => simp only [ix2]; omega

/-- An entry of the second attention's values. -/
theorem valsB_apply (o : Vec Ideal S8704x5760 .f32) (b : Fin 2) (t : Fin 4096) (h : Fin 4) (d : Fin 128) :
    valsB o (ix4 b t h d) = o (ix2 ⟨4096 * b.val + t.val, by omega⟩ ⟨2560 + 128 * h.val + d.val, by omega⟩) := by
  unfold valsB promptRows
  pointwise
  congr 1
  funext a
  apply Fin.ext
  match a with
  | ⟨0, _⟩ => simp only [ix2]; omega
  | ⟨1, _⟩ => simp only [ix2]; omega

/-- After the host's last lines the kernel's array is still what the kernel left. -/
theorem array_kept : Pipeline.withArrays spec0 c (V0 m c) (fun w => (dats m 0 c).arrAt w cfg0.N) (Proc.devRef .tc main_v8)
    = (dats m 0 c).arrAt 2 cfg0.N :=
  Pipeline.withArrays_arr spec0 launch0.win.arr_inj c (V0 m c) (fun w => (dats m 0 c).arrAt w cfg0.N) 2

/-- The result with the first attention's keys is read out of the kernel's array. -/
theorem keysA_tail : Pipeline.afterTail₀ cfgs (dats m) 0 (V0 m) [hostOps1] c main_v11 = keysA ((dats m 0 c).arrAt 2 cfg0.N) := by
  rw [← array_kept]
  show StableHlo.after [hostOps1].flatten (Pipeline.withArrays spec0 c (V0 m c) (fun w => (dats m 0 c).arrAt w cfg0.N)) _ = _
  generalize Pipeline.withArrays spec0 c (V0 m c) (fun w => (dats m 0 c).arrAt w cfg0.N) = W
  simp only [hostOps1, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

/-- The result with the first attention's values is read out of the kernel's array. -/
theorem valsA_tail : Pipeline.afterTail₀ cfgs (dats m) 0 (V0 m) [hostOps1] c main_v13 = valsA ((dats m 0 c).arrAt 2 cfg0.N) := by
  rw [← array_kept]
  show StableHlo.after [hostOps1].flatten (Pipeline.withArrays spec0 c (V0 m c) (fun w => (dats m 0 c).arrAt w cfg0.N)) _ = _
  generalize Pipeline.withArrays spec0 c (V0 m c) (fun w => (dats m 0 c).arrAt w cfg0.N) = W
  simp only [hostOps1, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

/-- The result with the second attention's keys is read out of the kernel's array. -/
theorem keysB_tail : Pipeline.afterTail₀ cfgs (dats m) 0 (V0 m) [hostOps1] c main_v15 = keysB ((dats m 0 c).arrAt 2 cfg0.N) := by
  rw [← array_kept]
  show StableHlo.after [hostOps1].flatten (Pipeline.withArrays spec0 c (V0 m c) (fun w => (dats m 0 c).arrAt w cfg0.N)) _ = _
  generalize Pipeline.withArrays spec0 c (V0 m c) (fun w => (dats m 0 c).arrAt w cfg0.N) = W
  simp only [hostOps1, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

/-- The result with the second attention's values is read out of the kernel's array. -/
theorem valsB_tail : Pipeline.afterTail₀ cfgs (dats m) 0 (V0 m) [hostOps1] c main_v17 = valsB ((dats m 0 c).arrAt 2 cfg0.N) := by
  rw [← array_kept]
  show StableHlo.after [hostOps1].flatten (Pipeline.withArrays spec0 c (V0 m c) (fun w => (dats m 0 c).arrAt w cfg0.N)) _ = _
  generalize Pipeline.withArrays spec0 c (V0 m c) (fun w => (dats m 0 c).arrAt w cfg0.N) = W
  simp only [hostOps1, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

end PromptDeal

end
-- ==== Proof.PromptDeal.Reference.lean ====
/-
  The reference of the prompt's keys and values of layer 0, read at an entry of each of its four results, and their equality with the kernel's.
-/
module

public import proofs.«01_k».proof.Proof.Gen.Reference9Ideal.Read
public import proofs.«01_k».proof.Proof.PromptDeal.Kernel

@[expose] public section

set_option maxRecDepth 16384

noncomputable section

namespace PromptDeal

open Idealize.ShloMosaic Idealize.ShloMosaic.TcCoe Idealize.SL.Sem
open Cert.Reference9Ideal Cert.Reference9Ideal.Gen Cert.Reference9Ideal.Read
open JointProj (xAt wAt)

variable (x0 : Vec Ideal S2x4096x2048 .f32) (x1 : Vec Ideal S128x4x2048 .f32) (w : Vec Ideal S2x2048x5648 .f32)

/-- The weights of layer 0, as the prompt's product reads them. -/
theorem ref_weights (k : Fin 2048) (j : Fin 5648) : val_main_v1 (F := Ideal) w (ix2 k j) = w (ix3 0 k j) := by
  rw [val_main_v1_apply, val_main_v0_apply]
  congr 1
  funext a
  apply Fin.ext
  match a with
  | ⟨0, _⟩ => rfl
  | ⟨1, _⟩ => show (k.val * 5648 + j.val) / 5648 % 2048 = k.val; omega
  | ⟨2, _⟩ => show (k.val * 5648 + j.val) % 5648 = j.val; omega

/-- An entry of the prompt's product. -/
theorem ref_prompt (b : Fin 2) (t : Fin 4096) (j : Fin 5648) : val_main_v2 (F := Ideal) x0 w (ix3 b t j)
    = ∑ k : Fin 2048, x0 (ix3 b t k) * w (ix3 0 k j) := by
  rw [val_main_v2_apply]
  refine Finset.sum_congr rfl fun k _ => ?_
  refine congrArg₂ _ (congrArg x0 ?_) (Eq.trans (congrArg _ ?_) (ref_weights w k j))
  · exact funext fun a => match a with | ⟨0, _⟩ => rfl | ⟨1, _⟩ => rfl | ⟨2, _⟩ => rfl
  · exact funext fun a => match a with | ⟨0, _⟩ => rfl | ⟨1, _⟩ => rfl

/-- A prompt row of the joined input times a column of the weights. -/
theorem joined_prompt (b : Fin 2) (t : Fin 4096) (j : ℕ) (hj : j < 5648) :
    ∑ k : Fin 2048, xAt x0 x1 ⟨4096 * b.val + t.val, by omega⟩ k * wAt w 0 k ⟨j, by omega⟩
      = ∑ k : Fin 2048, x0 (ix3 b t k) * w (ix3 0 k ⟨j, hj⟩) := by
  refine Finset.sum_congr rfl fun k _ => ?_
  have hr : 4096 * b.val + t.val < 8192 := by omega
  have eb : (4096 * b.val + t.val) / 4096 = b.val := by omega
  have et : (4096 * b.val + t.val) % 4096 = t.val := by omega
  simp only [xAt, wAt, hr, hj, dif_pos, eb, et]

/-- An entry of the reference's first attention's keys. -/
theorem ref_keysA (b : Fin 2) (t : Fin 4096) (h : Fin 4) (d : Fin 128) : val_main_v12 (F := Ideal) x0 w (ix4 b t h d)
    = ∑ k : Fin 2048, x0 (ix3 b t k) * w (ix3 0 k ⟨512 + 128 * h.val + d.val, by omega⟩) := by
  rw [val_main_v12_apply, val_main_v4_apply, ← ref_prompt]
  congr 1
  funext a
  apply Fin.ext
  match a with
  | ⟨0, _⟩ => show (((b.val * 4096 + t.val) * 4 + h.val) * 128 + d.val) / 2097152 = b.val; omega
  | ⟨1, _⟩ => show (((b.val * 4096 + t.val) * 4 + h.val) * 128 + d.val) / 512 % 4096 = t.val; omega
  | ⟨2, _⟩ => show 512 + (((b.val * 4096 + t.val) * 4 + h.val) * 128 + d.val) % 512 = 512 + 128 * h.val + d.val; omega

/-- An entry of the reference's first attention's values. -/
theorem ref_valsA (b : Fin 2) (t : Fin 4096) (h : Fin 4) (d : Fin 128) : val_main_v13 (F := Ideal) x0 w (ix4 b t h d)
    = ∑ k : Fin 2048, x0 (ix3 b t k) * w (ix3 0 k ⟨1024 + 128 * h.val + d.val, by omega⟩) := by
  rw [val_main_v13_apply, val_main_v5_apply, ← ref_prompt]
  congr 1
  funext a
  apply Fin.ext
  match a with
  | ⟨0, _⟩ => show (((b.val * 4096 + t.val) * 4 + h.val) * 128 + d.val) / 2097152 = b.val; omega
  | ⟨1, _⟩ => show (((b.val * 4096 + t.val) * 4 + h.val) * 128 + d.val) / 512 % 4096 = t.val; omega
  | ⟨2, _⟩ => show 1024 + (((b.val * 4096 + t.val) * 4 + h.val) * 128 + d.val) % 512 = 1024 + 128 * h.val + d.val; omega

/-- An entry of the reference's second attention's keys. -/
theorem ref_keysB (b : Fin 2) (t : Fin 4096) (h : Fin 4) (d : Fin 128) : val_main_v14 (F := Ideal) x0 w (ix4 b t h d)
    = ∑ k : Fin 2048, x0 (ix3 b t k) * w (ix3 0 k ⟨2048 + 128 * h.val + d.val, by omega⟩) := by
  rw [val_main_v14_apply, val_main_v7_apply, ← ref_prompt]
  congr 1
  funext a
  apply Fin.ext
  match a with
  | ⟨0, _⟩ => show (((b.val * 4096 + t.val) * 4 + h.val) * 128 + d.val) / 2097152 = b.val; omega
  | ⟨1, _⟩ => show (((b.val * 4096 + t.val) * 4 + h.val) * 128 + d.val) / 512 % 4096 = t.val; omega
  | ⟨2, _⟩ => show 2048 + (((b.val * 4096 + t.val) * 4 + h.val) * 128 + d.val) % 512 = 2048 + 128 * h.val + d.val; omega

/-- An entry of the reference's second attention's values. -/
theorem ref_valsB (b : Fin 2) (t : Fin 4096) (h : Fin 4) (d : Fin 128) : val_main_v15 (F := Ideal) x0 w (ix4 b t h d)
    = ∑ k : Fin 2048, x0 (ix3 b t k) * w (ix3 0 k ⟨2560 + 128 * h.val + d.val, by omega⟩) := by
  rw [val_main_v15_apply, val_main_v8_apply, ← ref_prompt]
  congr 1
  funext a
  apply Fin.ext
  match a with
  | ⟨0, _⟩ => show (((b.val * 4096 + t.val) * 4 + h.val) * 128 + d.val) / 2097152 = b.val; omega
  | ⟨1, _⟩ => show (((b.val * 4096 + t.val) * 4 + h.val) * 128 + d.val) / 512 % 4096 = t.val; omega
  | ⟨2, _⟩ => show 2560 + (((b.val * 4096 + t.val) * 4 + h.val) * 128 + d.val) % 512 = 2560 + 128 * h.val + d.val; omega

variable (m : (ℓ : Loc Cert.Kernel9Ideal.nD Cert.Kernel9Ideal.τ Cert.Kernel9Ideal.sig) → Buf (Elt Ideal) ℓ) (c : Dev Cert.Kernel9Ideal.nD)

/-- The first attention's keys are equal. -/
theorem keysA_equal : keysA ((Cert.Kernel9Ideal.Gen.dats m 0 c).arrAt 2 Cert.Kernel9Ideal.cfg0.N)
    = val_main_v12 (F := Ideal) (m ((c : Thread Cert.Kernel9Ideal.nD Cert.Kernel9Ideal.τ).loc Cert.Kernel9Ideal.main_arg0))
        (m ((c : Thread Cert.Kernel9Ideal.nD Cert.Kernel9Ideal.τ).loc Cert.Kernel9Ideal.main_arg2)) := by
  funext i
  have e : i = ix4 (i 0) (i 1) (i 2) (i 3) := funext fun a => match a with | ⟨0, _⟩ => rfl | ⟨1, _⟩ => rfl | ⟨2, _⟩ => rfl | ⟨3, _⟩ => rfl
  have h2 : (i 2).val < 4 := (i 2).isLt
  have h3 : (i 3).val < 128 := (i 3).isLt
  rw [e]
  exact (((keysA_apply _ (i 0) (i 1) (i 2) (i 3)).trans (array_entry m c _ _)).trans (joined_prompt _ _ _ (i 0) (i 1) _ (by omega))).trans
    (ref_keysA _ _ (i 0) (i 1) (i 2) (i 3)).symm

/-- The first attention's values are equal. -/
theorem valsA_equal : valsA ((Cert.Kernel9Ideal.Gen.dats m 0 c).arrAt 2 Cert.Kernel9Ideal.cfg0.N)
    = val_main_v13 (F := Ideal) (m ((c : Thread Cert.Kernel9Ideal.nD Cert.Kernel9Ideal.τ).loc Cert.Kernel9Ideal.main_arg0))
        (m ((c : Thread Cert.Kernel9Ideal.nD Cert.Kernel9Ideal.τ).loc Cert.Kernel9Ideal.main_arg2)) := by
  funext i
  have e : i = ix4 (i 0) (i 1) (i 2) (i 3) := funext fun a => match a with | ⟨0, _⟩ => rfl | ⟨1, _⟩ => rfl | ⟨2, _⟩ => rfl | ⟨3, _⟩ => rfl
  have h2 : (i 2).val < 4 := (i 2).isLt
  have h3 : (i 3).val < 128 := (i 3).isLt
  rw [e]
  exact (((valsA_apply _ (i 0) (i 1) (i 2) (i 3)).trans (array_entry m c _ _)).trans (joined_prompt _ _ _ (i 0) (i 1) _ (by omega))).trans
    (ref_valsA _ _ (i 0) (i 1) (i 2) (i 3)).symm

/-- The second attention's keys are equal. -/
theorem keysB_equal : keysB ((Cert.Kernel9Ideal.Gen.dats m 0 c).arrAt 2 Cert.Kernel9Ideal.cfg0.N)
    = val_main_v14 (F := Ideal) (m ((c : Thread Cert.Kernel9Ideal.nD Cert.Kernel9Ideal.τ).loc Cert.Kernel9Ideal.main_arg0))
        (m ((c : Thread Cert.Kernel9Ideal.nD Cert.Kernel9Ideal.τ).loc Cert.Kernel9Ideal.main_arg2)) := by
  funext i
  have e : i = ix4 (i 0) (i 1) (i 2) (i 3) := funext fun a => match a with | ⟨0, _⟩ => rfl | ⟨1, _⟩ => rfl | ⟨2, _⟩ => rfl | ⟨3, _⟩ => rfl
  have h2 : (i 2).val < 4 := (i 2).isLt
  have h3 : (i 3).val < 128 := (i 3).isLt
  rw [e]
  exact (((keysB_apply _ (i 0) (i 1) (i 2) (i 3)).trans (array_entry m c _ _)).trans (joined_prompt _ _ _ (i 0) (i 1) _ (by omega))).trans
    (ref_keysB _ _ (i 0) (i 1) (i 2) (i 3)).symm

/-- The second attention's values are equal. -/
theorem valsB_equal : valsB ((Cert.Kernel9Ideal.Gen.dats m 0 c).arrAt 2 Cert.Kernel9Ideal.cfg0.N)
    = val_main_v15 (F := Ideal) (m ((c : Thread Cert.Kernel9Ideal.nD Cert.Kernel9Ideal.τ).loc Cert.Kernel9Ideal.main_arg0))
        (m ((c : Thread Cert.Kernel9Ideal.nD Cert.Kernel9Ideal.τ).loc Cert.Kernel9Ideal.main_arg2)) := by
  funext i
  have e : i = ix4 (i 0) (i 1) (i 2) (i 3) := funext fun a => match a with | ⟨0, _⟩ => rfl | ⟨1, _⟩ => rfl | ⟨2, _⟩ => rfl | ⟨3, _⟩ => rfl
  have h2 : (i 2).val < 4 := (i 2).isLt
  have h3 : (i 3).val < 128 := (i 3).isLt
  rw [e]
  exact (((valsB_apply _ (i 0) (i 1) (i 2) (i 3)).trans (array_entry m c _ _)).trans (joined_prompt _ _ _ (i 0) (i 1) _ (by omega))).trans
    (ref_valsB _ _ (i 0) (i 1) (i 2) (i 3)).symm

end PromptDeal

end
-- ==== Proof.PromptDealLast.Kernel.lean ====
/-
  The joint projection of layer 1 with the prompt's keys and values read out of its columns: what the kernel's array holds,
  and the four results.
-/
module

public import proofs.«01_k».proof.Proof.Gen.Kernel10Ideal.Frame
public import proofs.«01_k».proof.Proof.PromptDeal.Kernel
public import proofs.«01_k».proof.Proof.DealLast.Kernel
public import Idealize.ShloMosaic.Lib.Pointwise
public import Idealize.ShloMosaic.Lib.Pipeline.Value
public import Idealize.ShloMosaic.Lib.Pipeline.ValueKit.Basic
public import Idealize.ShloMosaic.PureOps.Ideal.Laws

@[expose] public section

set_option maxRecDepth 16384

noncomputable section

namespace PromptDealLast

open Idealize.ShloMosaic Idealize.ShloMosaic.TcCoe Idealize.SL.Sem
open Cert.Kernel10Ideal Cert.Kernel10Ideal.Gen
open JointProj (wAt zero_word)
open DealLast (given)

variable (m : (ℓ : Loc nD τ sig) → Buf (Elt Ideal) ℓ) (c : Dev nD)

/-- The weights that the kernel is given. -/
def weightsArr (w : Vec Ideal S2x2048x5648 .f32) : FVec Ideal S2048x5760 .bf16 :=
  pad S2048x5760 ![0, 0] ![0, 112] ![0, 0]
    (truncf .bf16 (shapeCast S2048x5648 (extractStridedSlice S1x2048x5648 ![1, 0, 0] w slices_S2x2048x5648_S1x2048x5648_1_0_0 : Vec Ideal S1x2048x5648 .f32)
      shapeCasts_S1x2048x5648_S2048x5648 : FVec Ideal S2048x5648 .f32) bitsLt_bf16_f32 : FVec Ideal S2048x5648 .bf16)
    (sitofp .bf16 (constantI S_ 32 0#32) : FVec Ideal S_ .bf16) pads_S2048x5648_S2048x5760_000_01120 h_S_

/-- The rows' array is still the argument. -/
theorem V_rows : V0 m c main_arg0 = m ((c : Thread nD τ).loc main_arg0) := by
  show StableHlo.after _ _ (Proc.devRef .tc main_arg0) = _
  simp only [hostOps0, hostOps0_1, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp

/-- The weights' array holds what the host prepares: the weights, with 112 columns of zeros behind. -/
theorem V_weights : V0 m c main_v3 = weightsArr (m ((c : Thread nD τ).loc main_arg1)) := by
  show StableHlo.after _ _ (Proc.devRef .tc main_v3) = _
  simp only [hostOps0, hostOps0_1, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

/-- An entry of the padded weights. -/
theorem weights_apply (w : Vec Ideal S2x2048x5648 .f32) (k : Fin 2048) (j : Fin 5760) :
    weightsArr w (ix2 k j) = wAt w 1 k j := by
  unfold weightsArr wAt
  pointwise
  rw [zero_word]

/-- An entry of the block that one step writes is a row times a column. -/
theorem pay_apply (x : Vec Ideal S512x2048 .bf16) (w : Vec Ideal S2048x1920 .bf16) (r : Fin 512) (j : Fin 1920) :
    k0_pay1 x w (ix2 r j) = ∑ k : Fin 2048, x (ix2 r k) * w (ix2 k j) := by
  unfold k0_pay1
  pointwise

/-- The grid has 51 steps. -/
theorem N51 (t : Fin cfg0.N) : t.val < 51 := lt_of_lt_of_eq t.isLt N_0

/-- Which block of each array a step works on: 17 blocks of rows for each of 3 blocks of columns. -/
theorem block_index : ∀ t : Fin cfg0.N, win0_0.index t 0 = t.val % 17 ∧ win0_0.index t 1 = 0
    ∧ win0_1.index t 0 = 0 ∧ win0_1.index t 1 = t.val / 17
    ∧ win0_2.index t 0 = t.val % 17 ∧ win0_2.index t 1 = t.val / 17 := by decide +kernel

/-- The rows' window at a step. -/
theorem rows_block (t : Fin cfg0.N) (r : Fin 512) (k : Fin 2048) : (iblk m c 0 t : Vec Ideal S512x2048 .bf16) (ix2 r k)
    = given (m ((c : Thread nD τ).loc main_arg0)) ⟨512 * (t.val % 17) + r.val, by omega⟩ k := by
  have hi := block_index t
  unfold given
  unfold iblk
  rw [View.read_apply]
  show V0 m c main_arg0 _ = _
  rw [V_rows]
  congr 1
  funext a
  apply Fin.ext
  match a with
  | ⟨0, _⟩ => show win0_0.index t 0 * 512 + 1 * r.val = 512 * (t.val % 17) + r.val; rw [hi.1]; omega
  | ⟨1, _⟩ => show win0_0.index t 1 * 2048 + 1 * k.val = k.val; rw [hi.2.1]; omega

/-- The weights' window at a step. -/
theorem weights_block (t : Fin cfg0.N) (k : Fin 2048) (j : Fin 1920) : (iblk m c 1 t : Vec Ideal S2048x1920 .bf16) (ix2 k j)
    = wAt (m ((c : Thread nD τ).loc main_arg1)) 1 k ⟨1920 * (t.val / 17) + j.val, by have := N51 t; omega⟩ := by
  have hi := block_index t
  rw [← weights_apply]
  unfold iblk
  rw [View.read_apply]
  show V0 m c main_v3 _ = _
  rw [V_weights]
  congr 1
  funext a
  apply Fin.ext
  match a with
  | ⟨0, _⟩ => show win0_1.index t 0 * 2048 + 1 * k.val = k.val; rw [hi.2.2.1]; omega
  | ⟨1, _⟩ => show win0_1.index t 1 * 1920 + 1 * j.val = 1920 * (t.val / 17) + j.val; rw [hi.2.2.2.1]; omega

/-- What a step writes, entry by entry. -/
theorem out_apply (x : Vec Ideal S512x2048 .bf16) (w : Vec Ideal S2048x1920 .bf16) (r : Fin 512) (j : Fin 1920) :
    out0_2 x w (ix2 r j) = ∑ k : Fin 2048, x (ix2 r k) * w (ix2 k j) := by
  rw [← pay_apply]
  unfold out0_2
  rw [View.canon_cons_unit_lit _ _ _ (by decide), View.ld_unit_lit _ _ (by decide), View.ld_unit_lit _ _ (by decide)]

/-- No two steps write the same block. -/
theorem index_inj : ∀ t t' : Fin cfg0.N, win0_2.index t = win0_2.index t' → t = t' :=
  (by decide +kernel : ∀ t t' : Fin grid0.N, win0_2.index t = win0_2.index t' → t = t')

/-- So the blocks of two steps share no entry. -/
theorem blocks_disjoint : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (index_inj t t' h)

/-- A block of the kernel's array, read back, is what its step wrote. -/
theorem block_kept (t : Fin cfg0.N) : ((cfg0.win 2).blk t).view.read (Elt Ideal) ((dats m 0 c).arrAt 2 cfg0.N)
    = (cfg0.win 2).cut (grid0.coords t) (out0_2 (iblk m c 0 t) (iblk m c 1 t)) := by
  refine ((dats m 0 c).read_blk_arrAt_eq_flushed 2 blocks_disjoint cfg0.N t t.isLt (flush0_2 t)).trans ?_
  show (cfg0.win 2).cut (grid0.coords t) ((dats m 0 c).after 2 t) = _
  rw [after0_2]

/-- An entry of the kernel's array: a row that the call is given times a column of the weights of layer 1. -/
theorem array_entry (r : Fin 8704) (j : Fin 5760) : ((dats m 0 c).arrAt 2 cfg0.N : Vec Ideal S8704x5760 .f32) (ix2 r j)
    = ∑ k : Fin 2048, given (m ((c : Thread nD τ).loc main_arg0)) r k * wAt (m ((c : Thread nD τ).loc main_arg1)) 1 k j := by
  obtain ⟨t, ht⟩ : ∃ t : Fin cfg0.N, t.val = 17 * (j.val / 1920) + r.val / 512 := ⟨⟨_, lt_of_lt_of_eq (by omega) N_0.symm⟩, rfl⟩
  have e1 : t.val % 17 = r.val / 512 := by omega
  have e2 : t.val / 17 = j.val / 1920 := by omega
  have hi := block_index t
  have h := congrFun (block_kept m c t) (ix2 ⟨r.val % 512, by omega⟩ ⟨j.val % 1920, by omega⟩)
  rw [View.read_apply] at h
  refine Eq.trans ?_ (h.trans ?_)
  · show (dats m 0 c).arrAt 2 cfg0.N _ = (dats m 0 c).arrAt 2 cfg0.N _
    congr 1
    funext a
    apply Fin.ext
    match a with
    | ⟨0, _⟩ => show r.val = win0_2.index t 0 * 512 + 1 * (r.val % 512); rw [hi.2.2.2.2.1, e1]; omega
    | ⟨1, _⟩ => show j.val = win0_2.index t 1 * 1920 + 1 * (j.val % 1920); rw [hi.2.2.2.2.2, e2]; omega
  · show out0_2 _ _ (ix2 ⟨r.val % 512, _⟩ ⟨j.val % 1920, _⟩) = _
    rw [out_apply]
    refine Finset.sum_congr rfl fun k _ => ?_
    rw [rows_block, weights_block]
    have er : 512 * (t.val % 17) + r.val % 512 = r.val := by omega
    have ej : 1920 * (t.val / 17) + j.val % 1920 = j.val := by omega
    simp only [er, ej]

/-- After the host's last lines the kernel's array is still what the kernel left. -/
theorem array_kept : Pipeline.withArrays spec0 c (V0 m c) (fun w => (dats m 0 c).arrAt w cfg0.N) (Proc.devRef .tc main_v4)
    = (dats m 0 c).arrAt 2 cfg0.N :=
  Pipeline.withArrays_arr spec0 launch0.win.arr_inj c (V0 m c) (fun w => (dats m 0 c).arrAt w cfg0.N) 2

/-- The result with the first attention's keys is read out of the kernel's array. -/
theorem keysA_tail : Pipeline.afterTail₀ cfgs (dats m) 0 (V0 m) [hostOps1] c main_v7 = PromptDeal.keysA ((dats m 0 c).arrAt 2 cfg0.N) := by
  rw [← array_kept]
  show StableHlo.after [hostOps1].flatten (Pipeline.withArrays spec0 c (V0 m c) (fun w => (dats m 0 c).arrAt w cfg0.N)) _ = _
  generalize Pipeline.withArrays spec0 c (V0 m c) (fun w => (dats m 0 c).arrAt w cfg0.N) = W
  simp only [hostOps1, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

/-- The result with the first attention's values is read out of the kernel's array. -/
theorem valsA_tail : Pipeline.afterTail₀ cfgs (dats m) 0 (V0 m) [hostOps1] c main_v9 = PromptDeal.valsA ((dats m 0 c).arrAt 2 cfg0.N) := by
  rw [← array_kept]
  show StableHlo.after [hostOps1].flatten (Pipeline.withArrays spec0 c (V0 m c) (fun w => (dats m 0 c).arrAt w cfg0.N)) _ = _
  generalize Pipeline.withArrays spec0 c (V0 m c) (fun w => (dats m 0 c).arrAt w cfg0.N) = W
  simp only [hostOps1, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

/-- The result with the second attention's keys is read out of the kernel's array. -/
theorem keysB_tail : Pipeline.afterTail₀ cfgs (dats m) 0 (V0 m) [hostOps1] c main_v11 = PromptDeal.keysB ((dats m 0 c).arrAt 2 cfg0.N) := by
  rw [← array_kept]
  show StableHlo.after [hostOps1].flatten (Pipeline.withArrays spec0 c (V0 m c) (fun w => (dats m 0 c).arrAt w cfg0.N)) _ = _
  generalize Pipeline.withArrays spec0 c (V0 m c) (fun w => (dats m 0 c).arrAt w cfg0.N) = W
  simp only [hostOps1, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

/-- The result with the second attention's values is read out of the kernel's array. -/
theorem valsB_tail : Pipeline.afterTail₀ cfgs (dats m) 0 (V0 m) [hostOps1] c main_v13 = PromptDeal.valsB ((dats m 0 c).arrAt 2 cfg0.N) := by
  rw [← array_kept]
  show StableHlo.after [hostOps1].flatten (Pipeline.withArrays spec0 c (V0 m c) (fun w => (dats m 0 c).arrAt w cfg0.N)) _ = _
  generalize Pipeline.withArrays spec0 c (V0 m c) (fun w => (dats m 0 c).arrAt w cfg0.N) = W
  simp only [hostOps1, List.flatten_cons, List.flatten_nil, List.append_nil, List.cons_append, List.nil_append,
    StableHlo.TRef.ternary, StableHlo.TRef.binary, StableHlo.TRef.unary, StableHlo.TRef.nullary, StableHlo.TRef.toBuf, StableHlo.TRef.ofBuf, cast_eq]
  after_results_simp
  rfl

end PromptDealLast

end
-- ==== Proof.PromptDealLast.Reference.lean ====
/-
  The reference of the prompt's keys and values of layer 1, read at an entry of each of its four results, and their equality with the kernel's.
-/
module

public import proofs.«01_k».proof.Proof.Gen.Reference10Ideal.Read
public import proofs.«01_k».proof.Proof.PromptDealLast.Kernel

@[expose] public section

set_option maxRecDepth 16384

noncomputable section

namespace PromptDealLast

open Idealize.ShloMosaic Idealize.ShloMosaic.TcCoe Idealize.SL.Sem
open Cert.Reference10Ideal Cert.Reference10Ideal.Gen Cert.Reference10Ideal.Read
open JointProj (wAt)
open DealLast (given)
open PromptDeal (keysA valsA keysB valsB keysA_apply valsA_apply keysB_apply valsB_apply)

variable (x : Vec Ideal S8704x2048 .bf16) (w : Vec Ideal S2x2048x5648 .f32)

/-- The weights of layer 1, as the prompt's product reads them. -/
theorem ref_weights (k : Fin 2048) (j : Fin 5648) : val_main_v4 (F := Ideal) w (ix2 k j) = w (ix3 1 k j) := by
  rw [val_main_v4_apply, val_main_v3_apply]
  congr 1
  funext a
  apply Fin.ext
  match a with
  | ⟨0, _⟩ => rfl
  | ⟨1, _⟩ => show (k.val * 5648 + j.val) / 5648 % 2048 = k.val; omega
  | ⟨2, _⟩ => show (k.val * 5648 + j.val) % 5648 = j.val; omega

/-- A prompt row, as the reference cuts it out. -/
theorem ref_prompt_row (b : Fin 2) (t : Fin 4096) (k : Fin 2048) : val_main_v2 (F := Ideal) x (ix3 b t k) = given x ⟨4096 * b.val + t.val, by omega⟩ k := by
  unfold val_main_v2 val_main_v1 val_main_v0 given
  pointwise
  congr 1
  funext a
  apply Fin.ext
  match a with
  | ⟨0, _⟩ => simp only [ix2]; omega
  | ⟨1, _⟩ => simp only [ix2]

/-- An entry of the prompt's product. -/
theorem ref_prompt (b : Fin 2) (t : Fin 4096) (j : Fin 5648) : val_main_v5 (F := Ideal) x w (ix3 b t j)
    = ∑ k : Fin 2048, given x ⟨4096 * b.val + t.val, by omega⟩ k * w (ix3 1 k j) := by
  rw [val_main_v5_apply]
  refine Finset.sum_congr rfl fun k _ => ?_
  refine congrArg₂ _ (Eq.trans (congrArg _ ?_) (ref_prompt_row x b t k)) (Eq.trans (congrArg _ ?_) (ref_weights w k j))
  · exact funext fun a => match a with | ⟨0, _⟩ => rfl | ⟨1, _⟩ => rfl | ⟨2, _⟩ => rfl
  · exact funext fun a => match a with | ⟨0, _⟩ => rfl | ⟨1, _⟩ => rfl

/-- A prompt row that the call is given times a column of the weights. -/
theorem joined_prompt (b : Fin 2) (t : Fin 4096) (j : ℕ) (hj : j < 5648) :
    ∑ k : Fin 2048, given x ⟨4096 * b.val + t.val, by omega⟩ k * wAt w 1 k ⟨j, by omega⟩
      = ∑ k : Fin 2048, given x ⟨4096 * b.val + t.val, by omega⟩ k * w (ix3 1 k ⟨j, hj⟩) := by
  refine Finset.sum_congr rfl fun k _ => ?_
  simp only [wAt, hj, dif_pos]

/-- An entry of the reference's first attention's keys. -/
theorem ref_keysA (b : Fin 2) (t : Fin 4096) (h : Fin 4) (d : Fin 128) : val_main_v15 (F := Ideal) x w (ix4 b t h d)
    = ∑ k : Fin 2048, given x ⟨4096 * b.val + t.val, by omega⟩ k * w (ix3 1 k ⟨512 + 128 * h.val + d.val, by omega⟩) := by
  rw [val_main_v15_apply, val_main_v7_apply, ← ref_prompt]
  congr 1
  funext a
  apply Fin.ext
  match a with
  | ⟨0, _⟩ => show (((b.val * 4096 + t.val) * 4 + h.val) * 128 + d.val) / 2097152 = b.val; omega
  | ⟨1, _⟩ => show (((b.val * 4096 + t.val) * 4 + h.val) * 128 + d.val) / 512 % 4096 = t.val; omega
  | ⟨2, _⟩ => show 512 + (((b.val * 4096 + t.val) * 4 + h.val) * 128 + d.val) % 512 = 512 + 128 * h.val + d.val; omega

/-- An entry of the reference's first attention's values. -/
theorem ref_valsA (b : Fin 2) (t : Fin 4096) (h : Fin 4) (d : Fin 128) : val_main_v16 (F := Ideal) x w (ix4 b t h d)
    = ∑ k : Fin 2048, given x ⟨4096 * b.val + t.val, by omega⟩ k * w (ix3 1 k ⟨1024 + 128 * h.val + d.val, by omega⟩) := by
  rw [val_main_v16_apply, val_main_v8_apply, ← ref_prompt]
  congr 1
  funext a
  apply Fin.ext
  match a with
  | ⟨0, _⟩ => show (((b.val * 4096 + t.val) * 4 + h.val) * 128 + d.val) / 2097152 = b.val; omega
  | ⟨1, _⟩ => show (((b.val * 4096 + t.val) * 4 + h.val) * 128 + d.val) / 512 % 4096 = t.val; omega
  | ⟨2, _⟩ => show 1024 + (((b.val * 4096 + t.val) * 4 + h.val) * 128 + d.val) % 512 = 1024 + 128 * h.val + d.val; omega

/-- An entry of the reference's second attention's keys. -/
theorem ref_keysB (b : Fin 2) (t : Fin 4096) (h : Fin 4) (d : Fin 128) : val_main_v17 (F := Ideal) x w (ix4 b t h d)
    = ∑ k : Fin 2048, given x ⟨4096 * b.val + t.val, by omega⟩ k * w (ix3 1 k ⟨2048 + 128 * h.val + d.val, by omega⟩) := by
  rw [val_main_v17_apply, val_main_v10_apply, ← ref_prompt]
  congr 1
  funext a
  apply Fin.ext
  match a with
  | ⟨0, _⟩ => show (((b.val * 4096 + t.val) * 4 + h.val) * 128 + d.val) / 2097152 = b.val; omega
  | ⟨1, _⟩ => show (((b.val * 4096 + t.val) * 4 + h.val) * 128 + d.val) / 512 % 4096 = t.val; omega
  | ⟨2, _⟩ => show 2048 + (((b.val * 4096 + t.val) * 4 + h.val) * 128 + d.val) % 512 = 2048 + 128 * h.val + d.val; omega

/-- An entry of the reference's second attention's values. -/
theorem ref_valsB (b : Fin 2) (t : Fin 4096) (h : Fin 4) (d : Fin 128) : val_main_v18 (F := Ideal) x w (ix4 b t h d)
    = ∑ k : Fin 2048, given x ⟨4096 * b.val + t.val, by omega⟩ k * w (ix3 1 k ⟨2560 + 128 * h.val + d.val, by omega⟩) := by
  rw [val_main_v18_apply, val_main_v11_apply, ← ref_prompt]
  congr 1
  funext a
  apply Fin.ext
  match a with
  | ⟨0, _⟩ => show (((b.val * 4096 + t.val) * 4 + h.val) * 128 + d.val) / 2097152 = b.val; omega
  | ⟨1, _⟩ => show (((b.val * 4096 + t.val) * 4 + h.val) * 128 + d.val) / 512 % 4096 = t.val; omega
  | ⟨2, _⟩ => show 2560 + (((b.val * 4096 + t.val) * 4 + h.val) * 128 + d.val) % 512 = 2560 + 128 * h.val + d.val; omega

variable (m : (ℓ : Loc Cert.Kernel10Ideal.nD Cert.Kernel10Ideal.τ Cert.Kernel10Ideal.sig) → Buf (Elt Ideal) ℓ) (c : Dev Cert.Kernel10Ideal.nD)

/-- The first attention's keys are equal. -/
theorem keysA_equal : keysA ((Cert.Kernel10Ideal.Gen.dats m 0 c).arrAt 2 Cert.Kernel10Ideal.cfg0.N)
    = val_main_v15 (F := Ideal) (m ((c : Thread Cert.Kernel10Ideal.nD Cert.Kernel10Ideal.τ).loc Cert.Kernel10Ideal.main_arg0))
        (m ((c : Thread Cert.Kernel10Ideal.nD Cert.Kernel10Ideal.τ).loc Cert.Kernel10Ideal.main_arg1)) := by
  funext i
  have e : i = ix4 (i 0) (i 1) (i 2) (i 3) := funext fun a => match a with | ⟨0, _⟩ => rfl | ⟨1, _⟩ => rfl | ⟨2, _⟩ => rfl | ⟨3, _⟩ => rfl
  have h2 : (i 2).val < 4 := (i 2).isLt
  have h3 : (i 3).val < 128 := (i 3).isLt
  rw [e]
  exact (((keysA_apply _ (i 0) (i 1) (i 2) (i 3)).trans (array_entry m c _ _)).trans (joined_prompt _ _ (i 0) (i 1) _ (by omega))).trans
    (ref_keysA _ _ (i 0) (i 1) (i 2) (i 3)).symm

/-- The first attention's values are equal. -/
theorem valsA_equal : valsA ((Cert.Kernel10Ideal.Gen.dats m 0 c).arrAt 2 Cert.Kernel10Ideal.cfg0.N)
    = val_main_v16 (F := Ideal) (m ((c : Thread Cert.Kernel10Ideal.nD Cert.Kernel10Ideal.τ).loc Cert.Kernel10Ideal.main_arg0))
        (m ((c : Thread Cert.Kernel10Ideal.nD Cert.Kernel10Ideal.τ).loc Cert.Kernel10Ideal.main_arg1)) := by
  funext i
  have e : i = ix4 (i 0) (i 1) (i 2) (i 3) := funext fun a => match a with | ⟨0, _⟩ => rfl | ⟨1, _⟩ => rfl | ⟨2, _⟩ => rfl | ⟨3, _⟩ => rfl
  have h2 : (i 2).val < 4 := (i 2).isLt
  have h3 : (i 3).val < 128 := (i 3).isLt
  rw [e]
  exact (((valsA_apply _ (i 0) (i 1) (i 2) (i 3)).trans (array_entry m c _ _)).trans (joined_prompt _ _ (i 0) (i 1) _ (by omega))).trans
    (ref_valsA _ _ (i 0) (i 1) (i 2) (i 3)).symm

/-- The second attention's keys are equal. -/
theorem keysB_equal : keysB ((Cert.Kernel10Ideal.Gen.dats m 0 c).arrAt 2 Cert.Kernel10Ideal.cfg0.N)
    = val_main_v17 (F := Ideal) (m ((c : Thread Cert.Kernel10Ideal.nD Cert.Kernel10Ideal.τ).loc Cert.Kernel10Ideal.main_arg0))
        (m ((c : Thread Cert.Kernel10Ideal.nD Cert.Kernel10Ideal.τ).loc Cert.Kernel10Ideal.main_arg1)) := by
  funext i
  have e : i = ix4 (i 0) (i 1) (i 2) (i 3) := funext fun a => match a with | ⟨0, _⟩ => rfl | ⟨1, _⟩ => rfl | ⟨2, _⟩ => rfl | ⟨3, _⟩ => rfl
  have h2 : (i 2).val < 4 := (i 2).isLt
  have h3 : (i 3).val < 128 := (i 3).isLt
  rw [e]
  exact (((keysB_apply _ (i 0) (i 1) (i 2) (i 3)).trans (array_entry m c _ _)).trans (joined_prompt _ _ (i 0) (i 1) _ (by omega))).trans
    (ref_keysB _ _ (i 0) (i 1) (i 2) (i 3)).symm

/-- The second attention's values are equal. -/
theorem valsB_equal : valsB ((Cert.Kernel10Ideal.Gen.dats m 0 c).arrAt 2 Cert.Kernel10Ideal.cfg0.N)
    = val_main_v18 (F := Ideal) (m ((c : Thread Cert.Kernel10Ideal.nD Cert.Kernel10Ideal.τ).loc Cert.Kernel10Ideal.main_arg0))
        (m ((c : Thread Cert.Kernel10Ideal.nD Cert.Kernel10Ideal.τ).loc Cert.Kernel10Ideal.main_arg1)) := by
  funext i
  have e : i = ix4 (i 0) (i 1) (i 2) (i 3) := funext fun a => match a with | ⟨0, _⟩ => rfl | ⟨1, _⟩ => rfl | ⟨2, _⟩ => rfl | ⟨3, _⟩ => rfl
  have h2 : (i 2).val < 4 := (i 2).isLt
  have h3 : (i 3).val < 128 := (i 3).isLt
  rw [e]
  exact (((valsB_apply _ (i 0) (i 1) (i 2) (i 3)).trans (array_entry m c _ _)).trans (joined_prompt _ _ (i 0) (i 1) _ (by omega))).trans
    (ref_valsB _ _ (i 0) (i 1) (i 2) (i 3)).symm

end PromptDealLast

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_prepared
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Reference10Ideal.Read
public import proofs.«01_k».proof.Proof.Diff.Equation
public import proofs.«01_k».proof.Proof.Proj.Reference
public import proofs.«01_k».proof.Proof.Post.Reference
public import proofs.«01_k».proof.Proof.Moe.Reference
public import proofs.«01_k».proof.Proof.Out.Reference
public import proofs.«01_k».proof.Proof.Last.Reference
public import proofs.«01_k».proof.Proof.Deal.Reference
public import proofs.«01_k».proof.Proof.DealLast.Reference
public import proofs.«01_k».proof.Proof.PromptDeal.Reference
public import proofs.«01_k».proof.Proof.PromptDealLast.Reference
public import Idealize.ShloMosaic.Adequacy
public import Idealize.ShloMosaic.Init

@[expose] public section

noncomputable section

namespace Cert.Proof

open Idealize.ShloMosaic Idealize.SL.Sem

/-- The reference runs, leaves its arguments as they were, and ends with every counter at zero. -/
theorem reference_frame : Cert.quiescent_ReferenceIdeal (hReferenceIdeal := Cert.ReferenceIdeal.Gen.facts) := fun m ρ _ =>
  (θ_run _ _ _).mono (fun _ h => ⟨fun c => (h c).2, sem_eq_zero_of_no_sems (by decide) _⟩) (Cert.ReferenceIdeal.Value.run m ρ)

/-- The constants printed by name are the words of the kernel, read as the numbers they stand for. -/
theorem names : Cert.preserves_Kernel_KernelIdeal :=
  ⟨IdealRules.named_const.statement Cert.KernelIdeal.κ "scale_log2e" .f32 0x3E38AA3B#32 (((1 / 8) * (Real.log 2)⁻¹ : ℝ) : EReal) rfl,
    IdealRules.named_const.statement Cert.KernelIdeal.κ "log2e" .f32 0x3FB8AA3B#32 (((Real.log 2)⁻¹ : ℝ) : EReal) rfl,
    IdealRules.named_const.statement Cert.KernelIdeal.κ "lam_init" .f32 0x3E4CCCCD#32 ((13421773 / 67108864 : ℝ) : EReal) rfl⟩

/-- The kernel and the reference end with the same result. -/
theorem value : Cert.algebraic_KernelIdeal_ReferenceIdeal_pre_prepared (hKernelIdeal := Cert.KernelIdeal.Gen.facts)
    (hReferenceIdeal := Cert.ReferenceIdeal.Gen.facts) (hPre_prepared := Cert.Pre_prepared.Gen.facts) := by
  intro m g m' g' hpre hargs
  haveI := Cert.Pre_prepared.Gen.facts
  refine ⟨fun c => (Cert.KernelIdeal.Gen.dats m 0 c).arrAt 7 Cert.KernelIdeal.cfg0.N, Cert.KernelIdeal.Value.run_blocks m g, ?_⟩
  refine (θ_run _ _ _).mono (fun r h c => ⟨?_, (h c).2⟩) (Cert.ReferenceIdeal.Value.run m' g')
  obtain ⟨e0, e1, e2, e3, e4, e5⟩ := hargs c
  rw [(h c).1, Cert.ReferenceIdeal.Read.val_main_v83_eq, e0, e1, e2, e3, e4, e5]
  exact (DiffPrompt.results_equal m c (hpre c)).symm

/-- The projection's reference runs, leaves its arguments as they were, and ends with every counter at zero. -/
theorem reference2_frame : Cert.quiescent_Reference2Ideal (hReference2Ideal := Cert.Reference2Ideal.Gen.facts) := fun m ρ _ =>
  (θ_run _ _ _).mono (fun _ h => ⟨fun c => (h c).2, sem_eq_zero_of_no_sems (by decide) _⟩) (Cert.Reference2Ideal.Value.run m ρ)

/-- The projection and its reference end with the same result. -/
theorem value2 : Cert.algebraic_Kernel2Ideal_Reference2Ideal (hKernel2Ideal := Cert.Kernel2Ideal.Gen.facts)
    (hReference2Ideal := Cert.Reference2Ideal.Gen.facts) := by
  intro m g m' g' _ hargs
  refine ⟨fun c => (Cert.Kernel2Ideal.Gen.dats m 0 c).arrAt 2 Cert.Kernel2Ideal.cfg0.N, Cert.Kernel2Ideal.Value.run_blocks m g, ?_⟩
  refine (θ_run _ _ _).mono (fun r h c => ⟨?_, (h c).2⟩) (Cert.Reference2Ideal.Value.run m' g')
  obtain ⟨e0, e1, e2⟩ := hargs c
  rw [(h c).1, Cert.Reference2Ideal.Read.val_main_v9_eq, e0, e1, e2]
  exact (JointProj.results_equal m c).symm

/-- The reference of the closing norm runs and leaves its arguments as they were. -/
theorem reference3_frame : Cert.quiescent_Reference3Ideal (hReference3Ideal := Cert.Reference3Ideal.Gen.facts) := by
  intro m g _
  refine (θ_run _ _ _).mono (fun r h => ?_) (Cert.Reference3Ideal.Value.run m g)
  exact ⟨fun c => (h c).2.2, sem_eq_zero_of_no_sems (by decide) _⟩

/-- The closing norm: the kernel and the reference run, and their results, plain and cast, are equal at every entry. -/
theorem value3 : Cert.algebraic_Kernel3Ideal_Reference3Ideal (hKernel3Ideal := Cert.Kernel3Ideal.Gen.facts)
    (hReference3Ideal := Cert.Reference3Ideal.Gen.facts) := by
  intro m g m' g' _ hargs
  refine ⟨fun c => (Cert.Kernel3Ideal.Gen.dats m 0 c).arrAt 8 Cert.Kernel3Ideal.cfg0.N,
    fun c => (Cert.Kernel3Ideal.Gen.dats m 0 c).arrAt 9 Cert.Kernel3Ideal.cfg0.N, Cert.Kernel3Ideal.Value.run_blocks m g, ?_⟩
  refine (θ_run _ _ _).mono (fun r h c => ⟨?_, ?_, (h c).2.2⟩) (Cert.Reference3Ideal.Value.run m' g')
  · obtain ⟨e0, e1, e2, e3, e4, e5, e6, e7, e8⟩ := hargs c
    rw [(h c).1, Cert.Reference3Ideal.Read.val_main_v55_eq, e0, e1, e2, e3, e4, e5, e6, e7, e8]
    exact (PostNorm.results_equal m c).symm
  · obtain ⟨e0, e1, e2, e3, e4, e5, e6, e7, e8⟩ := hargs c
    rw [(h c).2.1, Cert.Reference3Ideal.Read.val_main_v56_eq, e0, e1, e2, e3, e4, e5, e6, e7, e8]
    exact (PostNorm.cast_results_equal m c).symm

/-- The experts' reference runs, leaves its arguments as they were, and ends with every counter at zero. -/
theorem reference4_frame : Cert.quiescent_Reference4Ideal (hReference4Ideal := Cert.Reference4Ideal.Gen.facts) := fun m ρ _ =>
  (θ_run _ _ _).mono (fun _ h => ⟨fun c => (h c).2, sem_eq_zero_of_no_sems (by decide) _⟩) (Cert.Reference4Ideal.Value.run m ρ)

/-- The experts' feed-forward and its reference end with the same result. -/
theorem value4 : Cert.algebraic_Kernel4Ideal_Reference4Ideal (hKernel4Ideal := Cert.Kernel4Ideal.Gen.facts)
    (hReference4Ideal := Cert.Reference4Ideal.Gen.facts) := by
  intro m g m' g' _ hargs
  refine ⟨fun c => (Cert.Kernel4Ideal.Gen.dats m 0 c).arrAt 5 Cert.Kernel4Ideal.cfg0.N, Cert.Kernel4Ideal.Value.run_blocks m g, ?_⟩
  refine (θ_run _ _ _).mono (fun r h c => ⟨?_, (h c).2⟩) (Cert.Reference4Ideal.Value.run m' g')
  obtain ⟨e0, e1, e2, e3, e4⟩ := hargs c
  rw [(h c).1, Cert.Reference4Ideal.Read.val_main_v14_eq, e0, e1, e2, e3, e4]
  exact (Experts.results_equal m c).symm

/-- The reference of the first norm runs and leaves its arguments as they were. -/
theorem reference5_frame : Cert.quiescent_Reference5Ideal (hReference5Ideal := Cert.Reference5Ideal.Gen.facts) := by
  intro m g _
  refine (θ_run _ _ _).mono (fun r h => ?_) (Cert.Reference5Ideal.Value.run m g)
  exact ⟨fun c => (h c).2.2, sem_eq_zero_of_no_sems (by decide) _⟩

/-- The output projection and first norm: the kernel and the reference run, and their results, plain and cast, are equal at every entry. -/
theorem value5 : Cert.algebraic_Kernel5Ideal_Reference5Ideal (hKernel5Ideal := Cert.Kernel5Ideal.Gen.facts)
    (hReference5Ideal := Cert.Reference5Ideal.Gen.facts) := by
  intro m g m' g' _ hargs
  refine ⟨fun c => (Cert.Kernel5Ideal.Gen.dats m 0 c).arrAt 11 Cert.Kernel5Ideal.cfg0.N,
    fun c => (Cert.Kernel5Ideal.Gen.dats m 0 c).arrAt 12 Cert.Kernel5Ideal.cfg0.N,
    (θ_run _ _ _).mono (fun r h c => ⟨(h c).1, (h c).2.1, (h c).2.2.2⟩) (Cert.Kernel5Ideal.Value.run_blocks m g), ?_⟩
  refine (θ_run _ _ _).mono (fun r h c => ⟨?_, ?_, (h c).2.2⟩) (Cert.Reference5Ideal.Value.run m' g')
  · obtain ⟨e0, e1, e2, e3, e4, e5, e6, _, _⟩ := hargs c
    rw [(h c).1, Cert.Reference5Ideal.Read.val_main_v37_eq, e0, e1, e2, e3, e4, e5, e6]
    exact (OutNorm.results_equal m c).symm
  · obtain ⟨e0, e1, e2, e3, e4, e5, e6, _, _⟩ := hargs c
    rw [(h c).2.1, Cert.Reference5Ideal.Read.val_main_v38_eq, e0, e1, e2, e3, e4, e5, e6]
    exact (OutNorm.cast_results_equal m c).symm

/-- The reference of the last layer's norm runs and leaves its arguments as they were. -/
theorem reference6_frame : Cert.quiescent_Reference6Ideal (hReference6Ideal := Cert.Reference6Ideal.Gen.facts) := by
  intro m g _
  refine (θ_run _ _ _).mono (fun r h => ?_) (Cert.Reference6Ideal.Value.run m g)
  exact ⟨fun c => (h c).2.2, sem_eq_zero_of_no_sems (by decide) _⟩

/-- The last layer's embedding gate and norm: the kernel and the reference run, and the prompt's result and the sample's are equal at every entry. -/
theorem value6 : Cert.algebraic_Kernel6Ideal_Reference6Ideal (hKernel6Ideal := Cert.Kernel6Ideal.Gen.facts)
    (hReference6Ideal := Cert.Reference6Ideal.Gen.facts) := by
  intro m g m' g' _ hargs
  refine ⟨fun c => LastNorm.ofPrompt ((Cert.Kernel6Ideal.Gen.dats m 0 c).arrAt 8 Cert.Kernel6Ideal.cfg0.N),
    fun c => LastNorm.ofSample ((Cert.Kernel6Ideal.Gen.dats m 0 c).arrAt 8 Cert.Kernel6Ideal.cfg0.N), ?_, ?_⟩
  · refine (θ_run _ _ _).mono (fun r h c => ⟨?_, ?_, h.2 c⟩) (θ_run_and (Cert.Kernel6Ideal.Gen.run_main m g) (Cert.Kernel6Ideal.Gen.unchanged m g))
    · exact ((h.1 c).2 Cert.Kernel6Ideal.main_v22 (Pipeline.mem_restRefs_of Cert.Kernel6Ideal.main_v22 (by decide) (by decide))).trans
        (LastNorm.prompt_tail m c)
    · exact ((h.1 c).2 Cert.Kernel6Ideal.main_v24 (Pipeline.mem_restRefs_of Cert.Kernel6Ideal.main_v24 (by decide) (by decide))).trans
        (LastNorm.sample_tail m c)
  refine (θ_run _ _ _).mono (fun r h c => ⟨?_, ?_, (h c).2.2⟩) (Cert.Reference6Ideal.Value.run m' g')
  · obtain ⟨e0, e1, e2, e3, e4, e5, e6, e7, e8⟩ := hargs c
    rw [(h c).1, Cert.Reference6Ideal.Read.val_main_v54_eq, e0, e1, e2, e3, e4, e5, e6, e7, e8]
    exact (LastNorm.prompt_equal m c).symm
  · obtain ⟨e0, e1, e2, e3, e4, e5, e6, e7, e8⟩ := hargs c
    rw [(h c).2.1, Cert.Reference6Ideal.Read.val_main_v56_eq, e0, e1, e2, e3, e4, e5, e6, e7, e8]
    exact (LastNorm.sample_equal m c).symm

/-- The reference of the projection's results runs and leaves its arguments as they were. -/
theorem reference7_frame : Cert.quiescent_Reference7Ideal (hReference7Ideal := Cert.Reference7Ideal.Gen.facts) := by
  intro m g _
  refine (θ_run _ _ _).mono (fun r h => ?_) (Cert.Reference7Ideal.Value.run m g)
  exact ⟨fun c => (h c).2.2.2.2.2, sem_eq_zero_of_no_sems (by decide) _⟩

/-- The joint projection with the results read out of its columns: the kernel and the reference run, and the prompt's last convolved
    rows and the sample's keys and values of both attentions are equal at every entry. -/
theorem value7 : Cert.algebraic_Kernel7Ideal_Reference7Ideal (hKernel7Ideal := Cert.Kernel7Ideal.Gen.facts)
    (hReference7Ideal := Cert.Reference7Ideal.Gen.facts) := by
  intro m g m' g' _ hargs
  refine ⟨fun c => Deal.convRows ((Cert.Kernel7Ideal.Gen.dats m 0 c).arrAt 2 Cert.Kernel7Ideal.cfg0.N),
    fun c => Deal.keysA ((Cert.Kernel7Ideal.Gen.dats m 0 c).arrAt 2 Cert.Kernel7Ideal.cfg0.N),
    fun c => Deal.valsA ((Cert.Kernel7Ideal.Gen.dats m 0 c).arrAt 2 Cert.Kernel7Ideal.cfg0.N),
    fun c => Deal.keysB ((Cert.Kernel7Ideal.Gen.dats m 0 c).arrAt 2 Cert.Kernel7Ideal.cfg0.N),
    fun c => Deal.valsB ((Cert.Kernel7Ideal.Gen.dats m 0 c).arrAt 2 Cert.Kernel7Ideal.cfg0.N), ?_, ?_⟩
  · refine (θ_run _ _ _).mono (fun r h c => ⟨?_, ?_, ?_, ?_, ?_, h.2 c⟩) (θ_run_and (Cert.Kernel7Ideal.Gen.run_main m g) (Cert.Kernel7Ideal.Gen.unchanged m g))
    · exact ((h.1 c).2 Cert.Kernel7Ideal.main_v21 (Pipeline.mem_restRefs_of Cert.Kernel7Ideal.main_v21 (by decide) (by decide))).trans
        (Deal.convRows_tail m c)
    · exact ((h.1 c).2 Cert.Kernel7Ideal.main_v10 (Pipeline.mem_restRefs_of Cert.Kernel7Ideal.main_v10 (by decide) (by decide))).trans
        (Deal.keysA_tail m c)
    · exact ((h.1 c).2 Cert.Kernel7Ideal.main_v12 (Pipeline.mem_restRefs_of Cert.Kernel7Ideal.main_v12 (by decide) (by decide))).trans
        (Deal.valsA_tail m c)
    · exact ((h.1 c).2 Cert.Kernel7Ideal.main_v14 (Pipeline.mem_restRefs_of Cert.Kernel7Ideal.main_v14 (by decide) (by decide))).trans
        (Deal.keysB_tail m c)
    · exact ((h.1 c).2 Cert.Kernel7Ideal.main_v16 (Pipeline.mem_restRefs_of Cert.Kernel7Ideal.main_v16 (by decide) (by decide))).trans
        (Deal.valsB_tail m c)
  refine (θ_run _ _ _).mono (fun r h c => ⟨?_, ?_, ?_, ?_, ?_, (h c).2.2.2.2.2⟩) (Cert.Reference7Ideal.Value.run m' g')
  · obtain ⟨e0, e1, e2⟩ := hargs c
    rw [(h c).1, Cert.Reference7Ideal.Read.val_main_v24_eq, e0, e2]
    exact (Deal.convRows_equal m c).symm
  · obtain ⟨e0, e1, e2⟩ := hargs c
    rw [(h c).2.1, Cert.Reference7Ideal.Read.val_main_v25_eq, e1, e2]
    exact (Deal.keysA_equal m c).symm
  · obtain ⟨e0, e1, e2⟩ := hargs c
    rw [(h c).2.2.1, Cert.Reference7Ideal.Read.val_main_v26_eq, e1, e2]
    exact (Deal.valsA_equal m c).symm
  · obtain ⟨e0, e1, e2⟩ := hargs c
    rw [(h c).2.2.2.1, Cert.Reference7Ideal.Read.val_main_v27_eq, e1, e2]
    exact (Deal.keysB_equal m c).symm
  · obtain ⟨e0, e1, e2⟩ := hargs c
    rw [(h c).2.2.2.2.1, Cert.Reference7Ideal.Read.val_main_v28_eq, e1, e2]
    exact (Deal.valsB_equal m c).symm

/-- The reference of layer 1's keys, values and last convolved rows runs and leaves its arguments as they were. -/
theorem reference8_frame : Cert.quiescent_Reference8Ideal (hReference8Ideal := Cert.Reference8Ideal.Gen.facts) := by
  intro m g _
  refine (θ_run _ _ _).mono (fun r h => ?_) (Cert.Reference8Ideal.Value.run m g)
  exact ⟨fun c => (h c).2.2.2.2.2, sem_eq_zero_of_no_sems (by decide) _⟩

/-- The kernel for layer 1's keys, values and last convolved rows and the reference run, and their 5 results are equal at every entry. -/
theorem value8 : Cert.algebraic_Kernel8Ideal_Reference8Ideal (hKernel8Ideal := Cert.Kernel8Ideal.Gen.facts)
    (hReference8Ideal := Cert.Reference8Ideal.Gen.facts) := by
  intro m g m' g' _ hargs
  refine ⟨fun c => Deal.convRows ((Cert.Kernel8Ideal.Gen.dats m 0 c).arrAt 2 Cert.Kernel8Ideal.cfg0.N),
    fun c => Deal.keysA ((Cert.Kernel8Ideal.Gen.dats m 0 c).arrAt 2 Cert.Kernel8Ideal.cfg0.N),
    fun c => Deal.valsA ((Cert.Kernel8Ideal.Gen.dats m 0 c).arrAt 2 Cert.Kernel8Ideal.cfg0.N),
    fun c => Deal.keysB ((Cert.Kernel8Ideal.Gen.dats m 0 c).arrAt 2 Cert.Kernel8Ideal.cfg0.N),
    fun c => Deal.valsB ((Cert.Kernel8Ideal.Gen.dats m 0 c).arrAt 2 Cert.Kernel8Ideal.cfg0.N), ?_, ?_⟩
  · refine (θ_run _ _ _).mono (fun r h c => ⟨?_, ?_, ?_, ?_, ?_, h.2 c⟩) (θ_run_and (Cert.Kernel8Ideal.Gen.run_main m g) (Cert.Kernel8Ideal.Gen.unchanged m g))
    · exact ((h.1 c).2 Cert.Kernel8Ideal.main_v17 (Pipeline.mem_restRefs_of Cert.Kernel8Ideal.main_v17 (by decide) (by decide))).trans
        (DealLast.convRows_tail m c)
    · exact ((h.1 c).2 Cert.Kernel8Ideal.main_v6 (Pipeline.mem_restRefs_of Cert.Kernel8Ideal.main_v6 (by decide) (by decide))).trans
        (DealLast.keysA_tail m c)
    · exact ((h.1 c).2 Cert.Kernel8Ideal.main_v8 (Pipeline.mem_restRefs_of Cert.Kernel8Ideal.main_v8 (by decide) (by decide))).trans
        (DealLast.valsA_tail m c)
    · exact ((h.1 c).2 Cert.Kernel8Ideal.main_v10 (Pipeline.mem_restRefs_of Cert.Kernel8Ideal.main_v10 (by decide) (by decide))).trans
        (DealLast.keysB_tail m c)
    · exact ((h.1 c).2 Cert.Kernel8Ideal.main_v12 (Pipeline.mem_restRefs_of Cert.Kernel8Ideal.main_v12 (by decide) (by decide))).trans
        (DealLast.valsB_tail m c)
  refine (θ_run _ _ _).mono (fun r h c => ⟨?_, ?_, ?_, ?_, ?_, (h c).2.2.2.2.2⟩) (Cert.Reference8Ideal.Value.run m' g')
  · obtain ⟨e0, e1⟩ := hargs c
    rw [(h c).1, Cert.Reference8Ideal.Read.val_main_v29_eq, e0, e1]
    exact (DealLast.convRows_equal m c).symm
  · obtain ⟨e0, e1⟩ := hargs c
    rw [(h c).2.1, Cert.Reference8Ideal.Read.val_main_v30_eq, e0, e1]
    exact (DealLast.keysA_equal m c).symm
  · obtain ⟨e0, e1⟩ := hargs c
    rw [(h c).2.2.1, Cert.Reference8Ideal.Read.val_main_v31_eq, e0, e1]
    exact (DealLast.valsA_equal m c).symm
  · obtain ⟨e0, e1⟩ := hargs c
    rw [(h c).2.2.2.1, Cert.Reference8Ideal.Read.val_main_v32_eq, e0, e1]
    exact (DealLast.keysB_equal m c).symm
  · obtain ⟨e0, e1⟩ := hargs c
    rw [(h c).2.2.2.2.1, Cert.Reference8Ideal.Read.val_main_v33_eq, e0, e1]
    exact (DealLast.valsB_equal m c).symm

/-- The reference of the prompt's keys and values of layer 0 runs and leaves its arguments as they were. -/
theorem reference9_frame : Cert.quiescent_Reference9Ideal (hReference9Ideal := Cert.Reference9Ideal.Gen.facts) := by
  intro m g _
  refine (θ_run _ _ _).mono (fun r h => ?_) (Cert.Reference9Ideal.Value.run m g)
  exact ⟨fun c => (h c).2.2.2.2, sem_eq_zero_of_no_sems (by decide) _⟩

/-- The kernel for the prompt's keys and values of layer 0 and the reference run, and their 4 results are equal at every entry. -/
theorem value9 : Cert.algebraic_Kernel9Ideal_Reference9Ideal (hKernel9Ideal := Cert.Kernel9Ideal.Gen.facts)
    (hReference9Ideal := Cert.Reference9Ideal.Gen.facts) := by
  intro m g m' g' _ hargs
  refine ⟨fun c => PromptDeal.keysA ((Cert.Kernel9Ideal.Gen.dats m 0 c).arrAt 2 Cert.Kernel9Ideal.cfg0.N),
    fun c => PromptDeal.valsA ((Cert.Kernel9Ideal.Gen.dats m 0 c).arrAt 2 Cert.Kernel9Ideal.cfg0.N),
    fun c => PromptDeal.keysB ((Cert.Kernel9Ideal.Gen.dats m 0 c).arrAt 2 Cert.Kernel9Ideal.cfg0.N),
    fun c => PromptDeal.valsB ((Cert.Kernel9Ideal.Gen.dats m 0 c).arrAt 2 Cert.Kernel9Ideal.cfg0.N), ?_, ?_⟩
  · refine (θ_run _ _ _).mono (fun r h c => ⟨?_, ?_, ?_, ?_, h.2 c⟩) (θ_run_and (Cert.Kernel9Ideal.Gen.run_main m g) (Cert.Kernel9Ideal.Gen.unchanged m g))
    · exact ((h.1 c).2 Cert.Kernel9Ideal.main_v11 (Pipeline.mem_restRefs_of Cert.Kernel9Ideal.main_v11 (by decide) (by decide))).trans
        (PromptDeal.keysA_tail m c)
    · exact ((h.1 c).2 Cert.Kernel9Ideal.main_v13 (Pipeline.mem_restRefs_of Cert.Kernel9Ideal.main_v13 (by decide) (by decide))).trans
        (PromptDeal.valsA_tail m c)
    · exact ((h.1 c).2 Cert.Kernel9Ideal.main_v15 (Pipeline.mem_restRefs_of Cert.Kernel9Ideal.main_v15 (by decide) (by decide))).trans
        (PromptDeal.keysB_tail m c)
    · exact ((h.1 c).2 Cert.Kernel9Ideal.main_v17 (Pipeline.mem_restRefs_of Cert.Kernel9Ideal.main_v17 (by decide) (by decide))).trans
        (PromptDeal.valsB_tail m c)
  refine (θ_run _ _ _).mono (fun r h c => ⟨?_, ?_, ?_, ?_, (h c).2.2.2.2⟩) (Cert.Reference9Ideal.Value.run m' g')
  · obtain ⟨e0, e1, e2⟩ := hargs c
    rw [(h c).1, Cert.Reference9Ideal.Read.val_main_v12_eq, e0, e2]
    exact (PromptDeal.keysA_equal m c).symm
  · obtain ⟨e0, e1, e2⟩ := hargs c
    rw [(h c).2.1, Cert.Reference9Ideal.Read.val_main_v13_eq, e0, e2]
    exact (PromptDeal.valsA_equal m c).symm
  · obtain ⟨e0, e1, e2⟩ := hargs c
    rw [(h c).2.2.1, Cert.Reference9Ideal.Read.val_main_v14_eq, e0, e2]
    exact (PromptDeal.keysB_equal m c).symm
  · obtain ⟨e0, e1, e2⟩ := hargs c
    rw [(h c).2.2.2.1, Cert.Reference9Ideal.Read.val_main_v15_eq, e0, e2]
    exact (PromptDeal.valsB_equal m c).symm

/-- The reference of the prompt's keys and values of layer 1 runs and leaves its arguments as they were. -/
theorem reference10_frame : Cert.quiescent_Reference10Ideal (hReference10Ideal := Cert.Reference10Ideal.Gen.facts) := by
  intro m g _
  refine (θ_run _ _ _).mono (fun r h => ?_) (Cert.Reference10Ideal.Value.run m g)
  exact ⟨fun c => (h c).2.2.2.2, sem_eq_zero_of_no_sems (by decide) _⟩

/-- The kernel for the prompt's keys and values of layer 1 and the reference run, and their 4 results are equal at every entry. -/
theorem value10 : Cert.algebraic_Kernel10Ideal_Reference10Ideal (hKernel10Ideal := Cert.Kernel10Ideal.Gen.facts)
    (hReference10Ideal := Cert.Reference10Ideal.Gen.facts) := by
  intro m g m' g' _ hargs
  refine ⟨fun c => PromptDeal.keysA ((Cert.Kernel10Ideal.Gen.dats m 0 c).arrAt 2 Cert.Kernel10Ideal.cfg0.N),
    fun c => PromptDeal.valsA ((Cert.Kernel10Ideal.Gen.dats m 0 c).arrAt 2 Cert.Kernel10Ideal.cfg0.N),
    fun c => PromptDeal.keysB ((Cert.Kernel10Ideal.Gen.dats m 0 c).arrAt 2 Cert.Kernel10Ideal.cfg0.N),
    fun c => PromptDeal.valsB ((Cert.Kernel10Ideal.Gen.dats m 0 c).arrAt 2 Cert.Kernel10Ideal.cfg0.N), ?_, ?_⟩
  · refine (θ_run _ _ _).mono (fun r h c => ⟨?_, ?_, ?_, ?_, h.2 c⟩) (θ_run_and (Cert.Kernel10Ideal.Gen.run_main m g) (Cert.Kernel10Ideal.Gen.unchanged m g))
    · exact ((h.1 c).2 Cert.Kernel10Ideal.main_v7 (Pipeline.mem_restRefs_of Cert.Kernel10Ideal.main_v7 (by decide) (by decide))).trans
        (PromptDealLast.keysA_tail m c)
    · exact ((h.1 c).2 Cert.Kernel10Ideal.main_v9 (Pipeline.mem_restRefs_of Cert.Kernel10Ideal.main_v9 (by decide) (by decide))).trans
        (PromptDealLast.valsA_tail m c)
    · exact ((h.1 c).2 Cert.Kernel10Ideal.main_v11 (Pipeline.mem_restRefs_of Cert.Kernel10Ideal.main_v11 (by decide) (by decide))).trans
        (PromptDealLast.keysB_tail m c)
    · exact ((h.1 c).2 Cert.Kernel10Ideal.main_v13 (Pipeline.mem_restRefs_of Cert.Kernel10Ideal.main_v13 (by decide) (by decide))).trans
        (PromptDealLast.valsB_tail m c)
  refine (θ_run _ _ _).mono (fun r h c => ⟨?_, ?_, ?_, ?_, (h c).2.2.2.2⟩) (Cert.Reference10Ideal.Value.run m' g')
  · obtain ⟨e0, e1⟩ := hargs c
    rw [(h c).1, Cert.Reference10Ideal.Read.val_main_v15_eq, e0, e1]
    exact (PromptDealLast.keysA_equal m c).symm
  · obtain ⟨e0, e1⟩ := hargs c
    rw [(h c).2.1, Cert.Reference10Ideal.Read.val_main_v16_eq, e0, e1]
    exact (PromptDealLast.valsA_equal m c).symm
  · obtain ⟨e0, e1⟩ := hargs c
    rw [(h c).2.2.1, Cert.Reference10Ideal.Read.val_main_v17_eq, e0, e1]
    exact (PromptDealLast.keysB_equal m c).symm
  · obtain ⟨e0, e1⟩ := hargs c
    rw [(h c).2.2.2.1, Cert.Reference10Ideal.Read.val_main_v18_eq, e0, e1]
    exact (PromptDealLast.valsB_equal m c).symm

/-- Everything that the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts, Cert.Pre_prepared.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Kernel2.Gen.frame m ρ, fun m ρ _ => Cert.Kernel2Ideal.Gen.frame m ρ, reference2_frame,
  fun m ρ _ => Cert.Kernel3.Gen.frame m ρ, fun m ρ _ => Cert.Kernel3Ideal.Gen.frame m ρ, reference3_frame,
  fun m ρ _ => Cert.Kernel4.Gen.frame m ρ, fun m ρ _ => Cert.Kernel4Ideal.Gen.frame m ρ, reference4_frame,
  fun m ρ _ => Cert.Kernel5.Gen.frame m ρ, fun m ρ _ => Cert.Kernel5Ideal.Gen.frame m ρ, reference5_frame,
  fun m ρ _ => Cert.Kernel6.Gen.frame m ρ, fun m ρ _ => Cert.Kernel6Ideal.Gen.frame m ρ, reference6_frame,
  fun m ρ _ => Cert.Kernel7.Gen.frame m ρ, fun m ρ _ => Cert.Kernel7Ideal.Gen.frame m ρ, reference7_frame,
  fun m ρ _ => Cert.Kernel8.Gen.frame m ρ, fun m ρ _ => Cert.Kernel8Ideal.Gen.frame m ρ, reference8_frame,
  fun m ρ _ => Cert.Kernel9.Gen.frame m ρ, fun m ρ _ => Cert.Kernel9Ideal.Gen.frame m ρ, reference9_frame,
  fun m ρ _ => Cert.Kernel10.Gen.frame m ρ, fun m ρ _ => Cert.Kernel10Ideal.Gen.frame m ρ, reference10_frame,
  names, value, trivial, value2, trivial, value3, trivial, value4, trivial, value5, trivial, value6, trivial, value7, trivial, value8, trivial, value9,
  trivial, value10⟩

end Cert.Proof

end
